-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v87) = v0 c
          ∧ r.2.mem ((c.tc : Thread Cert.Reference21Ideal.nD Cert.Reference21Ideal.τ).loc Cert.Reference21Ideal.main_v88) = v1 c
          ∧ r.2.mem ((c.tc : Thread Cert.Reference21Ideal.nD Cert.Reference21Ideal.τ).loc Cert.Reference21Ideal.main_v89) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)) (v5 : (c : Dev Cert.Kernel22Ideal.nD) → Buf (Elt Ideal) ((c.tc : Thread Cert.Kernel22Ideal.nD Cert.Kernel22Ideal.τ).loc Cert.Kernel22Ideal.main_v0_5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_v0_5) = v5 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v75) = v0 c
          ∧ r.2.mem ((c.tc : Thread Cert.Reference22Ideal.nD Cert.Reference22Ideal.τ).loc Cert.Reference22Ideal.main_v77) = v1 c
          ∧ r.2.mem ((c.tc : Thread Cert.Reference22Ideal.nD Cert.Reference22Ideal.τ).loc Cert.Reference22Ideal.main_v79) = v2 c
          ∧ r.2.mem ((c.tc : Thread Cert.Reference22Ideal.nD Cert.Reference22Ideal.τ).loc Cert.Reference22Ideal.main_v81) = v3 c
          ∧ r.2.mem ((c.tc : Thread Cert.Reference22Ideal.nD Cert.Reference22Ideal.τ).loc Cert.Reference22Ideal.main_v83) = v4 c
          ∧ r.2.mem ((c.tc : Thread Cert.Reference22Ideal.nD Cert.Reference22Ideal.τ).loc Cert.Reference22Ideal.main_v85) = v5 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v35) = v1 c
          ∧ r.2.mem ((c.tc : Thread Cert.Reference23Ideal.nD Cert.Reference23Ideal.τ).loc Cert.Reference23Ideal.main_v17) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v8_0)) (v1 : (c : Dev Cert.Kernel25Ideal.nD) → Buf (Elt Ideal) ((c.tc : Thread Cert.Kernel25Ideal.nD Cert.Kernel25Ideal.τ).loc Cert.Kernel25Ideal.main_v8_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v8_0) = v0 c
          ∧ r.2.mem ((c.tc : Thread Cert.Kernel25Ideal.nD Cert.Kernel25Ideal.τ).loc Cert.Kernel25Ideal.main_v8_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v42) = v0 c
          ∧ r.2.mem ((c.tc : Thread Cert.Reference25Ideal.nD Cert.Reference25Ideal.τ).loc Cert.Reference25Ideal.main_v44) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v54) = v0 c
          ∧ r.2.mem ((c.tc : Thread Cert.Reference27Ideal.nD Cert.Reference27Ideal.τ).loc Cert.Reference27Ideal.main_v30) = v1 c
          ∧ r.2.mem ((c.tc : Thread Cert.Reference27Ideal.nD Cert.Reference27Ideal.τ).loc Cert.Reference27Ideal.main_v27) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v14)) (v1 : (c : Dev Cert.Kernel28Ideal.nD) → Buf (Elt Ideal) ((c.tc : Thread Cert.Kernel28Ideal.nD Cert.Kernel28Ideal.τ).loc Cert.Kernel28Ideal.main_v29)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v14) = v0 c
          ∧ r.2.mem ((c.tc : Thread Cert.Kernel28Ideal.nD Cert.Kernel28Ideal.τ).loc Cert.Kernel28Ideal.main_v29) = v1 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v17) = v0 c
          ∧ r.2.mem ((c.tc : Thread Cert.Reference28Ideal.nD Cert.Reference28Ideal.τ).loc Cert.Reference28Ideal.main_v15) = v1 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v14)) (v1 : (c : Dev Cert.Kernel29Ideal.nD) → Buf (Elt Ideal) ((c.tc : Thread Cert.Kernel29Ideal.nD Cert.Kernel29Ideal.τ).loc Cert.Kernel29Ideal.main_v28)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v14) = v0 c
          ∧ r.2.mem ((c.tc : Thread Cert.Kernel29Ideal.nD Cert.Kernel29Ideal.τ).loc Cert.Kernel29Ideal.main_v28) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v16) = v0 c
          ∧ r.2.mem ((c.tc : Thread Cert.Reference29Ideal.nD Cert.Reference29Ideal.τ).loc Cert.Reference29Ideal.main_v13) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S4096x512 : Shape := ⟨2, ![4096, 512]⟩
abbrev S4096x5760 : Shape := ⟨2, ![4096, 5760]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  slices_S4096x5760_S4096x1024_0_1024 : S4096x5760.Slices ![0, 1024] S4096x1024
  bcast_S_S4096x1024 : S_.BroadcastsInDim S4096x1024 (![] : Fin 0 → Fin S4096x1024.rank)
  reducesTo_S4096x1024_S_d0_1 : S4096x1024.ReducesTo [0, 1] S_
  bitsLt_bf16_f32 : FTy.bits .bf16 < FTy.bits .f32

variable [Facts]

def fn {F : FTy → Type} [FloatOps F] (main_arg0 : FVec F S4096x512 .f32) (main_arg1 : FVec F S4096x512 .f32) (main_arg2 : FVec F S4096x5760 .f32) (main_arg3 : FVec F S4096x1024 .bf16) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := (extractStridedSlice S4096x1024 ![0, 1024] · slices_S4096x5760_S4096x1024_0_1024) main_arg2
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S4096x1024 .f32 := (extf .f32 · bitsLt_bf16_f32) main_arg3
  let main_v11 : FVec F S4096x1024 .f32 := Host.absf main_v10
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v9 main_v14
  main_v15
-- ==== Kernel.lean ====
abbrev S4096x512 : Shape := ⟨2, ![4096, 512]⟩
abbrev S4096x5760 : Shape := ⟨2, ![4096, 5760]⟩
abbrev S4096x1024 : Shape := ⟨2, ![4096, 1024]⟩
abbrev S10 : Shape := ⟨1, ![10]⟩
abbrev S4 : Shape := ⟨1, ![4]⟩
abbrev S_ : Shape := ⟨0, ![]⟩
abbrev S4096x2048 : Shape := ⟨2, ![4096, 2048]⟩
abbrev S1024x128 : Shape := ⟨2, ![1024, 128]⟩
abbrev S1 : Shape := ⟨1, ![1]⟩
abbrev S1024x256 : Shape := ⟨2, ![1024, 256]⟩
abbrev S1024x1024 : Shape := ⟨2, ![1024, 1024]⟩

abbrev nBuf : Space → Nat
  | .hbm => 15
  | .vmem => 11
  | .smem => 3
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x5760, .f32⟩
  | .hbm, ⟨3, _⟩ => ⟨S4096x1024, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4096x2048, .f32⟩
  | .hbm, ⟨14, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .smem, ⟨0, _⟩ => ⟨S10, .i32⟩
  | .local _ .smem, ⟨1, _⟩ => ⟨S10, .i32⟩
  | .local _ .smem, ⟨2, _⟩ => ⟨S4, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg0 : BitVec 32 := BitVec.ofNat 32 (i 0).val
  let v13 : Index := Scalar.indexCast arg0
  ![v13.toNat]
def k0_off3 (i : grid0.Coords) : Fin 1 → Nat :=
  let arg0 : BitVec 32 := BitVec.ofNat 32 (i 0).val
  let v18 : Index := Scalar.indexCast arg0
  ![v18.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v3.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c4_i32 : BitVec 32 := 4#32
  let v4 : BitVec 32 := Scalar.addi c4_i32 arg0
  let c0_i32 : BitVec 32 := 0#32
  ![v3.toNat, v4.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v1.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x512 : Shape := ⟨2, ![4096, 512]⟩
abbrev S4096x5760 : Shape := ⟨2, ![4096, 5760]⟩
abbrev S4096x1024 : Shape := ⟨2, ![4096, 1024]⟩
abbrev S1x4096x4x128 : Shape := ⟨4, ![1, 4096, 4, 128]⟩
abbrev S1x4096x4x256 : Shape := ⟨4, ![1, 4096, 4, 256]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x32x128x4x128 : Shape := ⟨5, ![1, 32, 128, 4, 128]⟩
abbrev S1x32x128x4x256 : Shape := ⟨5, ![1, 32, 128, 4, 256]⟩
abbrev S1x32x4x128x128 : Shape := ⟨5, ![1, 32, 4, 128, 128]⟩
abbrev S1x1x4x128x128 : Shape := ⟨5, ![1, 1, 4, 128, 128]⟩
abbrev S1x32x4x256x128 : Shape := ⟨5, ![1, 32, 4, 256, 128]⟩
abbrev S1x4 : Shape := ⟨2, ![1, 4]⟩
abbrev S128x4 : Shape := ⟨2, ![128, 4]⟩
abbrev S1x1x128x4x1 : Shape := ⟨5, ![1, 1, 128, 4, 1]⟩
abbrev S1x32x4x128x256 : Shape := ⟨5, ![1, 32, 4, 128, 256]⟩
abbrev S1x4x1x1 : Shape := ⟨4, ![1, 4, 1, 1]⟩
abbrev S1x1x4x128x256 : Shape := ⟨5, ![1, 1, 4, 128, 256]⟩
abbrev S1x4x128x256 : Shape := ⟨4, ![1, 4, 128, 256]⟩
abbrev S32x1x4x128x256 : Shape := ⟨5, ![32, 1, 4, 128, 256]⟩

abbrev nBuf : Space → Nat
  | .hbm => 134
  | .vmem => 0
  | .smem => 0
  | _ => 0

abbrev hbmTy0_0 (i : Nat) : BufTy := match i % 128 with
  | 0 => ⟨S4096x512, .f32⟩
  | 1 => ⟨S4096x512, .f32⟩
  | 2 => ⟨S4096x5760, .f32⟩
  | 3 => ⟨S4096x1024, .bf16⟩
  | 4 => ⟨S1x4096x4x128, .f32⟩
  | 5 => ⟨S4096x1024, .f32⟩
  | 6 => ⟨S1x4096x4x256, .f32⟩
  | 7 => ⟨S4096x1024, .f32⟩
  | 8 => ⟨S1x4096x4x256, .f32⟩
  | 9 => ⟨S1x4096x4x128, .f32⟩
  | 10 => ⟨S4, .f32⟩
  | 11 => ⟨S_, .f32⟩
  | 12 => ⟨S4, .f32⟩
  | 13 => ⟨S4, .f32⟩
  | 14 => ⟨S_, .f32⟩
  | 15 => ⟨S4, .f32⟩
  | 16 => ⟨S4, .f32⟩
  | 17 => ⟨S4, .f32⟩
  | 18 => ⟨S4, .f32⟩
  | 19 => ⟨S128, .f32⟩
  | 20 => ⟨S128x1, .f32⟩
  | 21 => ⟨S1x128, .f32⟩
  | 22 => ⟨S128x128, .f32⟩
  | 23 => ⟨S128x128, .f32⟩
  | 24 => ⟨S128x128, .f32⟩
  | 25 => ⟨S1x128x128, .f32⟩
  | 26 => ⟨S_, .f32⟩
  | 27 => ⟨S1x128x128, .f32⟩
  | 28 => ⟨S1x128x128, .i1⟩
  | 29 => ⟨S_, .f32⟩
  | 30 => ⟨S128x128, .f32⟩
  | 31 => ⟨S128x128, .f32⟩
  | 32 => ⟨S1x128x128, .f32⟩
  | 33 => ⟨S4x1x1, .f32⟩
  | 34 => ⟨S4x128x128, .f32⟩
  | 35 => ⟨S4x128x128, .f32⟩
  | 36 => ⟨S4x128x128, .f32⟩
  | 37 => ⟨S4x128x128, .f32⟩
  | 38 => ⟨S_, .f32⟩
  | 39 => ⟨S_, .f32⟩
  | 40 => ⟨S4x128x128, .i1⟩
  | 41 => ⟨S4x128x128, .f32⟩
  | 42 => ⟨S4x128x128, .f32⟩
  | 43 => ⟨S1x32x128x4x128, .f32⟩
  | 44 => ⟨S1x32x128x4x128, .f32⟩
  | 45 => ⟨S1x32x128x4x256, .f32⟩
  | 46 => ⟨S1x32x4x128x128, .f32⟩
  | 47 => ⟨S1x1x4x128x128, .f32⟩
  | 48 => ⟨S1x32x4x128x128, .f32⟩
  | 49 => ⟨S1x32x4x128x128, .f32⟩
  | 50 => ⟨S1x32x4x256x128, .f32⟩
  | 51 => ⟨S1x32x128x4x256, .f32⟩
  | 52 => ⟨S_, .f32⟩
  | 53 => ⟨S128, .f32⟩
  | 54 => ⟨S128, .f32⟩
  | 55 => ⟨S128x1, .f32⟩
  | 56 => ⟨S1x4, .f32⟩
  | 57 => ⟨S128x4, .f32⟩
  | 58 => ⟨S128x4, .f32⟩
  | 59 => ⟨S128x4, .f32⟩
  | 60 => ⟨S128x4, .f32⟩
  | 61 => ⟨S1x1x128x4x1, .f32⟩
  | 62 => ⟨S1x32x128x4x128, .f32⟩
  | 63 => ⟨S1x32x128x4x128, .f32⟩
  | 64 => ⟨S1x32x4x128x256, .f32⟩
  | 65 => ⟨S_, .f32⟩
  | 66 => ⟨S4, .f32⟩
  | 67 => ⟨S4, .f32⟩
  | 68 => ⟨S4, .f32⟩
  | 69 => ⟨S1x4x1x1, .f32⟩
  | 70 => ⟨S1x1x4x128x256, .f32⟩
  | 71 => ⟨S1x4x128x256, .f32⟩
  | 72 => ⟨S_, .f32⟩
  | 73 => ⟨S1x4x128x256, .f32⟩
  | 74 => ⟨S32x1x4x128x256, .f32⟩
  | 75 => ⟨S_, .f32⟩
  | 76 => ⟨S32x1x4x128x256, .f32⟩
  | 77 => ⟨S_, .i32⟩
  | 78 => ⟨S32x1x4x128x256, .f32⟩
  | 79 => ⟨S1x4x1x1, .f32⟩
  | 80 => ⟨S_, .i32⟩
  | 81 => ⟨S1x4x128x256, .f32⟩
  | 82 => ⟨S32x1x4x128x256, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S1x1x4x128x256, .f32⟩
  | 90 => ⟨S1x4x128x256, .f32⟩
  | 91 => ⟨S1x4x128x256, .f32⟩
  | 92 => ⟨S1x4x128x256, .f32⟩
  | 93 => ⟨S1x4x128x256, .f32⟩
  | 94 => ⟨S1x1x4x128x256, .f32⟩
  | 95 => ⟨S_, .i32⟩
  | 96 => ⟨S_, .i32⟩
  | 97 => ⟨S_, .i32⟩
  | 98 => ⟨S_, .i32⟩
  | 99 => ⟨S32x1x4x128x256, .f32⟩
  | 100 => ⟨S_, .i32⟩
  | 101 => ⟨S_, .i32⟩
  | 102 => ⟨S1x32x4x128x256, .f32⟩
  | 103 => ⟨S_, .f32⟩
  | 104 => ⟨S128, .f32⟩
  | 105 => ⟨S128, .f32⟩
  | 106 => ⟨S128x1, .f32⟩
  | 107 => ⟨S1x4, .f32⟩
  | 108 => ⟨S128x4, .f32⟩
  | 109 => ⟨S128x4, .f32⟩
  | 110 => ⟨S128x4, .f32⟩
  | 111 => ⟨S128x4, .f32⟩
  | 112 => ⟨S1x32x4x256x128, .f32⟩
  | 113 => ⟨S1x32x128x4x256, .f32⟩
  | 114 => ⟨S1x1x128x4x1, .f32⟩
  | 115 => ⟨S1x32x128x4x256, .f32⟩
  | 116 => ⟨S1x32x128x4x256, .f32⟩
  | 117 => ⟨S1x32x128x4x256, .f32⟩
  | 118 => ⟨S1x4096x4x256, .f32⟩
  | 119 => ⟨S1x32x128x4x256, .f32⟩
  | 120 => ⟨S1x32x128x4x256, .f32⟩
  | 121 => ⟨S1x32x128x4x256, .f32⟩
  | 122 => ⟨S1x32x4x256x128, .f32⟩
  | 123 => ⟨S1x32x4x128x128, .f32⟩
  | 124 => ⟨S1x32x128x4x128, .f32⟩
  | 125 => ⟨S1x32x4x256x128, .f32⟩
  | 126 => ⟨S1x32x4x128x128, .f32⟩
  | 127 => ⟨S1x32x4x128x128, .f32⟩
  | _ => ⟨S4096x512, .f32⟩

abbrev hbmTy0_1 (i : Nat) : BufTy := match i % 128 with
  | 0 => ⟨S1x32x4x128x128, .f32⟩
  | 1 => ⟨S1x32x4x128x128, .f32⟩
  | 2 => ⟨S1x32x128x4x128, .f32⟩
  | 3 => ⟨S1x32x128x4x128, .f32⟩
  | 4 => ⟨S1x4096x4x128, .f32⟩
  | 5 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_c : Ref sig .tc := ⟨.hbm, 77, rfl⟩
abbrev main_v61_0 : Ref sig .tc := ⟨.hbm, 78, rfl⟩
abbrev main_v61_1 : Ref sig .tc := ⟨.hbm, 79, rfl⟩
abbrev main_v61_2 : Ref sig .tc := ⟨.hbm, 80, rfl⟩
abbrev main_v61_3 : Ref sig .tc := ⟨.hbm, 81, rfl⟩
abbrev main_v61_4 : Ref sig .tc := ⟨.hbm, 82, rfl⟩
abbrev main_while0c_c_13 : Ref sig .tc := ⟨.hbm, 83, rfl⟩
abbrev main_while0c_v93 : Ref sig .tc := ⟨.hbm, 84, rfl⟩
abbrev main_while0b_call1_c : Ref sig .tc := ⟨.hbm, 85, rfl⟩
abbrev main_while0b_call1_c_0 : Ref sig .tc := ⟨.hbm, 86, rfl⟩
abbrev main_while0b_call1_c_1 : Ref sig .tc := ⟨.hbm, 87, rfl⟩
abbrev main_while0b_call1_c_2 : Ref sig .tc := ⟨.hbm, 88, rfl⟩
abbrev main_while0b_call1_v0 : Ref sig .tc := ⟨.hbm, 89, rfl⟩
abbrev main_while0b_v93 : Ref sig .tc := ⟨.hbm, 90, rfl⟩
abbrev main_while0b_v94 : Ref sig .tc := ⟨.hbm, 91, rfl⟩
abbrev main_while0b_v95 : Ref sig .tc := ⟨.hbm, 92, rfl⟩
abbrev main_while0b_v96 : Ref sig .tc := ⟨.hbm, 93, rfl⟩
abbrev main_while0b_call2_v0 : Ref sig .tc := ⟨.hbm, 94, rfl⟩
abbrev main_while0b_call2_c : Ref sig .tc := ⟨.hbm, 95, rfl⟩
abbrev main_while0b_call2_c_0 : Ref sig .tc := ⟨.hbm, 96, rfl⟩
abbrev main_while0b_call2_c_1 : Ref sig .tc := ⟨.hbm, 97, rfl⟩
abbrev main_while0b_call2_c_2 : Ref sig .tc := ⟨.hbm, 98, rfl⟩
abbrev main_while0b_v97 : Ref sig .tc := ⟨.hbm, 99, rfl⟩
abbrev main_while0b_c_13 : Ref sig .tc := ⟨.hbm, 100, rfl⟩
abbrev main_while0b_v98 : Ref sig .tc := ⟨.hbm, 101, rfl⟩
abbrev main_v62 : Ref sig .tc := ⟨.hbm, 102, rfl⟩
abbrev main_cst_8 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4096x1024 : Shape := ⟨2, ![4096, 1024]⟩
abbrev S4096x5760 : Shape := ⟨2, ![4096, 5760]⟩
abbrev S1024x5760 : Shape := ⟨2, ![1024, 5760]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S1024x5760, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S4096x5760 : Shape := ⟨2, ![4096, 5760]⟩
abbrev S_ : Shape := ⟨0, ![]⟩
abbrev S1024x5760 : Shape := ⟨2, ![1024, 5760]⟩
abbrev S5760x1024 : Shape := ⟨2, ![5760, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S4096x1024, .f32⟩
  | .hbm, ⟨3, _⟩ => ⟨S_, .f32⟩
  | .hbm, ⟨4, _⟩ => ⟨S1024x5760, .f32⟩
  | .hbm, ⟨5, _⟩ => ⟨S4096x5760, .f32⟩
  | .hbm, ⟨6, _⟩ => ⟨S4096x5760, .f32⟩
  | .hbm, ⟨7, _⟩ => ⟨S5760x1024, .f32⟩
  | .hbm, ⟨8, _⟩ => ⟨S1024x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x5760 : Shape := ⟨2, ![4096, 5760]⟩
abbrev S1024x5760 : Shape := ⟨2, ![1024, 5760]⟩
abbrev S4096x1024 : Shape := ⟨2, ![4096, 1024]⟩
abbrev S1024x1152 : Shape := ⟨2, ![1024, 1152]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5760, .bf16⟩
  | .hbm, ⟨1, _⟩ => ⟨S1024x5760, .bf16⟩
  | .hbm, ⟨2, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5760 : Shape := ⟨2, ![4096, 5760]⟩
abbrev S1024x5760 : Shape := ⟨2, ![1024, 5760]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5760, .bf16⟩
  | .hbm, ⟨1, _⟩ => ⟨S1024x5760, .bf16⟩
  | .hbm, ⟨2, _⟩ => ⟨S_, .f32⟩
  | .hbm, ⟨3, _⟩ => ⟨S4096x1024, .f32⟩
  | .hbm, ⟨4, _⟩ => ⟨S1024x5760, .f32⟩
  | .hbm, ⟨5, _⟩ => ⟨S4096x5760, .f32⟩
  | .hbm, ⟨6, _⟩ => ⟨S4096x5760, .f32⟩
  | .hbm, ⟨7, _⟩ => ⟨S4096x1024, .f32⟩
  | _, _ => ⟨S4096x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x5632 : Shape := ⟨2, ![4096, 5632]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S1024x5632 : Shape := ⟨2, ![1024, 5632]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S4096x1536 : Shape := ⟨2, ![4096, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .f32⟩
  | .hbm, ⟨3, _⟩ => ⟨S_, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1536 : Shape := ⟨2, ![4096, 1536]⟩
abbrev S1024x1536 : Shape := ⟨2, ![1024, 1536]⟩
abbrev S4096x1024 : Shape := ⟨2, ![4096, 1024]⟩
abbrev S1024x768 : Shape := ⟨2, ![1024, 768]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1536 : Shape := ⟨2, ![4096, 1536]⟩
abbrev S1024x1536 : Shape := ⟨2, ![1024, 1536]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S_, .f32⟩
  | .hbm, ⟨3, _⟩ => ⟨S4096x1024, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x5760 : Shape := ⟨2, ![1024, 5760]⟩
abbrev S4096x5760 : Shape := ⟨2, ![4096, 5760]⟩
abbrev S1024x1024 : Shape := ⟨2, ![1024, 1024]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x5760, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | .local _ .vmem, ⟨6, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x5760 : Shape := ⟨2, ![1024, 5760]⟩
abbrev S4096x5760 : Shape := ⟨2, ![4096, 5760]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5760, .bf16⟩
  | .hbm, ⟨2, _⟩ => ⟨S4096x1024, .f32⟩
  | .hbm, ⟨3, _⟩ => ⟨S1024x5760, .f32⟩
  | .hbm, ⟨4, _⟩ => ⟨S4096x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S4096x5760 : Shape := ⟨2, ![4096, 5760]⟩
abbrev S4x1x1536 : Shape := ⟨3, ![4, 1, 1536]⟩
abbrev S1x1536 : Shape := ⟨2, ![1, 1536]⟩
abbrev S4096x1536 : Shape := ⟨2, ![4096, 1536]⟩
abbrev S4096x128 : Shape := ⟨2, ![4096, 128]⟩
abbrev S4x1x128 : Shape := ⟨3, ![4, 1, 128]⟩
abbrev S1x128 : Shape := ⟨2, ![1, 128]⟩
abbrev S1x1x128 : Shape := ⟨3, ![1, 1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S4096x5760, .f32⟩
  | .hbm, ⟨1, _⟩ => ⟨S4x1x1536, .f32⟩
  | .hbm, ⟨2, _⟩ => ⟨S1x1536, .f32⟩
  | .hbm, ⟨3, _⟩ => ⟨S4096x1536, .f32⟩
  | .hbm, ⟨4, _⟩ => ⟨S4096x1536, .bf16⟩
  | .hbm, ⟨5, _⟩ => ⟨S4x1x1536, .f32⟩
  | .hbm, ⟨6, _⟩ => ⟨S1x1536, .f32⟩
  | .local _ .vmem, ⟨0, _⟩ => ⟨S4096x128, .f32⟩
  | .local _ .vmem, ⟨1, _⟩ => ⟨S4096x128, .f32⟩
  | .local _ .vmem, ⟨2, _⟩ => ⟨S4x1x128, .f32⟩
  | .local _ .vmem, ⟨3, _⟩ => ⟨S4x1x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S4x1x128, .f32⟩
  | .local _ .vmem, ⟨11, _⟩ => ⟨S4x1x128, .f32⟩
  | .local _ .vmem, ⟨12, _⟩ => ⟨S1x128, .f32⟩
  | .local _ .vmem, ⟨13, _⟩ => ⟨S1x128, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4096x5760 : Shape := ⟨2, ![4096, 5760]⟩
abbrev S4x1x1536 : Shape := ⟨3, ![4, 1, 1536]⟩
abbrev S1x1536 : Shape := ⟨2, ![1, 1536]⟩
abbrev S4096x1536 : Shape := ⟨2, ![4096, 1536]⟩
abbrev S4x1536 : Shape := ⟨2, ![4, 1536]⟩
abbrev S1536 : Shape := ⟨1, ![1536]⟩
abbrev S_ : Shape := ⟨0, ![]⟩
abbrev S3x1536 : Shape := ⟨2, ![3, 1536]⟩
abbrev S4099x1536 : Shape := ⟨2, ![4099, 1536]⟩

abbrev nBuf : Space → Nat
  | .hbm => 130
  | .vmem => 0
  | .smem => 0
  | _ => 0

abbrev hbmTy0_0 (i : Nat) : BufTy := match i % 128 with
  | 0 => ⟨S4096x5760, .f32⟩
  | 1 => ⟨S4x1x1536, .f32⟩
  | 2 => ⟨S1x1536, .f32⟩
  | 3 => ⟨S4096x1536, .f32⟩
  | 4 => ⟨S4096x1536, .f32⟩
  | 5 => ⟨S4x1536, .f32⟩
  | 6 => ⟨S1536, .f32⟩
  | 7 => ⟨S_, .f32⟩
  | 8 => ⟨S3x1536, .f32⟩
  | 9 => ⟨S4099x1536, .f32⟩
  | 10 => ⟨S_, .f32⟩
  | 11 => ⟨S3x1536, .f32⟩
  | 12 => ⟨S1x1536, .f32⟩
  | 13 => ⟨S1536, .f32⟩
  | 14 => ⟨S4096x1536, .f32⟩
  | 15 => ⟨S1x1536, .f32⟩
  | 16 => ⟨S4096x1536, .f32⟩
  | 17 => ⟨S4096x1536, .f32⟩
  | 18 => ⟨S_, .f32⟩
  | 19 => ⟨S4096x1536, .f32⟩
  | 20 => ⟨S4096x1536, .f32⟩
  | 21 => ⟨S1x1536, .f32⟩
  | 22 => ⟨S1536, .f32⟩
  | 23 => ⟨S4096x1536, .f32⟩
  | 24 => ⟨S1x1536, .f32⟩
  | 25 => ⟨S4096x1536, .f32⟩
  | 26 => ⟨S4096x1536, .f32⟩
  | 27 => ⟨S4096x1536, .f32⟩
  | 28 => ⟨S1x1536, .f32⟩
  | 29 => ⟨S1536, .f32⟩
  | 30 => ⟨S4096x1536, .f32⟩
  | 31 => ⟨S1x1536, .f32⟩
  | 32 => ⟨S4096x1536, .f32⟩
  | 33 => ⟨S4096x1536, .f32⟩
  | 34 => ⟨S4096x1536, .f32⟩
  | 35 => ⟨S1x1536, .f32⟩
  | 36 => ⟨S1536, .f32⟩
  | 37 => ⟨S4096x1536, .f32⟩
  | 38 => ⟨S1x1536, .f32⟩
  | 39 => ⟨S4096x1536, .f32⟩
  | 40 => ⟨S4096x1536, .f32⟩
  | 41 => ⟨S4096x1536, .f32⟩
  | 42 => ⟨S1x1536, .f32⟩
  | 43 => ⟨S4096x1536, .f32⟩
  | 44 => ⟨S4096x1536, .f32⟩
  | 45 => ⟨S4096x1536, .f32⟩
  | 46 => ⟨S4096x1536, .f32⟩
  | 47 => ⟨S_, .f32⟩
  | 48 => ⟨S4096x1536, .f32⟩
  | 49 => ⟨S4096x1536, .f32⟩
  | 50 => ⟨S_, .f32⟩
  | 51 => ⟨S4096x1536, .f32⟩
  | 52 => ⟨S4096x1536, .f32⟩
  | 53 => ⟨S_, .f32⟩
  | 54 => ⟨S4096x1536, .f32⟩
  | 55 => ⟨S4096x1536, .f32⟩
  | 56 => ⟨S4096x1536, .f32⟩
  | 57 => ⟨S4096x1536, .f32⟩
  | 58 => ⟨S4096x1536, .f32⟩
  | 59 => ⟨S4096x1536, .f32⟩
  | 60 => ⟨S4096x1536, .f32⟩
  | 61 => ⟨S4096x1536, .f32⟩
  | 62 => ⟨S_, .f32⟩
  | 63 => ⟨S1536, .f32⟩
  | 64 => ⟨S1x1536, .f32⟩
  | 65 => ⟨S_, .f32⟩
  | 66 => ⟨S1536, .f32⟩
  | 67 => ⟨S4096x1536, .f32⟩
  | 68 => ⟨S4096x1536, .f32⟩
  | 69 => ⟨S4096x1536, .f32⟩
  | 70 => ⟨S_, .f32⟩
  | 71 => ⟨S1536, .f32⟩
  | 72 => ⟨S1x1536, .f32⟩
  | 73 => ⟨S_, .f32⟩
  | 74 => ⟨S1536, .f32⟩
  | 75 => ⟨S_, .f32⟩
  | 76 => ⟨S4099x1536, .f32⟩
  | 77 => ⟨S1x1536, .f32⟩
  | 78 => ⟨S_, .f32⟩
  | 79 => ⟨S4x1536, .f32⟩
  | 80 => ⟨S4096x1536, .f32⟩
  | 81 => ⟨S4096x1536, .f32⟩
  | 82 => ⟨S4096x1536, .f32⟩
  | 83 => ⟨S_, .f32⟩
  | 84 => ⟨S1536, .f32⟩
  | 85 => ⟨S1x1536, .f32⟩
  | 86 => ⟨S_, .f32⟩
  | 87 => ⟨S1536, .f32⟩
  | 88 => ⟨S_, .f32⟩
  | 89 => ⟨S4099x1536, .f32⟩
  | 90 => ⟨S4099x1536, .f32⟩
  | 91 => ⟨S1x1536, .f32⟩
  | 92 => ⟨S_, .f32⟩
  | 93 => ⟨S4x1536, .f32⟩
  | 94 => ⟨S4x1536, .f32⟩
  | 95 => ⟨S4096x1536, .f32⟩
  | 96 => ⟨S4096x1536, .f32⟩
  | 97 => ⟨S4096x1536, .f32⟩
  | 98 => ⟨S_, .f32⟩
  | 99 => ⟨S1536, .f32⟩
  | 100 => ⟨S1x1536, .f32⟩
  | 101 => ⟨S_, .f32⟩
  | 102 => ⟨S1536, .f32⟩
  | 103 => ⟨S_, .f32⟩
  | 104 => ⟨S4099x1536, .f32⟩
  | 105 => ⟨S4099x1536, .f32⟩
  | 106 => ⟨S1x1536, .f32⟩
  | 107 => ⟨S_, .f32⟩
  | 108 => ⟨S4x1536, .f32⟩
  | 109 => ⟨S4x1536, .f32⟩
  | 110 => ⟨S4096x1536, .f32⟩
  | 111 => ⟨S4096x1536, .f32⟩
  | 112 => ⟨S4096x1536, .f32⟩
  | 113 => ⟨S_, .f32⟩
  | 114 => ⟨S1536, .f32⟩
  | 115 => ⟨S1x1536, .f32⟩
  | 116 => ⟨S_, .f32⟩
  | 117 => ⟨S1536, .f32⟩
  | 118 => ⟨S_, .f32⟩
  | 119 => ⟨S4099x1536, .f32⟩
  | 120 => ⟨S4099x1536, .f32⟩
  | 121 => ⟨S1x1536, .f32⟩
  | 122 => ⟨S_, .f32⟩
  | 123 => ⟨S4x1536, .f32⟩
  | 124 => ⟨S4x1536, .f32⟩
  | 125 => ⟨S3x1536, .f32⟩
  | 126 => ⟨S4096x1536, .f32⟩
  | 127 => ⟨S4096x1536, .bf16⟩
  | _ => ⟨S4096x5760, .f32⟩

abbrev hbmTy0_1 (i : Nat) : BufTy := match i % 128 with
  | 0 => ⟨S4x1x1536, .f32⟩
  | 1 => ⟨S1x1536, .f32⟩
  | _ => ⟨S4096x5760, .f32⟩

abbrev hbmTy (i : Nat) : BufTy := match i / 128 with
  | 0 => hbmTy0_0 i
  | 1 => hbmTy0_1 i
  | _ => ⟨S4096x5760, .f32⟩

abbrev bufTy : (tb : Table) → Fin (tcTables nBuf tb) → BufTy
  | .hbm, ⟨i, _⟩ => hbmTy i
  | _, _ => ⟨S4096x5760, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v38_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v38_1 : Ref sig .tc := ⟨.hbm, 56, rfl⟩
abbrev main_v38_0 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_cst_10 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_cst_17 : Ref sig .tc := ⟨.hbm, 116, rfl⟩
abbrev main_v79 : Ref sig .tc := ⟨.hbm, 117, rfl⟩
abbrev main_cst_18 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_19 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]
-- ==== Kernel22.lean ====
abbrev S4096x5632 : Shape := ⟨2, ![4096, 5632]⟩
abbrev S3x1x5632 : Shape := ⟨3, ![3, 1, 5632]⟩
abbrev S1x5632 : Shape := ⟨2, ![1, 5632]⟩
abbrev S4096x2816 : Shape := ⟨2, ![4096, 2816]⟩
abbrev S3x1x2816 : Shape := ⟨3, ![3, 1, 2816]⟩
abbrev S1x2816 : Shape := ⟨2, ![1, 2816]⟩
abbrev S4096x128 : Shape := ⟨2, ![4096, 128]⟩
abbrev S3x1x128 : Shape := ⟨3, ![3, 1, 128]⟩
abbrev S1x128 : Shape := ⟨2, ![1, 128]⟩
abbrev S1x1x128 : Shape := ⟨3, ![1, 1, 128]⟩
abbrev S128 : Shape := ⟨1, ![128]⟩

abbrev nBuf : Space → Nat
  | .hbm => 10
  | .vmem => 26
  | .smem => 0
  | _ => 0

abbrev bufTy : (tb : Table) → Fin (tcTables nBuf tb) → BufTy
  | .hbm, ⟨0, _⟩ => ⟨S4096x5632, .f32⟩
  | .hbm, ⟨1, _⟩ => ⟨S3x1x5632, .f32⟩
  | .hbm, ⟨2, _⟩ => ⟨S1x5632, .f32⟩
  | .hbm, ⟨3, _⟩ => ⟨S4096x2816, .f32⟩
  | .hbm, ⟨4, _⟩ => ⟨S4096x2816, .bf16⟩
  | .hbm, ⟨5, _⟩ => ⟨S4096x2816, .bf16⟩
  | .hbm, ⟨6, _⟩ => ⟨S3x1x2816, .f32⟩
  | .hbm, ⟨7, _⟩ => ⟨S3x1x2816, .f32⟩
  | .hbm, ⟨8, _⟩ => ⟨S1x2816, .f32⟩
  | .hbm, ⟨9, _⟩ => ⟨S1x2816, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S3x1x128, .f32⟩
  | .local _ .vmem, ⟨5, _⟩ => ⟨S3x1x128, .f32⟩
  | .local _ .vmem, ⟨6, _⟩ => ⟨S3x1x128, .f32⟩
  | .local _ .vmem, ⟨7, _⟩ => ⟨S3x1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S3x1x128, .f32⟩
  | .local _ .vmem, ⟨19, _⟩ => ⟨S3x1x128, .f32⟩
  | .local _ .vmem, ⟨20, _⟩ => ⟨S3x1x128, .f32⟩
  | .local _ .vmem, ⟨21, _⟩ => ⟨S3x1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 3 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference22Ideal.lean ====
abbrev S4096x5632 : Shape := ⟨2, ![4096, 5632]⟩
abbrev S3x1x5632 : Shape := ⟨3, ![3, 1, 5632]⟩
abbrev S1x5632 : Shape := ⟨2, ![1, 5632]⟩
abbrev S4096x2816 : Shape := ⟨2, ![4096, 2816]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S3x2816 : Shape := ⟨2, ![3, 2816]⟩
abbrev S3x1x2816 : Shape := ⟨3, ![3, 1, 2816]⟩
abbrev S2816 : Shape := ⟨1, ![2816]⟩
abbrev S1x2816 : Shape := ⟨2, ![1, 2816]⟩

abbrev nBuf : Space → Nat
  | .hbm => 122
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x1x5632, .f32⟩
  | .hbm, ⟨2, _⟩ => ⟨S1x5632, .f32⟩
  | .hbm, ⟨3, _⟩ => ⟨S4096x2816, .f32⟩
  | .hbm, ⟨4, _⟩ => ⟨S3x5632, .f32⟩
  | .hbm, ⟨5, _⟩ => ⟨S5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S_, .f32⟩
  | .hbm, ⟨10, _⟩ => ⟨S2x5632, .f32⟩
  | .hbm, ⟨11, _⟩ => ⟨S1x5632, .f32⟩
  | .hbm, ⟨12, _⟩ => ⟨S5632, .f32⟩
  | .hbm, ⟨13, _⟩ => ⟨S4096x5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S1x5632, .f32⟩
  | .hbm, ⟨21, _⟩ => ⟨S5632, .f32⟩
  | .hbm, ⟨22, _⟩ => ⟨S4096x5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S1x5632, .f32⟩
  | .hbm, ⟨35, _⟩ => ⟨S4096x5632, .f32⟩
  | .hbm, ⟨36, _⟩ => ⟨S4096x5632, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S_, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x5632, .f32⟩
  | .hbm, ⟨60, _⟩ => ⟨S_, .f32⟩
  | .hbm, ⟨61, _⟩ => ⟨S5632, .f32⟩
  | .hbm, ⟨62, _⟩ => ⟨S1x5632, .f32⟩
  | .hbm, ⟨63, _⟩ => ⟨S_, .f32⟩
  | .hbm, ⟨64, _⟩ => ⟨S5632, .f32⟩
  | .hbm, ⟨65, _⟩ => ⟨S4096x5632, .f32⟩
  | .hbm, ⟨66, _⟩ => ⟨S4096x5632, .f32⟩
  | .hbm, ⟨67, _⟩ => ⟨S4096x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S_, .f32⟩
  | .hbm, ⟨72, _⟩ => ⟨S5632, .f32⟩
  | .hbm, ⟨73, _⟩ => ⟨S_, .f32⟩
  | .hbm, ⟨74, _⟩ => ⟨S4098x5632, .f32⟩
  | .hbm, ⟨75, _⟩ => ⟨S1x5632, .f32⟩
  | .hbm, ⟨76, _⟩ => ⟨S_, .f32⟩
  | .hbm, ⟨77, _⟩ => ⟨S3x5632, .f32⟩
  | .hbm, ⟨78, _⟩ => ⟨S4096x5632, .f32⟩
  | .hbm, ⟨79, _⟩ => ⟨S4096x5632, .f32⟩
  | .hbm, ⟨80, _⟩ => ⟨S4096x5632, .f32⟩
  | .hbm, ⟨81, _⟩ => ⟨S_, .f32⟩
  | .hbm, ⟨82, _⟩ => ⟨S5632, .f32⟩
  | .hbm, ⟨83, _⟩ => ⟨S1x5632, .f32⟩
  | .hbm, ⟨84, _⟩ => ⟨S_, .f32⟩
  | .hbm, ⟨85, _⟩ => ⟨S5632, .f32⟩
  | .hbm, ⟨86, _⟩ => ⟨S_, .f32⟩
  | .hbm, ⟨87, _⟩ => ⟨S4098x5632, .f32⟩
  | .hbm, ⟨88, _⟩ => ⟨S4098x5632, .f32⟩
  | .hbm, ⟨89, _⟩ => ⟨S1x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S4096x5632, .f32⟩
  | .hbm, ⟨94, _⟩ => ⟨S4096x5632, .f32⟩
  | .hbm, ⟨95, _⟩ => ⟨S4096x5632, .f32⟩
  | .hbm, ⟨96, _⟩ => ⟨S_, .f32⟩
  | .hbm, ⟨97, _⟩ => ⟨S5632, .f32⟩
  | .hbm, ⟨98, _⟩ => ⟨S1x5632, .f32⟩
  | .hbm, ⟨99, _⟩ => ⟨S_, .f32⟩
  | .hbm, ⟨100, _⟩ => ⟨S5632, .f32⟩
  | .hbm, ⟨101, _⟩ => ⟨S_, .f32⟩
  | .hbm, ⟨102, _⟩ => ⟨S4098x5632, .f32⟩
  | .hbm, ⟨103, _⟩ => ⟨S4098x5632, .f32⟩
  | .hbm, ⟨104, _⟩ => ⟨S1x5632, .f32⟩
  | .hbm, ⟨105, _⟩ => ⟨S_, .f32⟩
  | .hbm, ⟨106, _⟩ => ⟨S3x5632, .f32⟩
  | .hbm, ⟨107, _⟩ => ⟨S3x5632, .f32⟩
  | .hbm, ⟨108, _⟩ => ⟨S2x5632, .f32⟩
  | .hbm, ⟨109, _⟩ => ⟨S4096x5632, .f32⟩
  | .hbm, ⟨110, _⟩ => ⟨S4096x2816, .f32⟩
  | .hbm, ⟨111, _⟩ => ⟨S4096x2816, .bf16⟩
  | .hbm, ⟨112, _⟩ => ⟨S4096x2816, .f32⟩
  | .hbm, ⟨113, _⟩ => ⟨S4096x2816, .bf16⟩
  | .hbm, ⟨114, _⟩ => ⟨S3x2816, .f32⟩
  | .hbm, ⟨115, _⟩ => ⟨S3x1x2816, .f32⟩
  | .hbm, ⟨116, _⟩ => ⟨S3x2816, .f32⟩
  | .hbm, ⟨117, _⟩ => ⟨S3x1x2816, .f32⟩
  | .hbm, ⟨118, _⟩ => ⟨S2816, .f32⟩
  | .hbm, ⟨119, _⟩ => ⟨S1x2816, .f32⟩
  | .hbm, ⟨120, _⟩ => ⟨S2816, .f32⟩
  | .hbm, ⟨121, _⟩ => ⟨S1x2816, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v32_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v32_1 : Ref sig .tc := ⟨.hbm, 50, rfl⟩
abbrev main_v32_0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_15 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference23Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel24.lean ====
abbrev S4096x128 : Shape := ⟨2, ![4096, 128]⟩
abbrev S512x128 : Shape := ⟨2, ![512, 128]⟩
abbrev S1x128 : Shape := ⟨2, ![1, 128]⟩
abbrev S512x512 : Shape := ⟨2, ![512, 512]⟩

abbrev nBuf : Space → Nat
  | .hbm => 2
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference24Ideal.lean ====
abbrev S4096x128 : Shape := ⟨2, ![4096, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S_, .f32⟩
  | .hbm, ⟨2, _⟩ => ⟨S_, .f32⟩
  | .hbm, ⟨3, _⟩ => ⟨S4096x128, .f32⟩
  | .hbm, ⟨4, _⟩ => ⟨S_, .f32⟩
  | .hbm, ⟨5, _⟩ => ⟨S_, .f32⟩
  | .hbm, ⟨6, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_call1_call0_cst : Ref sig .tc := ⟨.hbm, 4, rfl⟩
abbrev main_call1_call0_v0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Kernel25.lean ====
abbrev S4096x512 : Shape := ⟨2, ![4096, 512]⟩
abbrev S4096x5760 : Shape := ⟨2, ![4096, 5760]⟩
abbrev S4096x1024 : Shape := ⟨2, ![4096, 1024]⟩
abbrev S10 : Shape := ⟨1, ![10]⟩
abbrev S4 : Shape := ⟨1, ![4]⟩
abbrev S_ : Shape := ⟨0, ![]⟩
abbrev S4096x2048 : Shape := ⟨2, ![4096, 2048]⟩
abbrev S1024x128 : Shape := ⟨2, ![1024, 128]⟩
abbrev S1 : Shape := ⟨1, ![1]⟩
abbrev S1024x256 : Shape := ⟨2, ![1024, 256]⟩
abbrev S1024x1024 : Shape := ⟨2, ![1024, 1024]⟩

abbrev nBuf : Space → Nat
  | .hbm => 16
  | .vmem => 14
  | .smem => 3
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x5760, .f32⟩
  | .hbm, ⟨3, _⟩ => ⟨S4096x1024, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4096x2048, .f32⟩
  | .hbm, ⟨14, _⟩ => ⟨S4096x512, .f32⟩
  | .hbm, ⟨15, _⟩ => ⟨S4096x1024, .bf16⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S1024x128, .f32⟩
  | .local _ .vmem, ⟨13, _⟩ => ⟨S1024x256, .f32⟩
  | .local _ .smem, ⟨0, _⟩ => ⟨S10, .i32⟩
  | .local _ .smem, ⟨1, _⟩ => ⟨S10, .i32⟩
  | .local _ .smem, ⟨2, _⟩ => ⟨S4, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg0 : BitVec 32 := BitVec.ofNat 32 (i 0).val
  let v16 : Index := Scalar.indexCast arg0
  ![v16.toNat]
def k0_off3 (i : grid0.Coords) : Fin 1 → Nat :=
  let arg0 : BitVec 32 := BitVec.ofNat 32 (i 0).val
  let v19 : Index := Scalar.indexCast arg0
  ![v19.toNat]
def k0_cond4 (v1 : BitVec 32) : BitVec 1 :=
  let c3_i32 : BitVec 32 := 3#32
  let v13 : BitVec 1 := Scalar.cmpi .eq v1 c3_i32
  let v14 : BitVec 32 := Scalar.extui v13
  let c0_i32_2 : BitVec 32 := 0#32
  let v15 : BitVec 1 := Scalar.cmpi .ne v14 c0_i32_2
  v15

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v3.toNat, arg0.toNat]

def cc0_transform_3 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c4_i32 : BitVec 32 := 4#32
  let v4 : BitVec 32 := Scalar.addi c4_i32 arg0
  let c0_i32 : BitVec 32 := 0#32
  ![v3.toNat, v4.toNat]

def cc0_transform_4 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v3.toNat, arg0.toNat]

def cc0_transform_6 (k0_off1_inb : ∀ i : grid0.Coords, ∀ a, (k0_off1 i) a + S1.size a ≤ S10.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let v2 : Index := Scalar.indexCast arg1
  let v3 : BitVec 32 := pf.at 1 (Rect.unit (s := S10) ![v2.toNat] S1.size (k0_off1_inb i)) numel1_S1
  let c0_i32 : BitVec 32 := 0#32
  ![v3.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference25Ideal.lean ====
abbrev S4096x512 : Shape := ⟨2, ![4096, 512]⟩
abbrev S4096x5760 : Shape := ⟨2, ![4096, 5760]⟩
abbrev S4096x1024 : Shape := ⟨2, ![4096, 1024]⟩
abbrev S4096x4x128 : Shape := ⟨3, ![4096, 4, 128]⟩
abbrev S4096x4x256 : Shape := ⟨3, ![4096, 4, 256]⟩
abbrev S4 : Shape := ⟨1, ![4]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x1x1 : Shape := ⟨3, ![4, 1, 1]⟩
abbrev S4x4096x4096 : Shape := ⟨3, ![4, 4096, 4096]⟩
abbrev S4x256x4096 : Shape := ⟨3, ![4, 256, 4096]⟩
abbrev S4x4096x128 : Shape := ⟨3, ![4, 4096, 128]⟩

abbrev nBuf : Space → Nat
  | .hbm => 57
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x5760, .f32⟩
  | .hbm, ⟨3, _⟩ => ⟨S4096x1024, .bf16⟩
  | .hbm, ⟨4, _⟩ => ⟨S4096x4x128, .f32⟩
  | .hbm, ⟨5, _⟩ => ⟨S4096x1024, .f32⟩
  | .hbm, ⟨6, _⟩ => ⟨S4096x4x256, .f32⟩
  | .hbm, ⟨7, _⟩ => ⟨S4096x4x128, .f32⟩
  | .hbm, ⟨8, _⟩ => ⟨S4096x1024, .f32⟩
  | .hbm, ⟨9, _⟩ => ⟨S4096x4x256, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4096, .f32⟩
  | .hbm, ⟨20, _⟩ => ⟨S4096x1, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S1x4096x4096, .f32⟩
  | .hbm, ⟨26, _⟩ => ⟨S_, .f32⟩
  | .hbm, ⟨27, _⟩ => ⟨S1x4096x4096, .f32⟩
  | .hbm, ⟨28, _⟩ => ⟨S1x4096x4096, .i1⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S1x4096x4096, .f32⟩
  | .hbm, ⟨33, _⟩ => ⟨S4x1x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S_, .f32⟩
  | .hbm, ⟨40, _⟩ => ⟨S4x4096x4096, .i1⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x256x4096, .f32⟩
  | .hbm, ⟨46, _⟩ => ⟨S4096x4x256, .f32⟩
  | .hbm, ⟨47, _⟩ => ⟨S4x256x4096, .f32⟩
  | .hbm, ⟨48, _⟩ => ⟨S4x4096x4096, .f32⟩
  | .hbm, ⟨49, _⟩ => ⟨S4x256x4096, .f32⟩
  | .hbm, ⟨50, _⟩ => ⟨S4096x4x256, .f32⟩
  | .hbm, ⟨51, _⟩ => ⟨S4x4096x4096, .f32⟩
  | .hbm, ⟨52, _⟩ => ⟨S4x4096x128, .f32⟩
  | .hbm, ⟨53, _⟩ => ⟨S4096x4x128, .f32⟩
  | .hbm, ⟨54, _⟩ => ⟨S4096x512, .f32⟩
  | .hbm, ⟨55, _⟩ => ⟨S4096x1024, .f32⟩
  | .hbm, ⟨56, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]
-- ==== Kernel27.lean ====
abbrev S4096x512 : Shape := ⟨2, ![4096, 512]⟩
abbrev S1x512 : Shape := ⟨2, ![1, 512]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .f32⟩
  | .hbm, ⟨4, _⟩ => ⟨S4096x512, .f32⟩
  | .hbm, ⟨5, _⟩ => ⟨S1x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference27Ideal.lean ====
abbrev S4096x512 : Shape := ⟨2, ![4096, 512]⟩
abbrev S1x512 : Shape := ⟨2, ![1, 512]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 88
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S1x512, .f32⟩
  | .hbm, ⟨2, _⟩ => ⟨S1x512, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S4096x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S4096x512, .f32⟩
  | .hbm, ⟨59, _⟩ => ⟨S4096x512, .f32⟩
  | .hbm, ⟨60, _⟩ => ⟨S4096x512, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x512, .f32⟩
  | .hbm, ⟨65, _⟩ => ⟨S4096x512, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x512, .f32⟩
  | .hbm, ⟨76, _⟩ => ⟨S4096x512, .f32⟩
  | .hbm, ⟨77, _⟩ => ⟨S4096x512, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x512, .f32⟩
  | .hbm, ⟨87, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v23_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v23_1 : Ref sig .tc := ⟨.hbm, 44, rfl⟩
abbrev main_v23_0 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_cst_9 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Kernel28.lean ====
abbrev S4096x512 : Shape := ⟨2, ![4096, 512]⟩
abbrev S4096x2048 : Shape := ⟨2, ![4096, 2048]⟩
abbrev S4x1024x128 : Shape := ⟨3, ![4, 1024, 128]⟩
abbrev S1024x128 : Shape := ⟨2, ![1024, 128]⟩
abbrev S1024x512 : Shape := ⟨2, ![1024, 512]⟩
abbrev S1x1024x128 : Shape := ⟨3, ![1, 1024, 128]⟩
abbrev S1024x1024 : Shape := ⟨2, ![1024, 1024]⟩
abbrev S4x512x128 : Shape := ⟨3, ![4, 512, 128]⟩
abbrev S8x8 : Shape := ⟨2, ![8, 8]⟩
abbrev S_ : Shape := ⟨0, ![]⟩
abbrev S4x8x64x8x16 : Shape := ⟨5, ![4, 8, 64, 8, 16]⟩
abbrev S1x8x1x8x1 : Shape := ⟨5, ![1, 8, 1, 8, 1]⟩
abbrev S4x8x64x16 : Shape := ⟨4, ![4, 8, 64, 16]⟩
abbrev S32x64x16 : Shape := ⟨3, ![32, 64, 16]⟩
abbrev S32x16x64 : Shape := ⟨3, ![32, 16, 64]⟩

abbrev nBuf : Space → Nat
  | .hbm => 37
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x2048, .bf16⟩
  | .hbm, ⟨3, _⟩ => ⟨S4x1024x128, .f32⟩
  | .hbm, ⟨4, _⟩ => ⟨S4x512x128, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S4x8x64x8x16, .f32⟩
  | .hbm, ⟨13, _⟩ => ⟨S1x8x1x8x1, .f32⟩
  | .hbm, ⟨14, _⟩ => ⟨S4x8x64x8x16, .f32⟩
  | .hbm, ⟨15, _⟩ => ⟨S4x8x64x8x16, .f32⟩
  | .hbm, ⟨16, _⟩ => ⟨S_, .f32⟩
  | .hbm, ⟨17, _⟩ => ⟨S4x8x64x16, .f32⟩
  | .hbm, ⟨18, _⟩ => ⟨S32x64x16, .f32⟩
  | .hbm, ⟨19, _⟩ => ⟨S32x16x64, .f32⟩
  | .hbm, ⟨20, _⟩ => ⟨S4x512x128, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S4x8x64x8x16, .f32⟩
  | .hbm, ⟨29, _⟩ => ⟨S1x8x1x8x1, .f32⟩
  | .hbm, ⟨30, _⟩ => ⟨S4x8x64x8x16, .f32⟩
  | .hbm, ⟨31, _⟩ => ⟨S4x8x64x8x16, .f32⟩
  | .hbm, ⟨32, _⟩ => ⟨S_, .f32⟩
  | .hbm, ⟨33, _⟩ => ⟨S4x8x64x16, .f32⟩
  | .hbm, ⟨34, _⟩ => ⟨S32x64x16, .f32⟩
  | .hbm, ⟨35, _⟩ => ⟨S32x16x64, .f32⟩
  | .hbm, ⟨36, _⟩ => ⟨S32x16x64, .f32⟩
  | .local _ .vmem, ⟨0, _⟩ => ⟨S1024x128, .bf16⟩
  | .local _ .vmem, ⟨1, _⟩ => ⟨S1024x128, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x128, .f32⟩
  | .local _ .vmem, ⟨7, _⟩ => ⟨S1x1024x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference28Ideal.lean ====
abbrev S4096x512 : Shape := ⟨2, ![4096, 512]⟩
abbrev S4096x2048 : Shape := ⟨2, ![4096, 2048]⟩
abbrev S4096x32x64 : Shape := ⟨3, ![4096, 32, 64]⟩
abbrev S_ : Shape := ⟨0, ![]⟩
abbrev S32x16x64 : Shape := ⟨3, ![32, 16, 64]⟩
abbrev S32x16x4096 : Shape := ⟨3, ![32, 16, 4096]⟩
abbrev S4096x32x16 : Shape := ⟨3, ![4096, 32, 16]⟩

abbrev nBuf : Space → Nat
  | .hbm => 22
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S4096x2048, .bf16⟩
  | .hbm, ⟨3, _⟩ => ⟨S4096x2048, .f32⟩
  | .hbm, ⟨4, _⟩ => ⟨S4096x32x64, .f32⟩
  | .hbm, ⟨5, _⟩ => ⟨S4096x2048, .f32⟩
  | .hbm, ⟨6, _⟩ => ⟨S4096x32x64, .f32⟩
  | .hbm, ⟨7, _⟩ => ⟨S_, .f32⟩
  | .hbm, ⟨8, _⟩ => ⟨S32x16x64, .f32⟩
  | .hbm, ⟨9, _⟩ => ⟨S32x16x4096, .f32⟩
  | .hbm, ⟨10, _⟩ => ⟨S4096x32x16, .f32⟩
  | .hbm, ⟨11, _⟩ => ⟨S32x16x64, .f32⟩
  | .hbm, ⟨12, _⟩ => ⟨S32x16x4096, .f32⟩
  | .hbm, ⟨13, _⟩ => ⟨S4096x32x16, .f32⟩
  | .hbm, ⟨14, _⟩ => ⟨S4096x32x16, .f32⟩
  | .hbm, ⟨15, _⟩ => ⟨S4096x512, .f32⟩
  | .hbm, ⟨16, _⟩ => ⟨S4096x32x16, .f32⟩
  | .hbm, ⟨17, _⟩ => ⟨S32x16x4096, .f32⟩
  | .hbm, ⟨18, _⟩ => ⟨S32x16x64, .f32⟩
  | .hbm, ⟨19, _⟩ => ⟨S32x16x64, .f32⟩
  | .hbm, ⟨20, _⟩ => ⟨S32x16x4096, .f32⟩
  | .hbm, ⟨21, _⟩ => ⟨S32x16x64, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel29.lean ====
abbrev S4096x1536 : Shape := ⟨2, ![4096, 1536]⟩
abbrev S4096x2048 : Shape := ⟨2, ![4096, 2048]⟩
abbrev S4x128x1024 : Shape := ⟨3, ![4, 128, 1024]⟩
abbrev S1024x128 : Shape := ⟨2, ![1024, 128]⟩
abbrev S1024x512 : Shape := ⟨2, ![1024, 512]⟩
abbrev S1x128x1024 : Shape := ⟨3, ![1, 128, 1024]⟩
abbrev S1024x1024 : Shape := ⟨2, ![1024, 1024]⟩
abbrev S128x1024 : Shape := ⟨2, ![128, 1024]⟩
abbrev S4x128x512 : Shape := ⟨3, ![4, 128, 512]⟩
abbrev S8x8 : Shape := ⟨2, ![8, 8]⟩
abbrev S_ : Shape := ⟨0, ![]⟩
abbrev S4x8x16x8x64 : Shape := ⟨5, ![4, 8, 16, 8, 64]⟩
abbrev S1x8x1x8x1 : Shape := ⟨5, ![1, 8, 1, 8, 1]⟩
abbrev S4x8x16x64 : Shape := ⟨4, ![4, 8, 16, 64]⟩
abbrev S32x16x64 : Shape := ⟨3, ![32, 16, 64]⟩
abbrev S16x32x64 : Shape := ⟨3, ![16, 32, 64]⟩

abbrev nBuf : Space → Nat
  | .hbm => 36
  | .vmem => 8
  | .smem => 0
  | _ => 0

abbrev bufTy : (tb : Table) → Fin (tcTables nBuf tb) → BufTy
  | .hbm, ⟨0, _⟩ => ⟨S4096x1536, .f32⟩
  | .hbm, ⟨1, _⟩ => ⟨S4096x2048, .bf16⟩
  | .hbm, ⟨2, _⟩ => ⟨S4096x2048, .bf16⟩
  | .hbm, ⟨3, _⟩ => ⟨S4x128x1024, .f32⟩
  | .hbm, ⟨4, _⟩ => ⟨S4x128x512, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S4x8x16x8x64, .f32⟩
  | .hbm, ⟨13, _⟩ => ⟨S1x8x1x8x1, .f32⟩
  | .hbm, ⟨14, _⟩ => ⟨S4x8x16x8x64, .f32⟩
  | .hbm, ⟨15, _⟩ => ⟨S4x8x16x8x64, .f32⟩
  | .hbm, ⟨16, _⟩ => ⟨S_, .f32⟩
  | .hbm, ⟨17, _⟩ => ⟨S4x8x16x64, .f32⟩
  | .hbm, ⟨18, _⟩ => ⟨S32x16x64, .f32⟩
  | .hbm, ⟨19, _⟩ => ⟨S16x32x64, .f32⟩
  | .hbm, ⟨20, _⟩ => ⟨S4x128x512, .f32⟩
  | .hbm, ⟨21, _⟩ => ⟨S8x8, .i32⟩
  | .hbm, ⟨22, _⟩ => ⟨S8x8, .i32⟩
  | .hbm, ⟨23, _⟩ => ⟨S_, .i32⟩
  | .hbm, ⟨24, _⟩ => ⟨S8x8, .i32⟩
  | .hbm, ⟨25, _⟩ => ⟨S8x8, .i32⟩
  | .hbm, ⟨26, _⟩ => ⟨S8x8, .i1⟩
  | .hbm, ⟨27, _⟩ => ⟨S8x8, .f32⟩
  | .hbm, ⟨28, _⟩ => ⟨S4x8x16x8x64, .f32⟩
  | .hbm, ⟨29, _⟩ => ⟨S1x8x1x8x1, .f32⟩
  | .hbm, ⟨30, _⟩ => ⟨S4x8x16x8x64, .f32⟩
  | .hbm, ⟨31, _⟩ => ⟨S4x8x16x8x64, .f32⟩
  | .hbm, ⟨32, _⟩ => ⟨S_, .f32⟩
  | .hbm, ⟨33, _⟩ => ⟨S4x8x16x64, .f32⟩
  | .hbm, ⟨34, _⟩ => ⟨S32x16x64, .f32⟩
  | .hbm, ⟨35, _⟩ => ⟨S16x32x64, .f32⟩
  | .local _ .vmem, ⟨0, _⟩ => ⟨S1024x128, .f32⟩
  | .local _ .vmem, ⟨1, _⟩ => ⟨S1024x128, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x128x1024, .f32⟩
  | .local _ .vmem, ⟨7, _⟩ => ⟨S1x128x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference29Ideal.lean ====
abbrev S4096x1536 : Shape := ⟨2, ![4096, 1536]⟩
abbrev S4096x2048 : Shape := ⟨2, ![4096, 2048]⟩
abbrev S4096x512 : Shape := ⟨2, ![4096, 512]⟩
abbrev S4096x32x16 : Shape := ⟨3, ![4096, 32, 16]⟩
abbrev S_ : Shape := ⟨0, ![]⟩
abbrev S16x32x64 : Shape := ⟨3, ![16, 32, 64]⟩
abbrev S32x64x4096 : Shape := ⟨3, ![32, 64, 4096]⟩
abbrev S4096x32x64 : Shape := ⟨3, ![4096, 32, 64]⟩
abbrev S32x64x16 : Shape := ⟨3, ![32, 64, 16]⟩

abbrev nBuf : Space → Nat
  | .hbm => 21
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x2048, .bf16⟩
  | .hbm, ⟨2, _⟩ => ⟨S4096x2048, .bf16⟩
  | .hbm, ⟨3, _⟩ => ⟨S4096x512, .f32⟩
  | .hbm, ⟨4, _⟩ => ⟨S4096x32x16, .f32⟩
  | .hbm, ⟨5, _⟩ => ⟨S_, .f32⟩
  | .hbm, ⟨6, _⟩ => ⟨S16x32x64, .f32⟩
  | .hbm, ⟨7, _⟩ => ⟨S32x64x4096, .f32⟩
  | .hbm, ⟨8, _⟩ => ⟨S4096x32x64, .f32⟩
  | .hbm, ⟨9, _⟩ => ⟨S32x64x4096, .f32⟩
  | .hbm, ⟨10, _⟩ => ⟨S4096x32x64, .f32⟩
  | .hbm, ⟨11, _⟩ => ⟨S4096x2048, .f32⟩
  | .hbm, ⟨12, _⟩ => ⟨S4096x32x64, .f32⟩
  | .hbm, ⟨13, _⟩ => ⟨S4096x2048, .f32⟩
  | .hbm, ⟨14, _⟩ => ⟨S4096x32x64, .f32⟩
  | .hbm, ⟨15, _⟩ => ⟨S32x64x4096, .f32⟩
  | .hbm, ⟨16, _⟩ => ⟨S32x64x16, .f32⟩
  | .hbm, ⟨17, _⟩ => ⟨S16x32x64, .f32⟩
  | .hbm, ⟨18, _⟩ => ⟨S32x64x4096, .f32⟩
  | .hbm, ⟨19, _⟩ => ⟨S32x64x16, .f32⟩
  | .hbm, ⟨20, _⟩ => ⟨S16x32x64, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Proof.RetBody.lean ====
/-
  One grid point of the query gradient's kernel: what its body does to the buffers it is given.

  The body reads a row block's and a column block's number off two tables of ten words and the head's decay logarithm off a table of
  four; it resets the accumulator where the column block is the first, adds a block below the diagonal to it, and on the diagonal
  stores the accumulator and the diagonal block's contribution. `run_body` states that for any float values and any contents.
-/
module

public import proofs.«01_k».proof.Proof.Gen.KernelIdeal.Launch
public import proofs.«01_k».proof.Proof.Gen.KernelIdeal.Skeleton
public import Idealize.ShloMosaic.Lib.Pipeline.Regions
public import Idealize.ShloMosaic.Lib.Pipeline.Frame
public import Idealize.ShloMosaic.Lib.WholeRead
public import Idealize.ShloMosaic.Lib.LaneScatter.Tiles
public import Idealize.ShloMosaic.Lib.Tactic
public import Idealize.ShloMosaic.Lib.Tactic.Stretches

@[expose] public section

set_option maxRecDepth 16384

noncomputable section

namespace Cert.Proof.Dq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`, -/
abbrev Bf (c : Dev nD) {sp : Space} {S : Shape} {e : EltTy} (M : Memref sig .tc sp S e) : Type := Buf (Elt F) (M.view.loc (c : Thread nD τ))
/-- and the buffer held at given contents. -/
abbrev pt (c : Dev nD) {sp : Space} {S : Shape} {e : EltTy} (M : Memref sig .tc sp S e) (q : PosShare TreeShare) (f : Bf (F := F) c M) : sProp 𝕄 :=
  M.view.loc (c : Thread nD τ) ↦{q} f

/-- The word the body reads off a table of ten words at grid point `i`: the one its pair's number names. -/
def word (g : S10.Idx → BitVec 32) (i : grid0.Coords) : BitVec 32 :=
  g ((Rect.unit (s := S10) (k0_off1 i) S1.size (k0_off1_inb i)).emb (Shape.Idx.first (numel1_S1.symm ▸ Nat.one_pos)))

/-- The head's decay logarithm the body reads off its table at grid point `i`. -/
def lgAt (x : S4.Idx → Elt F .f32) (i : grid0.Coords) : Elt F .f32 :=
  x ((Rect.unit (s := S4) (k0_off2 i) S1.size (k0_off2_inb i)).emb (Shape.Idx.first (numel1_S1.symm ▸ Nat.one_pos)))

/-- What the accumulator holds after one grid point, before the diagonal block is added: reset when the column block is the first,
    and a block below the diagonal added to it. -/
def accStep (v1 v3 : BitVec 32) (l : Elt F .f32) (x6 : S1024x128.Idx → Elt F .f32) (x7 : S1024x256.Idx → Elt F .f32) (x8 : S1024x256.Idx → Elt F .bf16)
    (a : S1024x128.Idx → Elt F .f32) : S1024x128.Idx → Elt F .f32 :=
  let a0 := if v3 = 0#32 then k0_pay1 else a
  if Scalar.cmpi .slt v3 v1 = 1#1 then k0_pay2 v1 v3 l x8 x7 a0 x6 else a0

/-- What the output's block holds after one grid point: the accumulator and the diagonal block where the two block numbers agree. -/
def outStep (v1 v3 : BitVec 32) (l : Elt F .f32) (x6 : S1024x128.Idx → Elt F .f32) (x7 : S1024x256.Idx → Elt F .f32) (x8 : S1024x256.Idx → Elt F .bf16)
    (a x9 : S1024x128.Idx → Elt F .f32) : S1024x128.Idx → Elt F .f32 :=
  if k0_cond3 v1 v3 = 1#1 then k0_pay3 v1 v3 x8 x7 l a x6 else x9

omit [FloatOps F] in
/-- A load of a whole buffer's every element, at offset zero, is what the buffer holds; -/
theorem readAt_unread_zero {sp : Space} {d : Fin 2 → ℕ} {e : EltTy} {M : Memref sig .tc sp ⟨2, d⟩ e} (h : M.IsWhole) (X : Shape.Idx ⟨2, d⟩ → Elt F e)
    (inb : ∀ a, (![0, 0] : Fin 2 → ℕ) a + d a ≤ d a) :
    View.readAt (Elt F) M.view (Rect.unit (s := ⟨2, d⟩) ![0, 0] d inb).toLoadRect (h.unread X) = X := by
  funext y
  refine (Memref.IsWhole.readAt_unread h X _ y).trans (congrArg X ?_)
  funext a
  refine Fin.ext ?_
  exact (ValueKit.rect_emb_unit_val ..).trans (by fin_cases a <;> exact Nat.zero_add _)

omit [FloatOps F] in
/-- and a store of every element leaves the stored block. -/
theorem writes_zero {sp : Space} {d : Fin 2 → ℕ} {e : EltTy} {M : Memref sig .tc sp ⟨2, d⟩ e} (h : M.IsWhole) (f : M.view.ty.Contents (Elt F))
    (inb : ∀ a, (![0, 0] : Fin 2 → ℕ) a + d a ≤ d a) (w : Shape.Idx ⟨2, d⟩ → Elt F e) :
    M.view.writes (Elt F) f [⟨Rect.unit (s := ⟨2, d⟩) ![0, 0] d inb, w⟩] = h.unread w :=
  h.eq_unread (LaneScatter.read_whole_store M.view f (by intro a; fin_cases a <;> rfl) inb w)

/-- A bit widened and compared with zero is the bit. -/
theorem widened_bit (b : BitVec 1) : (Scalar.cmpi .ne (Scalar.extui b : BitVec 32) 0#32 = 1#1) = (b = 1#1) := by
  revert b; decide

/-- The comparison's bit is set where the words are equal. -/
theorem cmpi_eq_bit (x y : BitVec 32) : (Scalar.cmpi .eq x y = 1#1) = (x = y) := by
  by_cases h : x = y
  · simp [Scalar.cmpi, IntOp.cmpi, h]
  · have hb : (x == y) = false := beq_eq_false_iff_ne.mpr h
    simp [Scalar.cmpi, IntOp.cmpi, h, hb]

/-- THE BODY: from its operands' buffers held at any contents it ends with the inputs as they were, the accumulator advanced by `accStep` and
    the output's block by `outStep`. -/
theorem run_body (c : Dev nD) (i : grid0.Coords)
    (M4 : Memref sig .tc .smem S4 .f32) (h4 : M4.IsWhole)
    (M5 M6 : Memref sig .tc .vmem S1024x128 .f32) (h5 : M5.IsWhole) (h6 : M6.IsWhole)
    (M7 : Memref sig .tc .vmem S1024x256 .f32) (h7 : M7.IsWhole)
    (M8 : Memref sig .tc .vmem S1024x256 .bf16) (h8 : M8.IsWhole)
    (M9 : Memref sig .tc .vmem S1024x128 .f32) (h9 : M9.IsWhole)
    (q2 q3 : PosShare TreeShare) (g2 g3 : S10.Idx → BitVec 32)
    (x4 : S4.Idx → Elt F .f32) (x6 : S1024x128.Idx → Elt F .f32) (x7 : S1024x256.Idx → Elt F .f32) (x8 : S1024x256.Idx → Elt F .bf16)
    (x9 a : S1024x128.Idx → Elt F .f32)
    (Q : PUnit → sProp 𝕄) :
    iprop(pt (F := F) c (Memref.whole main_c) q2 g2 ∗ pt (F := F) c (Memref.whole main_c_0) q3 g3 ∗ pt c M4 fullShare (h4.unread x4)
      ∗ pt c M6 fullShare (h6.unread x6) ∗ pt c M7 fullShare (h7.unread x7) ∗ pt c M8 fullShare (h8.unread x8) ∗ pt c M9 fullShare (h9.unread x9)
      ∗ pt c (Memref.whole cc0_scratch0) fullShare ((Memref.isWhole_whole cc0_scratch0).unread a) ∗
      (iprop(pt (F := F) c (Memref.whole main_c) q2 g2 ∗ pt (F := F) c (Memref.whole main_c_0) q3 g3 ∗ pt c M4 fullShare (h4.unread x4)
      ∗ pt c M6 fullShare (h6.unread x6) ∗ pt c M7 fullShare (h7.unread x7) ∗ pt c M8 fullShare (h8.unread x8)
      ∗ pt c M9 fullShare (h9.unread (outStep (word g2 i) (word g3 i) (lgAt x4 i) x6 x7 x8 (accStep (word g2 i) (word g3 i) (lgAt x4 i) x6 x7 x8 a) x9))
      ∗ pt c (Memref.whole cc0_scratch0) fullShare ((Memref.isWhole_whole cc0_scratch0).unread (accStep (word g2 i) (word g3 i) (lgAt x4 i) x6 x7 x8 a))) -∗ Q ⟨⟩))
    ⊢ wp frame (wpE (defs₀ (F := F)) Variants.none c none) Set.univ
        (cc0_ret_bwd_dq i (Memref.whole main_c) (Memref.isWhole_whole _) (Memref.whole main_c_0) (Memref.isWhole_whole _) M4 h4 M5 h5 M6 h6 M7 h7 M8 h8 M9 h9 (Memref.whole cc0_scratch0) (Memref.isWhole_whole _)) Q := by
  rw [cc0_ret_bwd_dq_eq_skeleton]
  iintro ⟨H2, H3, H4, H6, H7, H8, H9, H10, Hk⟩
  sl_exec!
  have e1 : run_body.sl.r (F := F) i g2 = word g2 i := rfl
  have e3 : run_body.sl.r_1 (F := F) i g3 = word g3 i := rfl
  have el : run_body.sl.r_2 i M4 h4 x4 = lgAt x4 i := Memref.IsWhole.readAt_unread h4 x4 _ _
  have el' : run_body.sl.r_3 i M4 h4 x4 = lgAt x4 i := Memref.IsWhole.readAt_unread h4 x4 _ _
  have c6 : (run_body.sl.v6 (F := F) i g3 = 1#1) ↔ (word g3 i = 0#32) := by
    sl_open_run
    exact Iff.of_eq ((widened_bit _).trans (cmpi_eq_bit _ _))
  have c9 : (run_body.sl.v9 (F := F) i g2 g3 = 1#1) ↔ (Scalar.cmpi .slt (word g3 i) (word g2 i) = 1#1) := by
    sl_open_run
    exact Iff.of_eq (widened_bit _)
  have eA : (if hc : run_body.sl.v6 (F := F) i g3 = 1#1 then
          (Memref.whole cc0_scratch0).view.writes (Elt F) ((Memref.isWhole_whole cc0_scratch0).unread a)
            [⟨Rect.unit ![0, 0] S1024x128.size inb_S1024x128_S1024x128_0_0, k0_pay1⟩]
        else ((Memref.isWhole_whole cc0_scratch0).unread a)) = (Memref.isWhole_whole cc0_scratch0).unread (if word g3 i = 0#32 then k0_pay1 else a) := by
    by_cases h : word g3 i = 0#32
    · rw [dif_pos (c6.mpr h), if_pos h]
      exact writes_zero (M := Memref.whole cc0_scratch0) (d := ![1024, 128]) (Memref.isWhole_whole _) _ _ _
    · rw [dif_neg (fun h' => h (c6.mp h')), if_neg h]
  have e33 : run_body.sl.v33 i g3 a = (if word g3 i = 0#32 then k0_pay1 else a) := by
    refine (congrArg (fun f => View.readAt (Elt F) (Memref.whole cc0_scratch0).view
      (Rect.unit ![0, 0] S1024x128.size inb_S1024x128_S1024x128_0_0).toLoadRect f) eA).trans ?_
    exact readAt_unread_zero _ _ _
  have eB : (if hc : run_body.sl.v9 (F := F) i g2 g3 = 1#1 then
      (Memref.whole cc0_scratch0).view.writes (Elt F)
        (if hc : run_body.sl.v6 (F := F) i g3 = 1#1 then
          (Memref.whole cc0_scratch0).view.writes (Elt F) ((Memref.isWhole_whole cc0_scratch0).unread a)
            [⟨Rect.unit ![0, 0] S1024x128.size inb_S1024x128_S1024x128_0_0, k0_pay1⟩]
        else (Memref.isWhole_whole cc0_scratch0).unread a)
        [⟨Rect.unit ![0, 0] S1024x128.size inb_S1024x128_S1024x128_0_0,
            k0_pay2 (run_body.sl.r (F := F) i g2) (run_body.sl.r_1 (F := F) i g3) (run_body.sl.r_2 i M4 h4 x4)
              (View.readAt (Elt F) M8.view (Rect.unit ![0, 0] S1024x256.size inb_S1024x256_S1024x256_0_0).toLoadRect
                (h8.unread x8))
              (View.readAt (Elt F) M7.view (Rect.unit ![0, 0] S1024x256.size inb_S1024x256_S1024x256_0_0).toLoadRect
                (h7.unread x7))
              (run_body.sl.v33 i g3 a)
              (View.readAt (Elt F) M6.view (Rect.unit ![0, 0] S1024x128.size inb_S1024x128_S1024x128_0_0).toLoadRect
                (h6.unread x6))⟩]
    else
      if hc : run_body.sl.v6 (F := F) i g3 = 1#1 then
        (Memref.whole cc0_scratch0).view.writes (Elt F) ((Memref.isWhole_whole cc0_scratch0).unread a)
          [⟨Rect.unit ![0, 0] S1024x128.size inb_S1024x128_S1024x128_0_0, k0_pay1⟩]
      else (Memref.isWhole_whole cc0_scratch0).unread a)
        = (Memref.isWhole_whole cc0_scratch0).unread (accStep (word g2 i) (word g3 i) (lgAt x4 i) x6 x7 x8 a) := by
    unfold accStep
    by_cases h : Scalar.cmpi .slt (word g3 i) (word g2 i) = 1#1
    · rw [dif_pos (c9.mpr h), if_pos h]
      refine (writes_zero (M := Memref.whole cc0_scratch0) (d := ![1024, 128]) (Memref.isWhole_whole _) _ _ _).trans ?_
      rw [e1, e3, el, e33, readAt_unread_zero h8 x8, readAt_unread_zero h7 x7, readAt_unread_zero h6 x6]
    · rw [dif_neg (fun h' => h (c9.mp h')), if_neg h]
      exact eA
  have e39 : run_body.sl.v39 i M4 h4 M6 h6 M7 h7 M8 h8 g2 g3 x4 x6 x7 x8 a = accStep (word g2 i) (word g3 i) (lgAt x4 i) x6 x7 x8 a := by
    refine (congrArg (fun f => View.readAt (Elt F) (Memref.whole cc0_scratch0).view
      (Rect.unit ![0, 0] S1024x128.size inb_S1024x128_S1024x128_0_0).toLoadRect f) eB).trans ?_
    exact readAt_unread_zero _ _ _
  have eO : (if hc : k0_cond3 (run_body.sl.r (F := F) i g2) (run_body.sl.r_1 (F := F) i g3) = 1#1 then
      M9.view.writes (Elt F) (h9.unread x9)
        [⟨Rect.unit ![0, 0] S1024x128.size inb_S1024x128_S1024x128_0_0,
            k0_pay3 (run_body.sl.r (F := F) i g2) (run_body.sl.r_1 (F := F) i g3)
              (View.readAt (Elt F) M8.view (Rect.unit ![0, 0] S1024x256.size inb_S1024x256_S1024x256_0_0).toLoadRect
                (h8.unread x8))
              (View.readAt (Elt F) M7.view (Rect.unit ![0, 0] S1024x256.size inb_S1024x256_S1024x256_0_0).toLoadRect
                (h7.unread x7))
              (run_body.sl.r_3 i M4 h4 x4) (run_body.sl.v39 i M4 h4 M6 h6 M7 h7 M8 h8 g2 g3 x4 x6 x7 x8 a)
              (View.readAt (Elt F) M6.view (Rect.unit ![0, 0] S1024x128.size inb_S1024x128_S1024x128_0_0).toLoadRect
                (h6.unread x6))⟩]
    else h9.unread x9)
      = h9.unread (outStep (word g2 i) (word g3 i) (lgAt x4 i) x6 x7 x8 (accStep (word g2 i) (word g3 i) (lgAt x4 i) x6 x7 x8 a) x9) := by
    unfold outStep
    rw [e1, e3, el', e39, readAt_unread_zero h8 x8, readAt_unread_zero h7 x7, readAt_unread_zero h6 x6]
    by_cases h : k0_cond3 (word g2 i) (word g3 i) = 1#1
    · rw [dif_pos h, if_pos h]
      exact writes_zero h9 _ _ _
    · rw [dif_neg h, if_neg h]
  rw [eB, eO]
  sl_step
  iapply Hk
  isplitl [H2]; · iexact H2
  isplitl [H3]; · iexact H3
  isplitl [H4]; · iexact H4
  isplitl [H6]; · iexact H6
  isplitl [H7]; · iexact H7
  isplitl [H8]; · iexact H8
  isplitl [H9]; · iexact H9
  iexact H10

end Cert.Proof.Dq
-- ==== Proof.RetGrid.lean ====
module

public import proofs.«01_k».proof.Proof.RetBody
public import Idealize.ShloMosaic.PureOps.Ideal

@[expose] public section

set_option maxRecDepth 16384

noncomputable section

namespace Cert.Proof.Dq

open Cert.KernelIdeal Cert.KernelIdeal.Gen

open Idealize.ShloMosaic
open Idealize.ShloMosaic.TcCoe

variable {F : FTy → Type} [FloatOps F]

/-- The row blocks' numbers, in the order the grid takes the pairs, -/
abbrev tabI : S10.Idx → BitVec 32 := fun i => lit0 (S10.rowMajor i)
/-- and the column blocks'. -/
abbrev tabJ : S10.Idx → BitVec 32 := fun i => lit1 (S10.rowMajor i)

omit [FloatOps F] in
/-- The tables' contents. -/
abbrev pf0 : pre0.Contents (Elt F) := fun
  | 0 => tabI
  | 1 => tabJ
  | ⟨_ + 2, h⟩ => absurd h (Nat.not_lt.2 (Nat.le_add_left _ _))

/-- The words at a grid point. -/
theorem word_I : ∀ i : grid0.Coords, word tabI i = lit0 (i 1) := by decide +kernel
theorem word_J : ∀ i : grid0.Coords, word tabJ i = lit1 (i 1) := by decide +kernel

theorem blk_I128 : ∀ (i : grid0.Coords) (a : Fin 2), ((![(word tabI i).toNat, (BitVec.ofNat 32 (i 0).val).toNat] : Fin 2 → ℕ) a + 1) * S1024x128.size a ≤ S4096x512.size a := by
  decide +kernel
theorem blk_J128 : ∀ (i : grid0.Coords) (a : Fin 2), ((![(word tabJ i).toNat, (BitVec.ofNat 32 (i 0).val).toNat] : Fin 2 → ℕ) a + 1) * S1024x128.size a ≤ S4096x512.size a := by
  decide +kernel
theorem blk_J256 : ∀ (i : grid0.Coords) (a : Fin 2), ((![(word tabJ i).toNat, (Scalar.addi 4#32 (BitVec.ofNat 32 (i 0).val)).toNat] : Fin 2 → ℕ) a + 1) * S1024x256.size a ≤ S4096x2048.size a := by
  decide +kernel
theorem blk_I256 : ∀ (i : grid0.Coords) (a : Fin 2), ((![(word tabI i).toNat, (BitVec.ofNat 32 (i 0).val).toNat] : Fin 2 → ℕ) a + 1) * S1024x256.size a ≤ S4096x1024.size a := by
  decide +kernel
theorem words_I256 : ∀ (i : grid0.Coords),
    (Rect.block (s := S4096x1024) S1024x256.size ![(word tabI i).toNat, (BitVec.ofNat 32 (i 0).val).toNat] (blk_I256 i)).WholeWords (EltTy.packing .bf16) := by
  decide +kernel

/-- The tables' contents are within bounds. -/
theorem ok_pf0 : ok0 (F := F) pf0 := by
  unfold ok0
  exact ⟨fun i => ⟨blk_I128 i, Or.inl rfl⟩, fun i => ⟨blk_J128 i, Or.inl rfl⟩, fun i => ⟨blk_J256 i, Or.inl rfl⟩, fun i => ⟨blk_I256 i, Or.inr (words_I256 i)⟩,
    fun i => ⟨blk_I128 i, Or.inl rfl⟩⟩

/-- The admissible contents. -/
def adm : (pcfg0 (F := F)).Adm := ⟨pf0, ok_pf0⟩

theorem win_eq (w : Fin 6) : win0 (F := F) adm w = win0 (F := Ideal) adm w := by
  fin_cases w <;> rfl

/-- The output's block is written back exactly where the pair is on the diagonal, where it is not idle. -/
theorem flush5 : ∀ t : Fin grid0.N, (win0 (F := Ideal) adm 5).flush t = !(idle0 (F := Ideal) pf0 5 (grid0.coords t)) := by decide +kernel
theorem idle5 : ∀ t : Fin grid0.N, idle0 (F := Ideal) pf0 5 (grid0.coords t) = !(lit0 (grid0.coords t 1) == lit1 (grid0.coords t 1)) := by decide +kernel

end Cert.Proof.Dq

end
-- ==== Proof.RetRun.lean ====
/-
  The query gradient's kernel run from launch to return, for any float values.

  Twelve host operations fill the two tables of block numbers, the heads' decay logarithms and the columns of the projection that hold
  the values; then one kernel region runs over the grid of heads and block pairs. `dats` names what each staging buffer and the
  accumulator hold between grid points, `body_obligation` says that the body keeps to it, and `run_main` is the run's end: every
  window's array at the contents computed from those, the arguments as they were, every counter at zero.
-/
module

public import proofs.«01_k».proof.Proof.RetGrid

@[expose] public section

set_option maxRecDepth 16384

noncomputable section

namespace Cert.Proof.Dq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The library's resource algebra, the only one here. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## Before the region -/

/-- The launch memory on core `c`, -/
abbrev V₀ (c : Dev nD) : Valuation τ sig (Elt F) := fun b => m ((c : Dev nD), b)
/-- and what the buffers hold when the region is entered. -/
def V (c : Dev nD) (b : Ref sig .tc) : Buf (Elt F) ((c : Thread nD τ).loc b) := StableHlo.after hostOps0 (V₀ m c) b

/-- The buffers the twelve operations write. -/
abbrev hostOut : List (Ref sig .tc) := [main_c, main_c_0, main_v0, main_cst, main_v1, main_v2, main_cst_1, main_v3, main_v4, main_v5, main_v6, main_v7]

/-- A buffer none of them writes enters the region as launched. -/
theorem V_of_not_written (c : Dev nD) (b : Ref sig .tc) (hb : ∀ b' ∈ hostOut, b ≠ b') : V m c b = m ((c : Thread nD τ).loc b) := by
  refine StableHlo.after_of_forall_not_mem (b := Proc.devRef .tc b) hostOps0 (V₀ m c) fun op hop => ?_
  simp only [List.mem_cons, List.mem_nil_iff, or_false] at hop
  simp only [hostOut, List.forall_mem_cons] at hb
  obtain ⟨h0, h1, h2, h3, h4, h5, h6, h7, h8, h9, h10, h11, -⟩ := hb
  rcases hop with rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The tables hold the block numbers. -/
theorem V_tabI (c : Dev nD) : V m c main_c = tabI := by
  unfold V; simp only [hostOps0]; after_results; rfl
theorem V_tabJ (c : Dev nD) : V m c main_c_0 = tabJ := by
  unfold V; simp only [hostOps0]; after_results; rfl

/-- The unscoped buffers, among which the host operations run. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The proof data -/

/-- A window's block of its array at a grid point, as the region finds the array. -/
def blkOf (c : Dev nD) (w : Fin 6) (t : Fin grid0.N) : (win0 (F := F) adm w).block.Idx → Elt F (win0 (F := F) adm w).elt :=
  ((win0 (F := F) adm w).blk t).view.read (Elt F) (V m c (Pipeline.arrRef spec0 w))

/-- The decay logarithm, the keys', values' and output gradients' blocks at grid point `t`. -/
def lgB (c : Dev nD) (t : Fin grid0.N) : Elt F .f32 := lgAt (blkOf m c 0 t) (grid0.coords t)
def kB (c : Dev nD) (t : Fin grid0.N) : S1024x128.Idx → Elt F .f32 := blkOf m c 2 t
def vB (c : Dev nD) (t : Fin grid0.N) : S1024x256.Idx → Elt F .f32 := blkOf m c 3 t
def doB (c : Dev nD) (t : Fin grid0.N) : S1024x256.Idx → Elt F .bf16 := blkOf m c 4 t

/-- The row and the column block's number at grid point `t`. -/
abbrev wI (t : Fin grid0.N) : BitVec 32 := word tabI (grid0.coords t)
abbrev wJ (t : Fin grid0.N) : BitVec 32 := word tabJ (grid0.coords t)

/-- The accumulator after grid point `t`, from what it held before, -/
def accNext (c : Dev nD) (t : Fin grid0.N) (a : S1024x128.Idx → Elt F .f32) : S1024x128.Idx → Elt F .f32 :=
  accStep (wI t) (wJ t) (lgB m c t) (kB m c t) (vB m c t) (doB m c t) a
/-- and before the `k`-th point. -/
def acc (c : Dev nD) : ℕ → S1024x128.Idx → Elt F .f32
  | 0 => k0_pay1
  | k + 1 => if h : k < grid0.N then accNext m c ⟨k, h⟩ (acc c k) else acc c k

/-- What a point on the diagonal stores. -/
def outB (c : Dev nD) (t : Fin grid0.N) : S1024x128.Idx → Elt F .f32 :=
  k0_pay3 (wI t) (wJ t) (doB m c t) (vB m c t) (lgB m c t) (acc m c (t.val + 1)) (kB m c t)

/-- Between grid points: the tables, and the accumulator at its contents (at any before the first point). -/
def Φc (c : Dev nD) (k : ℕ) : sProp 𝕄 :=
  iprop(pt (F := F) c (Memref.whole main_c) fullShare tabI ∗ pt (F := F) c (Memref.whole main_c_0) fullShare tabJ
    ∗ ∃ a : S1024x128.Idx → Elt F .f32, ⌜k ≠ 0 → a = acc m c k⌝ ∗ pt c (Memref.whole cc0_scratch0) fullShare ((Memref.isWhole_whole cc0_scratch0).unread a))

/-- The proof data: the arrays as the region finds them; the inputs' blocks as fetched and the output's as computed; nothing owed. -/
def dats (_ : Fin 1) (c : Dev nD) : Dat τ (Elt F) Unit ℕ (UR sig nD τ) ℕ (cfg0 (F := F) adm) c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => outB m c t
  Φ k := Φc m c k.val
  q _ := fullShare
  owed _ := 0

theorem A_eq (c : Dev nD) (w : Fin 6) : (dats m 0 c).A w = V m c (Pipeline.arrRef spec0 w) := by
  dsimp only [dats]

/-- What the body finds in the inputs' buffers: their blocks. -/
theorem before_in (c : Dev nD) (t : Fin grid0.N) (w : Fin 6) (hw : w ≠ 5) (d) : (dats m 0 c).before w t d = blkOf m c w t := by
  revert d
  fin_cases w <;> first | exact absurd rfl hw | exact fun d => (dats m 0 c).before_in_eq_fetched _ rfl (fun _ => rfl) (fun _ _ _ => rfl) (fun _ => rfl) t d

/-! ## The body's obligation -/

theorem acc_succ (c : Dev nD) (k : ℕ) (h : k < grid0.N) : acc m c (k + 1) = accNext m c ⟨k, h⟩ (acc m c k) := by
  rw [acc, dif_pos h]

/-- The first point resets the accumulator: what it held does not matter. -/
theorem accNext_first (c : Dev nD) (t : Fin grid0.N) (ht : t.val = 0) (a a' : S1024x128.Idx → Elt F .f32) : accNext m c t a = accNext m c t a' := by
  have h : wJ t = 0#32 := by
    have : ∀ t : Fin grid0.N, t.val = 0 → wJ t = 0#32 := by decide +kernel
    exact this t ht
  unfold accNext accStep
  rw [if_pos h, if_pos h]

/-- The words of the tables at a grid point, as the output's window reads them. -/
theorem atD_I (i : grid0.Coords) : (pf0 (F := F)).atD 0 (k0_off1 i) = word tabI i := by
  unfold Pipeline.Prefetch.Contents.atD
  split
  · exact congrArg tabI (by funext a; fin_cases a; exact Fin.ext (Nat.add_zero _).symm)
  · next h => exact (h (show ∀ a : Fin 1, k0_off1 i a + 1 ≤ S10.size a from fun a => by fin_cases a; exact k0_off1_inb i 0)).elim
theorem atD_J (i : grid0.Coords) : (pf0 (F := F)).atD 1 (k0_off1 i) = word tabJ i := by
  unfold Pipeline.Prefetch.Contents.atD
  split
  · exact congrArg tabJ (by funext a; fin_cases a; exact Fin.ext (Nat.add_zero _).symm)
  · next h => exact (h (show ∀ a : Fin 1, k0_off1 i a + 1 ≤ S10.size a from fun a => by fin_cases a; exact k0_off1_inb i 0)).elim

/-- The output's window is idle exactly off the diagonal. -/
theorem idle_eq (i : grid0.Coords) : idle0 (F := F) pf0 5 i = !(k0_cond3 (word tabI i) (word tabJ i) == 1#1) := by
  rw [← atD_I (F := F), ← atD_J (F := F)]

theorem flush_eq (t : Fin grid0.N) : (win0 (F := F) adm 5).flush t = !(idle0 (F := F) pf0 5 (grid0.coords t)) := by
  rw [win_eq, idle_eq, ← idle_eq (F := Ideal)]; exact flush5 t

omit [FloatOps F] in
/-- A whole buffer owned at contents is its points-to at them. -/
theorem owns_unread {c : Dev nD} {sp : Space} {S : Shape} {e : EltTy} {M : Memref sig .tc sp S e} (h : M.IsWhole) (X : S.Idx → Elt F e) :
    (owns (c : Thread nD τ) M fullShare X : sProp 𝕄) ⊣⊢ pt c M fullShare (h.unread X) := by
  obtain ⟨b, hsp, hsh, he, h⟩ := h
  subst hsp hsh he
  cases h
  have e : (owns (c : Thread nD τ) (Memref.whole b) fullShare X : sProp 𝕄) = pt c (Memref.whole b) fullShare ((Memref.isWhole_whole b).unread X) := by
    have eX : X = (Memref.isWhole_whole b).unread X := (Memref.isWhole_whole b).eq_unread (f := X) rfl
    exact (owns_whole ..).trans (congrArg (fun f => pt c (Memref.whole b) fullShare f) eX)
  exact ⟨Entails.of_eq e, Entails.of_eq e.symm⟩

/-- The body's label, run at a grid point. -/
theorem defs₀_row (t : Fin grid0.N) (s : (w : Fin 6) → Fin (spec0 w).nbuf) :
    defs₀ (F := F) .tc 0 (t, s) = cc0_ret_bwd_dq (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (Memref.whole cc0_scratch0) (Memref.isWhole_whole _) := by
  unfold defs₀; rw [Defs.onTc_tc]

/-- The body at a grid point, on the windows' current buffers. -/
theorem point_run (c : Dev nD) (t : Fin grid0.N) (s : (w : Fin 6) → Fin (spec0 w).nbuf) (x9 : S1024x128.Idx → Elt F .f32) (Q : PUnit → sProp 𝕄) :
    iprop(Φc m c t.val
        ∗ owns (c : Thread nD τ) (spec0_0.stage (s 0)) fullShare (blkOf m c 0 t)
        ∗ owns (c : Thread nD τ) (spec0_2.stage (s 2)) fullShare (blkOf m c 2 t) ∗ owns (c : Thread nD τ) (spec0_3.stage (s 3)) fullShare (blkOf m c 3 t)
        ∗ owns (c : Thread nD τ) (spec0_4.stage (s 4)) fullShare (blkOf m c 4 t) ∗ owns (c : Thread nD τ) (spec0_5.stage (s 5)) fullShare x9
        ∗ (iprop(Φc m c (t.val + 1)
        ∗ owns (c : Thread nD τ) (spec0_0.stage (s 0)) fullShare (blkOf m c 0 t)
        ∗ owns (c : Thread nD τ) (spec0_2.stage (s 2)) fullShare (blkOf m c 2 t) ∗ owns (c : Thread nD τ) (spec0_3.stage (s 3)) fullShare (blkOf m c 3 t)
        ∗ owns (c : Thread nD τ) (spec0_4.stage (s 4)) fullShare (blkOf m c 4 t)
        ∗ owns (c : Thread nD τ) (spec0_5.stage (s 5)) fullShare (if k0_cond3 (wI t) (wJ t) = 1#1 then outB m c t else x9)) -∗ Q ⟨⟩))
    ⊢ wp frame (wpE (defs₀ (F := F)) Variants.none c none) Set.univ (defs₀ (F := F) .tc 0 (t, s)) Q := by
  rw [defs₀_row]
  have o0 := owns_unread (F := F) (c := c) (M := spec0_0.stage (s 0)) (hstage0_0 ((s 0).cast nbuf0_0)) (blkOf m c 0 t)
  have o2 := owns_unread (F := F) (c := c) (M := spec0_2.stage (s 2)) (hstage0_2 ((s 2).cast nbuf0_2)) (blkOf m c 2 t)
  have o3 := owns_unread (F := F) (c := c) (M := spec0_3.stage (s 3)) (hstage0_3 ((s 3).cast nbuf0_3)) (blkOf m c 3 t)
  have o4 := owns_unread (F := F) (c := c) (M := spec0_4.stage (s 4)) (hstage0_4 ((s 4).cast nbuf0_4)) (blkOf m c 4 t)
  have o5 := fun X => owns_unread (F := F) (c := c) (M := spec0_5.stage (s 5)) (hstage0_5 ((s 5).cast nbuf0_5)) X
  unfold Φc
  iintro ⟨⟨HI, HJ, ⟨%a, %ha, Hs⟩⟩, H0, H2, H3, H4, H5, Hk⟩
  ihave H0 := o0.1 $$ H0
  ihave H2 := o2.1 $$ H2
  ihave H3 := o3.1 $$ H3
  ihave H4 := o4.1 $$ H4
  ihave H5 := (o5 x9).1 $$ H5
  have hacc : accNext m c t a = acc m c (t.val + 1) := by
    rw [acc_succ m c t.val t.isLt]
    by_cases h0 : t.val = 0
    · exact accNext_first m c t h0 _ _
    · rw [ha h0]
  iapply (run_body c (grid0.coords t) _ (hstage0_0 ((s 0).cast nbuf0_0)) _ _ (hstage0_1 ((s 1).cast nbuf0_1)) (hstage0_2 ((s 2).cast nbuf0_2)) _ (hstage0_3 ((s 3).cast nbuf0_3)) _ (hstage0_4 ((s 4).cast nbuf0_4)) _ (hstage0_5 ((s 5).cast nbuf0_5))
    fullShare fullShare tabI tabJ (blkOf m c 0 t) (blkOf m c 2 t) (blkOf m c 3 t) (blkOf m c 4 t) x9 a)
  isplitl [HI]; · iexact HI
  isplitl [HJ]; · iexact HJ
  isplitl [H0]; · iexact H0
  isplitl [H2]; · iexact H2
  isplitl [H3]; · iexact H3
  isplitl [H4]; · iexact H4
  isplitl [H5]; · iexact H5
  isplitl [Hs]; · iexact Hs
  iintro ⟨HI, HJ, H0, H2, H3, H4, H5, Hs⟩
  rw [show accStep (word tabI (grid0.coords t)) (word tabJ (grid0.coords t)) (lgAt (blkOf m c 0 t) (grid0.coords t)) (blkOf m c 2 t) (blkOf m c 3 t) (blkOf m c 4 t) a = acc m c (t.val + 1) from hacc]
  iapply Hk
  isplitl [HI HJ Hs]
  · isplitl [HI]; · iexact HI
    isplitl [HJ]; · iexact HJ
    iexists (acc m c (t.val + 1))
    isplitr; · ipureintro; exact fun _ => rfl
    iexact Hs
  isplitl [H0]; · iapply o0.2; iexact H0
  isplitl [H2]; · iapply o2.2; iexact H2
  isplitl [H3]; · iapply o3.2; iexact H3
  isplitl [H4]; · iapply o4.2; iexact H4
  iapply (o5 _).2; iexact H5

omit [FloatOps F] in
/-- What is left of the output's buffer: the stored block where the window is live, what was there where it is idle. -/
theorem leaves_of {O A B : sProp 𝕄} {i f b : Bool} (hi : i = !b) (hf : f = !(!b)) (h1 : b = true → O ⊢ A) (h0 : b = false → O ⊢ B) :
    O ⊢ match (generalizing := false) i with
      | true => match (generalizing := false) f with
        | false => B
        | true => A
      | false => A := by
  subst hi hf
  cases b
  · exact h0 rfl
  · exact h1 rfl

/-- The body keeps to the proof data at every grid point. -/
theorem body_obligation (c : Dev nD) : BodyObligation (dats m 0 c) (defs₀ (F := F)) Variants.none () Set.univ := fun t => by
  have hrun := fun x9 Q => triple_restated (W' := wp frame (wpE (defs₀ (F := F)) Variants.none c none) Set.univ (defs₀ .tc (cfg0 (F := F) adm).body ((cfg0 (F := F) adm).bodyArgs t ((cfg0 (F := F) adm).slots t))))
    (point_run m c t (fun w => (cfg0 (F := F) adm).slots t w) x9 Q) rfl .rfl (fun _ => .rfl)
  rw [bigSep_W0, bigSep_W0]
  simp only [before_in m c t 0 (by decide), before_in m c t 1 (by decide), before_in m c t 2 (by decide), before_in m c t 3 (by decide), before_in m c t 4 (by decide)]
  rw [show (dats m 0 c).Φ t.castSucc = Φc m c t.val from rfl, show (dats m 0 c).Φ t.succ = Φc m c (t.val + 1) from rfl]
  unfold Dat.owesAt Pipeline.owesWithin
  rw [show (dats m 0 c).owed t.castSucc = 0 from rfl, show (dats m 0 c).owed t.succ = 0 from rfl]
  iintro ⟨HΦ, HO, ⟨%d0, H0⟩, ⟨%d1, H1⟩, ⟨%d2, H2⟩, ⟨%d3, H3⟩, ⟨%d4, H4⟩, ⟨%d5, H5⟩⟩
  iapply (hrun ((dats m 0 c).before 5 t d5) _)
  isplitl [HΦ]; · iexact HΦ
  isplitl [H0]; · iexact H0
  isplitl [H2]; · iexact H2
  isplitl [H3]; · iexact H3
  isplitl [H4]; · iexact H4
  isplitl [H5]; · iexact H5
  iintro ⟨HΦ, H0, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  have hi : (cfg0 (F := F) adm).idle 5 ((cfg0 (F := F) adm).grid.coords t) = !(k0_cond3 (wI t) (wJ t) == 1#1) := idle_eq _
  have hf : ((cfg0 (F := F) adm).win 5).flush t = !(!(k0_cond3 (wI t) (wJ t) == 1#1)) := (flush_eq t).trans (congrArg (!·) (idle_eq _))
  have hA : k0_cond3 (wI t) (wJ t) == 1#1 → (owns (c : Thread nD τ) (spec0_5.stage ((cfg0 (F := F) adm).slots t 5)) fullShare (if k0_cond3 (wI t) (wJ t) = 1#1 then outB m c t else (dats m 0 c).before 5 t d5) : sProp 𝕄)
      ⊢ owns (c : Thread nD τ) (spec0_5.stage ((cfg0 (F := F) adm).slots t 5)) fullShare ((dats m 0 c).after 5 t) :=
    fun hc => Entails.of_eq (congrArg _ (if_pos (beq_iff_eq.mp hc)))
  have hB : (k0_cond3 (wI t) (wJ t) == 1#1) = false → (owns (c : Thread nD τ) (spec0_5.stage ((cfg0 (F := F) adm).slots t 5)) fullShare (if k0_cond3 (wI t) (wJ t) = 1#1 then outB m c t else (dats m 0 c).before 5 t d5) : sProp 𝕄)
      ⊢ iprop(∃ d, owns (c : Thread nD τ) (spec0_5.stage ((cfg0 (F := F) adm).slots t 5)) fullShare ((dats m 0 c).before 5 t d)) := fun hc => by
    refine (Entails.of_eq (congrArg _ (if_neg (fun h => Bool.false_ne_true (hc.symm.trans (beq_iff_eq.mpr h)))))).trans ?_
    iintro H
    iexists d5
    iexact H
  have hend := leaves_of hi hf hA hB
  exact hend

/-! ## The launch -/

/-- The launch element: the pipeline's. -/
def u₀ : UR sig nD τ := initOf (Pipeline.cells (Pipeline.pin (pcfgs (F := F)) fun _ => adm) (cellOf_inj fun _ => adm)) (Pipeline.launchToks (Pipeline.pin (pcfgs (F := F)) fun _ => adm) (cellOf_inj fun _ => adm))

/-- An array's contents after the run. -/
def finalA (c : Dev nD) (w : Fin 6) : Buf (Elt F) (((cfg0 (F := F) adm).win w).arr.view.loc (c : Thread nD τ)) := (dats m 0 c).arrAt w (cfg0 (F := F) adm).N

/-- The run's end. -/
def QC : PUnit × MemSt nD τ sig (Elt F) → Prop := fun r =>
  ∀ c : Dev nD, (∀ w : Fin 6, r.2.mem (((cfg0 (F := F) adm).win w).arr.view.loc (c : Thread nD τ)) = finalA m c w)
    ∧ r.2.mem ((c : Thread nD τ).loc main_arg2) = m ((c : Thread nD τ).loc main_arg2)

abbrev L : GSem nD τ sig → Finset Unit := fun _ => ∅
abbrev lv : GSem nD τ sig → Unit → ℕ := fun _ _ => 0
abbrev adms : (p : Fin 1) → (pcfgs (F := F) p).Adm := fun _ => adm

/-- The core's obligations, carried beside the buffers. -/
abbrev R (c : Dev nD) : sProp 𝕄 := iprop(∃ W, owes (c : Thread nD τ) (0 : CellTallies nD τ sig Unit) W)

/-- The host operations. -/
def seg0 : Pipeline.HostSeg (Name := ℕ) (U := UR sig nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves. -/
abbrev Tₙ (c : Dev nD) : sProp 𝕄 :=
  iprop((dats m 0 c).arrays ((dats m 0 c).arrAt · (cfg0 (F := F) adm).N) ∗ (((c : Thread nD τ).loc main_arg2) ↦{fullShare} V m c main_arg2))

/-- The two tables, held one by one. -/
theorem prefHeld_eq (c : Dev nD) :
    (Pipeline.prefHeld (Ix := Unit) (Name := ℕ) (U := UR sig nD τ) (Lvl := ℕ) (nD := nD) (τ := τ) pre0 c (fun _ => fullShare) (pf0 (F := F)) : sProp 𝕄)
      = iprop(pt (F := F) c (Memref.whole main_c) fullShare tabI ∗ pt (F := F) c (Memref.whole main_c_0) fullShare tabJ) := by
  unfold Pipeline.prefHeld
  rw [show (Finset.univ : Finset (Fin 2)) = insert 0 {1} from by decide, bigSep_insert (by decide), bigSep_singleton]
  rfl

/-- The tables' contents when the region is entered. -/
theorem V_pre (c : Dev nD) : (fun k => V m c (pre0.ref k)) = pf0 (F := F) := by
  funext k
  fin_cases k
  · exact V_tabI m c
  · exact V_tabJ m c

/-- The unscoped buffers sorted at the region's entry. -/
theorem entry_split (c : Dev nD) :
    (unscopedBufs c (V m c) : sProp 𝕄) ⊢ iprop((dats m 0 c).arrays ((dats m 0 c).arrAt · 0)
      ∗ Pipeline.prefHeld pre0 c (fun _ => fullShare) (pf0 (F := F)) ∗ (((c : Thread nD τ).loc main_arg2) ↦{fullShare} V m c main_arg2)) := by
  refine (Pipeline.arrays_of_unscopedBufs (pcfgs (F := F)) adms (dats m) (launch0 (F := F)).win (launch0 (F := F)).arr_whole c
      ((dats m 0 c).share_full fun _ => rfl) (V m c) (A_eq m c)).trans (sep_mono .rfl ?_)
  refine (Entails.of_eq (Pipeline.unscopedRest_split preFacts0 c (V m c))).trans ?_
  rw [V_pre, unscopedRestP0_eq]
  iintro ⟨Hp, H2, -⟩
  isplitl [Hp] <;> iassumption

theorem entry_arrays (c : Dev nD) : (iprop(StableHlo.held (c : Thread nD τ) ucRefs (StableHlo.after hostOps0 (V₀ m c))) : sProp 𝕄) ⊢ unscopedBufs c (V m c) :=
  Entails.of_eq (unscopedBufs_held c _).symm

set_option backward.isDefEq.respectTransparency.types false in
/-- The region. -/
def reg0 : Pipeline.RegionSeg (pcfgs (F := F)) adms (dats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(emp)
  Y c := iprop(emp)
  Z c := ((c : Thread nD τ).loc main_arg2) ↦{fullShare} V m c main_arg2
  hentry c := by
    have hs := (entry_arrays m c).trans (entry_split m c)
    iintro ⟨⟨Hub, HO⟩, Hos, -⟩
    ihave H := hs $$ Hub
    icases H with ⟨Ha, Hp, H2⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact H2
  hin c := by
    rw [show (dats m 0 c).Φ 0 = Φc m c 0 from rfl]; unfold Φc
    rw [scopedRest0_eq]
    iintro ⟨-, Hp, ⟨%f, Hs⟩⟩
    ihave Hp := (show (Pipeline.prefHeld (pcfgs (F := F) 0).pre c (fun _ => fullShare) (adms (F := F) 0).1 : sProp 𝕄) ⊢ _ from Entails.of_eq (prefHeld_eq c)) $$ Hp
    icases Hp with ⟨HI, HJ⟩
    isplitl [HI]; · iexact HI
    isplitl [HJ]; · iexact HJ
    iexists (View.read (Elt F) (Memref.whole cc0_scratch0).view f)
    isplitr; · ipureintro; exact fun h => absurd rfl h
    rw [Memref.IsWhole.unread_read]
    iexact Hs
  hout c := by
    rw [show (dats m 0 c).Φ (Fin.last _) = Φc m c (cfg0 (F := F) adm).N from rfl]; unfold Φc
    rw [scopedRest0_eq, Pipeline.ownSems0_none]
    iintro ⟨-, -, ⟨%a, -, Hs⟩⟩
    isplitr; · iempintro
    isplitr; · iempintro
    iexists _; iexact Hs
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- The program as its two segments. -/
abbrev segs : List (Pipeline.Seg (pcfgs (F := F)) adms (dats m) () defs₀ Variants.none L lv) := [.host (seg0 m), .region (reg0 m)]

set_option backward.isDefEq.respectTransparency.types false in
/-- The run: from any memory with zero counters every fair execution ends, with every window's array at the computed contents. -/
theorem run_main : θ_run defs (onTc (τ := τ) (main (F := F))) ⟨m, fun _ => 0, ρ⟩ (fun r => QC m r ∧ r.2.sem = fun _ => 0) :=
  Pipeline.θ_run_regions_kit_sems (pcfgs (F := F)) adms (dats m) () (cellOf_inj fun _ => adm) EP defs₀ Variants.none L lv m ρ main (segs m)
    (fun c Q => by rw [main_segs adms (dats m) () Variants.none L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      refine (show (ownU (u₀ (F := F)) : sProp 𝕄) ⊢ BI.own (EP (F := F) (u₀ (F := F))) from BI.Entails.refl _).trans ?_
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => (∀ w : Fin 6, s.mem (((cfg0 (F := F) adm).win w).arr.view.loc (c : Thread nD τ)) = finalA m c w)
      ∧ s.mem ((c : Thread nD τ).loc main_arg2) = m ((c : Thread nD τ).loc main_arg2))
    (hfin := fun c s' => by
      dsimp only [Tₙ]; rw [V_of_not_written m c main_arg2 (by decide)]
      iintro ⟨⟨Ha, H1⟩, HSI⟩
      icombine HSI H1 gives %h
      ihave Hr := (Pipeline.arrays_read (pcfgs (F := F)) adms (dats m) (launch0 (F := F)).arr_whole c ((dats m 0 c).share_full fun _ => rfl) _ s') $$ [Ha HSI]
      · isplitl [Ha] <;> iassumption
      icases Hr with ⟨%ha, HSI⟩
      imodintro
      isplitr; · ipureintro; exact ⟨ha, Buf.eq_of_forall_mem_univ h⟩
      iexact HSI)
    (hQ := fun _ h hz => ⟨h, funext fun g => hz g (.inr (by revert g; decide))⟩)

/-- The arguments the windows read end as launched. -/
theorem finalA_arg (c : Dev nD) (w : Fin 6) (hw : (win0 (F := F) adm w).isOut = false) : finalA m c w = V m c (Pipeline.arrRef spec0 w) :=
  ((dats m 0 c).arrAt_in w hw _).trans (A_eq m c w)

end Cert.Proof.Dq

end
-- ==== Proof.RetMath.lean ====
/- The real arithmetic of the gradient with respect to q: a causal sum of decayed terms, cut into chunks in two ways. -/
module

public import Mathlib.Analysis.SpecialFunctions.Exp
public import Mathlib.Algebra.BigOperators.Fin
public import Mathlib.Tactic.Ring

@[expose] public section

noncomputable section

namespace Cert.Proof.Ret

open Finset

/-- A head's column of the keys, rows of the values, and a row of the incoming gradient. -/
abbrev kOf (K : ℕ → ℕ → ℝ) (h d : ℕ) : ℕ → ℝ := fun n => K n (h * 128 + d)
abbrev vOf (U : ℕ → ℕ → ℝ) (h : ℕ) : ℕ → Fin 256 → ℝ := fun n e => U n (1024 + (h * 256 + e))
abbrev xOf (D : ℕ → ℕ → ℝ) (h n : ℕ) : Fin 256 → ℝ := fun e => D n (h * 256 + e)

/-- A row of the gradient of the recurrence: position n takes every earlier row of k, weighed by the product of the
    incoming gradient with that row's v and by the decay over the distance. -/
def row (l : ℝ) (x : Fin 256 → ℝ) (k : ℕ → ℝ) (v : ℕ → Fin 256 → ℝ) (n : ℕ) : ℝ :=
  ∑ m ∈ range (n + 1), Real.exp (((n : ℝ) - m) * l) * (∑ e, x e * v m e) * k m

/-- The state after C chunks of 128 rows. -/
def st (l : ℝ) (k : ℕ → ℝ) (v : ℕ → Fin 256 → ℝ) : ℕ → Fin 256 → ℝ
  | 0, _ => 0
  | C + 1, e => st l k v C e * Real.exp (128 * l) + ∑ j : Fin 128, k (C * 128 + j) * Real.exp ((127 - (j : ℝ)) * l) * v (C * 128 + j) e

theorem st_eq (l : ℝ) (k : ℕ → ℝ) (v : ℕ → Fin 256 → ℝ) (C : ℕ) (e : Fin 256) :
    st l k v C e = ∑ m ∈ range (C * 128), Real.exp (((C * 128 : ℕ) - 1 - (m : ℝ)) * l) * k m * v m e := by
  induction C with
  | zero => simp [st]
  | succ C ih =>
    rw [st, ih, show (C + 1) * 128 = C * 128 + 128 by ring, sum_range_add, sum_mul, sum_range (n := 128)]
    congr 1
    · refine sum_congr rfl fun m _ => ?_
      have : Real.exp (((C * 128 + 128 : ℕ) - 1 - (m : ℝ)) * l) = Real.exp (((C * 128 : ℕ) - 1 - (m : ℝ)) * l) * Real.exp (128 * l) := by
        rw [← Real.exp_add]; congr 1; push_cast; ring
      rw [this]; ring
    · refine sum_congr rfl fun j _ => ?_
      have : (((C * 128 + 128 : ℕ) - 1 - ((C * 128 + j : ℕ) : ℝ)) * l) = (127 - (j : ℝ)) * l := by push_cast; ring
      rw [this]; ring

/-- The terms of the row's own block, masked to those not later than the row. -/
theorem diag (B C r : ℕ) (hr : r < B) (l : ℝ) (p k : ℕ → ℝ) :
    ∑ j : Fin B, p (C + j) * (if (j : ℕ) ≤ r then Real.exp (((r : ℝ) - (j : ℕ)) * l) else 0) * k (C + j)
      = ∑ j ∈ range (r + 1), Real.exp ((((C + r : ℕ) : ℝ) - ((C + j : ℕ) : ℝ)) * l) * p (C + j) * k (C + j) := by
  rw [Fin.sum_univ_eq_sum_range (fun j => p (C + j) * (if j ≤ r then Real.exp (((r : ℝ) - j) * l) else 0) * k (C + j)) B,
    show B = (r + 1) + (B - (r + 1)) by omega, sum_range_add]
  rw [sum_eq_zero (s := range (B - (r + 1))) fun j _ => by rw [if_neg (by omega)]; ring, add_zero]
  refine sum_congr rfl fun j hj => ?_
  rw [mem_range] at hj
  rw [if_pos (by omega), show (((C + r : ℕ) : ℝ) - ((C + j : ℕ) : ℝ)) = (r : ℝ) - j by push_cast; ring]
  ring

theorem row_chunks (l : ℝ) (x : Fin 256 → ℝ) (k : ℕ → ℝ) (v : ℕ → Fin 256 → ℝ) (C r : ℕ) (hr : r < 128) :
    (∑ e, x e * Real.exp (((r : ℝ) + 1) * l) * st l k v C e)
        + ∑ j : Fin 128, (∑ e, x e * v (C * 128 + j) e) * (if (j : ℕ) ≤ r then Real.exp (((r : ℝ) - (j : ℕ)) * l) else 0) * k (C * 128 + j)
      = row l x k v (C * 128 + r) := by
  rw [diag 128 (C * 128) r hr l (fun m => ∑ e, x e * v m e) k, row, show C * 128 + r + 1 = C * 128 + (r + 1) by ring, sum_range_add (n := C * 128)]
  congr 1
  simp only [st_eq, mul_sum, sum_mul]
  rw [sum_comm]
  refine sum_congr rfl fun m _ => sum_congr rfl fun e _ => ?_
  have : Real.exp (((C * 128 + r : ℕ) - (m : ℝ)) * l) = Real.exp (((r : ℝ) + 1) * l) * Real.exp (((C * 128 : ℕ) - 1 - (m : ℝ)) * l) := by
    rw [← Real.exp_add]; congr 1; push_cast; ring
  rw [this]; ring

theorem sum_blocks (B : ℕ) (f : ℕ → ℝ) (i : ℕ) : ∑ m ∈ range (i * B), f m = ∑ j ∈ range i, ∑ c : Fin B, f (j * B + c) := by
  induction i with
  | zero => simp
  | succ i ih => rw [sum_range_succ, ← ih, show (i + 1) * B = i * B + B by ring, sum_range_add, sum_range (n := B)]

/-- What a block of 1024 rows below the diagonal adds to a row of block i. -/
def below (l : ℝ) (x : Fin 256 → ℝ) (k : ℕ → ℝ) (v : ℕ → Fin 256 → ℝ) (i r j : ℕ) : ℝ :=
  Real.exp (l * r) * ∑ c : Fin 1024, (∑ e, x e * v (j * 1024 + c) e) * (k (j * 1024 + c) * Real.exp (l * (((i : ℝ) - j) * 1024 - (c : ℕ))))

theorem row_blocks (l : ℝ) (x : Fin 256 → ℝ) (k : ℕ → ℝ) (v : ℕ → Fin 256 → ℝ) (i r : ℕ) (hr : r < 1024) :
    (∑ j ∈ range i, below l x k v i r j)
        + ∑ c : Fin 1024, (∑ e, x e * v (i * 1024 + c) e) * (if (c : ℕ) ≤ r then Real.exp (((r : ℝ) - (c : ℕ)) * l) else 0) * k (i * 1024 + c)
      = row l x k v (i * 1024 + r) := by
  rw [diag 1024 (i * 1024) r hr l (fun m => ∑ e, x e * v m e) k, row, show i * 1024 + r + 1 = i * 1024 + (r + 1) by ring,
    sum_range_add (n := i * 1024), sum_blocks]
  congr 1
  refine sum_congr rfl fun j _ => ?_
  rw [below, mul_sum]
  refine sum_congr rfl fun c _ => ?_
  have : Real.exp (((i * 1024 + r : ℕ) - ((j * 1024 + c : ℕ) : ℝ)) * l) = Real.exp (l * r) * Real.exp (l * (((i : ℝ) - j) * 1024 - (c : ℕ))) := by
    rw [← Real.exp_add]; congr 1; push_cast; ring
  rw [this]; ring

end Cert.Proof.Ret

end
-- ==== Proof.RetReal.lean ====
/- Numbers of the gradient read as reals: the head's decay logarithm, the positions, and sums. -/
module

public import Idealize.ShloMosaic.PureOps.Ideal
public import Mathlib.Data.EReal.Operations

@[expose] public section

noncomputable section

namespace Cert.Proof.Ret

open Idealize.ShloMosaic

/-- The decay logarithm of head h, log (1 - 2^(-5 - h)), as both programs compute it. -/
def lgE (h : ℕ) : EReal :=
  Ideal.log1p (-Ideal.pow (Ideal.ofBits FTy.f32 1073741824#32) (Ideal.ofBits FTy.f32 3231711232#32 - FloatOps.sitofp (F := Ideal) FTy.f32 (BitVec.ofNat 32 h)))

theorem sitofp_nat (k : ℕ) (hk : k < 2 ^ 31) : (FloatOps.sitofp (F := Ideal) FTy.f32 (BitVec.ofNat 32 k) : EReal) = ((k : ℝ) : EReal) := by
  show (((BitVec.ofNat 32 k).toInt : ℝ) : EReal) = _
  have e : (BitVec.ofNat 32 k).toInt = k := by
    rw [BitVec.toInt_eq_toNat_bmod, BitVec.toNat_ofNat, Nat.mod_eq_of_lt (by omega), Int.bmod_eq_of_le (by omega) (by omega)]
  rw [e, Int.cast_natCast]

theorem two : Ideal.ofBits FTy.f32 1073741824#32 = ((2 : ℝ) : EReal) := by
  simp [Ideal.ofBits, Ideal.ieee, ← EReal.coe_mul]
  norm_num
theorem neg5 : Ideal.ofBits FTy.f32 3231711232#32 = ((-5 : ℝ) : EReal) := by
  simp [Ideal.ofBits, Ideal.ieee, ← EReal.coe_mul]
  norm_num
theorem n127 : Ideal.ofBits FTy.f32 1123942400#32 = ((127 : ℝ) : EReal) := by
  simp [Ideal.ofBits, Ideal.ieee, ← EReal.coe_mul]
  norm_num
theorem n128 : Ideal.ofBits FTy.f32 1124073472#32 = ((128 : ℝ) : EReal) := by
  simp [Ideal.ofBits, Ideal.ieee, ← EReal.coe_mul]
  norm_num

theorem lgE_real (h : ℕ) (hh : h < 4) : ∃ l : ℝ, lgE h = (l : EReal) := by
  unfold lgE
  rw [sitofp_nat h (by omega), two, neg5, ← EReal.coe_sub, Ideal.pow_coe_coe, ← EReal.coe_neg]
  unfold Ideal.log1p
  rw [show (1 : EReal) = ((1 : ℝ) : EReal) from rfl, ← EReal.coe_add]
  have h2 : Real.rpow 2 (-5 - (h : ℝ)) < 1 := Real.rpow_lt_one_of_one_lt_of_neg (by norm_num) (by have : (0 : ℝ) ≤ h := Nat.cast_nonneg h; linarith)
  refine ⟨Real.log (1 + -Real.rpow 2 (-5 - (h : ℝ))), ?_⟩
  show (if _ then _ else _) = _
  rw [if_neg (by linarith)]

/-- The decay logarithm as a real. -/
def lg (h : ℕ) : ℝ := (lgE h).toReal
theorem lgE_eq (h : ℕ) (hh : h < 4) : lgE h = (lg h : EReal) := by
  obtain ⟨l, e⟩ := lgE_real h hh
  rw [lg, e, EReal.toReal_coe]

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

end Cert.Proof.Ret

end
-- ==== Proof.RetRef.lean ====
/- What the reference's run leaves in its result: the causal sum, row by row, of the arguments read as reals. -/
module

public import proofs.«01_k».proof.Proof.RetMath
public import proofs.«01_k».proof.Proof.RetReal
public import proofs.«01_k».proof.Proof.Gen.ReferenceIdeal.Run
public import Idealize.ShloMosaic.Lib.StableHlo.RunRead
public import Idealize.ShloMosaic.Lib.StableHlo.ReadAt
public import Idealize.ShloMosaic.Lib.Pointwise
public import Idealize.ShloMosaic.Lib.IdealHost
public import Idealize.ShloMosaic.Lib.WordCmp
public import Idealize.ShloMosaic.PureOps.Ideal

@[expose] public section

set_option maxRecDepth 16384

noncomputable section

namespace Cert.Proof.DqRef

open Cert.ReferenceIdeal Cert.ReferenceIdeal.Gen Cert.ReferenceIdeal.Value Cert.Proof.Ret
open Idealize.ShloMosaic Idealize.ShloMosaic.StableHlo Idealize.ShloMosaic.TcCoe

variable (m : (ℓ : Loc nD τ sig) → Buf (Elt Ideal) ℓ)

/-- What the buffers hold at the end. -/
abbrev W (c : Dev nD) : Valuation τ sig (Elt Ideal) := finalContents condOps preI bodyI postI 32 m c

/-- A buffer the loop does not write. -/
theorem loop_keeps (c : Dev nD) (b : Ref sig .tc) (hl : b ∉ condOps_W ++ while0Ops0_W ++ while0Ops0_1_W ++ while0Ops0_2_W ++ while0Ops0_3_W) :
    ∀ k, atK m k c (Proc.devRef .tc b) = entryContents preI m c (Proc.devRef .tc b)
  | 0 => rfl
  | k + 1 => by
    simp only [List.mem_append, not_or] at hl
    rw [show atK m (k + 1) c = afterL bodyI (after condOps (atK m k c)) from rfl]
    simp only [afterL_cons, afterL_nil]
    rw [after_of_writes_sub _ _ while0Ops0_3_writes hl.2, after_of_writes_sub _ _ while0Ops0_2_writes hl.1.2, after_of_writes_sub _ _ while0Ops0_1_writes hl.1.1.2,
      after_of_writes_sub _ _ while0Ops0_writes hl.1.1.1.2, after_of_writes_sub _ _ condOps_writes hl.1.1.1.1, loop_keeps c b (by simp only [List.mem_append, not_or]; exact hl) k]
    rfl

/-- The chunks' contributions and the decay over a chunk, which the loop carries unchanged. -/
theorem loop_keeps' (c : Dev nD) (b : Ref sig .tc) (hb : b = main_v61_0 ∨ b = main_v61_1) :
    ∀ k, atK m k c (Proc.devRef .tc b) = entryContents preI m c (Proc.devRef .tc b)
  | 0 => rfl
  | k + 1 => by
    refine Eq.trans ?_ (loop_keeps' c b hb k)
    rcases hb with rfl | rfl
    · exact (trip_agree (atK m k c) main_v61_0 (by simp)).trans (STEP_main_v61_0 _)
    · exact (trip_agree (atK m k c) main_v61_1 (by simp)).trans (STEP_main_v61_1 _)

/-- The buffers after the loop: those at its last trip, the condition having been evaluated once more. -/
abbrev X (c : Dev nD) : Valuation τ sig (Elt Ideal) := after condOps (atK m 32 c)

theorem X_keeps (c : Dev nD) (b : Ref sig .tc) (hl : b ∉ condOps_W ++ while0Ops0_W ++ while0Ops0_1_W ++ while0Ops0_2_W ++ while0Ops0_3_W) :
    X m c (Proc.devRef .tc b) = entryContents preI m c (Proc.devRef .tc b) := by
  refine (after_of_writes_sub _ _ condOps_writes ?_).trans (loop_keeps m c b hl 32)
  simp only [List.mem_append, not_or] at hl
  exact hl.1.1.1.1

/-- A buffer written nowhere before or in the loop holds what it was launched with. -/
theorem X_launch (c : Dev nD) (b : Ref sig .tc) (hb : b ∉ hostOps0_W ++ hostOps0_1_W ++ hostOps0_2_W)
    (hl : b ∉ condOps_W ++ while0Ops0_W ++ while0Ops0_1_W ++ while0Ops0_2_W ++ while0Ops0_3_W) :
    X m c (Proc.devRef .tc b) = m ((c.tc : Thread nD τ).loc b) := by
  rw [X_keeps m c b hl]
  simp only [List.mem_append, not_or] at hb
  simp only [preI, afterL_cons, afterL_nil]
  rw [after_of_writes_sub _ _ hostOps0_2_writes hb.2, after_of_writes_sub _ _ hostOps0_1_writes hb.1.2, after_of_writes_sub _ _ hostOps0_writes hb.1.1]

theorem W_arg0 (c : Dev nD) : W m c (Proc.devRef .tc main_arg0) = m ((c.tc : Thread nD τ).loc main_arg0) := by
  refine Eq.trans ?_ (X_launch m c main_arg0 (by decide) (by decide))
  show after hostOps0_3 (X m c) _ = _
  after_reads_simp
theorem W_arg1 (c : Dev nD) : W m c (Proc.devRef .tc main_arg1) = m ((c.tc : Thread nD τ).loc main_arg1) := by
  refine Eq.trans ?_ (X_launch m c main_arg1 (by decide) (by decide))
  show after hostOps0_3 (X m c) _ = _
  after_reads_simp
theorem W_arg2 (c : Dev nD) : W m c (Proc.devRef .tc main_arg2) = m ((c.tc : Thread nD τ).loc main_arg2) := by
  refine Eq.trans ?_ (X_launch m c main_arg2 (by decide) (by decide))
  show after hostOps0_3 (X m c) _ = _
  after_reads_simp
theorem W_arg3 (c : Dev nD) : W m c (Proc.devRef .tc main_arg3) = m ((c.tc : Thread nD τ).loc main_arg3) := by
  refine Eq.trans ?_ (X_launch m c main_arg3 (by decide) (by decide))
  show after hostOps0_3 (X m c) _ = _
  after_reads_simp

/-! ## The arguments as reals -/

/-- The arguments' entries that matter are reals: the keys, the values' columns of the projection, the incoming gradient. -/
structure Reals (V : Valuation τ sig (Elt Ideal)) (K U D : ℕ → ℕ → ℝ) : Prop where
  k : ∀ (n : Fin 4096) (c : Fin 512), V (Proc.devRef .tc main_arg1) (ix2 n c) = ((K n c : ℝ) : EReal)
  u : ∀ (n : Fin 4096) (c : Fin 5760), 1024 ≤ c.val → c.val < 2048 → V (Proc.devRef .tc main_arg2) (ix2 n c) = ((U n c : ℝ) : EReal)
  d : ∀ (n : Fin 4096) (c : Fin 1024), V (Proc.devRef .tc main_arg3) (ix2 n c) = ((D n c : ℝ) : EReal)

section
variable {V : Valuation τ sig (Elt Ideal)} {K U D : ℕ → ℕ → ℝ} (hR : Reals V K U D)
include hR

theorem e4 (n : Fin 4096) (h : Fin 4) (e : Fin 256) :
    (afterL preI V (Proc.devRef .tc main_v4)) (ix4 0 n h e) = ((xOf D h n e : ℝ) : EReal) := by
  simp only [preI, afterL_cons, afterL_nil]
  after_reads_at
  exact hR.d _ _

theorem e32 (t : Fin 32) (r : Fin 128) (h : Fin 4) (d : Fin 128) :
    (afterL preI V (Proc.devRef .tc main_v32)) (ix5 0 t r h d) = ((kOf K h d (t * 128 + r) : ℝ) : EReal) := by
  simp only [preI, afterL_cons, afterL_nil]
  after_reads_at
  exact hR.k _ _

theorem e33 (t : Fin 32) (r : Fin 128) (h : Fin 4) (e : Fin 256) :
    (afterL preI V (Proc.devRef .tc main_v33)) (ix5 0 t r h e) = ((vOf U h (t * 128 + r) e : ℝ) : EReal) := by
  simp only [preI, afterL_cons, afterL_nil]
  after_reads_at
  exact hR.u _ _ (by simp) (by simp; omega)

omit hR in
/-- A chunk's contribution to the state, as sums over the arguments. -/
theorem e59_sum (V : Valuation τ sig (Elt Ideal)) (t : Fin 32) (h : Fin 4) (d : Fin 128) (e : Fin 256) :
    (afterL preI V (Proc.devRef .tc main_v61_0)) (ix5 t 0 h d e)
      = ∑ j : Fin 128, (show EReal from V (Proc.devRef .tc main_arg1) (ix2 ⟨t.val * 128 + j.val, by omega⟩ ⟨h.val * 128 + d.val, by omega⟩))
          * Ideal.exp ((Ideal.ofBits FTy.f32 1123942400#32 - FloatOps.sitofp (F := Ideal) FTy.f32 (BitVec.ofNat 32 j)) * lgE h)
          * V (Proc.devRef .tc main_arg2) (ix2 ⟨t.val * 128 + j.val, by omega⟩ ⟨1024 + (h.val * 256 + e.val), by omega⟩) := by
  simp only [preI, afterL_cons, afterL_nil]
  after_reads_at
  simp only [id]
  pointwise
  rfl

theorem e59 (t : Fin 32) (h : Fin 4) (d : Fin 128) (e : Fin 256) :
    (afterL preI V (Proc.devRef .tc main_v61_0)) (ix5 t 0 h d e)
      = ((∑ j : Fin 128, kOf K h d (t * 128 + j) * Real.exp ((127 - ((j : ℕ) : ℝ)) * lg h) * vOf U h (t * 128 + j) e : ℝ) : EReal) := by
  refine (e59_sum V t h d e).trans (Eq.trans (Finset.sum_congr (M := EReal) rfl fun j _ => ?_) (coe_sum _ _).symm)
  rw [hR.k, hR.u _ _ (by simp) (by simp; omega), n127, sitofp_nat _ (by omega)]
  rw [lgE_eq _ h.isLt, ← EReal.coe_sub, ← EReal.coe_mul, Ideal.exp_coe, ← EReal.coe_mul, ← EReal.coe_mul]

end

section
variable (V : Valuation τ sig (Elt Ideal))

theorem e12 (h : Fin 4) : (afterL preI V (Proc.devRef .tc main_v12)) (ix1 h) = ((lg h : ℝ) : EReal) := by
  simp only [preI, afterL_cons, afterL_nil]
  after_reads_at
  exact lgE_eq h h.isLt

theorem e13 (r : Fin 128) : (afterL preI V (Proc.devRef .tc main_v13)) (ix1 r) = (((r : ℕ) : ℝ) : EReal) := by
  simp only [preI, afterL_cons, afterL_nil]
  after_reads_at
  exact sitofp_nat _ (by omega)

theorem e35 (h : Fin 4) (r j : Fin 128) :
    (afterL preI V (Proc.devRef .tc main_v35)) (ix5 0 0 h r j)
      = (((if (j : ℕ) ≤ r then Real.exp ((((r : ℕ) : ℝ) - ((j : ℕ) : ℝ)) * lg h) else 0 : ℝ)) : EReal) := by
  simp only [preI, afterL_cons, afterL_nil]
  after_reads_at
  rw [sitofp_nat _ (by omega), sitofp_nat _ (by omega), show Ideal.log1p _ = lgE h from rfl, lgE_eq _ h.isLt, ← EReal.coe_sub]
  by_cases hj : (j : ℕ) ≤ r
  · have h0 : (0 : ℝ) ≤ ((r : ℕ) : ℝ) - ((j : ℕ) : ℝ) := sub_nonneg.mpr (Nat.cast_le.mpr hj)
    rw [if_pos (EReal.coe_nonneg.mpr h0), if_pos hj, max_eq_left (EReal.coe_nonneg.mpr h0), ← EReal.coe_mul, Ideal.exp_coe]
  · have h0 : ¬ (0 : ℝ) ≤ ((r : ℕ) : ℝ) - ((j : ℕ) : ℝ) := fun h => hj (Nat.cast_le.mp (sub_nonneg.mp h))
    rw [if_neg (fun h => h0 (EReal.coe_nonneg.mp h)), if_neg hj]
    simp only [id]
    pointwise
    rfl

theorem e55 (h : Fin 4) : (afterL preI V (Proc.devRef .tc main_v61_1)) (ix4 0 h 0 0) = ((Real.exp (128 * lg h) : ℝ) : EReal) := by
  simp only [preI, afterL_cons, afterL_nil]
  after_reads_at
  simp only [id]
  pointwise
  rw [n128, show Ideal.log1p _ = lgE h from rfl, lgE_eq _ h.isLt, ← EReal.coe_mul, Ideal.exp_coe]

theorem e58 (h : Fin 4) (d : Fin 128) (e : Fin 256) : (afterL preI V (Proc.devRef .tc main_v61_3)) (ix4 0 h d e) = ((0 : ℝ) : EReal) := by
  simp only [preI, afterL_cons, afterL_nil]
  after_reads_at
  simp only [id]
  pointwise
  rfl

/-! ## The loop over chunks -/

omit V in
theorem slice_ok (k : ℕ) (hk : k < 32) : S32x1x4x128x256.Slices ![k, 0, 0, 0, 0] S1x1x4x128x256 :=
  ⟨rfl, fun a => by
    change Fin 5 at a
    fin_cases a <;> simp [S32x1x4x128x256, S1x1x4x128x256]
    omega⟩

omit V in
theorem start_eq (k : ℕ) (hk : k < 32) (a : Fin 5) :
    ((![(fun _ => Scf.iv 0#32 1#32 k : S_.Idx → BitVec 32), constantI S_ 32 0#32, constantI S_ 32 0#32, constantI S_ 32 0#32, constantI S_ 32 0#32] : Fin 5 → S_.Idx → BitVec 32) a (Shape.Idx.first h_S_)).toInt
      = ((![k, 0, 0, 0, 0] : Fin 5 → ℕ) a : Int) := by
  fin_cases a
  · show (Scf.iv 0#32 1#32 k).toInt = _
    rw [Scf.toInt_iv (ub := 32#32) (by decide) (show k ≤ Scf.trips 0#32 32#32 1#32 from hk.le)]
    simp
  all_goals rfl

theorem st3 (k : ℕ) (hk : k < 32) (hc : V (Proc.devRef .tc main_v61_2) = fun _ => Scf.iv 0#32 1#32 k) (h : Fin 4) (d : Fin 128) (e : Fin 256) :
    (STEP V (Proc.devRef .tc main_v61_3)) (ix4 0 h d e)
      = (show EReal from V (Proc.devRef .tc main_v61_3) (ix4 0 h d e)) * (V (Proc.devRef .tc main_v61_1) (ix4 0 h 0 0))
        + V (Proc.devRef .tc main_v61_0) (ix5 ⟨k, hk⟩ 0 h d e) := by
  rw [STEP_main_v61_3, step_main_v61_3, hc]
  simp only [id]
  rw [WordCmp.dynamicSlice_eq_extract _ _ _ _ ![k, 0, 0, 0, 0] (slice_ok k hk) (start_eq k hk)]
  pointwise

theorem st4 (k : ℕ) (hk : k < 32) (hc : V (Proc.devRef .tc main_v61_2) = fun _ => Scf.iv 0#32 1#32 k) (t : Fin 32) (h : Fin 4) (d : Fin 128) (e : Fin 256) :
    (STEP V (Proc.devRef .tc main_v61_4)) (ix5 t 0 h d e)
      = if t.val = k then V (Proc.devRef .tc main_v61_3) (ix4 0 h d e) else V (Proc.devRef .tc main_v61_4) (ix5 t 0 h d e) := by
  rw [STEP_main_v61_4, step_main_v61_4, hc]
  simp only [id]
  rw [WordCmp.dynamicUpdateSlice_eq_update _ _ _ _ ![k, 0, 0, 0, 0] (slice_ok k hk) (start_eq k hk)]
  pointwise
  by_cases ht : t.val = k
  · rw [if_pos ht, dif_pos]
    intro a
    change Fin 5 at a
    have := h.isLt; have := d.isLt; have := e.isLt
    fin_cases a <;> simp [ix5] <;> omega
  · rw [if_neg ht, dif_neg]
    intro hh
    have := hh (0 : Fin 5)
    simp [ix5] at this
    omega

end

section
variable {m} {K U D : ℕ → ℕ → ℝ} {c : Dev nD} (hR : Reals (launchContents m c) K U D)
include hR

theorem loop_values : ∀ k, k ≤ 32 →
    (∀ (h : Fin 4) (d : Fin 128) (e : Fin 256), atK m k c (Proc.devRef .tc main_v61_3) (ix4 0 h d e) = ((st (lg h) (kOf K h d) (vOf U h) k e : ℝ) : EReal))
      ∧ ∀ (t : Fin 32), t.val < k → ∀ (h : Fin 4) (d : Fin 128) (e : Fin 256),
        atK m k c (Proc.devRef .tc main_v61_4) (ix5 t 0 h d e) = ((st (lg h) (kOf K h d) (vOf U h) t e : ℝ) : EReal)
  | 0, _ => ⟨fun h d e => e58 _ h d e, fun t ht => absurd ht (Nat.not_lt_zero _)⟩
  | k + 1, hk => by
    obtain ⟨h3, h4⟩ := loop_values k (by omega)
    have hs := trip_agree (atK m k c)
    have hc := atK_ctr m c k
    refine ⟨fun h d e => ?_, fun t ht h d e => ?_⟩
    · refine (congrFun (hs main_v61_3 (by simp)) _).trans ((st3 _ k (by omega) hc h d e).trans ?_)
      rw [h3, loop_keeps' m c main_v61_1 (by simp) k, loop_keeps' m c main_v61_0 (by simp) k]
      rw [show entryContents preI m c (Proc.devRef .tc main_v61_1) (ix4 0 h 0 0) = _ from e55 _ h, show entryContents preI m c (Proc.devRef .tc main_v61_0) (ix5 ⟨k, _⟩ 0 h d e) = _ from e59 hR ⟨k, by omega⟩ h d e]
      rw [st, EReal.coe_add, EReal.coe_mul]
    · refine (congrFun (hs main_v61_4 (by simp)) _).trans ((st4 _ k (by omega) hc t h d e).trans ?_)
      by_cases e' : t.val = k
      · rw [if_pos e', h3, e']
      · rw [if_neg e', h4 t (by omega)]

theorem x_v61_4 (t : Fin 32) (h : Fin 4) (d : Fin 128) (e : Fin 256) :
    X m c (Proc.devRef .tc main_v61_4) (ix5 t 0 h d e) = ((st (lg h) (kOf K h d) (vOf U h) t e : ℝ) : EReal) :=
  (congrFun (cond_keeps _ main_v61_4 (by simp)) _).trans ((loop_values hR 32 le_rfl).2 t t.isLt h d e)

omit hR in
/-- The result's entries, as sums over the buffers the loop leaves. -/
theorem post_at (X : Valuation τ sig (Elt Ideal)) (n : Fin 4096) (c : Fin 512) :
    (after hostOps0_3 X (Proc.devRef .tc main_v92)) (ix2 n c)
      = (∑ e : Fin 256, (show EReal from X (Proc.devRef .tc main_v4) (ix4 0 ⟨n.val / 128 * 128 + n.val % 128, by omega⟩ ⟨c.val / 128, by omega⟩ e))
            * Ideal.exp (((show EReal from X (Proc.devRef .tc main_v13) (ix1 ⟨n.val % 128, by omega⟩)) + 1) * X (Proc.devRef .tc main_v12) (ix1 ⟨c.val / 128, by omega⟩))
            * X (Proc.devRef .tc main_v61_4) (ix5 ⟨n.val / 128, by omega⟩ 0 ⟨c.val / 128, by omega⟩ ⟨c.val % 128, by omega⟩ e))
        + ∑ j : Fin 128, (∑ e : Fin 256, (show EReal from X (Proc.devRef .tc main_v4) (ix4 0 ⟨n.val / 128 * 128 + n.val % 128, by omega⟩ ⟨c.val / 128, by omega⟩ e))
            * X (Proc.devRef .tc main_v33) (ix5 0 ⟨n.val / 128, by omega⟩ j ⟨c.val / 128, by omega⟩ e))
            * X (Proc.devRef .tc main_v35) (ix5 0 0 ⟨c.val / 128, by omega⟩ ⟨n.val % 128, by omega⟩ j)
            * X (Proc.devRef .tc main_v32) (ix5 0 ⟨n.val / 128, by omega⟩ j ⟨c.val / 128, by omega⟩ ⟨c.val % 128, by omega⟩) := by
  after_reads_at

/-- The reference's result at row n and column c: the causal sum of that row and column's head. -/
theorem W_value (n : Fin 4096) (cl : Fin 512) :
    W m c (Proc.devRef .tc main_v92) (ix2 n cl)
      = ((row (lg (cl / 128)) (xOf D (cl / 128) n) (kOf K (cl / 128) (cl % 128)) (vOf U (cl / 128)) n : ℝ) : EReal) := by
  refine (post_at (X m c) n cl).trans ?_
  have hn : n.val / 128 * 128 + n.val % 128 = n.val := Nat.div_add_mod' _ _
  have a4 := fun e => (congrFun (X_keeps m c main_v4 (by decide)) _).trans (e4 hR ⟨n.val / 128 * 128 + n.val % 128, by omega⟩ ⟨cl.val / 128, by omega⟩ e)
  have a12 := (congrFun (X_keeps m c main_v12 (by decide)) (ix1 ⟨cl.val / 128, by omega⟩)).trans (e12 _ ⟨cl.val / 128, by omega⟩)
  have a13 := (congrFun (X_keeps m c main_v13 (by decide)) (ix1 ⟨n.val % 128, by omega⟩)).trans (e13 _ ⟨n.val % 128, by omega⟩)
  have a32 := fun j => (congrFun (X_keeps m c main_v32 (by decide)) _).trans (e32 hR ⟨n.val / 128, by omega⟩ j ⟨cl.val / 128, by omega⟩ ⟨cl.val % 128, by omega⟩)
  have a33 := fun j e => (congrFun (X_keeps m c main_v33 (by decide)) _).trans (e33 hR ⟨n.val / 128, by omega⟩ j ⟨cl.val / 128, by omega⟩ e)
  have a35 := fun j => (congrFun (X_keeps m c main_v35 (by decide)) _).trans (e35 (launchContents m c) ⟨cl.val / 128, by omega⟩ ⟨n.val % 128, by omega⟩ j)
  have a61 := fun e => x_v61_4 hR ⟨n.val / 128, by omega⟩ ⟨cl.val / 128, by omega⟩ ⟨cl.val % 128, by omega⟩ e
  have key := row_chunks (lg (cl / 128)) (xOf D (cl / 128) n) (kOf K (cl / 128) (cl % 128)) (vOf U (cl / 128)) (n / 128) (n % 128) (Nat.mod_lt _ (by decide))
  have hx : xOf D (cl / 128) n = xOf D (cl / 128) (n.val / 128 * 128 + n.val % 128) := by rw [hn]
  rw [hn, hx] at key
  rw [hx, ← key, EReal.coe_add, coe_sum, coe_sum]
  refine congrArg₂ (fun a b : EReal => a + b) (Finset.sum_congr (M := EReal) rfl fun e _ => ?_) (Finset.sum_congr (M := EReal) rfl fun j _ => ?_)
  · rw [a4, a12, a13, a61, show (1 : EReal) = ((1 : ℝ) : EReal) from rfl, ← EReal.coe_add, ← EReal.coe_mul, Ideal.exp_coe, EReal.coe_mul, EReal.coe_mul]
  · rw [a35, a32, EReal.coe_mul, EReal.coe_mul, coe_sum]
    simp only [a4, a33, EReal.coe_mul]

end

end Cert.Proof.DqRef

end
-- ==== Proof.RetValue.lean ====
/- What the kernel leaves in its result, over the arguments read as reals: the causal sum, row by row. -/
module

public import proofs.«01_k».proof.Proof.RetMath
public import proofs.«01_k».proof.Proof.RetReal
public import proofs.«01_k».proof.Proof.RetRun
public import Idealize.ShloMosaic.Lib.StableHlo.RunRead
public import Idealize.ShloMosaic.Lib.StableHlo.ReadAt
public import Idealize.ShloMosaic.Lib.Pointwise
public import Idealize.ShloMosaic.Lib.IdealHost
public import Idealize.ShloMosaic.PureOps.Ideal

@[expose] public section

set_option maxRecDepth 16384

noncomputable section

namespace Cert.Proof.Dq

open Cert.KernelIdeal Cert.KernelIdeal.Gen Cert.Proof.Ret
open Idealize.ShloMosaic Idealize.ShloMosaic.TcCoe

theorem pay1_at (r : Fin 1024) (d : Fin 128) : (k0_pay1 (F := Ideal)) (ix2 r d) = (0 : EReal) := by
  unfold k0_pay1
  pointwise

theorem pay2_at (i j : BitVec 32) (l : EReal) (x8 x7 : S1024x256.Idx → EReal) (a x6 : S1024x128.Idx → EReal) (r : Fin 1024) (d : Fin 128) :
    (k0_pay2 (F := Ideal) i j l x8 x7 a x6) (ix2 r d)
      = a (ix2 r d) + Ideal.exp (l * FloatOps.sitofp (F := Ideal) FTy.f32 (BitVec.ofNat 32 r))
        * ∑ x : Fin 1024, (∑ e : Fin 256, x8 (ix2 r e) * x7 (ix2 x e))
            * (x6 (ix2 x d) * Ideal.exp (l * FloatOps.sitofp (F := Ideal) FTy.f32 (IntOp.subi (Scalar.muli (Scalar.subi i j) 1024#32) (BitVec.ofNat 32 x)))) := by
  unfold k0_pay2
  pointwise

theorem pay3_at (i j : BitVec 32) (l : EReal) (x8 x7 : S1024x256.Idx → EReal) (a x6 : S1024x128.Idx → EReal) (r : Fin 1024) (d : Fin 128) :
    (k0_pay3 (F := Ideal) i j x8 x7 l a x6) (ix2 r d)
      = a (ix2 r d) + ∑ x : Fin 1024,
          Scalar.select (IntOp.cmpi CmpIPredicate.sge (IntOp.subi (IntOp.addi (Scalar.muli (Scalar.subi i j) 1024#32) (BitVec.ofNat 32 r)) (BitVec.ofNat 32 x)) 0#32)
            ((∑ e : Fin 256, x8 (ix2 r e) * x7 (ix2 x e))
              * Ideal.exp (l * FloatOps.sitofp (F := Ideal) FTy.f32
                  (IntOp.maxsi (IntOp.subi (IntOp.addi (Scalar.muli (Scalar.subi i j) 1024#32) (BitVec.ofNat 32 r)) (BitVec.ofNat 32 x)) 0#32))
              * x6 (ix2 x d))
            0 := by
  unfold k0_pay3
  pointwise

variable (m : (ℓ : Loc nD τ sig) → Buf (Elt Ideal) ℓ) (c : Dev nD)
theorem V6_at (h : Fin 4) : V m c main_v6 (ix1 h) = (lg h : EReal) := by
  unfold V
  after_reads_at
  exact lgE_eq h h.isLt
theorem V7_at (n : Fin 4096) (q : Fin 2048) : V m c main_v7 (ix2 n q) = m ((c : Thread nD τ).loc main_arg2) (ix2 n ⟨q.val, by omega⟩) := by
  unfold V
  after_reads_at
/-- The head, and the row and column block's number, at grid point t. -/
def hd (t : ℕ) : ℕ := t / 10
def bI (t : ℕ) : ℕ := ([0, 1, 1, 2, 2, 2, 3, 3, 3, 3] : List ℕ).getD (t % 10) 0
def bJ (t : ℕ) : ℕ := ([0, 0, 1, 0, 1, 2, 0, 1, 2, 3] : List ℕ).getD (t % 10) 0

theorem wI_eq : ∀ t : Fin grid0.N, wI t = BitVec.ofNat 32 (bI t) := by decide +kernel
theorem wJ_eq : ∀ t : Fin grid0.N, wJ t = BitVec.ofNat 32 (bJ t) := by decide +kernel
theorem bnd : ∀ t : Fin grid0.N, hd t < 4 ∧ bI t < 4 ∧ bJ t ≤ bI t := by decide +kernel
theorem off2_eq : ∀ t : Fin grid0.N, k0_off2 (grid0.coords t) 0 = hd t := by decide +kernel
theorem index0 : ∀ t : Fin grid0.N, (win0 (F := Ideal) adm 0).index t = ![0] := by decide +kernel
theorem index2 : ∀ t : Fin grid0.N, (win0 (F := Ideal) adm 2).index t = ![bJ t, hd t] := by decide +kernel
theorem index3 : ∀ t : Fin grid0.N, (win0 (F := Ideal) adm 3).index t = ![bJ t, 4 + hd t] := by decide +kernel
theorem index4 : ∀ t : Fin grid0.N, (win0 (F := Ideal) adm 4).index t = ![bI t, hd t] := by decide +kernel
theorem index5 : ∀ t : Fin grid0.N, (win0 (F := Ideal) adm 5).index t = ![bI t, hd t] := by decide +kernel

theorem lgB_at (t : Fin grid0.N) : lgB m c t = (lg (hd t) : EReal) := by
  refine Eq.trans ?_ (V6_at m c ⟨hd t, (bnd t).1⟩)
  unfold lgB lgAt blkOf
  blk_simp
  refine congrArg _ ?_
  funext a
  apply Fin.ext
  fin_cases a
  blk_simp
  rw [index0 t, off2_eq t]
  simp [ix1]
theorem kB_at (t : Fin grid0.N) (r : Fin 1024) (d : Fin 128) :
    kB m c t (ix2 r d) = V m c main_arg1 (ix2 ⟨bJ t * 1024 + r, by have := bnd t; omega⟩ ⟨hd t * 128 + d, by have := bnd t; omega⟩) := by
  unfold kB blkOf
  blk_ext [index2 t]
theorem vB_at (t : Fin grid0.N) (r : Fin 1024) (e : Fin 256) :
    vB m c t (ix2 r e) = V m c main_v7 (ix2 ⟨bJ t * 1024 + r, by have := bnd t; omega⟩ ⟨1024 + (hd t * 256 + e), by have := bnd t; omega⟩) := by
  unfold vB blkOf
  blk_ext [index3 t]
theorem doB_at (t : Fin grid0.N) (r : Fin 1024) (e : Fin 256) :
    doB m c t (ix2 r e) = V m c main_arg3 (ix2 ⟨bI t * 1024 + r, by have := bnd t; omega⟩ ⟨hd t * 256 + e, by have := bnd t; omega⟩) := by
  unfold doB blkOf
  blk_ext [index4 t]

/-- The difference of two small numbers, as words, read as an integer. -/
theorem toInt_sub_small (a b : ℕ) (ha : a < 2 ^ 30) (hb : b < 2 ^ 30) : (BitVec.ofNat 32 a - BitVec.ofNat 32 b).toInt = (a : ℤ) - b := by
  have ea : ((a : ℤ)).bmod (2 ^ 32) = a := Int.bmod_eq_of_le (by omega) (by omega)
  have eb : ((b : ℤ)).bmod (2 ^ 32) = b := Int.bmod_eq_of_le (by omega) (by omega)
  rw [BitVec.toInt_sub, BitVec.toInt_eq_toNat_bmod, BitVec.toInt_eq_toNat_bmod, BitVec.toNat_ofNat, BitVec.toNat_ofNat, Nat.mod_eq_of_lt (by omega), Nat.mod_eq_of_lt (by omega),
    ea, eb, Int.bmod_eq_of_le (by omega) (by omega)]

theorem word_sub (i j x : ℕ) (hi : i < 4) (hj : j ≤ i) (hx : x < 1024) :
    (FloatOps.sitofp (F := Ideal) FTy.f32 (IntOp.subi (Scalar.muli (Scalar.subi (BitVec.ofNat 32 i) (BitVec.ofNat 32 j)) 1024#32) (BitVec.ofNat 32 x)) : EReal)
      = (((((i : ℝ) - j) * 1024 - (x : ℕ)) : ℝ) : EReal) := by
  have e : ((BitVec.ofNat 32 i - BitVec.ofNat 32 j) * 1024#32 - BitVec.ofNat 32 x).toInt = ((i : ℤ) - j) * 1024 - x := by
    have : (BitVec.ofNat 32 i - BitVec.ofNat 32 j) * 1024#32 = BitVec.ofNat 32 ((i - j) * 1024) := by
      interval_cases i <;> interval_cases j <;> rfl
    rw [this, toInt_sub_small _ _ (by omega) (by omega)]
    omega
  show ((((BitVec.ofNat 32 i - BitVec.ofNat 32 j) * 1024#32 - BitVec.ofNat 32 x).toInt : ℝ) : EReal) = _
  rw [e]
  push_cast
  rfl

/-- The distance of two positions of one block, as a word, read as a number. -/
theorem word_dist (i : BitVec 32) (r x : ℕ) (hr : r < 1024) (hx : x < 1024) :
    (IntOp.subi (IntOp.addi (Scalar.muli (Scalar.subi i i) 1024#32) (BitVec.ofNat 32 r)) (BitVec.ofNat 32 x)).toInt = (r : ℤ) - x := by
  show ((i - i) * 1024#32 + BitVec.ofNat 32 r - BitVec.ofNat 32 x).toInt = _
  rw [BitVec.sub_self, BitVec.zero_mul, BitVec.zero_add, toInt_sub_small _ _ (by omega) (by omega)]

theorem select_dist (z : BitVec 32) (a : ℤ) (hz : z.toInt = a) (f : EReal → EReal) :
    Scalar.select (IntOp.cmpi CmpIPredicate.sge z 0#32) (f (FloatOps.sitofp (F := Ideal) FTy.f32 (IntOp.maxsi z 0#32))) (0 : EReal)
      = if 0 ≤ a then f ((a : ℝ) : EReal) else 0 := by
  subst hz
  by_cases h : 0 ≤ z.toInt
  · rw [if_pos h]
    have h1 : IntOp.cmpi CmpIPredicate.sge z 0#32 = 1#1 := by simp [IntOp.cmpi, BitVec.sle, h]
    have h2 : IntOp.maxsi z 0#32 = z := by
      unfold IntOp.maxsi
      split
      · rfl
      · next hn =>
        simp [BitVec.slt] at hn
        exact BitVec.eq_of_toInt_eq (by simp; omega)
    rw [h1, h2]
    rfl
  · rw [if_neg h]
    have h1 : IntOp.cmpi CmpIPredicate.sge z 0#32 = 0#1 := by simp [IntOp.cmpi, BitVec.sle, h]
    rw [h1]
    rfl

/-- The arguments' entries that matter are reals: the keys, the values' columns of the projection, the incoming gradient. -/
structure Reals (K U D : ℕ → ℕ → ℝ) : Prop where
  k : ∀ (n : Fin 4096) (q : Fin 512), m ((c : Thread nD τ).loc main_arg1) (ix2 n q) = ((K n q : ℝ) : EReal)
  u : ∀ (n : Fin 4096) (q : Fin 5760), 1024 ≤ q.val → q.val < 2048 → m ((c : Thread nD τ).loc main_arg2) (ix2 n q) = ((U n q : ℝ) : EReal)
  d : ∀ (n : Fin 4096) (q : Fin 1024), m ((c : Thread nD τ).loc main_arg3) (ix2 n q) = ((D n q : ℝ) : EReal)

section
variable {m c} {K U D : ℕ → ℕ → ℝ} (hR : Reals m c K U D)
include hR

theorem kB_real (t : Fin grid0.N) (r : Fin 1024) (d : Fin 128) : kB m c t (ix2 r d) = ((kOf K (hd t) d (bJ t * 1024 + r) : ℝ) : EReal) := by
  rw [kB_at, V_of_not_written m c main_arg1 (by decide)]
  exact hR.k _ _
theorem vB_real (t : Fin grid0.N) (r : Fin 1024) (e : Fin 256) : vB m c t (ix2 r e) = ((vOf U (hd t) (bJ t * 1024 + r) e : ℝ) : EReal) := by
  rw [vB_at, V7_at]
  exact hR.u _ _ (by simp) (by have := bnd t; simp; omega)
theorem doB_real (t : Fin grid0.N) (r : Fin 1024) (e : Fin 256) : doB m c t (ix2 r e) = ((xOf D (hd t) (bI t * 1024 + r) e : ℝ) : EReal) := by
  rw [doB_at, V_of_not_written m c main_arg3 (by decide)]
  exact hR.d _ _

/-- What the block of a grid point adds to an entry. -/
abbrev blw (K U D : ℕ → ℕ → ℝ) (t : ℕ) (r : Fin 1024) (d : Fin 128) (j : ℕ) : ℝ :=
  below (lg (hd t)) (xOf D (hd t) (bI t * 1024 + r)) (kOf K (hd t) d) (vOf U (hd t)) (bI t) r j

/-- One point's step of the accumulator, below the diagonal. -/
theorem pay2_real (t : Fin grid0.N) (a : S1024x128.Idx → EReal) (r : Fin 1024) (d : Fin 128) (α : ℝ) (ha : a (ix2 r d) = (α : EReal)) :
    k0_pay2 (F := Ideal) (wI t) (wJ t) (lgB m c t) (doB m c t) (vB m c t) a (kB m c t) (ix2 r d) = ((α + blw K U D t r d (bJ t) : ℝ) : EReal) := by
  have hb := bnd t
  refine (pay2_at ..).trans ?_
  rw [ha, wI_eq, wJ_eq, lgB_at, sitofp_nat _ (by omega), EReal.coe_add, blw, below, EReal.coe_mul (Real.exp _), coe_sum, ← EReal.coe_mul, Ideal.exp_coe]
  refine congrArg (fun z : EReal => (α : EReal) + (_ * z)) (Finset.sum_congr (M := EReal) rfl fun x _ => ?_)
  rw [word_sub _ _ _ hb.2.1 hb.2.2 x.isLt, kB_real hR, ← EReal.coe_mul, Ideal.exp_coe, EReal.coe_mul, coe_sum, EReal.coe_mul]
  simp only [doB_real hR, vB_real hR, EReal.coe_mul]

theorem accNext_real (t : Fin grid0.N) (a : S1024x128.Idx → EReal) (r : Fin 1024) (d : Fin 128) (α : ℝ) (ha : bJ t ≠ 0 → a (ix2 r d) = (α : EReal)) :
    accNext m c t a (ix2 r d) = (((if bJ t = 0 then 0 else α) + (if bJ t < bI t then blw K U D t r d (bJ t) else 0) : ℝ) : EReal) := by
  have h0 : (wJ t = 0#32) ↔ bJ t = 0 := by
    have : ∀ t : Fin grid0.N, (wJ t = 0#32) ↔ bJ t = 0 := by decide +kernel
    exact this t
  have h1 : (Scalar.cmpi .slt (wJ t) (wI t) = 1#1) ↔ bJ t < bI t := by
    have : ∀ t : Fin grid0.N, (Scalar.cmpi .slt (wJ t) (wI t) = 1#1) ↔ bJ t < bI t := by decide +kernel
    exact this t
  have ha0 : (if wJ t = 0#32 then k0_pay1 (F := Ideal) else a) (ix2 r d) = (((if bJ t = 0 then 0 else α : ℝ)) : EReal) := by
    by_cases h : bJ t = 0
    · rw [if_pos (h0.2 h), if_pos h]; exact pay1_at r d
    · rw [if_neg (fun h' => h (h0.1 h')), if_neg h]; exact ha h
  unfold accNext accStep
  by_cases h : bJ t < bI t
  · rw [if_pos (h1.2 h), if_pos h]; exact pay2_real hR t _ r d _ ha0
  · rw [if_neg (fun h' => h (h1.1 h')), if_neg h, add_zero]; exact ha0

/-- The accumulator after a grid point: the blocks below the diagonal taken so far. -/
theorem acc_real (r : Fin 1024) (d : Fin 128) : ∀ (k : ℕ) (hk : k < grid0.N),
    acc m c (k + 1) (ix2 r d) = ((∑ j ∈ Finset.range (if bJ k < bI k then bJ k + 1 else bI k), blw K U D k r d j : ℝ) : EReal) := by
  have n0 : ∀ t : Fin grid0.N, bJ t = 0 ∧ ¬ bJ t < bI t → bI t = 0 := by decide +kernel
  have nx : ∀ t : Fin grid0.N, t.val ≠ 0 → bJ t ≠ 0 → bJ (t - 1) + 1 = bJ t ∧ bI (t - 1) = bI t ∧ hd (t - 1) = hd t ∧ bJ (t - 1) < bI (t - 1) := by decide +kernel
  have j0 : bJ 0 = 0 := rfl
  intro k
  induction k with
  | zero =>
    intro hk
    rw [acc_succ m c 0 hk, accNext_real hR ⟨0, hk⟩ _ r d 0 (fun h => absurd j0 h)]
    simp [show bJ 0 = 0 from rfl, show bI 0 = 0 from rfl]
  | succ k ih =>
    intro hk
    rw [acc_succ m c (k + 1) hk, accNext_real hR ⟨k + 1, hk⟩ _ r d _ (fun h => ih (by omega))]
    refine congrArg Real.toEReal ?_
    by_cases h : bJ (k + 1) = 0
    · by_cases h' : bJ (k + 1) < bI (k + 1)
      · simp only [if_pos h, if_pos h']
        rw [h, Finset.sum_range_one, zero_add]
      · simp only [if_pos h, if_neg h']
        rw [n0 ⟨k + 1, hk⟩ ⟨h, h'⟩, Finset.sum_range_zero, zero_add]
    · obtain ⟨e1, e2, e3, e4⟩ := nx ⟨k + 1, hk⟩ (Nat.succ_ne_zero k) h
      simp only [Nat.add_sub_cancel] at e1 e2 e3 e4
      have eb : blw K U D k r d = blw K U D (k + 1) r d := by unfold blw; rw [e2, e3]
      simp only [if_neg h, if_pos e4, eb, e1]
      by_cases h' : bJ (k + 1) < bI (k + 1)
      · simp only [if_pos h']
        rw [Finset.sum_range_succ]
      · simp only [if_neg h', add_zero]
        rw [show bI (k + 1) = bJ (k + 1) by have := (bnd ⟨k + 1, hk⟩).2.2; simp only at this; omega]

/-- What a point on the diagonal stores. -/
theorem outB_real (t : Fin grid0.N) (ht : bJ t = bI t) (r : Fin 1024) (d : Fin 128) :
    outB m c t (ix2 r d) = ((row (lg (hd t)) (xOf D (hd t) (bI t * 1024 + r)) (kOf K (hd t) d) (vOf U (hd t)) (bI t * 1024 + r) : ℝ) : EReal) := by
  rw [← row_blocks _ _ _ _ (bI t) r r.isLt]
  refine (pay3_at ..).trans ?_
  have ha := acc_real hR r d t.val t.isLt
  rw [if_neg (by omega)] at ha
  rw [ha, EReal.coe_add, coe_sum (Finset.univ : Finset (Fin 1024))]
  refine congrArg (fun z : EReal => _ + z) (Finset.sum_congr (M := EReal) rfl fun x _ => ?_)
  rw [show wJ t = wI t by rw [wI_eq, wJ_eq, ht]]
  refine (select_dist _ _ (word_dist _ _ _ r.isLt x.isLt) (fun z => (∑ e : Fin 256, doB m c t (ix2 r e) * vB m c t (ix2 x e)) * Ideal.exp (lgB m c t * z) * kB m c t (ix2 x d))).trans ?_
  rw [lgB_at, kB_real hR, ht]
  simp only [doB_real hR, vB_real hR, ht]
  by_cases hx : (x : ℕ) ≤ r
  · rw [if_pos (by omega), if_pos hx, ← EReal.coe_mul, Ideal.exp_coe, EReal.coe_mul, EReal.coe_mul, coe_sum]
    simp only [EReal.coe_mul]
    congr 3
    push_cast
    ring_nf
  · rw [if_neg (by omega), if_neg hx, mul_zero, zero_mul, EReal.coe_zero]

/-- The kernel's result: at row n and column q, the causal sum of that row and column's head. -/
theorem finalA_eq : finalA m c 5 = fun i : S4096x512.Idx =>
    ((row (lg (i 1 / 128)) (xOf D (i 1 / 128) (i 0)) (kOf K (i 1 / 128) (i 1 % 128)) (vOf U (i 1 / 128)) (i 0) : ℝ) : EReal) := by
  have hfl : ∀ t : Fin grid0.N, (win0 (F := Ideal) adm 5).flush t = true → bJ t = bI t := by decide +kernel
  have hcov : (win0 (F := Ideal) adm 5).Covers := by decide +kernel
  refine (dats m 0 c).arrAt_eq_of_covers 5 _ hcov fun t hf y => ?_
  blk_simp
  idx_vars y
  refine (outB_real hR t (hfl t hf) _ _).trans ?_
  have i0 : (pcfg0.win (adm (F := Ideal)) 5).index t 0 = bI t := congrFun (index5 t) 0
  have i1 : (pcfg0.win (adm (F := Ideal)) 5).index t 1 = hd t := congrFun (index5 t) 1
  rw [i0, i1, show (hd t * 128 + (y1 : ℕ)) / 128 = hd t by omega, show (hd t * 128 + (y1 : ℕ)) % 128 = y1 by omega]

end

end Cert.Proof.Dq

end
-- ==== Proof.RetPre.lean ====
/- The precondition read: the keys, the values' columns of the projection and the incoming gradient are reals. -/
module

public import proofs.«01_k».proof.Defs
public import proofs.«01_k».proof.Proof.Gen.Pre_finite
public import proofs.«01_k».proof.Proof.RetValue
public import Idealize.ShloMosaic.Lib.ReduceAll
public import Idealize.ShloMosaic.Lib.Pointwise

@[expose] public section

noncomputable section

namespace Cert.Proof.Dq

open Cert.KernelIdeal Cert.KernelIdeal.Gen
open Idealize.ShloMosaic Idealize.ShloMosaic.TcCoe

/-- Where a comparison of a magnitude with infinity says less, the number is a real. -/
theorem real_of_cmp (x : EReal) (h : BitVec.ofBool (decide (FloatOps.absf (F := Ideal) (φ := .f32) x < Ideal.ofBits .f32 0x7F800000#32)) = 1#1) :
    x = (x.toReal : EReal) := by
  have ht : Ideal.ofBits .f32 0x7F800000#32 = (⊤ : EReal) := by simp [Ideal.ofBits, Ideal.ieee]
  have h2 : ∀ b : Bool, BitVec.ofBool b = 1#1 → b = true := by decide
  have h3 : max x (-x) < (⊤ : EReal) := ht ▸ of_decide_eq_true (h2 _ h)
  refine (EReal.coe_toReal ?_ ?_).symm
  · rintro rfl
    simp at h3
  · rintro rfl
    simp at h3

/-- The precondition, element by element. -/
theorem pre_at (a0 a1 : S4096x512.Idx → EReal) (a2 : S4096x5760.Idx → EReal) (a3 : S4096x1024.Idx → EReal)
    (h : Cert.Pre_finite.fn (F := Ideal) a0 a1 a2 a3 = fun _ => 1#1) :
    (∀ (n : Fin 4096) (q : Fin 512), a1 (ix2 n q) = ((a1 (ix2 n q)).toReal : EReal))
      ∧ (∀ (n : Fin 4096) (q : Fin 1024), a2 (ix2 n ⟨1024 + q, by omega⟩) = ((a2 (ix2 n ⟨1024 + q, by omega⟩)).toReal : EReal))
      ∧ (∀ (n : Fin 4096) (q : Fin 1024), a3 (ix2 n q) = ((a3 (ix2 n q)).toReal : EReal)) := by
  have h := congrFun h (Shape.Idx.first Cert.Pre_finite.Facts.h_S_)
  dsimp only [Cert.Pre_finite.fn] at h
  have h2 : ∀ a b : BitVec 1, IntOp.andi a b = 1#1 → a = 1#1 ∧ b = 1#1 := by decide
  obtain ⟨h01, h3⟩ := h2 _ _ h
  obtain ⟨h0, h1⟩ := h2 _ _ h01
  refine ⟨fun n q => ?_, fun n q => ?_, fun n q => ?_⟩
  · have := Host.reduce_andi_all _ _ _ _ _ h0 (ix2 n q)
    pointwise at this
    exact real_of_cmp _ this
  · have := Host.reduce_andi_all _ _ _ _ _ h1 (ix2 n q)
    pointwise at this
    exact real_of_cmp _ this
  · have := Host.reduce_andi_all _ _ _ _ _ h3 (ix2 n q)
    pointwise at this
    exact real_of_cmp _ this

/-- The three operands as real tables. -/
theorem reals_of_pre {m : (ℓ : Loc nD τ sig) → Buf (Elt Ideal) ℓ} (h : Cert.Pre_KernelIdeal m) (c : Dev nD) :
    ∃ K U D : ℕ → ℕ → ℝ, Reals m c K U D := by
  obtain ⟨hk, hu, hd⟩ := pre_at _ _ _ _ (h c)
  refine ⟨fun n q => if hq : n < 4096 ∧ q < 512 then EReal.toReal (m ((c : Thread nD τ).loc main_arg1) (ix2 ⟨n, hq.1⟩ ⟨q, hq.2⟩)) else 0,
    fun n q => if hq : n < 4096 ∧ q < 5760 then EReal.toReal (m ((c : Thread nD τ).loc main_arg2) (ix2 ⟨n, hq.1⟩ ⟨q, hq.2⟩)) else 0,
    fun n q => if hq : n < 4096 ∧ q < 1024 then EReal.toReal (m ((c : Thread nD τ).loc main_arg3) (ix2 ⟨n, hq.1⟩ ⟨q, hq.2⟩)) else 0, ?_, ?_, ?_⟩
  · intro n q
    have e := hk n q
    simp only [n.isLt, q.isLt, and_self, dite_true]
    exact e
  · intro n q h1 h2
    have e := hu n ⟨q - 1024, by omega⟩
    have hq : (⟨1024 + (q.val - 1024), by omega⟩ : Fin 5760) = q := Fin.ext (by simp only; omega)
    simp only [hq] at e
    simp only [n.isLt, q.isLt, and_self, dite_true]
    exact e
  · intro n q
    have e := hd n q
    simp only [n.isLt, q.isLt, and_self, dite_true]
    exact e

end Cert.Proof.Dq

end
-- ==== Proof.MmSum.lean ====
/- A sum over an axis, taken block by block. -/
module

public import Mathlib.Data.EReal.Operations
public import Mathlib.Algebra.BigOperators.Fin

@[expose] public section

noncomputable section

namespace Cert.Proof.Mm

/-- The sum of the first `n` terms of a family over an axis of length `K`. -/
def part {K : ℕ} (g : Fin K → EReal) (n : ℕ) : EReal := ∑ q ∈ Finset.range n, if h : q < K then g ⟨q, h⟩ else 0

theorem part_zero {K : ℕ} (g : Fin K → EReal) : part g 0 = 0 := rfl

/-- The next block of `w` terms joins the first `k` blocks. -/
theorem part_step {K : ℕ} (g : Fin K → EReal) (w k : ℕ) (hk : k * w + w ≤ K) :
    part g (k * w) + ∑ r : Fin w, g ⟨k * w + r.val, by have := r.isLt; omega⟩ = part g ((k + 1) * w) := by
  unfold part
  rw [Nat.add_mul, Nat.one_mul, Finset.sum_range_add, Finset.sum_range (n := w)]
  congr 1
  refine Finset.sum_congr rfl fun r _ => ?_
  rw [dif_pos]

/-- All of them. -/
theorem part_all {K : ℕ} (g : Fin K → EReal) : part g K = ∑ q, g q := by
  unfold part
  rw [Finset.sum_range]
  refine Finset.sum_congr rfl fun q _ => ?_
  rw [dif_pos q.isLt]

/-- Within a run of `nk` points the count goes up by one. -/
theorem mod_succ {n nk : ℕ} (hk : 0 < nk) (e : ¬(n + 1) % nk = 0) : (n + 1) % nk = n % nk + 1 := by
  have hd : n + 1 = nk * (n / nk) + (n % nk + 1) := by rw [← Nat.add_assoc, Nat.div_add_mod]
  rw [hd, Nat.mul_add_mod] at e ⊢
  rcases Nat.lt_or_ge (n % nk + 1) nk with l | l
  · rw [Nat.mod_eq_of_lt l]
  · have : n % nk + 1 = nk := by have := Nat.mod_lt n hk; omega
    rw [this, Nat.mod_self] at e
    exact absurd rfl e

/-- The points of a grid whose inner axis has `nk` blocks of `w` terms. `g` gives each point the family that it works on, the same
    within a run of the inner axis. The accumulator `acc` is cleared at a run's first block, and takes every block's terms; at the
    last one `out` takes what it then holds: the whole sum. -/
theorem fold_blocks {K N nk w : ℕ} (hK : nk * w = K) (hnk : 1 < nk) (g : (n : ℕ) → n < N → Fin K → EReal) (acc out : (n : ℕ) → n < N → EReal)
    (hb : ∀ (k : ℕ) (r : Fin w), k < nk → k * w + r.val < K)
    (hg : ∀ (n : ℕ) (h : n + 1 < N), ¬(n + 1) % nk = 0 → g n (Nat.lt_of_succ_lt h) = g (n + 1) h)
    (h0 : ∀ (n : ℕ) (h : n < N), n % nk = 0 → acc n h = 0 + ∑ r : Fin w, g n h ⟨n % nk * w + r.val, hb _ r (Nat.mod_lt _ (Nat.zero_lt_of_lt hnk))⟩)
    (h1 : ∀ (n : ℕ) (h : n + 1 < N), ¬(n + 1) % nk = 0 → ¬(n + 1) % nk = nk - 1 →
      acc (n + 1) h = acc n (Nat.lt_of_succ_lt h) + ∑ r : Fin w, g (n + 1) h ⟨(n + 1) % nk * w + r.val, hb _ r (Nat.mod_lt _ (Nat.zero_lt_of_lt hnk))⟩)
    (h2 : ∀ (n : ℕ) (h : n + 1 < N), (n + 1) % nk = nk - 1 →
      out (n + 1) h = acc n (Nat.lt_of_succ_lt h) + ∑ r : Fin w, g (n + 1) h ⟨(n + 1) % nk * w + r.val, hb _ r (Nat.mod_lt _ (Nat.zero_lt_of_lt hnk))⟩)
    (n : ℕ) (h : n < N) (e : n % nk = nk - 1) : out n h = ∑ q, g n h q := by
  have hp : 0 < nk := Nat.zero_lt_of_lt hnk
  have hw : ∀ n, n % nk * w + w ≤ K := fun n => by
    have := Nat.mul_le_mul_right w (Nat.mod_lt n hp)
    rw [Nat.succ_mul] at this
    omega
  have first : ∀ (n : ℕ) (h : n < N), n % nk = 0 → acc n h = part (g n h) ((n % nk + 1) * w) := fun n h e => by
    refine (h0 n h e).trans (Eq.trans (congrArg (· + _) ?_) (part_step (g n h) w (n % nk) (hw n)))
    rw [e, Nat.zero_mul, part_zero]
  have held : ∀ (n : ℕ) (h : n < N), ¬n % nk = nk - 1 → acc n h = part (g n h) ((n % nk + 1) * w) := fun n => by
    induction n with
    | zero => exact fun h _ => first 0 h (Nat.zero_mod _)
    | succ n ih =>
      intro h l
      by_cases e : (n + 1) % nk = 0
      · exact first (n + 1) h e
      · refine (h1 n h e l).trans (Eq.trans (congrArg (· + _) ?_) (part_step (g (n + 1) h) w ((n + 1) % nk) (hw _)))
        have hm := mod_succ hp e
        have := Nat.mod_lt (n + 1) hp
        rw [ih _ (by omega), hg n h e, hm]
  cases n with
  | zero => rw [Nat.zero_mod] at e; omega
  | succ n =>
    have e0 : ¬(n + 1) % nk = 0 := by omega
    have hm := mod_succ hp e0
    refine (h2 n h e).trans (Eq.trans (Eq.trans (congrArg (· + _) ?_) (part_step (g (n + 1) h) w ((n + 1) % nk) (hw _))) ?_)
    · rw [held _ _ (by omega), hg n h e0, hm]
    · rw [e, Nat.sub_add_cancel hp, hK, part_all]

end Cert.Proof.Mm

end
-- ==== Proof.MmEInDw.lean ====
/- The gradient of the even layer's input projection with respect to its weights: what the blocked product leaves is the whole product. -/
module

public import proofs.«01_k».proof.Defs
public import proofs.«01_k».proof.Proof.MmSum
public import proofs.«01_k».proof.Proof.Gen.Kernel2Ideal.Value
public import proofs.«01_k».proof.Proof.Gen.Reference2Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.EInDw

open Cert.Kernel2Ideal Cert.Kernel2Ideal.Gen Cert.Kernel2Ideal.Value Cert.Proof.Mm
open Idealize.ShloMosaic Idealize.ShloMosaic.TcCoe

section
variable {F : FTy → Type} [FloatOps F]
variable (c : Dev nD) (i : grid0.Coords) (a3 : Memref sig .tc .vmem S1024x1024 .bf16) (h3 : a3.IsWhole) (a4 : Memref sig .tc .vmem S1024x1152 .bf16) (h4 : a4.IsWhole)
  (a5 : Memref sig .tc .vmem S1024x1152 .f32) (h5 : a5.IsWhole) (a6 : Memref sig .tc .vmem S1024x1152 .f32) (h6 : a6.IsWhole)
  (x : Vec F S1024x1024 .bf16) (y : Vec F S1024x1152 .bf16) (acc : Vec F S1024x1152 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay2 acc x y := by
  frame_out

end

theorem pay1_at (r : Fin 1024) (d : Fin 1152) : (k0_pay1 (F := Ideal)) (ix2 r d) = (0 : EReal) := by
  unfold k0_pay1
  pointwise

theorem pay2_at (a : S1024x1152.Idx → EReal) (x : S1024x1024.Idx → EReal) (y : S1024x1152.Idx → EReal) (r : Fin 1024) (d : Fin 1152) :
    (k0_pay2 (F := Ideal) a x y) (ix2 r d) = a (ix2 r d) + ∑ q : Fin 1024, x (ix2 q r) * y (ix2 q d) := by
  unfold k0_pay2
  pointwise

variable (m : (ℓ : Loc nD τ sig) → Buf (Elt Ideal) ℓ) (c : Dev nD)

theorem bnd (t : Fin grid0.N) : t.val / 4 < 5 ∧ t.val % 4 < 4 := by have h := lt_of_lt_of_eq t.isLt N_0; omega
theorem index0 : ∀ t : Fin grid0.N, win0_0.index t = ![t.val % 4, 0] := by decide +kernel
theorem index1 : ∀ t : Fin grid0.N, win0_1.index t = ![t.val % 4, t.val / 4] := by decide +kernel

theorem blk0_at (t : Fin grid0.N) (q : Fin 1024) (r : Fin 1024) :
    iblk m c 0 t (ix2 q r) = m ((c : Thread nD τ).loc main_arg0) (ix2 ⟨t.val % 4 * 1024 + q, by have := bnd t; omega⟩ ⟨r, by omega⟩) := by
  unfold iblk
  rw [← V_main_arg0 m c]
  blk_ext [index0 t]

theorem blk1_at (t : Fin grid0.N) (q : Fin 1024) (d : Fin 1152) :
    iblk m c 1 t (ix2 q d) = m ((c : Thread nD τ).loc main_arg1)
      (ix2 ⟨t.val % 4 * 1024 + q, by have := bnd t; omega⟩ ⟨t.val / 4 * 1152 + d, by have := bnd t; omega⟩) := by
  unfold iblk
  rw [← V_main_arg1 m c]
  blk_ext [index1 t]

/-- The two arrays that the call multiplies. -/
abbrev lhs : S4096x1024.Idx → EReal := m ((c : Thread nD τ).loc main_arg0)
abbrev rhs : S4096x5760.Idx → EReal := m ((c : Thread nD τ).loc main_arg1)

/-- The products whose sum is the result's element (n, d). -/
def term (n : Fin 1024) (d : Fin 5760) (q : Fin 4096) : EReal := lhs m c (ix2 q n) * rhs m c (ix2 q d)

/-- A block's step, element by element: the accumulator takes the block's terms. -/
theorem step_at (t : Fin grid0.N) (a : S1024x1152.Idx → EReal) (r : Fin 1024) (d : Fin 1152) :
    (k0_pay2 (F := Ideal) a (iblk m c 0 t) (iblk m c 1 t)) (ix2 r d)
      = a (ix2 r d) + ∑ q : Fin 1024, term m c ⟨r, by omega⟩ ⟨t.val / 4 * 1152 + d, by have := bnd t; omega⟩ ⟨t.val % 4 * 1024 + q, by have := bnd t; omega⟩ :=
  (pay2_at ..).trans (congrArg _ (Finset.sum_congr (M := EReal) rfl fun q _ => congrArg₂ (fun u v : EReal => u * v) (blk0_at m c t q r) (blk1_at m c t q d)))

/-- The terms that a place of a point's accumulator sums. -/
def terms (r : Fin 1024) (d : Fin 1152) (n : ℕ) (hn : n < grid0.N) : Fin 4096 → EReal :=
  term m c r ⟨n / 4 * 1152 + d, by have := (bnd ⟨n, hn⟩).1; dsimp only at this; omega⟩

/-- A last block leaves the whole sum. -/
theorem out_at (r : Fin 1024) (d : Fin 1152) : ∀ (n : ℕ) (hn : n < grid0.N), n % 4 = 3 →
    (outsAt0 m c n hn).1 (ix2 r d) = ∑ q : Fin 4096, terms m c r d n hn q := by
  refine fold_blocks (K := 4096) (nk := 4) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (term m c r) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact step_at m c ⟨n + 1, h⟩ _ r d

/-- The call's result: the whole product. -/
theorem result (n : Fin 1024) (d : Fin 5760) : G2 m c (ix2 n d) = ∑ q : Fin 4096, term m c n d q := by
  have hp : pt2Of (ix2 n d) = 4 * (d / 1152) + 3 := by
    show 4 * (5 * (n.val / 1024 - 0) + 1 * (d.val / 1152 - 0)) + 3 = _
    omega
  have hb : pt2Of (ix2 n d) < grid0.N := by rw [N_0, hp]; omega
  have hl : loc2Of (ix2 n d) = ix2 ⟨n % 1024, by omega⟩ ⟨d % 1152, by omega⟩ := by
    funext a
    fin_cases a <;> rfl
  have e : terms m c ⟨n % 1024, by omega⟩ ⟨d % 1152, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.EInDw

/-! ## The reference, and the claim -/

namespace Cert.Proof.EInDw

open Idealize.ShloMosaic Idealize.ShloMosaic.TcCoe Idealize.SL.Sem

section
open Cert.Reference2Ideal Cert.Reference2Ideal.Gen

theorem ref_at (x : S4096x1024.Idx → EReal) (y : S4096x5760.Idx → EReal) (n : Fin 1024) (d : Fin 5760) :
    (transpose S1024x5760 [1, 0] (Host.dotGeneral (F := Ideal) (φ₁ := .f32) (φ₂ := .f32) dot_S4096x5760_S4096x1024_S5760x1024_0_0_1_1_n_n none (extf (F := Ideal) (φ := .bf16) .f32 y bitsLt_bf16_f32) (extf (F := Ideal) (φ := .bf16) .f32 x bitsLt_bf16_f32)) transposes_S5760x1024_S1024x5760_1_0 : S1024x5760.Idx → EReal) (ix2 n d)
      = ∑ q : Fin 4096, x (ix2 q n) * y (ix2 q d) := by
  pointwise
  exact Finset.sum_congr rfl fun q _ => mul_comm (y (ix2 q d)) (x (ix2 q n))

end

/-- The reference's frame. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The call computes the gradient. -/
theorem algebraic : Cert.algebraic_Kernel2Ideal_Reference2Ideal := fun m ρ m' ρ' _ hargs =>
  ⟨fun c => Cert.Kernel2Ideal.Value.G2 m c, Cert.Kernel2Ideal.Value.run m ρ,
    (θ_run Cert.Reference2Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference2Ideal.Value.run m' ρ')⟩

end Cert.Proof.EInDw

end
-- ==== Proof.MmEInDx.lean ====
/- The gradient of the even layer's input projection with respect to its input: what the blocked product leaves is the whole product. -/
module

public import proofs.«01_k».proof.Defs
public import proofs.«01_k».proof.Proof.MmSum
public import proofs.«01_k».proof.Proof.Gen.Kernel3Ideal.Value
public import proofs.«01_k».proof.Proof.Gen.Reference3Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.EInDx

open Cert.Kernel3Ideal Cert.Kernel3Ideal.Gen Cert.Kernel3Ideal.Value Cert.Proof.Mm
open Idealize.ShloMosaic Idealize.ShloMosaic.TcCoe

section
variable {F : FTy → Type} [FloatOps F]
variable (c : Dev nD) (i : grid0.Coords) (a3 : Memref sig .tc .vmem S1024x1152 .bf16) (h3 : a3.IsWhole) (a4 : Memref sig .tc .vmem S1024x1152 .bf16) (h4 : a4.IsWhole)
  (a5 : Memref sig .tc .vmem S1024x1024 .f32) (h5 : a5.IsWhole) (a6 : Memref sig .tc .vmem S1024x1024 .f32) (h6 : a6.IsWhole)
  (x : Vec F S1024x1152 .bf16) (y : Vec F S1024x1152 .bf16) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay2 acc x y := by
  frame_out

end

theorem pay1_at (r : Fin 1024) (d : Fin 1024) : (k0_pay1 (F := Ideal)) (ix2 r d) = (0 : EReal) := by
  unfold k0_pay1
  pointwise

theorem pay2_at (a : S1024x1024.Idx → EReal) (x y : S1024x1152.Idx → EReal) (r : Fin 1024) (d : Fin 1024) :
    (k0_pay2 (F := Ideal) a x y) (ix2 r d) = a (ix2 r d) + ∑ q : Fin 1152, x (ix2 r q) * y (ix2 d q) := by
  unfold k0_pay2
  pointwise

variable (m : (ℓ : Loc nD τ sig) → Buf (Elt Ideal) ℓ) (c : Dev nD)

theorem bnd (t : Fin grid0.N) : t.val / 5 < 4 ∧ t.val % 5 < 5 := by have h := lt_of_lt_of_eq t.isLt N_0; omega
theorem index0 : ∀ t : Fin grid0.N, win0_0.index t = ![t.val / 5, t.val % 5] := by decide +kernel
theorem index1 : ∀ t : Fin grid0.N, win0_1.index t = ![0, t.val % 5] := by decide +kernel

theorem blk0_at (t : Fin grid0.N) (r : Fin 1024) (q : Fin 1152) :
    iblk m c 0 t (ix2 r q) = m ((c : Thread nD τ).loc main_arg0)
      (ix2 ⟨t.val / 5 * 1024 + r, by have := bnd t; omega⟩ ⟨t.val % 5 * 1152 + q, by have := bnd t; omega⟩) := by
  unfold iblk
  rw [← V_main_arg0 m c]
  blk_ext [index0 t]

theorem blk1_at (t : Fin grid0.N) (d : Fin 1024) (q : Fin 1152) :
    iblk m c 1 t (ix2 d q) = m ((c : Thread nD τ).loc main_arg1) (ix2 ⟨d, by omega⟩ ⟨t.val % 5 * 1152 + q, by have := bnd t; omega⟩) := by
  unfold iblk
  rw [← V_main_arg1 m c]
  blk_ext [index1 t]

/-- The two arrays that the call multiplies. -/
abbrev lhs : S4096x5760.Idx → EReal := m ((c : Thread nD τ).loc main_arg0)
abbrev rhs : S1024x5760.Idx → EReal := m ((c : Thread nD τ).loc main_arg1)

/-- The products whose sum is the result's element (n, d). -/
def term (n : Fin 4096) (d : Fin 1024) (q : Fin 5760) : EReal := lhs m c (ix2 n q) * rhs m c (ix2 d q)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 1152, term m c ⟨t.val / 5 * 1024 + r, by have := bnd t; omega⟩ ⟨d, by omega⟩ ⟨t.val % 5 * 1152 + q, by have := bnd t; omega⟩ :=
  (pay2_at ..).trans (congrArg _ (Finset.sum_congr (M := EReal) rfl fun q _ => congrArg₂ (fun u v : EReal => u * v) (blk0_at m c t r q) (blk1_at m c t d q)))

/-- The terms that a place of a point's accumulator sums. -/
def terms (r : Fin 1024) (d : Fin 1024) (n : ℕ) (hn : n < grid0.N) : Fin 5760 → EReal :=
  term m c ⟨n / 5 * 1024 + r, by have := (bnd ⟨n, hn⟩).1; dsimp only at this; omega⟩ d

/-- A last block leaves the whole sum. -/
theorem out_at (r : Fin 1024) (d : Fin 1024) : ∀ (n : ℕ) (hn : n < grid0.N), n % 5 = 4 →
    (outsAt0 m c n hn).1 (ix2 r d) = ∑ q : Fin 5760, terms m c r d n hn q := by
  refine fold_blocks (K := 5760) (nk := 5) (w := 1152) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact step_at m c ⟨n + 1, h⟩ _ r d

/-- The call's result: the whole product. -/
theorem result (n : Fin 4096) (d : Fin 1024) : G2 m c (ix2 n d) = ∑ q : Fin 5760, term m c n d q := by
  have hp : pt2Of (ix2 n d) = 5 * (n / 1024) + 4 := by
    show 5 * (1 * (n.val / 1024 - 0) + 1 * (d.val / 1024 - 0)) + 4 = _
    omega
  have hb : pt2Of (ix2 n d) < grid0.N := by rw [N_0, hp]; omega
  have hl : loc2Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.EInDx

/-! ## The reference, and the claim -/

namespace Cert.Proof.EInDx

open Idealize.ShloMosaic Idealize.ShloMosaic.TcCoe Idealize.SL.Sem

section
open Cert.Reference3Ideal Cert.Reference3Ideal.Gen

theorem ref_at (x : S4096x5760.Idx → EReal) (w : S1024x5760.Idx → EReal) (n : Fin 4096) (d : Fin 1024) :
    (Host.dotGeneral (F := Ideal) (φ₁ := .f32) (φ₂ := .f32) dot_S4096x5760_S1024x5760_S4096x1024_1_1_0_0_n_n none (extf (F := Ideal) (φ := .bf16) .f32 x bitsLt_bf16_f32) (extf (F := Ideal) (φ := .bf16) .f32 w bitsLt_bf16_f32) : S4096x1024.Idx → EReal) (ix2 n d)
      = ∑ q : Fin 5760, x (ix2 n q) * w (ix2 d q) := by
  pointwise

end

/-- The reference's frame. -/
theorem frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The call computes the gradient. -/
theorem algebraic : Cert.algebraic_Kernel3Ideal_Reference3Ideal := fun m ρ m' ρ' _ hargs =>
  ⟨fun c => Cert.Kernel3Ideal.Value.G2 m c, Cert.Kernel3Ideal.Value.run m ρ,
    (θ_run Cert.Reference3Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference3Ideal.Value.run m' ρ')⟩

end Cert.Proof.EInDx

end
-- ==== Proof.MmFfnUpDw.lean ====
/- The gradient of a feed-forward layer's first product with respect to its weights: what the blocked product leaves is the whole product. -/
module

public import proofs.«01_k».proof.Defs
public import proofs.«01_k».proof.Proof.MmSum
public import proofs.«01_k».proof.Proof.Gen.Kernel4Ideal.Value
public import proofs.«01_k».proof.Proof.Gen.Reference4Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.FfnUpDw

open Cert.Kernel4Ideal Cert.Kernel4Ideal.Gen Cert.Kernel4Ideal.Value Cert.Proof.Mm
open Idealize.ShloMosaic Idealize.ShloMosaic.TcCoe

section
variable {F : FTy → Type} [FloatOps F]
variable (c : Dev nD) (i : grid0.Coords) (a3 : Memref sig .tc .vmem S1024x1024 .bf16) (h3 : a3.IsWhole) (a4 : Memref sig .tc .vmem S1024x1408 .bf16) (h4 : a4.IsWhole)
  (a5 : Memref sig .tc .vmem S1024x1408 .f32) (h5 : a5.IsWhole) (a6 : Memref sig .tc .vmem S1024x1408 .f32) (h6 : a6.IsWhole)
  (x : Vec F S1024x1024 .bf16) (y : Vec F S1024x1408 .bf16) (acc : Vec F S1024x1408 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay2 acc x y := by
  frame_out

end

theorem pay1_at (r : Fin 1024) (d : Fin 1408) : (k0_pay1 (F := Ideal)) (ix2 r d) = (0 : EReal) := by
  unfold k0_pay1
  pointwise

theorem pay2_at (a : S1024x1408.Idx → EReal) (x : S1024x1024.Idx → EReal) (y : S1024x1408.Idx → EReal) (r : Fin 1024) (d : Fin 1408) :
    (k0_pay2 (F := Ideal) a x y) (ix2 r d) = a (ix2 r d) + ∑ q : Fin 1024, x (ix2 q r) * y (ix2 q d) := by
  unfold k0_pay2
  pointwise

variable (m : (ℓ : Loc nD τ sig) → Buf (Elt Ideal) ℓ) (c : Dev nD)

theorem bnd (t : Fin grid0.N) : t.val / 4 < 4 ∧ t.val % 4 < 4 := by have h := lt_of_lt_of_eq t.isLt N_0; omega
theorem index0 : ∀ t : Fin grid0.N, win0_0.index t = ![t.val % 4, 0] := by decide +kernel
theorem index1 : ∀ t : Fin grid0.N, win0_1.index t = ![t.val % 4, t.val / 4] := by decide +kernel

theorem blk0_at (t : Fin grid0.N) (q : Fin 1024) (r : Fin 1024) :
    iblk m c 0 t (ix2 q r) = m ((c : Thread nD τ).loc main_arg0) (ix2 ⟨t.val % 4 * 1024 + q, by have := bnd t; omega⟩ ⟨r, by omega⟩) := by
  unfold iblk
  rw [← V_main_arg0 m c]
  blk_ext [index0 t]

theorem blk1_at (t : Fin grid0.N) (q : Fin 1024) (d : Fin 1408) :
    iblk m c 1 t (ix2 q d) = m ((c : Thread nD τ).loc main_arg1)
      (ix2 ⟨t.val % 4 * 1024 + q, by have := bnd t; omega⟩ ⟨t.val / 4 * 1408 + d, by have := bnd t; omega⟩) := by
  unfold iblk
  rw [← V_main_arg1 m c]
  blk_ext [index1 t]

/-- The two arrays that the call multiplies. -/
abbrev lhs : S4096x1024.Idx → EReal := m ((c : Thread nD τ).loc main_arg0)
abbrev rhs : S4096x5632.Idx → EReal := m ((c : Thread nD τ).loc main_arg1)

/-- The products whose sum is the result's element (n, d). -/
def term (n : Fin 1024) (d : Fin 5632) (q : Fin 4096) : EReal := lhs m c (ix2 q n) * rhs m c (ix2 q d)

/-- A block's step, element by element: the accumulator takes the block's terms. -/
theorem step_at (t : Fin grid0.N) (a : S1024x1408.Idx → EReal) (r : Fin 1024) (d : Fin 1408) :
    (k0_pay2 (F := Ideal) a (iblk m c 0 t) (iblk m c 1 t)) (ix2 r d)
      = a (ix2 r d) + ∑ q : Fin 1024, term m c ⟨r, by omega⟩ ⟨t.val / 4 * 1408 + d, by have := bnd t; omega⟩ ⟨t.val % 4 * 1024 + q, by have := bnd t; omega⟩ :=
  (pay2_at ..).trans (congrArg _ (Finset.sum_congr (M := EReal) rfl fun q _ => congrArg₂ (fun u v : EReal => u * v) (blk0_at m c t q r) (blk1_at m c t q d)))

/-- The terms that a place of a point's accumulator sums. -/
def terms (r : Fin 1024) (d : Fin 1408) (n : ℕ) (hn : n < grid0.N) : Fin 4096 → EReal :=
  term m c r ⟨n / 4 * 1408 + d, by have := (bnd ⟨n, hn⟩).1; dsimp only at this; omega⟩

/-- A last block leaves the whole sum. -/
theorem out_at (r : Fin 1024) (d : Fin 1408) : ∀ (n : ℕ) (hn : n < grid0.N), n % 4 = 3 →
    (outsAt0 m c n hn).1 (ix2 r d) = ∑ q : Fin 4096, terms m c r d n hn q := by
  refine fold_blocks (K := 4096) (nk := 4) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (term m c r) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact step_at m c ⟨n + 1, h⟩ _ r d

/-- The call's result: the whole product. -/
theorem result (n : Fin 1024) (d : Fin 5632) : G2 m c (ix2 n d) = ∑ q : Fin 4096, term m c n d q := by
  have hp : pt2Of (ix2 n d) = 4 * (d / 1408) + 3 := by
    show 4 * (4 * (n.val / 1024 - 0) + 1 * (d.val / 1408 - 0)) + 3 = _
    omega
  have hb : pt2Of (ix2 n d) < grid0.N := by rw [N_0, hp]; omega
  have hl : loc2Of (ix2 n d) = ix2 ⟨n % 1024, by omega⟩ ⟨d % 1408, by omega⟩ := by
    funext a
    fin_cases a <;> rfl
  have e : terms m c ⟨n % 1024, by omega⟩ ⟨d % 1408, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.FfnUpDw

/-! ## The reference, and the claim -/

namespace Cert.Proof.FfnUpDw

open Idealize.ShloMosaic Idealize.ShloMosaic.TcCoe Idealize.SL.Sem

section
open Cert.Reference4Ideal Cert.Reference4Ideal.Gen

theorem ref_at (x : S4096x1024.Idx → EReal) (y : S4096x5632.Idx → EReal) (n : Fin 1024) (d : Fin 5632) :
    (transpose S1024x5632 [1, 0] (Host.dotGeneral (F := Ideal) (φ₁ := .f32) (φ₂ := .f32) dot_S4096x5632_S4096x1024_S5632x1024_0_0_1_1_n_n none (extf (F := Ideal) (φ := .bf16) .f32 y bitsLt_bf16_f32) (extf (F := Ideal) (φ := .bf16) .f32 x bitsLt_bf16_f32)) transposes_S5632x1024_S1024x5632_1_0 : S1024x5632.Idx → EReal) (ix2 n d)
      = ∑ q : Fin 4096, x (ix2 q n) * y (ix2 q d) := by
  pointwise
  exact Finset.sum_congr rfl fun q _ => mul_comm (y (ix2 q d)) (x (ix2 q n))

end

/-- The reference's frame. -/
theorem frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The call computes the gradient. -/
theorem algebraic : Cert.algebraic_Kernel4Ideal_Reference4Ideal := fun m ρ m' ρ' _ hargs =>
  ⟨fun c => Cert.Kernel4Ideal.Value.G2 m c, Cert.Kernel4Ideal.Value.run m ρ,
    (θ_run Cert.Reference4Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference4Ideal.Value.run m' ρ')⟩

end Cert.Proof.FfnUpDw

end
-- ==== Proof.MmFfnUpDx.lean ====
/- The gradient of a feed-forward layer's first product with respect to its input: what the blocked product leaves is the whole product. -/
module

public import proofs.«01_k».proof.Defs
public import proofs.«01_k».proof.Proof.MmSum
public import proofs.«01_k».proof.Proof.Gen.Kernel5Ideal.Value
public import proofs.«01_k».proof.Proof.Gen.Reference5Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.FfnUpDx

open Cert.Kernel5Ideal Cert.Kernel5Ideal.Gen Cert.Kernel5Ideal.Value Cert.Proof.Mm
open Idealize.ShloMosaic Idealize.ShloMosaic.TcCoe

section
variable {F : FTy → Type} [FloatOps F]
variable (c : Dev nD) (i : grid0.Coords) (a3 : Memref sig .tc .vmem S1024x1408 .bf16) (h3 : a3.IsWhole) (a4 : Memref sig .tc .vmem S1024x1408 .bf16) (h4 : a4.IsWhole)
  (a5 : Memref sig .tc .vmem S1024x1024 .f32) (h5 : a5.IsWhole) (a6 : Memref sig .tc .vmem S1024x1024 .f32) (h6 : a6.IsWhole)
  (x : Vec F S1024x1408 .bf16) (y : Vec F S1024x1408 .bf16) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay2 acc x y := by
  frame_out

end

theorem pay1_at (r : Fin 1024) (d : Fin 1024) : (k0_pay1 (F := Ideal)) (ix2 r d) = (0 : EReal) := by
  unfold k0_pay1
  pointwise

theorem pay2_at (a : S1024x1024.Idx → EReal) (x y : S1024x1408.Idx → EReal) (r : Fin 1024) (d : Fin 1024) :
    (k0_pay2 (F := Ideal) a x y) (ix2 r d) = a (ix2 r d) + ∑ q : Fin 1408, x (ix2 r q) * y (ix2 d q) := by
  unfold k0_pay2
  pointwise

variable (m : (ℓ : Loc nD τ sig) → Buf (Elt Ideal) ℓ) (c : Dev nD)

theorem bnd (t : Fin grid0.N) : t.val / 4 < 4 ∧ t.val % 4 < 4 := by have h := lt_of_lt_of_eq t.isLt N_0; omega
theorem index0 : ∀ t : Fin grid0.N, win0_0.index t = ![t.val / 4, t.val % 4] := by decide +kernel
theorem index1 : ∀ t : Fin grid0.N, win0_1.index t = ![0, t.val % 4] := by decide +kernel

theorem blk0_at (t : Fin grid0.N) (r : Fin 1024) (q : Fin 1408) :
    iblk m c 0 t (ix2 r q) = m ((c : Thread nD τ).loc main_arg0)
      (ix2 ⟨t.val / 4 * 1024 + r, by have := bnd t; omega⟩ ⟨t.val % 4 * 1408 + q, by have := bnd t; omega⟩) := by
  unfold iblk
  rw [← V_main_arg0 m c]
  blk_ext [index0 t]

theorem blk1_at (t : Fin grid0.N) (d : Fin 1024) (q : Fin 1408) :
    iblk m c 1 t (ix2 d q) = m ((c : Thread nD τ).loc main_arg1) (ix2 ⟨d, by omega⟩ ⟨t.val % 4 * 1408 + q, by have := bnd t; omega⟩) := by
  unfold iblk
  rw [← V_main_arg1 m c]
  blk_ext [index1 t]

/-- The two arrays that the call multiplies. -/
abbrev lhs : S4096x5632.Idx → EReal := m ((c : Thread nD τ).loc main_arg0)
abbrev rhs : S1024x5632.Idx → EReal := m ((c : Thread nD τ).loc main_arg1)

/-- The products whose sum is the result's element (n, d). -/
def term (n : Fin 4096) (d : Fin 1024) (q : Fin 5632) : EReal := lhs m c (ix2 n q) * rhs m c (ix2 d q)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 1408, term m c ⟨t.val / 4 * 1024 + r, by have := bnd t; omega⟩ ⟨d, by omega⟩ ⟨t.val % 4 * 1408 + q, by have := bnd t; omega⟩ :=
  (pay2_at ..).trans (congrArg _ (Finset.sum_congr (M := EReal) rfl fun q _ => congrArg₂ (fun u v : EReal => u * v) (blk0_at m c t r q) (blk1_at m c t d q)))

/-- The terms that a place of a point's accumulator sums. -/
def terms (r : Fin 1024) (d : Fin 1024) (n : ℕ) (hn : n < grid0.N) : Fin 5632 → EReal :=
  term m c ⟨n / 4 * 1024 + r, by have := (bnd ⟨n, hn⟩).1; dsimp only at this; omega⟩ d

/-- A last block leaves the whole sum. -/
theorem out_at (r : Fin 1024) (d : Fin 1024) : ∀ (n : ℕ) (hn : n < grid0.N), n % 4 = 3 →
    (outsAt0 m c n hn).1 (ix2 r d) = ∑ q : Fin 5632, terms m c r d n hn q := by
  refine fold_blocks (K := 5632) (nk := 4) (w := 1408) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact step_at m c ⟨n + 1, h⟩ _ r d

/-- The call's result: the whole product. -/
theorem result (n : Fin 4096) (d : Fin 1024) : G2 m c (ix2 n d) = ∑ q : Fin 5632, term m c n d q := by
  have hp : pt2Of (ix2 n d) = 4 * (n / 1024) + 3 := by
    show 4 * (1 * (n.val / 1024 - 0) + 1 * (d.val / 1024 - 0)) + 3 = _
    omega
  have hb : pt2Of (ix2 n d) < grid0.N := by rw [N_0, hp]; omega
  have hl : loc2Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.FfnUpDx

/-! ## The reference, and the claim -/

namespace Cert.Proof.FfnUpDx

open Idealize.ShloMosaic Idealize.ShloMosaic.TcCoe Idealize.SL.Sem

section
open Cert.Reference5Ideal Cert.Reference5Ideal.Gen

theorem ref_at (x : S4096x5632.Idx → EReal) (w : S1024x5632.Idx → EReal) (n : Fin 4096) (d : Fin 1024) :
    (Host.dotGeneral (F := Ideal) (φ₁ := .f32) (φ₂ := .f32) dot_S4096x5632_S1024x5632_S4096x1024_1_1_0_0_n_n none (extf (F := Ideal) (φ := .bf16) .f32 x bitsLt_bf16_f32) (extf (F := Ideal) (φ := .bf16) .f32 w bitsLt_bf16_f32) : S4096x1024.Idx → EReal) (ix2 n d)
      = ∑ q : Fin 5632, x (ix2 n q) * w (ix2 d q) := by
  pointwise

end

/-- The reference's frame. -/
theorem frame_reference : Cert.quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The call computes the gradient. -/
theorem algebraic : Cert.algebraic_Kernel5Ideal_Reference5Ideal := fun m ρ m' ρ' _ hargs =>
  ⟨fun c => Cert.Kernel5Ideal.Value.G2 m c, Cert.Kernel5Ideal.Value.run m ρ,
    (θ_run Cert.Reference5Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference5Ideal.Value.run m' ρ')⟩

end Cert.Proof.FfnUpDx

end
-- ==== Proof.MmFfnDownDw.lean ====
/- The gradient of a feed-forward layer's second product with respect to its weights: what the blocked product leaves is the whole product. -/
module

public import proofs.«01_k».proof.Defs
public import proofs.«01_k».proof.Proof.MmSum
public import proofs.«01_k».proof.Proof.Gen.Kernel6Ideal.Value
public import proofs.«01_k».proof.Proof.Gen.Reference6Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.FfnDownDw

open Cert.Kernel6Ideal Cert.Kernel6Ideal.Gen Cert.Kernel6Ideal.Value Cert.Proof.Mm
open Idealize.ShloMosaic Idealize.ShloMosaic.TcCoe

section
variable {F : FTy → Type} [FloatOps F]
variable (c : Dev nD) (i : grid0.Coords) (a3 : Memref sig .tc .vmem S1024x256 .bf16) (h3 : a3.IsWhole) (a4 : Memref sig .tc .vmem S1024x1024 .bf16) (h4 : a4.IsWhole)
  (a5 : Memref sig .tc .vmem S256x1024 .bf16) (h5 : a5.IsWhole) (a6 : Memref sig .tc .vmem S256x1024 .f32) (h6 : a6.IsWhole)
  (x : Vec F S1024x256 .bf16) (y : Vec F S1024x1024 .bf16) (acc : Vec F S256x1024 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay3 (k0_pay2 acc x y) := by
  frame_out

end

theorem pay1_at (r : Fin 256) (d : Fin 1024) : (k0_pay1 (F := Ideal)) (ix2 r d) = (0 : EReal) := by
  unfold k0_pay1
  pointwise

theorem pay2_at (a : S256x1024.Idx → EReal) (x : S1024x256.Idx → EReal) (y : S1024x1024.Idx → EReal) (r : Fin 256) (d : Fin 1024) :
    (k0_pay2 (F := Ideal) a x y) (ix2 r d) = a (ix2 r d) + ∑ q : Fin 1024, x (ix2 q r) * y (ix2 q d) := by
  unfold k0_pay2
  pointwise

theorem pay3_at (a : S256x1024.Idx → EReal) (r : Fin 256) (d : Fin 1024) : (k0_pay3 (F := Ideal) a) (ix2 r d) = a (ix2 r d) := by
  unfold k0_pay3
  pointwise

variable (m : (ℓ : Loc nD τ sig) → Buf (Elt Ideal) ℓ) (c : Dev nD)

theorem bnd (t : Fin grid0.N) : t.val / 4 < 11 ∧ t.val % 4 < 4 := by have h := lt_of_lt_of_eq t.isLt N_0; omega
theorem index0 : ∀ t : Fin grid0.N, win0_0.index t = ![t.val % 4, t.val / 4] := by decide +kernel
theorem index1 : ∀ t : Fin grid0.N, win0_1.index t = ![t.val % 4, 0] := by decide +kernel

theorem blk0_at (t : Fin grid0.N) (q : Fin 1024) (r : Fin 256) :
    iblk m c 0 t (ix2 q r) = m ((c : Thread nD τ).loc main_arg0) (ix2 ⟨t.val % 4 * 1024 + q, by have := bnd t; omega⟩ ⟨t.val / 4 * 256 + r, by have := bnd t; omega⟩) := by
  unfold iblk
  rw [← V_main_arg0 m c]
  blk_ext [index0 t]

theorem blk1_at (t : Fin grid0.N) (q : Fin 1024) (d : Fin 1024) :
    iblk m c 1 t (ix2 q d) = m ((c : Thread nD τ).loc main_arg1)
      (ix2 ⟨t.val % 4 * 1024 + q, by have := bnd t; omega⟩ ⟨d, by omega⟩) := by
  unfold iblk
  rw [← V_main_arg1 m c]
  blk_ext [index1 t]

/-- The two arrays that the call multiplies. -/
abbrev lhs : S4096x2816.Idx → EReal := m ((c : Thread nD τ).loc main_arg0)
abbrev rhs : S4096x1024.Idx → EReal := m ((c : Thread nD τ).loc main_arg1)

/-- The products whose sum is the result's element (n, d). -/
def term (n : Fin 2816) (d : Fin 1024) (q : Fin 4096) : EReal := lhs m c (ix2 q n) * rhs m c (ix2 q d)

/-- A block's step, element by element: the accumulator takes the block's terms. -/
theorem step_at (t : Fin grid0.N) (a : S256x1024.Idx → EReal) (r : Fin 256) (d : Fin 1024) :
    (k0_pay2 (F := Ideal) a (iblk m c 0 t) (iblk m c 1 t)) (ix2 r d)
      = a (ix2 r d) + ∑ q : Fin 1024, term m c ⟨t.val / 4 * 256 + r, by have := bnd t; omega⟩ ⟨d, by omega⟩ ⟨t.val % 4 * 1024 + q, by have := bnd t; omega⟩ :=
  (pay2_at ..).trans (congrArg _ (Finset.sum_congr (M := EReal) rfl fun q _ => congrArg₂ (fun u v : EReal => u * v) (blk0_at m c t q r) (blk1_at m c t q d)))

/-- The terms that a place of a point's accumulator sums. -/
def terms (r : Fin 256) (d : Fin 1024) (n : ℕ) (hn : n < grid0.N) : Fin 4096 → EReal :=
  term m c ⟨n / 4 * 256 + r, by have := (bnd ⟨n, hn⟩).1; dsimp only at this; omega⟩ d

/-- A last block leaves the whole sum. -/
theorem out_at (r : Fin 256) (d : Fin 1024) : ∀ (n : ℕ) (hn : n < grid0.N), n % 4 = 3 →
    (outsAt0 m c n hn).1 (ix2 r d) = ∑ q : Fin 4096, terms m c r d n hn q := by
  refine fold_blocks (K := 4096) (nk := 4) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact (pay3_at _ r d).trans (step_at m c ⟨n + 1, h⟩ _ r d)

/-- The call's result: the whole product. -/
theorem result (n : Fin 2816) (d : Fin 1024) : G2 m c (ix2 n d) = ∑ q : Fin 4096, term m c n d q := by
  have hp : pt2Of (ix2 n d) = 4 * (n / 256) + 3 := by
    show 4 * (1 * (n.val / 256 - 0) + 1 * (d.val / 1024 - 0)) + 3 = _
    omega
  have hb : pt2Of (ix2 n d) < grid0.N := by rw [N_0, hp]; omega
  have hl : loc2Of (ix2 n d) = ix2 ⟨n % 256, by omega⟩ ⟨d % 1024, by omega⟩ := by
    funext a
    fin_cases a <;> rfl
  have e : terms m c ⟨n % 256, by omega⟩ ⟨d % 1024, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.FfnDownDw

/-! ## The reference, and the claim -/

namespace Cert.Proof.FfnDownDw

open Idealize.ShloMosaic Idealize.ShloMosaic.TcCoe Idealize.SL.Sem

section
open Cert.Reference6Ideal Cert.Reference6Ideal.Gen

theorem ref_at (x : S4096x2816.Idx → EReal) (y : S4096x1024.Idx → EReal) (n : Fin 2816) (d : Fin 1024) :
    (truncf (F := Ideal) (φ := .f32) .bf16 (transpose S2816x1024 [1, 0] (Host.dotGeneral (F := Ideal) (φ₁ := .f32) (φ₂ := .f32) dot_S4096x1024_S4096x2816_S1024x2816_0_0_1_1_n_n none (extf (F := Ideal) (φ := .bf16) .f32 y bitsLt_bf16_f32) (extf (F := Ideal) (φ := .bf16) .f32 x bitsLt_bf16_f32)) transposes_S1024x2816_S2816x1024_1_0) bitsLt_bf16_f32 : S2816x1024.Idx → EReal) (ix2 n d)
      = ∑ q : Fin 4096, x (ix2 q n) * y (ix2 q d) := by
  pointwise
  exact Finset.sum_congr rfl fun q _ => mul_comm (y (ix2 q d)) (x (ix2 q n))

end

/-- The reference's frame. -/
theorem frame_reference : Cert.quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The call computes the gradient. -/
theorem algebraic : Cert.algebraic_Kernel6Ideal_Reference6Ideal := fun m ρ m' ρ' _ hargs =>
  ⟨fun c => Cert.Kernel6Ideal.Value.G2 m c, Cert.Kernel6Ideal.Value.run m ρ,
    (θ_run Cert.Reference6Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference6Ideal.Value.run m' ρ')⟩

end Cert.Proof.FfnDownDw

end
-- ==== Proof.MmFfnDownDx.lean ====
/- The gradient of a feed-forward layer's second product with respect to its input: one block of the inner axis, so that every grid point computes a block of the whole product. -/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.FfnDownDx

open Cert.Kernel7Ideal Cert.Kernel7Ideal.Gen Cert.Kernel7Ideal.Value
open Idealize.ShloMosaic Idealize.ShloMosaic.TcCoe

/-- A grid point clears its accumulator, adds the product, and writes it out. -/
theorem out_A {F : FTy → Type} [FloatOps F] (c : Dev nD) (i : grid0.Coords)
    (a3 : Memref sig .tc .vmem S1024x1024 .bf16) (h3 : a3.IsWhole) (a4 : Memref sig .tc .vmem S1408x1024 .bf16) (h4 : a4.IsWhole)
    (a5 : Memref sig .tc .vmem S1024x1408 .f32) (h5 : a5.IsWhole) (a6 : Memref sig .tc .vmem S1024x1408 .f32) (h6 : a6.IsWhole)
    (x : Vec F S1024x1024 .bf16) (y : Vec F S1408x1024 .bf16) (hc0 : cond0_0 i) (hc1 : cond0_1 i) :
    out0_A_2 c i a3 h3 a4 h4 a5 h5 a6 h6 hc0 hc1 x y = k0_pay2 (k0_pay1 (F := F)) x y := by
  frame_out

theorem pay1_at (r : Fin 1024) (d : Fin 1408) : (k0_pay1 (F := Ideal)) (ix2 r d) = (0 : EReal) := by
  unfold k0_pay1
  pointwise

theorem pay2_at (a : S1024x1408.Idx → EReal) (x : S1024x1024.Idx → EReal) (y : S1408x1024.Idx → EReal) (r : Fin 1024) (d : Fin 1408) :
    (k0_pay2 (F := Ideal) a x y) (ix2 r d) = a (ix2 r d) + ∑ q : Fin 1024, x (ix2 r q) * y (ix2 d q) := by
  unfold k0_pay2
  pointwise

variable (m : (ℓ : Loc nD τ sig) → Buf (Elt Ideal) ℓ) (c : Dev nD)

theorem bnd (t : Fin grid0.N) : t.val / 2 < 4 ∧ t.val % 2 < 2 := by have h := lt_of_lt_of_eq t.isLt N_0; omega
theorem index0 : ∀ t : Fin grid0.N, win0_0.index t = ![t.val / 2, 0] := by decide +kernel
theorem index1 : ∀ t : Fin grid0.N, win0_1.index t = ![t.val % 2, 0] := by decide +kernel
theorem index2 : ∀ t : Fin grid0.N, win0_2.index t = ![t.val / 2, t.val % 2] := by decide +kernel

theorem blk0_at (t : Fin grid0.N) (r : Fin 1024) (q : Fin 1024) :
    iblk m c 0 t (ix2 r q) = m ((c : Thread nD τ).loc main_arg0) (ix2 ⟨t.val / 2 * 1024 + r, by have := bnd t; omega⟩ q) := by
  unfold iblk
  rw [← V_main_arg0 m c]
  blk_ext [index0 t]

theorem blk1_at (t : Fin grid0.N) (d : Fin 1408) (q : Fin 1024) :
    iblk m c 1 t (ix2 d q) = m ((c : Thread nD τ).loc main_arg1) (ix2 ⟨t.val % 2 * 1408 + d, by have := bnd t; omega⟩ q) := by
  unfold iblk
  rw [← V_main_arg1 m c]
  blk_ext [index1 t]

/-- The two arrays that the call multiplies. -/
abbrev lhs : S4096x1024.Idx → EReal := m ((c : Thread nD τ).loc main_arg0)
abbrev rhs : S2816x1024.Idx → EReal := m ((c : Thread nD τ).loc main_arg1)

/-- The product. -/
def prod : S4096x2816.Idx → EReal := fun i => ∑ q : Fin 1024, lhs m c (ix2 (i 0) q) * rhs m c (ix2 (i 1) q)

/-- The call's result: the whole product. -/
theorem result : (dats m 0 c).arrAt 2 cfg0.N = prod m c := by
  refine (dats m 0 c).arrAt_eq_of_covers 2 (prod m c) (by decide +kernel) fun t _ y => ?_
  obtain ⟨r, d, rfl⟩ : ∃ (r : Fin 1024) (d : Fin 1408), y = ix2 r d := ⟨y 0, y 1, by idx_vars y⟩
  blk_simp
  rw [after0_2]
  unfold outsAt0
  rw [out_A]
  have e : (win0_2.blk t).view.emb (ix2 r d) = ix2 ⟨t.val / 2 * 1024 + r, by have := bnd t; omega⟩ ⟨t.val % 2 * 1408 + d, by have := bnd t; omega⟩ := by
    blk_ext [index2 t]
  refine (pay2_at ..).trans ?_
  rw [pay1_at, zero_add, e]
  exact Finset.sum_congr (M := EReal) rfl fun q _ => congrArg₂ (fun u v : EReal => u * v) (blk0_at m c t r q) (blk1_at m c t d q)

end Cert.Proof.FfnDownDx

/-! ## The reference, and the claim -/

namespace Cert.Proof.FfnDownDx

open Idealize.ShloMosaic Idealize.ShloMosaic.TcCoe Idealize.SL.Sem

section
open Cert.Reference7Ideal Cert.Reference7Ideal.Gen

theorem ref_at (x : S4096x1024.Idx → EReal) (w : S2816x1024.Idx → EReal) (n : Fin 4096) (d : Fin 2816) :
    (Host.dotGeneral (F := Ideal) (φ₁ := .f32) (φ₂ := .f32) dot_S4096x1024_S2816x1024_S4096x2816_1_1_0_0_n_n none (extf (F := Ideal) (φ := .bf16) .f32 x bitsLt_bf16_f32) (extf (F := Ideal) (φ := .bf16) .f32 w bitsLt_bf16_f32) : S4096x2816.Idx → EReal) (ix2 n d)
      = ∑ q : Fin 1024, x (ix2 n q) * w (ix2 d q) := by
  pointwise

end

/-- The reference's frame. -/
theorem frame_reference : Cert.quiescent_Reference7Ideal := fun m ρ _ =>
  (θ_run Cert.Reference7Ideal.defs _ _).mono (fun r h => ⟨fun c => (h c).2, sem_eq_zero_of_no_sems (by decide) r.2⟩) (Cert.Reference7Ideal.Value.run m ρ)

/-- The call computes the gradient. -/
theorem algebraic : Cert.algebraic_Kernel7Ideal_Reference7Ideal := fun m ρ m' ρ' _ hargs =>
  ⟨fun c => prod m c,
    (θ_run Cert.Kernel7Ideal.defs _ _).mono (fun _ h c => ⟨(h c).1.trans (result m c), (h c).2⟩) (Cert.Kernel7Ideal.Value.run_blocks m ρ),
    (θ_run Cert.Reference7Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact ref_at _ _ n d), (h c).2⟩)
      (Cert.Reference7Ideal.Value.run m' ρ')⟩

end Cert.Proof.FfnDownDx

end
-- ==== Proof.MmEOutDw.lean ====
/- The gradient of the even layer's output projection with respect to its weights: what the blocked product leaves is the whole product. -/
module

public import proofs.«01_k».proof.Defs
public import proofs.«01_k».proof.Proof.MmSum
public import proofs.«01_k».proof.Proof.Gen.Kernel8Ideal.Value
public import proofs.«01_k».proof.Proof.Gen.Reference8Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.EOutDw

open Cert.Kernel8Ideal Cert.Kernel8Ideal.Gen Cert.Kernel8Ideal.Value Cert.Proof.Mm
open Idealize.ShloMosaic Idealize.ShloMosaic.TcCoe

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1024x1024 .bf16) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay3 (k0_pay2 acc x y) := by
  frame_out

end

theorem pay1_at (r : Fin 1024) (d : Fin 1024) : (k0_pay1 (F := Ideal)) (ix2 r d) = (0 : EReal) := by
  unfold k0_pay1
  pointwise

theorem pay2_at (a : S1024x1024.Idx → EReal) (x : S1024x1024.Idx → EReal) (y : S1024x1024.Idx → EReal) (r : Fin 1024) (d : Fin 1024) :
    (k0_pay2 (F := Ideal) a x y) (ix2 r d) = a (ix2 r d) + ∑ q : Fin 1024, x (ix2 q r) * y (ix2 q d) := by
  unfold k0_pay2
  pointwise

theorem pay3_at (a : S1024x1024.Idx → EReal) (r : Fin 1024) (d : Fin 1024) : (k0_pay3 (F := Ideal) a) (ix2 r d) = a (ix2 r d) := by
  unfold k0_pay3
  pointwise

variable (m : (ℓ : Loc nD τ sig) → Buf (Elt Ideal) ℓ) (c : Dev nD)

theorem bnd (t : Fin grid0.N) : t.val / 4 < 2 ∧ t.val % 4 < 4 := by have h := lt_of_lt_of_eq t.isLt N_0; omega
theorem index0 : ∀ t : Fin grid0.N, win0_0.index t = ![t.val % 4, t.val / 4] := by decide +kernel
theorem index1 : ∀ t : Fin grid0.N, win0_1.index t = ![t.val % 4, 0] := by decide +kernel

theorem blk0_at (t : Fin grid0.N) (q : Fin 1024) (r : Fin 1024) :
    iblk m c 0 t (ix2 q r) = m ((c : Thread nD τ).loc main_arg0) (ix2 ⟨t.val % 4 * 1024 + q, by have := bnd t; omega⟩ ⟨t.val / 4 * 1024 + r, by have := bnd t; omega⟩) := by
  unfold iblk
  rw [← V_main_arg0 m c]
  blk_ext [index0 t]

theorem blk1_at (t : Fin grid0.N) (q : Fin 1024) (d : Fin 1024) :
    iblk m c 1 t (ix2 q d) = m ((c : Thread nD τ).loc main_arg1)
      (ix2 ⟨t.val % 4 * 1024 + q, by have := bnd t; omega⟩ ⟨d, by omega⟩) := by
  unfold iblk
  rw [← V_main_arg1 m c]
  blk_ext [index1 t]

/-- The two arrays that the call multiplies. -/
abbrev lhs : S4096x2048.Idx → EReal := m ((c : Thread nD τ).loc main_arg0)
abbrev rhs : S4096x1024.Idx → EReal := m ((c : Thread nD τ).loc main_arg1)

/-- The products whose sum is the result's element (n, d). -/
def term (n : Fin 2048) (d : Fin 1024) (q : Fin 4096) : EReal := lhs m c (ix2 q n) * rhs m c (ix2 q d)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 1024, term m c ⟨t.val / 4 * 1024 + r, by have := bnd t; omega⟩ ⟨d, by omega⟩ ⟨t.val % 4 * 1024 + q, by have := bnd t; omega⟩ :=
  (pay2_at ..).trans (congrArg _ (Finset.sum_congr (M := EReal) rfl fun q _ => congrArg₂ (fun u v : EReal => u * v) (blk0_at m c t q r) (blk1_at m c t q d)))

/-- The terms that a place of a point's accumulator sums. -/
def terms (r : Fin 1024) (d : Fin 1024) (n : ℕ) (hn : n < grid0.N) : Fin 4096 → EReal :=
  term m c ⟨n / 4 * 1024 + r, by have := (bnd ⟨n, hn⟩).1; dsimp only at this; omega⟩ d

/-- A last block leaves the whole sum. -/
theorem out_at (r : Fin 1024) (d : Fin 1024) : ∀ (n : ℕ) (hn : n < grid0.N), n % 4 = 3 →
    (outsAt0 m c n hn).1 (ix2 r d) = ∑ q : Fin 4096, terms m c r d n hn q := by
  refine fold_blocks (K := 4096) (nk := 4) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact (pay3_at _ r d).trans (step_at m c ⟨n + 1, h⟩ _ r d)

/-- The call's result: the whole product. -/
theorem result (n : Fin 2048) (d : Fin 1024) : G2 m c (ix2 n d) = ∑ q : Fin 4096, term m c n d q := by
  have hp : pt2Of (ix2 n d) = 4 * (n / 1024) + 3 := by
    show 4 * (1 * (n.val / 1024 - 0) + 1 * (d.val / 1024 - 0)) + 3 = _
    omega
  have hb : pt2Of (ix2 n d) < grid0.N := by rw [N_0, hp]; omega
  have hl : loc2Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.EOutDw

/-! ## The reference, and the claim -/

namespace Cert.Proof.EOutDw

open Idealize.ShloMosaic Idealize.ShloMosaic.TcCoe Idealize.SL.Sem

section
open Cert.Reference8Ideal Cert.Reference8Ideal.Gen

theorem ref_at (x : S4096x2048.Idx → EReal) (y : S4096x1024.Idx → EReal) (n : Fin 2048) (d : Fin 1024) :
    (truncf (F := Ideal) (φ := .f32) .bf16 (transpose S2048x1024 [1, 0] (Host.dotGeneral (F := Ideal) (φ₁ := .f32) (φ₂ := .f32) dot_S4096x1024_S4096x2048_S1024x2048_0_0_1_1_n_n none (extf (F := Ideal) (φ := .bf16) .f32 y bitsLt_bf16_f32) (extf (F := Ideal) (φ := .bf16) .f32 x bitsLt_bf16_f32)) transposes_S1024x2048_S2048x1024_1_0) bitsLt_bf16_f32 : S2048x1024.Idx → EReal) (ix2 n d)
      = ∑ q : Fin 4096, x (ix2 q n) * y (ix2 q d) := by
  pointwise
  exact Finset.sum_congr rfl fun q _ => mul_comm (y (ix2 q d)) (x (ix2 q n))

end

/-- The reference's frame. -/
theorem frame_reference : Cert.quiescent_Reference8Ideal := fun m ρ _ =>
  (θ_run Cert.Reference8Ideal.defs _ _).mono (fun r h => ⟨fun c => (h c).2, sem_eq_zero_of_no_sems (by decide) r.2⟩) (Cert.Reference8Ideal.Value.run m ρ)

/-- The call computes the gradient. -/
theorem algebraic : Cert.algebraic_Kernel8Ideal_Reference8Ideal := fun m ρ m' ρ' _ hargs =>
  ⟨fun c => Cert.Kernel8Ideal.Value.G2 m c, Cert.Kernel8Ideal.Value.run m ρ,
    (θ_run Cert.Reference8Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference8Ideal.Value.run m' ρ')⟩

end Cert.Proof.EOutDw

end
-- ==== Proof.MmEOutDx.lean ====
/- The gradient of the even layer's output projection with respect to its input: one block of the inner axis, so that every grid point computes a block of the whole product. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.EOutDx

open Cert.Kernel9Ideal Cert.Kernel9Ideal.Gen Cert.Kernel9Ideal.Value
open Idealize.ShloMosaic Idealize.ShloMosaic.TcCoe

/-- A grid point clears its accumulator, adds the product, and writes it out. -/
theorem out_A {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .bf16) (y : Vec F S1024x1024 .bf16) (hc0 : cond0_0 i) (hc1 : cond0_1 i) :
    out0_A_2 c i a3 h3 a4 h4 a5 h5 a6 h6 hc0 hc1 x y = k0_pay2 (k0_pay1 (F := F)) x y := by
  frame_out

theorem pay1_at (r : Fin 1024) (d : Fin 1024) : (k0_pay1 (F := Ideal)) (ix2 r d) = (0 : EReal) := by
  unfold k0_pay1
  pointwise

theorem pay2_at (a : S1024x1024.Idx → EReal) (x : S1024x1024.Idx → EReal) (y : S1024x1024.Idx → EReal) (r : Fin 1024) (d : Fin 1024) :
    (k0_pay2 (F := Ideal) a x y) (ix2 r d) = a (ix2 r d) + ∑ q : Fin 1024, x (ix2 r q) * y (ix2 d q) := by
  unfold k0_pay2
  pointwise

variable (m : (ℓ : Loc nD τ sig) → Buf (Elt Ideal) ℓ) (c : Dev nD)

theorem bnd (t : Fin grid0.N) : t.val / 2 < 4 ∧ t.val % 2 < 2 := by have h := lt_of_lt_of_eq t.isLt N_0; omega
theorem index0 : ∀ t : Fin grid0.N, win0_0.index t = ![t.val / 2, 0] := by decide +kernel
theorem index1 : ∀ t : Fin grid0.N, win0_1.index t = ![t.val % 2, 0] := by decide +kernel
theorem index2 : ∀ t : Fin grid0.N, win0_2.index t = ![t.val / 2, t.val % 2] := by decide +kernel

theorem blk0_at (t : Fin grid0.N) (r : Fin 1024) (q : Fin 1024) :
    iblk m c 0 t (ix2 r q) = m ((c : Thread nD τ).loc main_arg0) (ix2 ⟨t.val / 2 * 1024 + r, by have := bnd t; omega⟩ q) := by
  unfold iblk
  rw [← V_main_arg0 m c]
  blk_ext [index0 t]

theorem blk1_at (t : Fin grid0.N) (d : Fin 1024) (q : Fin 1024) :
    iblk m c 1 t (ix2 d q) = m ((c : Thread nD τ).loc main_arg1) (ix2 ⟨t.val % 2 * 1024 + d, by have := bnd t; omega⟩ q) := by
  unfold iblk
  rw [← V_main_arg1 m c]
  blk_ext [index1 t]

/-- The two arrays that the call multiplies. -/
abbrev lhs : S4096x1024.Idx → EReal := m ((c : Thread nD τ).loc main_arg0)
abbrev rhs : S2048x1024.Idx → EReal := m ((c : Thread nD τ).loc main_arg1)

/-- The product. -/
def prod : S4096x2048.Idx → EReal := fun i => ∑ q : Fin 1024, lhs m c (ix2 (i 0) q) * rhs m c (ix2 (i 1) q)

/-- The call's result: the whole product. -/
theorem result : (dats m 0 c).arrAt 2 cfg0.N = prod m c := by
  refine (dats m 0 c).arrAt_eq_of_covers 2 (prod m c) (by decide +kernel) fun t _ y => ?_
  obtain ⟨r, d, rfl⟩ : ∃ (r : Fin 1024) (d : Fin 1024), y = ix2 r d := ⟨y 0, y 1, by idx_vars y⟩
  blk_simp
  rw [after0_2]
  unfold outsAt0
  rw [out_A]
  have e : (win0_2.blk t).view.emb (ix2 r d) = ix2 ⟨t.val / 2 * 1024 + r, by have := bnd t; omega⟩ ⟨t.val % 2 * 1024 + d, by have := bnd t; omega⟩ := by
    blk_ext [index2 t]
  refine (pay2_at ..).trans ?_
  rw [pay1_at, zero_add, e]
  exact Finset.sum_congr (M := EReal) rfl fun q _ => congrArg₂ (fun u v : EReal => u * v) (blk0_at m c t r q) (blk1_at m c t d q)

end Cert.Proof.EOutDx

/-! ## The reference, and the claim -/

namespace Cert.Proof.EOutDx

open Idealize.ShloMosaic Idealize.ShloMosaic.TcCoe Idealize.SL.Sem

section
open Cert.Reference9Ideal Cert.Reference9Ideal.Gen

theorem ref_at (x : S4096x1024.Idx → EReal) (w : S2048x1024.Idx → EReal) (n : Fin 4096) (d : Fin 2048) :
    (Host.dotGeneral (F := Ideal) (φ₁ := .f32) (φ₂ := .f32) dot_S4096x1024_S2048x1024_S4096x2048_1_1_0_0_n_n none (extf (F := Ideal) (φ := .bf16) .f32 x bitsLt_bf16_f32) (extf (F := Ideal) (φ := .bf16) .f32 w bitsLt_bf16_f32) : S4096x2048.Idx → EReal) (ix2 n d)
      = ∑ q : Fin 1024, x (ix2 n q) * w (ix2 d q) := by
  pointwise

end

/-- The reference's frame. -/
theorem frame_reference : Cert.quiescent_Reference9Ideal := fun m ρ _ =>
  (θ_run Cert.Reference9Ideal.defs _ _).mono (fun r h => ⟨fun c => (h c).2, sem_eq_zero_of_no_sems (by decide) r.2⟩) (Cert.Reference9Ideal.Value.run m ρ)

/-- The call computes the gradient. -/
theorem algebraic : Cert.algebraic_Kernel9Ideal_Reference9Ideal := fun m ρ m' ρ' _ hargs =>
  ⟨fun c => prod m c,
    (θ_run Cert.Kernel9Ideal.defs _ _).mono (fun _ h c => ⟨(h c).1.trans (result m c), (h c).2⟩) (Cert.Kernel9Ideal.Value.run_blocks m ρ),
    (θ_run Cert.Reference9Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact ref_at _ _ n d), (h c).2⟩)
      (Cert.Reference9Ideal.Value.run m' ρ')⟩

end Cert.Proof.EOutDx

end
-- ==== Proof.MmOInDw.lean ====
/- The gradient of the odd layer's input projection with respect to its weights: what the blocked product leaves is the whole product. -/
module

public import proofs.«01_k».proof.Defs
public import proofs.«01_k».proof.Proof.MmSum
public import proofs.«01_k».proof.Proof.Gen.Kernel10Ideal.Value
public import proofs.«01_k».proof.Proof.Gen.Reference10Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.OInDw

open Cert.Kernel10Ideal Cert.Kernel10Ideal.Gen Cert.Kernel10Ideal.Value Cert.Proof.Mm
open Idealize.ShloMosaic Idealize.ShloMosaic.TcCoe

section
variable {F : FTy → Type} [FloatOps F]
variable (c : Dev nD) (i : grid0.Coords) (a3 : Memref sig .tc .vmem S1024x1024 .bf16) (h3 : a3.IsWhole) (a4 : Memref sig .tc .vmem S1024x768 .bf16) (h4 : a4.IsWhole)
  (a5 : Memref sig .tc .vmem S1024x768 .f32) (h5 : a5.IsWhole) (a6 : Memref sig .tc .vmem S1024x768 .f32) (h6 : a6.IsWhole)
  (x : Vec F S1024x1024 .bf16) (y : Vec F S1024x768 .bf16) (acc : Vec F S1024x768 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay2 acc x y := by
  frame_out

end

theorem pay1_at (r : Fin 1024) (d : Fin 768) : (k0_pay1 (F := Ideal)) (ix2 r d) = (0 : EReal) := by
  unfold k0_pay1
  pointwise

theorem pay2_at (a : S1024x768.Idx → EReal) (x : S1024x1024.Idx → EReal) (y : S1024x768.Idx → EReal) (r : Fin 1024) (d : Fin 768) :
    (k0_pay2 (F := Ideal) a x y) (ix2 r d) = a (ix2 r d) + ∑ q : Fin 1024, x (ix2 q r) * y (ix2 q d) := by
  unfold k0_pay2
  pointwise

variable (m : (ℓ : Loc nD τ sig) → Buf (Elt Ideal) ℓ) (c : Dev nD)

theorem bnd (t : Fin grid0.N) : t.val / 4 < 2 ∧ t.val % 4 < 4 := by have h := lt_of_lt_of_eq t.isLt N_0; omega
theorem index0 : ∀ t : Fin grid0.N, win0_0.index t = ![t.val % 4, 0] := by decide +kernel
theorem index1 : ∀ t : Fin grid0.N, win0_1.index t = ![t.val % 4, t.val / 4] := by decide +kernel

theorem blk0_at (t : Fin grid0.N) (q : Fin 1024) (r : Fin 1024) :
    iblk m c 0 t (ix2 q r) = m ((c : Thread nD τ).loc main_arg0) (ix2 ⟨t.val % 4 * 1024 + q, by have := bnd t; omega⟩ ⟨r, by omega⟩) := by
  unfold iblk
  rw [← V_main_arg0 m c]
  blk_ext [index0 t]

theorem blk1_at (t : Fin grid0.N) (q : Fin 1024) (d : Fin 768) :
    iblk m c 1 t (ix2 q d) = m ((c : Thread nD τ).loc main_arg1)
      (ix2 ⟨t.val % 4 * 1024 + q, by have := bnd t; omega⟩ ⟨t.val / 4 * 768 + d, by have := bnd t; omega⟩) := by
  unfold iblk
  rw [← V_main_arg1 m c]
  blk_ext [index1 t]

/-- The two arrays that the call multiplies. -/
abbrev lhs : S4096x1024.Idx → EReal := m ((c : Thread nD τ).loc main_arg0)
abbrev rhs : S4096x1536.Idx → EReal := m ((c : Thread nD τ).loc main_arg1)

/-- The products whose sum is the result's element (n, d). -/
def term (n : Fin 1024) (d : Fin 1536) (q : Fin 4096) : EReal := lhs m c (ix2 q n) * rhs m c (ix2 q d)

/-- A block's step, element by element: the accumulator takes the block's terms. -/
theorem step_at (t : Fin grid0.N) (a : S1024x768.Idx → EReal) (r : Fin 1024) (d : Fin 768) :
    (k0_pay2 (F := Ideal) a (iblk m c 0 t) (iblk m c 1 t)) (ix2 r d)
      = a (ix2 r d) + ∑ q : Fin 1024, term m c ⟨r, by omega⟩ ⟨t.val / 4 * 768 + d, by have := bnd t; omega⟩ ⟨t.val % 4 * 1024 + q, by have := bnd t; omega⟩ :=
  (pay2_at ..).trans (congrArg _ (Finset.sum_congr (M := EReal) rfl fun q _ => congrArg₂ (fun u v : EReal => u * v) (blk0_at m c t q r) (blk1_at m c t q d)))

/-- The terms that a place of a point's accumulator sums. -/
def terms (r : Fin 1024) (d : Fin 768) (n : ℕ) (hn : n < grid0.N) : Fin 4096 → EReal :=
  term m c r ⟨n / 4 * 768 + d, by have := (bnd ⟨n, hn⟩).1; dsimp only at this; omega⟩

/-- A last block leaves the whole sum. -/
theorem out_at (r : Fin 1024) (d : Fin 768) : ∀ (n : ℕ) (hn : n < grid0.N), n % 4 = 3 →
    (outsAt0 m c n hn).1 (ix2 r d) = ∑ q : Fin 4096, terms m c r d n hn q := by
  refine fold_blocks (K := 4096) (nk := 4) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (term m c r) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact step_at m c ⟨n + 1, h⟩ _ r d

/-- The call's result: the whole product. -/
theorem result (n : Fin 1024) (d : Fin 1536) : G2 m c (ix2 n d) = ∑ q : Fin 4096, term m c n d q := by
  have hp : pt2Of (ix2 n d) = 4 * (d / 768) + 3 := by
    show 4 * (2 * (n.val / 1024 - 0) + 1 * (d.val / 768 - 0)) + 3 = _
    omega
  have hb : pt2Of (ix2 n d) < grid0.N := by rw [N_0, hp]; omega
  have hl : loc2Of (ix2 n d) = ix2 ⟨n % 1024, by omega⟩ ⟨d % 768, by omega⟩ := by
    funext a
    fin_cases a <;> rfl
  have e : terms m c ⟨n % 1024, by omega⟩ ⟨d % 768, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.OInDw

/-! ## The reference, and the claim -/

namespace Cert.Proof.OInDw

open Idealize.ShloMosaic Idealize.ShloMosaic.TcCoe Idealize.SL.Sem

section
open Cert.Reference10Ideal Cert.Reference10Ideal.Gen

theorem ref_at (x : S4096x1024.Idx → EReal) (y : S4096x1536.Idx → EReal) (n : Fin 1024) (d : Fin 1536) :
    (transpose S1024x1536 [1, 0] (Host.dotGeneral (F := Ideal) (φ₁ := .f32) (φ₂ := .f32) dot_S4096x1536_S4096x1024_S1536x1024_0_0_1_1_n_n none (extf (F := Ideal) (φ := .bf16) .f32 y bitsLt_bf16_f32) (extf (F := Ideal) (φ := .bf16) .f32 x bitsLt_bf16_f32)) transposes_S1536x1024_S1024x1536_1_0 : S1024x1536.Idx → EReal) (ix2 n d)
      = ∑ q : Fin 4096, x (ix2 q n) * y (ix2 q d) := by
  pointwise
  exact Finset.sum_congr rfl fun q _ => mul_comm (y (ix2 q d)) (x (ix2 q n))

end

/-- The reference's frame. -/
theorem frame_reference : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

/-- The call computes the gradient. -/
theorem algebraic : Cert.algebraic_Kernel10Ideal_Reference10Ideal := fun m ρ m' ρ' _ hargs =>
  ⟨fun c => Cert.Kernel10Ideal.Value.G2 m c, Cert.Kernel10Ideal.Value.run m ρ,
    (θ_run Cert.Reference10Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference10Ideal.Value.run m' ρ')⟩

end Cert.Proof.OInDw

end
-- ==== Proof.MmOInDx.lean ====
/- The gradient of the odd layer's input projection with respect to its input: what the blocked product leaves is the whole product. -/
module

public import proofs.«01_k».proof.Defs
public import proofs.«01_k».proof.Proof.MmSum
public import proofs.«01_k».proof.Proof.Gen.Kernel11Ideal.Value
public import proofs.«01_k».proof.Proof.Gen.Reference11Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.OInDx

open Cert.Kernel11Ideal Cert.Kernel11Ideal.Gen Cert.Kernel11Ideal.Value Cert.Proof.Mm
open Idealize.ShloMosaic Idealize.ShloMosaic.TcCoe

section
variable {F : FTy → Type} [FloatOps F]
variable (c : Dev nD) (i : grid0.Coords) (a3 : Memref sig .tc .vmem S1024x768 .bf16) (h3 : a3.IsWhole) (a4 : Memref sig .tc .vmem S1024x768 .bf16) (h4 : a4.IsWhole)
  (a5 : Memref sig .tc .vmem S1024x1024 .f32) (h5 : a5.IsWhole) (a6 : Memref sig .tc .vmem S1024x1024 .f32) (h6 : a6.IsWhole)
  (x : Vec F S1024x768 .bf16) (y : Vec F S1024x768 .bf16) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- The last block: what the accumulator then holds goes out. -/
theorem out_B (hc0 : ¬cond0_0 i) (hc1 : cond0_1 i) :
    out0_B_2 c i a3 h3 a4 h4 a5 h5 a6 h6 hc0 hc1 x y acc = k0_pay2 acc x y := by
  frame_out

end

theorem pay1_at (r : Fin 1024) (d : Fin 1024) : (k0_pay1 (F := Ideal)) (ix2 r d) = (0 : EReal) := by
  unfold k0_pay1
  pointwise

theorem pay2_at (a : S1024x1024.Idx → EReal) (x y : S1024x768.Idx → EReal) (r : Fin 1024) (d : Fin 1024) :
    (k0_pay2 (F := Ideal) a x y) (ix2 r d) = a (ix2 r d) + ∑ q : Fin 768, x (ix2 r q) * y (ix2 d q) := by
  unfold k0_pay2
  pointwise

variable (m : (ℓ : Loc nD τ sig) → Buf (Elt Ideal) ℓ) (c : Dev nD)

theorem bnd (t : Fin grid0.N) : t.val / 2 < 4 ∧ t.val % 2 < 2 := by have h := lt_of_lt_of_eq t.isLt N_0; omega
theorem index0 : ∀ t : Fin grid0.N, win0_0.index t = ![t.val / 2, t.val % 2] := by decide +kernel
theorem index1 : ∀ t : Fin grid0.N, win0_1.index t = ![0, t.val % 2] := by decide +kernel

theorem blk0_at (t : Fin grid0.N) (r : Fin 1024) (q : Fin 768) :
    iblk m c 0 t (ix2 r q) = m ((c : Thread nD τ).loc main_arg0)
      (ix2 ⟨t.val / 2 * 1024 + r, by have := bnd t; omega⟩ ⟨t.val % 2 * 768 + q, by have := bnd t; omega⟩) := by
  unfold iblk
  rw [← V_main_arg0 m c]
  blk_ext [index0 t]

theorem blk1_at (t : Fin grid0.N) (d : Fin 1024) (q : Fin 768) :
    iblk m c 1 t (ix2 d q) = m ((c : Thread nD τ).loc main_arg1) (ix2 ⟨d, by omega⟩ ⟨t.val % 2 * 768 + q, by have := bnd t; omega⟩) := by
  unfold iblk
  rw [← V_main_arg1 m c]
  blk_ext [index1 t]

/-- The two arrays that the call multiplies. -/
abbrev lhs : S4096x1536.Idx → EReal := m ((c : Thread nD τ).loc main_arg0)
abbrev rhs : S1024x1536.Idx → EReal := m ((c : Thread nD τ).loc main_arg1)

/-- The products whose sum is the result's element (n, d). -/
def term (n : Fin 4096) (d : Fin 1024) (q : Fin 1536) : EReal := lhs m c (ix2 n q) * rhs m c (ix2 d q)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 768, term m c ⟨t.val / 2 * 1024 + r, by have := bnd t; omega⟩ ⟨d, by omega⟩ ⟨t.val % 2 * 768 + q, by have := bnd t; omega⟩ :=
  (pay2_at ..).trans (congrArg _ (Finset.sum_congr (M := EReal) rfl fun q _ => congrArg₂ (fun u v : EReal => u * v) (blk0_at m c t r q) (blk1_at m c t d q)))

/-- The terms that a place of a point's accumulator sums. -/
def terms (r : Fin 1024) (d : Fin 1024) (n : ℕ) (hn : n < grid0.N) : Fin 1536 → EReal :=
  term m c ⟨n / 2 * 1024 + r, by have := (bnd ⟨n, hn⟩).1; dsimp only at this; omega⟩ d

/-- A last block leaves the whole sum. -/
theorem out_at (r : Fin 1024) (d : Fin 1024) : ∀ (n : ℕ) (hn : n < grid0.N), n % 2 = 1 →
    (outsAt0 m c n hn).1 (ix2 r d) = ∑ q : Fin 1536, terms m c r d n hn q := by
  refine fold_blocks (K := 1536) (nk := 2) (w := 768) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · exact absurd l (by omega)
  · rw [outsAt0_B m c ⟨n + 1, h⟩ (by dsimp only; omega) e, out_B]
    exact step_at m c ⟨n + 1, h⟩ _ r d

/-- The call's result: the whole product. -/
theorem result (n : Fin 4096) (d : Fin 1024) : G2 m c (ix2 n d) = ∑ q : Fin 1536, term m c n d q := by
  have hp : pt2Of (ix2 n d) = 2 * (n / 1024) + 1 := by
    show 2 * (1 * (n.val / 1024 - 0) + 1 * (d.val / 1024 - 0)) + 1 = _
    omega
  have hb : pt2Of (ix2 n d) < grid0.N := by rw [N_0, hp]; omega
  have hl : loc2Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.OInDx

/-! ## The reference, and the claim -/

namespace Cert.Proof.OInDx

open Idealize.ShloMosaic Idealize.ShloMosaic.TcCoe Idealize.SL.Sem

section
open Cert.Reference11Ideal Cert.Reference11Ideal.Gen

theorem ref_at (x : S4096x1536.Idx → EReal) (w : S1024x1536.Idx → EReal) (n : Fin 4096) (d : Fin 1024) :
    (Host.dotGeneral (F := Ideal) (φ₁ := .f32) (φ₂ := .f32) dot_S4096x1536_S1024x1536_S4096x1024_1_1_0_0_n_n none (extf (F := Ideal) (φ := .bf16) .f32 x bitsLt_bf16_f32) (extf (F := Ideal) (φ := .bf16) .f32 w bitsLt_bf16_f32) : S4096x1024.Idx → EReal) (ix2 n d)
      = ∑ q : Fin 1536, x (ix2 n q) * w (ix2 d q) := by
  pointwise

end

/-- The reference's frame. -/
theorem frame_reference : Cert.quiescent_Reference11Ideal := fun m ρ _ =>
  (θ_run Cert.Reference11Ideal.defs _ _).mono (fun r h => ⟨fun c => (h c).2, sem_eq_zero_of_no_sems (by decide) r.2⟩) (Cert.Reference11Ideal.Value.run m ρ)

/-- The call computes the gradient. -/
theorem algebraic : Cert.algebraic_Kernel11Ideal_Reference11Ideal := fun m ρ m' ρ' _ hargs =>
  ⟨fun c => Cert.Kernel11Ideal.Value.G2 m c, Cert.Kernel11Ideal.Value.run m ρ,
    (θ_run Cert.Reference11Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference11Ideal.Value.run m' ρ')⟩

end Cert.Proof.OInDx

end
-- ==== Proof.MmOOutDw.lean ====
/- The gradient of the odd layer's output projection with respect to its weights: what the blocked product leaves is the whole product. -/
module

public import proofs.«01_k».proof.Defs
public import proofs.«01_k».proof.Proof.MmSum
public import proofs.«01_k».proof.Proof.Gen.Kernel12Ideal.Value
public import proofs.«01_k».proof.Proof.Gen.Reference12Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.OOutDw

open Cert.Kernel12Ideal Cert.Kernel12Ideal.Gen Cert.Kernel12Ideal.Value Cert.Proof.Mm
open Idealize.ShloMosaic Idealize.ShloMosaic.TcCoe

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1024x1024 .bf16) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 hc0 hc1 x y = k0_pay2 (k0_pay1 (F := F)) x y := by
  frame_out

/-- A middle block: its product is added. -/
theorem sout_B (hc0 : ¬cond0_0 i) (hc1 : ¬cond0_1 i) :
    sout0_B_0 c i a3 h3 a4 h4 a5 h5 a6 h6 hc0 hc1 x y acc = k0_pay2 acc x y := by
  frame_out

/-- The last block: what the accumulator then holds goes out. -/
theorem out_C (hc0 : ¬cond0_0 i) (hc1 : cond0_1 i) :
    out0_C_2 c i a3 h3 a4 h4 a5 h5 a6 h6 hc0 hc1 x y acc = k0_pay3 (k0_pay2 acc x y) := by
  frame_out

end

theorem pay1_at (r : Fin 1024) (d : Fin 1024) : (k0_pay1 (F := Ideal)) (ix2 r d) = (0 : EReal) := by
  unfold k0_pay1
  pointwise

theorem pay2_at (a : S1024x1024.Idx → EReal) (x : S1024x1024.Idx → EReal) (y : S1024x1024.Idx → EReal) (r : Fin 1024) (d : Fin 1024) :
    (k0_pay2 (F := Ideal) a x y) (ix2 r d) = a (ix2 r d) + ∑ q : Fin 1024, x (ix2 q r) * y (ix2 q d) := by
  unfold k0_pay2
  pointwise

theorem pay3_at (a : S1024x1024.Idx → EReal) (r : Fin 1024) (d : Fin 1024) : (k0_pay3 (F := Ideal) a) (ix2 r d) = a (ix2 r d) := by
  unfold k0_pay3
  pointwise

variable (m : (ℓ : Loc nD τ sig) → Buf (Elt Ideal) ℓ) (c : Dev nD)

theorem bnd (t : Fin grid0.N) : t.val / 4 < 1 ∧ t.val % 4 < 4 := by have h := lt_of_lt_of_eq t.isLt N_0; omega
theorem index0 : ∀ t : Fin grid0.N, win0_0.index t = ![t.val % 4, t.val / 4] := by decide +kernel
theorem index1 : ∀ t : Fin grid0.N, win0_1.index t = ![t.val % 4, 0] := by decide +kernel

theorem blk0_at (t : Fin grid0.N) (q : Fin 1024) (r : Fin 1024) :
    iblk m c 0 t (ix2 q r) = m ((c : Thread nD τ).loc main_arg0) (ix2 ⟨t.val % 4 * 1024 + q, by have := bnd t; omega⟩ ⟨t.val / 4 * 1024 + r, by have := bnd t; omega⟩) := by
  unfold iblk
  rw [← V_main_arg0 m c]
  blk_ext [index0 t]

theorem blk1_at (t : Fin grid0.N) (q : Fin 1024) (d : Fin 1024) :
    iblk m c 1 t (ix2 q d) = m ((c : Thread nD τ).loc main_arg1)
      (ix2 ⟨t.val % 4 * 1024 + q, by have := bnd t; omega⟩ ⟨d, by omega⟩) := by
  unfold iblk
  rw [← V_main_arg1 m c]
  blk_ext [index1 t]

/-- The two arrays that the call multiplies. -/
abbrev lhs : S4096x1024.Idx → EReal := m ((c : Thread nD τ).loc main_arg0)
abbrev rhs : S4096x1024.Idx → EReal := m ((c : Thread nD τ).loc main_arg1)

/-- The products whose sum is the result's element (n, d). -/
def term (n : Fin 1024) (d : Fin 1024) (q : Fin 4096) : EReal := lhs m c (ix2 q n) * rhs m c (ix2 q d)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 1024, term m c ⟨t.val / 4 * 1024 + r, by have := bnd t; omega⟩ ⟨d, by omega⟩ ⟨t.val % 4 * 1024 + q, by have := bnd t; omega⟩ :=
  (pay2_at ..).trans (congrArg _ (Finset.sum_congr (M := EReal) rfl fun q _ => congrArg₂ (fun u v : EReal => u * v) (blk0_at m c t q r) (blk1_at m c t q d)))

/-- The terms that a place of a point's accumulator sums. -/
def terms (r : Fin 1024) (d : Fin 1024) (n : ℕ) (hn : n < grid0.N) : Fin 4096 → EReal :=
  term m c ⟨n / 4 * 1024 + r, by have := (bnd ⟨n, hn⟩).1; dsimp only at this; omega⟩ d

/-- A last block leaves the whole sum. -/
theorem out_at (r : Fin 1024) (d : Fin 1024) : ∀ (n : ℕ) (hn : n < grid0.N), n % 4 = 3 →
    (outsAt0 m c n hn).1 (ix2 r d) = ∑ q : Fin 4096, terms m c r d n hn q := by
  refine fold_blocks (K := 4096) (nk := 4) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · rw [outsAt0_B m c ⟨n + 1, h⟩ e l, sout_B]
    exact step_at m c ⟨n + 1, h⟩ _ r d
  · rw [outsAt0_C m c ⟨n + 1, h⟩ (by dsimp only; omega) e, out_C]
    exact (pay3_at _ r d).trans (step_at m c ⟨n + 1, h⟩ _ r d)

/-- The call's result: the whole product. -/
theorem result (n : Fin 1024) (d : Fin 1024) : G2 m c (ix2 n d) = ∑ q : Fin 4096, term m c n d q := by
  have hp : pt2Of (ix2 n d) = 4 * (n / 1024) + 3 := by
    show 4 * (1 * (n.val / 1024 - 0) + 1 * (d.val / 1024 - 0)) + 3 = _
    omega
  have hb : pt2Of (ix2 n d) < grid0.N := by rw [N_0, hp]; omega
  have hl : loc2Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  unfold G2
  rw [dif_pos hb, ← outsAt0_sweep m c _ hb, hl, out_at m c _ _ _ hb (by omega), e]

end Cert.Proof.OOutDw

/-! ## The reference, and the claim -/

namespace Cert.Proof.OOutDw

open Idealize.ShloMosaic Idealize.ShloMosaic.TcCoe Idealize.SL.Sem

section
open Cert.Reference12Ideal Cert.Reference12Ideal.Gen

theorem ref_at (x : S4096x1024.Idx → EReal) (y : S4096x1024.Idx → EReal) (n : Fin 1024) (d : Fin 1024) :
    (truncf (F := Ideal) (φ := .f32) .bf16 (transpose S1024x1024 [1, 0] (Host.dotGeneral (F := Ideal) (φ₁ := .f32) (φ₂ := .f32) dot_S4096x1024_S4096x1024_S1024x1024_0_0_1_1_n_n none (extf (F := Ideal) (φ := .bf16) .f32 y bitsLt_bf16_f32) (extf (F := Ideal) (φ := .bf16) .f32 x bitsLt_bf16_f32)) transposes_S1024x1024_S1024x1024_1_0) bitsLt_bf16_f32 : S1024x1024.Idx → EReal) (ix2 n d)
      = ∑ q : Fin 4096, x (ix2 q n) * y (ix2 q d) := by
  pointwise
  exact Finset.sum_congr rfl fun q _ => mul_comm (y (ix2 q d)) (x (ix2 q n))

end

/-- The reference's frame. -/
theorem frame_reference : Cert.quiescent_Reference12Ideal := fun m ρ _ =>
  (θ_run Cert.Reference12Ideal.defs _ _).mono (fun r h => ⟨fun c => (h c).2, sem_eq_zero_of_no_sems (by decide) r.2⟩) (Cert.Reference12Ideal.Value.run m ρ)

/-- The call computes the gradient. -/
theorem algebraic : Cert.algebraic_Kernel12Ideal_Reference12Ideal := fun m ρ m' ρ' _ hargs =>
  ⟨fun c => Cert.Kernel12Ideal.Value.G2 m c, Cert.Kernel12Ideal.Value.run m ρ,
    (θ_run Cert.Reference12Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact (ref_at _ _ n d).trans (result m c n d).symm), (h c).2⟩)
      (Cert.Reference12Ideal.Value.run m' ρ')⟩

end Cert.Proof.OOutDw

end
-- ==== Proof.MmOOutDx.lean ====
/- The gradient of the odd layer's output projection with respect to its input: one block of the inner axis, so that every grid point computes a block of the whole product. -/
module

public import proofs.«01_k».proof.Defs
public import proofs.«01_k».proof.Proof.Gen.Kernel13Ideal.Value
public import proofs.«01_k».proof.Proof.Gen.Reference13Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.OOutDx

open Cert.Kernel13Ideal Cert.Kernel13Ideal.Gen Cert.Kernel13Ideal.Value
open Idealize.ShloMosaic Idealize.ShloMosaic.TcCoe

/-- A grid point clears its accumulator, adds the product, and writes it out. -/
theorem out_A {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (x : Vec F S1024x1024 .bf16) (y : Vec F S1024x1024 .bf16) (hc0 : cond0_0 i) (hc1 : cond0_1 i) :
    out0_A_2 c i a3 h3 a4 h4 a5 h5 a6 h6 hc0 hc1 x y = k0_pay2 (k0_pay1 (F := F)) x y := by
  frame_out

theorem pay1_at (r : Fin 1024) (d : Fin 1024) : (k0_pay1 (F := Ideal)) (ix2 r d) = (0 : EReal) := by
  unfold k0_pay1
  pointwise

theorem pay2_at (a : S1024x1024.Idx → EReal) (x : S1024x1024.Idx → EReal) (y : S1024x1024.Idx → EReal) (r : Fin 1024) (d : Fin 1024) :
    (k0_pay2 (F := Ideal) a x y) (ix2 r d) = a (ix2 r d) + ∑ q : Fin 1024, x (ix2 r q) * y (ix2 d q) := by
  unfold k0_pay2
  pointwise

variable (m : (ℓ : Loc nD τ sig) → Buf (Elt Ideal) ℓ) (c : Dev nD)

theorem bnd (t : Fin grid0.N) : t.val < 4 := by have h := lt_of_lt_of_eq t.isLt N_0; omega
theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem blk0_at (t : Fin grid0.N) (r : Fin 1024) (q : Fin 1024) :
    iblk m c 0 t (ix2 r q) = m ((c : Thread nD τ).loc main_arg0) (ix2 ⟨t.val * 1024 + r, by have := bnd t; omega⟩ q) := by
  unfold iblk
  rw [← V_main_arg0 m c]
  blk_ext [index0 t]

theorem blk1_at (t : Fin grid0.N) (d : Fin 1024) (q : Fin 1024) :
    iblk m c 1 t (ix2 d q) = m ((c : Thread nD τ).loc main_arg1) (ix2 d q) := by
  unfold iblk
  rw [← V_main_arg1 m c]
  blk_ext [index1 t]

/-- The two arrays that the call multiplies. -/
abbrev lhs : S4096x1024.Idx → EReal := m ((c : Thread nD τ).loc main_arg0)
abbrev rhs : S1024x1024.Idx → EReal := m ((c : Thread nD τ).loc main_arg1)

/-- The product. -/
def prod : S4096x1024.Idx → EReal := fun i => ∑ q : Fin 1024, lhs m c (ix2 (i 0) q) * rhs m c (ix2 (i 1) q)

/-- The call's result: the whole product. -/
theorem result : (dats m 0 c).arrAt 2 cfg0.N = prod m c := by
  refine (dats m 0 c).arrAt_eq_of_covers 2 (prod m c) (by decide +kernel) fun t _ y => ?_
  obtain ⟨r, d, rfl⟩ : ∃ (r : Fin 1024) (d : Fin 1024), y = ix2 r d := ⟨y 0, y 1, by idx_vars y⟩
  blk_simp
  rw [after0_2]
  unfold outsAt0
  rw [out_A]
  have e : (win0_2.blk t).view.emb (ix2 r d) = ix2 ⟨t.val * 1024 + r, by have := bnd t; omega⟩ d := by
    blk_ext [index2 t]
  refine (pay2_at ..).trans ?_
  rw [pay1_at, zero_add, e]
  exact Finset.sum_congr (M := EReal) rfl fun q _ => congrArg₂ (fun u v : EReal => u * v) (blk0_at m c t r q) (blk1_at m c t d q)

end Cert.Proof.OOutDx

/-! ## The reference, and the claim -/

namespace Cert.Proof.OOutDx

open Idealize.ShloMosaic Idealize.ShloMosaic.TcCoe Idealize.SL.Sem

section
open Cert.Reference13Ideal Cert.Reference13Ideal.Gen

theorem ref_at (x : S4096x1024.Idx → EReal) (w : S1024x1024.Idx → EReal) (n : Fin 4096) (d : Fin 1024) :
    (Host.dotGeneral (F := Ideal) (φ₁ := .f32) (φ₂ := .f32) dot_S4096x1024_S1024x1024_S4096x1024_1_1_0_0_n_n none (extf (F := Ideal) (φ := .bf16) .f32 x bitsLt_bf16_f32) (extf (F := Ideal) (φ := .bf16) .f32 w bitsLt_bf16_f32) : S4096x1024.Idx → EReal) (ix2 n d)
      = ∑ q : Fin 1024, x (ix2 n q) * w (ix2 d q) := by
  pointwise

end

/-- The reference's frame. -/
theorem frame_reference : Cert.quiescent_Reference13Ideal := fun m ρ _ =>
  (θ_run Cert.Reference13Ideal.defs _ _).mono (fun r h => ⟨fun c => (h c).2, sem_eq_zero_of_no_sems (by decide) r.2⟩) (Cert.Reference13Ideal.Value.run m ρ)

/-- The call computes the gradient. -/
theorem algebraic : Cert.algebraic_Kernel13Ideal_Reference13Ideal := fun m ρ m' ρ' _ hargs =>
  ⟨fun c => prod m c,
    (θ_run Cert.Kernel13Ideal.defs _ _).mono (fun _ h c => ⟨(h c).1.trans (result m c), (h c).2⟩) (Cert.Kernel13Ideal.Value.run_blocks m ρ),
    (θ_run Cert.Reference13Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact ref_at _ _ n d), (h c).2⟩)
      (Cert.Reference13Ideal.Value.run m' ρ')⟩

end Cert.Proof.OOutDx

end
-- ==== Proof.MmEIn.lean ====
/- The even layer's input projection: one block of the inner axis, so that every grid point computes a block of the whole product. -/
module

public import proofs.«01_k».proof.Defs
public import proofs.«01_k».proof.Proof.Gen.Kernel14Ideal.Value
public import proofs.«01_k».proof.Proof.Gen.Reference14Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.EIn

open Cert.Kernel14Ideal Cert.Kernel14Ideal.Gen Cert.Kernel14Ideal.Value
open Idealize.ShloMosaic Idealize.ShloMosaic.TcCoe

/-- A grid point clears its accumulator, adds the product, and writes it out. -/
theorem out_A {F : FTy → Type} [FloatOps F] (c : Dev nD) (i : grid0.Coords)
    (a3 : Memref sig .tc .vmem S1024x1024 .bf16) (h3 : a3.IsWhole) (a4 : Memref sig .tc .vmem S1024x1152 .bf16) (h4 : a4.IsWhole)
    (a5 : Memref sig .tc .vmem S1024x1152 .f32) (h5 : a5.IsWhole) (a6 : Memref sig .tc .vmem S1024x1152 .f32) (h6 : a6.IsWhole)
    (x : Vec F S1024x1024 .bf16) (y : Vec F S1024x1152 .bf16) (hc0 : cond0_0 i) (hc1 : cond0_1 i) :
    out0_A_2 c i a3 h3 a4 h4 a5 h5 a6 h6 hc0 hc1 x y = k0_pay2 (k0_pay1 (F := F)) x y := by
  frame_out

theorem pay1_at (r : Fin 1024) (d : Fin 1152) : (k0_pay1 (F := Ideal)) (ix2 r d) = (0 : EReal) := by
  unfold k0_pay1
  pointwise

theorem pay2_at (a : S1024x1152.Idx → EReal) (x : S1024x1024.Idx → EReal) (y : S1024x1152.Idx → EReal) (r : Fin 1024) (d : Fin 1152) :
    (k0_pay2 (F := Ideal) a x y) (ix2 r d) = a (ix2 r d) + ∑ q : Fin 1024, x (ix2 r q) * y (ix2 q d) := by
  unfold k0_pay2
  pointwise

variable (m : (ℓ : Loc nD τ sig) → Buf (Elt Ideal) ℓ) (c : Dev nD)

theorem bnd (t : Fin grid0.N) : t.val / 5 < 4 ∧ t.val % 5 < 5 := by have h := lt_of_lt_of_eq t.isLt N_0; omega
theorem index0 : ∀ t : Fin grid0.N, win0_0.index t = ![t.val / 5, 0] := by decide +kernel
theorem index1 : ∀ t : Fin grid0.N, win0_1.index t = ![0, t.val % 5] := by decide +kernel
theorem index2 : ∀ t : Fin grid0.N, win0_2.index t = ![t.val / 5, t.val % 5] := by decide +kernel

theorem blk0_at (t : Fin grid0.N) (r : Fin 1024) (q : Fin 1024) :
    iblk m c 0 t (ix2 r q) = m ((c : Thread nD τ).loc main_arg0) (ix2 ⟨t.val / 5 * 1024 + r, by have := bnd t; omega⟩ q) := by
  unfold iblk
  rw [← V_main_arg0 m c]
  blk_ext [index0 t]

theorem blk1_at (t : Fin grid0.N) (q : Fin 1024) (d : Fin 1152) :
    iblk m c 1 t (ix2 q d) = m ((c : Thread nD τ).loc main_arg1) (ix2 q ⟨t.val % 5 * 1152 + d, by have := bnd t; omega⟩) := by
  unfold iblk
  rw [← V_main_arg1 m c]
  blk_ext [index1 t]

/-- The two arrays that the call multiplies. -/
abbrev lhs : S4096x1024.Idx → EReal := m ((c : Thread nD τ).loc main_arg0)
abbrev rhs : S1024x5760.Idx → EReal := m ((c : Thread nD τ).loc main_arg1)

/-- The product. -/
def prod : S4096x5760.Idx → EReal := fun i => ∑ q : Fin 1024, lhs m c (ix2 (i 0) q) * rhs m c (ix2 q (i 1))

/-- The call's result: the whole product. -/
theorem result : (dats m 0 c).arrAt 2 cfg0.N = prod m c := by
  refine (dats m 0 c).arrAt_eq_of_covers 2 (prod m c) (by decide +kernel) fun t _ y => ?_
  obtain ⟨r, d, rfl⟩ : ∃ (r : Fin 1024) (d : Fin 1152), y = ix2 r d := ⟨y 0, y 1, by idx_vars y⟩
  blk_simp
  rw [after0_2]
  unfold outsAt0
  rw [out_A]
  have e : (win0_2.blk t).view.emb (ix2 r d) = ix2 ⟨t.val / 5 * 1024 + r, by have := bnd t; omega⟩ ⟨t.val % 5 * 1152 + d, by have := bnd t; omega⟩ := by
    blk_ext [index2 t]
  refine (pay2_at ..).trans ?_
  rw [pay1_at, zero_add, e]
  exact Finset.sum_congr (M := EReal) rfl fun q _ => congrArg₂ (fun u v : EReal => u * v) (blk0_at m c t r q) (blk1_at m c t q d)

end Cert.Proof.EIn

/-! ## The reference, and the claim -/

namespace Cert.Proof.EIn

open Idealize.ShloMosaic Idealize.ShloMosaic.TcCoe Idealize.SL.Sem

section
open Cert.Reference14Ideal Cert.Reference14Ideal.Gen

theorem ref_at (x : S4096x1024.Idx → EReal) (w : S1024x5760.Idx → EReal) (n : Fin 4096) (d : Fin 5760) :
    (Host.dotGeneral (F := Ideal) (φ₁ := .f32) (φ₂ := .f32) dot_S4096x1024_S1024x5760_S4096x5760_1_0_0_1_n_n none (extf (F := Ideal) (φ := .bf16) .f32 x bitsLt_bf16_f32) (extf (F := Ideal) (φ := .bf16) .f32 w bitsLt_bf16_f32) : S4096x5760.Idx → EReal) (ix2 n d)
      = ∑ q : Fin 1024, x (ix2 n q) * w (ix2 q d) := by
  pointwise

end

/-- The reference's frame. -/
theorem frame_reference : Cert.quiescent_Reference14Ideal := fun m ρ _ =>
  (θ_run Cert.Reference14Ideal.defs _ _).mono (fun r h => ⟨fun c => (h c).2, sem_eq_zero_of_no_sems (by decide) r.2⟩) (Cert.Reference14Ideal.Value.run m ρ)

/-- The call computes the product. -/
theorem algebraic : Cert.algebraic_Kernel14Ideal_Reference14Ideal := fun m ρ m' ρ' _ hargs =>
  ⟨fun c => prod m c,
    (θ_run Cert.Kernel14Ideal.defs _ _).mono (fun _ h c => ⟨(h c).1.trans (result m c), (h c).2⟩) (Cert.Kernel14Ideal.Value.run_blocks m ρ),
    (θ_run Cert.Reference14Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact ref_at _ _ n d), (h c).2⟩)
      (Cert.Reference14Ideal.Value.run m' ρ')⟩

end Cert.Proof.EIn

end
-- ==== Proof.MmFfnUp.lean ====
/- A feed-forward layer's first product: one block of the inner axis, so that every grid point computes a block of the whole product. -/
module

public import proofs.«01_k».proof.Defs
public import proofs.«01_k».proof.Proof.Gen.Kernel15Ideal.Value
public import proofs.«01_k».proof.Proof.Gen.Reference15Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.FfnUp

open Cert.Kernel15Ideal Cert.Kernel15Ideal.Gen Cert.Kernel15Ideal.Value
open Idealize.ShloMosaic Idealize.ShloMosaic.TcCoe

/-- A grid point clears its accumulator, adds the product, and writes it out. -/
theorem out_A {F : FTy → Type} [FloatOps F] (c : Dev nD) (i : grid0.Coords)
    (a3 : Memref sig .tc .vmem S1024x1024 .bf16) (h3 : a3.IsWhole) (a4 : Memref sig .tc .vmem S1024x1408 .bf16) (h4 : a4.IsWhole)
    (a5 : Memref sig .tc .vmem S1024x1408 .f32) (h5 : a5.IsWhole) (a6 : Memref sig .tc .vmem S1024x1408 .f32) (h6 : a6.IsWhole)
    (x : Vec F S1024x1024 .bf16) (y : Vec F S1024x1408 .bf16) (hc0 : cond0_0 i) (hc1 : cond0_1 i) :
    out0_A_2 c i a3 h3 a4 h4 a5 h5 a6 h6 hc0 hc1 x y = k0_pay2 (k0_pay1 (F := F)) x y := by
  frame_out

theorem pay1_at (r : Fin 1024) (d : Fin 1408) : (k0_pay1 (F := Ideal)) (ix2 r d) = (0 : EReal) := by
  unfold k0_pay1
  pointwise

theorem pay2_at (a : S1024x1408.Idx → EReal) (x : S1024x1024.Idx → EReal) (y : S1024x1408.Idx → EReal) (r : Fin 1024) (d : Fin 1408) :
    (k0_pay2 (F := Ideal) a x y) (ix2 r d) = a (ix2 r d) + ∑ q : Fin 1024, x (ix2 r q) * y (ix2 q d) := by
  unfold k0_pay2
  pointwise

variable (m : (ℓ : Loc nD τ sig) → Buf (Elt Ideal) ℓ) (c : Dev nD)

theorem bnd (t : Fin grid0.N) : t.val / 4 < 4 ∧ t.val % 4 < 4 := by have h := lt_of_lt_of_eq t.isLt N_0; omega
theorem index0 : ∀ t : Fin grid0.N, win0_0.index t = ![t.val / 4, 0] := by decide +kernel
theorem index1 : ∀ t : Fin grid0.N, win0_1.index t = ![0, t.val % 4] := by decide +kernel
theorem index2 : ∀ t : Fin grid0.N, win0_2.index t = ![t.val / 4, t.val % 4] := by decide +kernel

theorem blk0_at (t : Fin grid0.N) (r : Fin 1024) (q : Fin 1024) :
    iblk m c 0 t (ix2 r q) = m ((c : Thread nD τ).loc main_arg0) (ix2 ⟨t.val / 4 * 1024 + r, by have := bnd t; omega⟩ q) := by
  unfold iblk
  rw [← V_main_arg0 m c]
  blk_ext [index0 t]

theorem blk1_at (t : Fin grid0.N) (q : Fin 1024) (d : Fin 1408) :
    iblk m c 1 t (ix2 q d) = m ((c : Thread nD τ).loc main_arg1) (ix2 q ⟨t.val % 4 * 1408 + d, by have := bnd t; omega⟩) := by
  unfold iblk
  rw [← V_main_arg1 m c]
  blk_ext [index1 t]

/-- The two arrays that the call multiplies. -/
abbrev lhs : S4096x1024.Idx → EReal := m ((c : Thread nD τ).loc main_arg0)
abbrev rhs : S1024x5632.Idx → EReal := m ((c : Thread nD τ).loc main_arg1)

/-- The product. -/
def prod : S4096x5632.Idx → EReal := fun i => ∑ q : Fin 1024, lhs m c (ix2 (i 0) q) * rhs m c (ix2 q (i 1))

/-- The call's result: the whole product. -/
theorem result : (dats m 0 c).arrAt 2 cfg0.N = prod m c := by
  refine (dats m 0 c).arrAt_eq_of_covers 2 (prod m c) (by decide +kernel) fun t _ y => ?_
  obtain ⟨r, d, rfl⟩ : ∃ (r : Fin 1024) (d : Fin 1408), y = ix2 r d := ⟨y 0, y 1, by idx_vars y⟩
  blk_simp
  rw [after0_2]
  unfold outsAt0
  rw [out_A]
  have e : (win0_2.blk t).view.emb (ix2 r d) = ix2 ⟨t.val / 4 * 1024 + r, by have := bnd t; omega⟩ ⟨t.val % 4 * 1408 + d, by have := bnd t; omega⟩ := by
    blk_ext [index2 t]
  refine (pay2_at ..).trans ?_
  rw [pay1_at, zero_add, e]
  exact Finset.sum_congr (M := EReal) rfl fun q _ => congrArg₂ (fun u v : EReal => u * v) (blk0_at m c t r q) (blk1_at m c t q d)

end Cert.Proof.FfnUp

/-! ## The reference, and the claim -/

namespace Cert.Proof.FfnUp

open Idealize.ShloMosaic Idealize.ShloMosaic.TcCoe Idealize.SL.Sem

section
open Cert.Reference15Ideal Cert.Reference15Ideal.Gen

theorem ref_at (x : S4096x1024.Idx → EReal) (w : S1024x5632.Idx → EReal) (n : Fin 4096) (d : Fin 5632) :
    (Host.dotGeneral (F := Ideal) (φ₁ := .f32) (φ₂ := .f32) dot_S4096x1024_S1024x5632_S4096x5632_1_0_0_1_n_n none (extf (F := Ideal) (φ := .bf16) .f32 x bitsLt_bf16_f32) (extf (F := Ideal) (φ := .bf16) .f32 w bitsLt_bf16_f32) : S4096x5632.Idx → EReal) (ix2 n d)
      = ∑ q : Fin 1024, x (ix2 n q) * w (ix2 q d) := by
  pointwise

end

/-- The reference's frame. -/
theorem frame_reference : Cert.quiescent_Reference15Ideal := fun m ρ _ =>
  (θ_run Cert.Reference15Ideal.defs _ _).mono (fun r h => ⟨fun c => (h c).2, sem_eq_zero_of_no_sems (by decide) r.2⟩) (Cert.Reference15Ideal.Value.run m ρ)

/-- The call computes the product. -/
theorem algebraic : Cert.algebraic_Kernel15Ideal_Reference15Ideal := fun m ρ m' ρ' _ hargs =>
  ⟨fun c => prod m c,
    (θ_run Cert.Kernel15Ideal.defs _ _).mono (fun _ h c => ⟨(h c).1.trans (result m c), (h c).2⟩) (Cert.Kernel15Ideal.Value.run_blocks m ρ),
    (θ_run Cert.Reference15Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact ref_at _ _ n d), (h c).2⟩)
      (Cert.Reference15Ideal.Value.run m' ρ')⟩

end Cert.Proof.FfnUp

end
-- ==== Proof.MmOIn.lean ====
/- The odd layer's input projection: one block of the inner axis, so that every grid point computes a block of the whole product. -/
module

public import proofs.«01_k».proof.Defs
public import proofs.«01_k».proof.Proof.Gen.Kernel16Ideal.Value
public import proofs.«01_k».proof.Proof.Gen.Reference16Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.OIn

open Cert.Kernel16Ideal Cert.Kernel16Ideal.Gen Cert.Kernel16Ideal.Value
open Idealize.ShloMosaic Idealize.ShloMosaic.TcCoe

/-- A grid point clears its accumulator, adds the product, and writes it out. -/
theorem out_A {F : FTy → Type} [FloatOps F] (c : Dev nD) (i : grid0.Coords)
    (a3 : Memref sig .tc .vmem S1024x1024 .bf16) (h3 : a3.IsWhole) (a4 : Memref sig .tc .vmem S1024x768 .bf16) (h4 : a4.IsWhole)
    (a5 : Memref sig .tc .vmem S1024x768 .f32) (h5 : a5.IsWhole) (a6 : Memref sig .tc .vmem S1024x768 .f32) (h6 : a6.IsWhole)
    (x : Vec F S1024x1024 .bf16) (y : Vec F S1024x768 .bf16) (hc0 : cond0_0 i) (hc1 : cond0_1 i) :
    out0_A_2 c i a3 h3 a4 h4 a5 h5 a6 h6 hc0 hc1 x y = k0_pay2 (k0_pay1 (F := F)) x y := by
  frame_out

theorem pay1_at (r : Fin 1024) (d : Fin 768) : (k0_pay1 (F := Ideal)) (ix2 r d) = (0 : EReal) := by
  unfold k0_pay1
  pointwise

theorem pay2_at (a : S1024x768.Idx → EReal) (x : S1024x1024.Idx → EReal) (y : S1024x768.Idx → EReal) (r : Fin 1024) (d : Fin 768) :
    (k0_pay2 (F := Ideal) a x y) (ix2 r d) = a (ix2 r d) + ∑ q : Fin 1024, x (ix2 r q) * y (ix2 q d) := by
  unfold k0_pay2
  pointwise

variable (m : (ℓ : Loc nD τ sig) → Buf (Elt Ideal) ℓ) (c : Dev nD)

theorem bnd (t : Fin grid0.N) : t.val / 2 < 4 ∧ t.val % 2 < 2 := by have h := lt_of_lt_of_eq t.isLt N_0; omega
theorem index0 : ∀ t : Fin grid0.N, win0_0.index t = ![t.val / 2, 0] := by decide +kernel
theorem index1 : ∀ t : Fin grid0.N, win0_1.index t = ![0, t.val % 2] := by decide +kernel
theorem index2 : ∀ t : Fin grid0.N, win0_2.index t = ![t.val / 2, t.val % 2] := by decide +kernel

theorem blk0_at (t : Fin grid0.N) (r : Fin 1024) (q : Fin 1024) :
    iblk m c 0 t (ix2 r q) = m ((c : Thread nD τ).loc main_arg0) (ix2 ⟨t.val / 2 * 1024 + r, by have := bnd t; omega⟩ q) := by
  unfold iblk
  rw [← V_main_arg0 m c]
  blk_ext [index0 t]

theorem blk1_at (t : Fin grid0.N) (q : Fin 1024) (d : Fin 768) :
    iblk m c 1 t (ix2 q d) = m ((c : Thread nD τ).loc main_arg1) (ix2 q ⟨t.val % 2 * 768 + d, by have := bnd t; omega⟩) := by
  unfold iblk
  rw [← V_main_arg1 m c]
  blk_ext [index1 t]

/-- The two arrays that the call multiplies. -/
abbrev lhs : S4096x1024.Idx → EReal := m ((c : Thread nD τ).loc main_arg0)
abbrev rhs : S1024x1536.Idx → EReal := m ((c : Thread nD τ).loc main_arg1)

/-- The product. -/
def prod : S4096x1536.Idx → EReal := fun i => ∑ q : Fin 1024, lhs m c (ix2 (i 0) q) * rhs m c (ix2 q (i 1))

/-- The call's result: the whole product. -/
theorem result : (dats m 0 c).arrAt 2 cfg0.N = prod m c := by
  refine (dats m 0 c).arrAt_eq_of_covers 2 (prod m c) (by decide +kernel) fun t _ y => ?_
  obtain ⟨r, d, rfl⟩ : ∃ (r : Fin 1024) (d : Fin 768), y = ix2 r d := ⟨y 0, y 1, by idx_vars y⟩
  blk_simp
  rw [after0_2]
  unfold outsAt0
  rw [out_A]
  have e : (win0_2.blk t).view.emb (ix2 r d) = ix2 ⟨t.val / 2 * 1024 + r, by have := bnd t; omega⟩ ⟨t.val % 2 * 768 + d, by have := bnd t; omega⟩ := by
    blk_ext [index2 t]
  refine (pay2_at ..).trans ?_
  rw [pay1_at, zero_add, e]
  exact Finset.sum_congr (M := EReal) rfl fun q _ => congrArg₂ (fun u v : EReal => u * v) (blk0_at m c t r q) (blk1_at m c t q d)

end Cert.Proof.OIn

/-! ## The reference, and the claim -/

namespace Cert.Proof.OIn

open Idealize.ShloMosaic Idealize.ShloMosaic.TcCoe Idealize.SL.Sem

section
open Cert.Reference16Ideal Cert.Reference16Ideal.Gen

theorem ref_at (x : S4096x1024.Idx → EReal) (w : S1024x1536.Idx → EReal) (n : Fin 4096) (d : Fin 1536) :
    (Host.dotGeneral (F := Ideal) (φ₁ := .f32) (φ₂ := .f32) dot_S4096x1024_S1024x1536_S4096x1536_1_0_0_1_n_n none (extf (F := Ideal) (φ := .bf16) .f32 x bitsLt_bf16_f32) (extf (F := Ideal) (φ := .bf16) .f32 w bitsLt_bf16_f32) : S4096x1536.Idx → EReal) (ix2 n d)
      = ∑ q : Fin 1024, x (ix2 n q) * w (ix2 q d) := by
  pointwise

end

/-- The reference's frame. -/
theorem frame_reference : Cert.quiescent_Reference16Ideal := fun m ρ _ =>
  (θ_run Cert.Reference16Ideal.defs _ _).mono (fun r h => ⟨fun c => (h c).2, sem_eq_zero_of_no_sems (by decide) r.2⟩) (Cert.Reference16Ideal.Value.run m ρ)

/-- The call computes the product. -/
theorem algebraic : Cert.algebraic_Kernel16Ideal_Reference16Ideal := fun m ρ m' ρ' _ hargs =>
  ⟨fun c => prod m c,
    (θ_run Cert.Kernel16Ideal.defs _ _).mono (fun _ h c => ⟨(h c).1.trans (result m c), (h c).2⟩) (Cert.Kernel16Ideal.Value.run_blocks m ρ),
    (θ_run Cert.Reference16Ideal.defs _ _).mono
      (fun _ h c => ⟨(h c).1.trans (by
        rw [(hargs c).1, (hargs c).2]
        funext i
        obtain ⟨n, d, rfl⟩ : ∃ n d, i = ix2 n d := ⟨i 0, i 1, by idx_vars i⟩
        exact ref_at _ _ n d), (h c).2⟩)
      (Cert.Reference16Ideal.Value.run m' ρ')⟩

end Cert.Proof.OIn

end
-- ==== Proof.MmEOut.lean ====
/- The even layer's output projection, added to the residual: what the blocked product leaves is the whole product and the residual. -/
module

public import proofs.«01_k».proof.Defs
public import proofs.«01_k».proof.Proof.MmSum
public import proofs.«01_k».proof.Proof.Gen.Kernel17Ideal.Value
public import proofs.«01_k».proof.Proof.Gen.Reference17Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.EOut

open Cert.Kernel17Ideal Cert.Kernel17Ideal.Gen Cert.Kernel17Ideal.Value Cert.Proof.Mm
open Idealize.ShloMosaic Idealize.ShloMosaic.TcCoe

section
variable {F : FTy → Type} [FloatOps F]
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x1024 .bf16) (y : Vec F S1024x1024 .bf16) (res : Vec F S1024x1024 .f32) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 a7 h7 hc0 hc1 x y res = k0_pay2 (k0_pay1 (F := F)) x y := by
  frame_out

/-- The last block adds its product too … -/
theorem sout_B (hc0 : ¬cond0_0 i) (hc1 : cond0_1 i) :
    sout0_B_0 c i a3 h3 a4 h4 a5 h5 a6 h6 a7 h7 hc0 hc1 x y res acc = k0_pay2 acc x y := by
  frame_out

/-- … and what the accumulator then holds goes out with the residual. -/
theorem out_B (hc0 : ¬cond0_0 i) (hc1 : cond0_1 i) :
    out0_B_3 c i a3 h3 a4 h4 a5 h5 a6 h6 a7 h7 hc0 hc1 x y res acc = k0_pay3 (k0_pay2 acc x y) res := by
  frame_out

end

theorem pay1_at (r : Fin 1024) (d : Fin 1024) : (k0_pay1 (F := Ideal)) (ix2 r d) = (0 : EReal) := by
  unfold k0_pay1
  pointwise

theorem pay2_at (a : S1024x1024.Idx → EReal) (x : S1024x1024.Idx → EReal) (y : S1024x1024.Idx → EReal) (r : Fin 1024) (d : Fin 1024) :
    (k0_pay2 (F := Ideal) a x y) (ix2 r d) = a (ix2 r d) + ∑ q : Fin 1024, x (ix2 r q) * y (ix2 q d) := by
  unfold k0_pay2
  pointwise

theorem pay3_at (a res : S1024x1024.Idx → EReal) (r : Fin 1024) (d : Fin 1024) :
    (k0_pay3 (F := Ideal) a res) (ix2 r d) = a (ix2 r d) + res (ix2 r d) := by
  unfold k0_pay3
  pointwise

variable (m : (ℓ : Loc nD τ sig) → Buf (Elt Ideal) ℓ) (c : Dev nD)

theorem bnd (t : Fin grid0.N) : t.val / 2 < 4 ∧ t.val % 2 < 2 := by have h := lt_of_lt_of_eq t.isLt N_0; omega
theorem index0 : ∀ t : Fin grid0.N, win0_0.index t = ![t.val / 2, t.val % 2] := by decide +kernel
theorem index1 : ∀ t : Fin grid0.N, win0_1.index t = ![t.val % 2, 0] := by decide +kernel
theorem index2 : ∀ t : Fin grid0.N, win0_2.index t = ![t.val / 2, 0] := by decide +kernel

theorem blk0_at (t : Fin grid0.N) (r : Fin 1024) (q : Fin 1024) :
    iblk m c 0 t (ix2 r q) = m ((c : Thread nD τ).loc main_arg0)
      (ix2 ⟨t.val / 2 * 1024 + r, by have := bnd t; omega⟩ ⟨t.val % 2 * 1024 + q, by have := bnd t; omega⟩) := by
  unfold iblk
  rw [← V_main_arg0 m c]
  blk_ext [index0 t]

theorem blk1_at (t : Fin grid0.N) (q : Fin 1024) (d : Fin 1024) :
    iblk m c 1 t (ix2 q d) = m ((c : Thread nD τ).loc main_arg1) (ix2 ⟨t.val % 2 * 1024 + q, by have := bnd t; omega⟩ d) := by
  unfold iblk
  rw [← V_main_arg1 m c]
  blk_ext [index1 t]

theorem blk2_at (t : Fin grid0.N) (r : Fin 1024) (d : Fin 1024) :
    iblk m c 2 t (ix2 r d) = m ((c : Thread nD τ).loc main_arg2) (ix2 ⟨t.val / 2 * 1024 + r, by have := bnd t; omega⟩ d) := by
  unfold iblk
  rw [← V_main_arg2 m c]
  blk_ext [index2 t]

/-- The two arrays that the call multiplies, and the residual. -/
abbrev lhs : S4096x2048.Idx → EReal := m ((c : Thread nD τ).loc main_arg0)
abbrev rhs : S2048x1024.Idx → EReal := m ((c : Thread nD τ).loc main_arg1)
abbrev res : S4096x1024.Idx → EReal := m ((c : Thread nD τ).loc main_arg2)

/-- The products whose sum is the product's element (n, d). -/
def term (n : Fin 4096) (d : Fin 1024) (q : Fin 2048) : EReal := lhs m c (ix2 n q) * rhs m c (ix2 q d)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 1024, term m c ⟨t.val / 2 * 1024 + r, by have := bnd t; omega⟩ d ⟨t.val % 2 * 1024 + q, by have := bnd t; omega⟩ :=
  (pay2_at ..).trans (congrArg _ (Finset.sum_congr (M := EReal) rfl fun q _ => congrArg₂ (fun u v : EReal => u * v) (blk0_at m c t r q) (blk1_at m c t q d)))

/-- The terms that a place of a point's accumulator sums. -/
def terms (r : Fin 1024) (d : Fin 1024) (n : ℕ) (hn : n < grid0.N) : Fin 2048 → EReal :=
  term m c ⟨n / 2 * 1024 + r, by have := (bnd ⟨n, hn⟩).1; dsimp only at this; omega⟩ d

/-- A last block leaves the whole sum in the accumulator … -/
theorem acc_at (r : Fin 1024) (d : Fin 1024) : ∀ (n : ℕ) (hn : n < grid0.N), n % 2 = 1 →
    (outsAt0 m c n hn).2 (ix2 r d) = ∑ q : Fin 2048, terms m c r d n hn q := by
  refine fold_blocks (K := 2048) (nk := 2) (w := 1024) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · exact absurd l (by omega)
  · rw [outsAt0_B m c ⟨n + 1, h⟩ (by dsimp only; omega) e, sout_B]
    exact step_at m c ⟨n + 1, h⟩ _ r d

/-- … and writes it out with its block of the residual. -/
theorem out_at (r : Fin 1024) (d : Fin 1024) (n : ℕ) (hn : n < grid0.N) (e : n % 2 = 1) :
    (outsAt0 m c n hn).1 (ix2 r d) = ∑ q : Fin 2048, terms m c r d n hn q + iblk m c 2 ⟨n, hn⟩ (ix2 r d) := by
  rw [← acc_at m c r d n hn e, outsAt0_B m c ⟨n, hn⟩ (by dsimp only; omega) e, out_B, sout_B]
  exact pay3_at ..

/-- The call's result: the whole product and the residual. -/
theorem result (n : Fin 4096) (d : Fin 1024) : G3 m c (ix2 n d) = ∑ q : Fin 2048, term m c n d q + res m c (ix2 n d) := by
  have hp : pt3Of (ix2 n d) = 2 * (n / 1024) + 1 := by
    show 2 * (1 * (n.val / 1024 - 0) + 1 * (d.val / 1024 - 0)) + 1 = _
    omega
  have hb : pt3Of (ix2 n d) < grid0.N := by rw [N_0, hp]; omega
  have hl : loc3Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  have eb : iblk m c 2 ⟨_, hb⟩ (ix2 ⟨n % 1024, by omega⟩ ⟨d % 1024, by omega⟩) = res m c (ix2 n d) :=
    (blk2_at m c ..).trans (congrArg₂ (fun u v => res m c (ix2 u v)) (Fin.ext (by dsimp only; omega)) (Fin.ext (by dsimp only; omega)))
  unfold G3
  rw [dif_pos hb, ← outsAt0_sweep m c _ hb, hl, out_at m c _ _ _ hb (by omega), e, eb]

end Cert.Proof.EOut

/-! ## The reference, and the claim -/

namespace Cert.Proof.EOut

open Idealize.ShloMosaic Idealize.ShloMosaic.TcCoe Idealize.SL.Sem

section
open Cert.Reference17Ideal Cert.Reference17Ideal.Gen

theorem ref_at (x : S4096x2048.Idx → EReal) (w : S2048x1024.Idx → EReal) (res : S4096x1024.Idx → EReal) (n : Fin 4096) (d : Fin 1024) :
    (addf (F := Ideal) (φ := .f32) res (Host.dotGeneral (F := Ideal) (φ₁ := .f32) (φ₂ := .f32) dot_S4096x2048_S2048x1024_S4096x1024_1_0_0_1_n_n none (extf (F := Ideal) (φ := .bf16) .f32 x bitsLt_bf16_f32) (extf (F := Ideal) (φ := .bf16) .f32 w bitsLt_bf16_f32)) : S4096x1024.Idx → EReal) (ix2 n d)
      = res (ix2 n d) + ∑ q : Fin 2048, x (ix2 n q) * w (ix2 q d) := by
  pointwise

end

/-- The reference's frame. -/
theorem frame_reference : Cert.quiescent_Reference17Ideal := fun m ρ _ =>
  (θ_run Cert.Reference17Ideal.defs _ _).mono (fun r h => ⟨fun c => (h c).2, sem_eq_zero_of_no_sems (by decide) r.2⟩) (Cert.Reference17Ideal.Value.run m ρ)

/-- The call computes the residual and the product. -/
theorem algebraic : Cert.algebraic_Kernel17Ideal_Reference17Ideal := fun m ρ m' ρ' _ hargs =>
  ⟨fun c => Cert.Kernel17Ideal.Value.G3 m c, Cert.Kernel17Ideal.Value.run m ρ,
    (θ_run Cert.Reference17Ideal.defs _ _).mono
      (fun _ h c => ⟨(h c).1.trans (by
        rw [(hargs c).1, (hargs c).2.1, (hargs c).2.2]
        funext i
        obtain ⟨n, d, rfl⟩ : ∃ n d, i = ix2 n d := ⟨i 0, i 1, by idx_vars i⟩
        exact (ref_at _ _ _ n d).trans ((add_comm _ _).trans (result m c n d).symm)), (h c).2⟩)
      (Cert.Reference17Ideal.Value.run m' ρ')⟩

end Cert.Proof.EOut

end
-- ==== Proof.MmFfnDown.lean ====
/- The feed-forward's projection down, added to the residual: what the blocked product leaves is the whole product and the residual. -/
module

public import proofs.«01_k».proof.Defs
public import proofs.«01_k».proof.Proof.MmSum
public import proofs.«01_k».proof.Proof.Gen.Kernel18Ideal.Value
public import proofs.«01_k».proof.Proof.Gen.Reference18Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.FfnDown

open Cert.Kernel18Ideal Cert.Kernel18Ideal.Gen Cert.Kernel18Ideal.Value Cert.Proof.Mm
open Idealize.ShloMosaic Idealize.ShloMosaic.TcCoe

section
variable {F : FTy → Type} [FloatOps F]
variable (c : Dev nD) (i : grid0.Coords) (a3 : Memref sig .tc .vmem S1024x1408 .bf16) (h3 : a3.IsWhole) (a4 : Memref sig .tc .vmem S1408x1024 .bf16) (h4 : a4.IsWhole)
  (a5 : Memref sig .tc .vmem S1024x1024 .f32) (h5 : a5.IsWhole) (a6 : Memref sig .tc .vmem S1024x1024 .f32) (h6 : a6.IsWhole)
  (a7 : Memref sig .tc .vmem S1024x1024 .f32) (h7 : a7.IsWhole)
  (x : Vec F S1024x1408 .bf16) (y : Vec F S1408x1024 .bf16) (res : Vec F S1024x1024 .f32) (acc : Vec F S1024x1024 .f32)

/-- The first block of the inner axis: the accumulator is cleared and takes the block's product. -/
theorem sout_A (hc0 : cond0_0 i) (hc1 : ¬cond0_1 i) :
    sout0_A_0 c i a3 h3 a4 h4 a5 h5 a6 h6 a7 h7 hc0 hc1 x y res = k0_pay2 (k0_pay1 (F := F)) x y := by
  frame_out

/-- The last block adds its product too … -/
theorem sout_B (hc0 : ¬cond0_0 i) (hc1 : cond0_1 i) :
    sout0_B_0 c i a3 h3 a4 h4 a5 h5 a6 h6 a7 h7 hc0 hc1 x y res acc = k0_pay2 acc x y := by
  frame_out

/-- … and what the accumulator then holds goes out with the residual. -/
theorem out_B (hc0 : ¬cond0_0 i) (hc1 : cond0_1 i) :
    out0_B_3 c i a3 h3 a4 h4 a5 h5 a6 h6 a7 h7 hc0 hc1 x y res acc = k0_pay3 (k0_pay2 acc x y) res := by
  frame_out

end

theorem pay1_at (r : Fin 1024) (d : Fin 1024) : (k0_pay1 (F := Ideal)) (ix2 r d) = (0 : EReal) := by
  unfold k0_pay1
  pointwise

theorem pay2_at (a : S1024x1024.Idx → EReal) (x : S1024x1408.Idx → EReal) (y : S1408x1024.Idx → EReal) (r : Fin 1024) (d : Fin 1024) :
    (k0_pay2 (F := Ideal) a x y) (ix2 r d) = a (ix2 r d) + ∑ q : Fin 1408, x (ix2 r q) * y (ix2 q d) := by
  unfold k0_pay2
  pointwise

theorem pay3_at (a res : S1024x1024.Idx → EReal) (r : Fin 1024) (d : Fin 1024) :
    (k0_pay3 (F := Ideal) a res) (ix2 r d) = a (ix2 r d) + res (ix2 r d) := by
  unfold k0_pay3
  pointwise

variable (m : (ℓ : Loc nD τ sig) → Buf (Elt Ideal) ℓ) (c : Dev nD)

theorem bnd (t : Fin grid0.N) : t.val / 2 < 4 ∧ t.val % 2 < 2 := by have h := lt_of_lt_of_eq t.isLt N_0; omega
theorem index0 : ∀ t : Fin grid0.N, win0_0.index t = ![t.val / 2, t.val % 2] := by decide +kernel
theorem index1 : ∀ t : Fin grid0.N, win0_1.index t = ![t.val % 2, 0] := by decide +kernel
theorem index2 : ∀ t : Fin grid0.N, win0_2.index t = ![t.val / 2, 0] := by decide +kernel

theorem blk0_at (t : Fin grid0.N) (r : Fin 1024) (q : Fin 1408) :
    iblk m c 0 t (ix2 r q) = m ((c : Thread nD τ).loc main_arg0)
      (ix2 ⟨t.val / 2 * 1024 + r, by have := bnd t; omega⟩ ⟨t.val % 2 * 1408 + q, by have := bnd t; omega⟩) := by
  unfold iblk
  rw [← V_main_arg0 m c]
  blk_ext [index0 t]

theorem blk1_at (t : Fin grid0.N) (q : Fin 1408) (d : Fin 1024) :
    iblk m c 1 t (ix2 q d) = m ((c : Thread nD τ).loc main_arg1) (ix2 ⟨t.val % 2 * 1408 + q, by have := bnd t; omega⟩ d) := by
  unfold iblk
  rw [← V_main_arg1 m c]
  blk_ext [index1 t]

theorem blk2_at (t : Fin grid0.N) (r : Fin 1024) (d : Fin 1024) :
    iblk m c 2 t (ix2 r d) = m ((c : Thread nD τ).loc main_arg2) (ix2 ⟨t.val / 2 * 1024 + r, by have := bnd t; omega⟩ d) := by
  unfold iblk
  rw [← V_main_arg2 m c]
  blk_ext [index2 t]

/-- The two arrays that the call multiplies, and the residual. -/
abbrev lhs : S4096x2816.Idx → EReal := m ((c : Thread nD τ).loc main_arg0)
abbrev rhs : S2816x1024.Idx → EReal := m ((c : Thread nD τ).loc main_arg1)
abbrev res : S4096x1024.Idx → EReal := m ((c : Thread nD τ).loc main_arg2)

/-- The products whose sum is the product's element (n, d). -/
def term (n : Fin 4096) (d : Fin 1024) (q : Fin 2816) : EReal := lhs m c (ix2 n q) * rhs m c (ix2 q d)

/-- A block's step, element by element: the accumulator takes the block's terms. -/
theorem step_at (t : Fin grid0.N) (a : S1024x1024.Idx → EReal) (r : Fin 1024) (d : Fin 1024) :
    (k0_pay2 (F := Ideal) a (iblk m c 0 t) (iblk m c 1 t)) (ix2 r d)
      = a (ix2 r d) + ∑ q : Fin 1408, term m c ⟨t.val / 2 * 1024 + r, by have := bnd t; omega⟩ d ⟨t.val % 2 * 1408 + q, by have := bnd t; omega⟩ :=
  (pay2_at ..).trans (congrArg _ (Finset.sum_congr (M := EReal) rfl fun q _ => congrArg₂ (fun u v : EReal => u * v) (blk0_at m c t r q) (blk1_at m c t q d)))

/-- The terms that a place of a point's accumulator sums. -/
def terms (r : Fin 1024) (d : Fin 1024) (n : ℕ) (hn : n < grid0.N) : Fin 2816 → EReal :=
  term m c ⟨n / 2 * 1024 + r, by have := (bnd ⟨n, hn⟩).1; dsimp only at this; omega⟩ d

/-- A last block leaves the whole sum in the accumulator … -/
theorem acc_at (r : Fin 1024) (d : Fin 1024) : ∀ (n : ℕ) (hn : n < grid0.N), n % 2 = 1 →
    (outsAt0 m c n hn).2 (ix2 r d) = ∑ q : Fin 2816, terms m c r d n hn q := by
  refine fold_blocks (K := 2816) (nk := 2) (w := 1408) rfl (by decide) (terms m c r d) (fun n hn => (outsAt0 m c n hn).2 (ix2 r d)) _
    (fun k q _ => by omega) (fun n h e => ?_) (fun n h e => ?_) (fun n h e l => ?_) (fun n h e => ?_)
  · exact congrArg (fun v => term m c v d) (Fin.ext (by dsimp only; omega))
  · rw [outsAt0_A m c ⟨n, h⟩ e (by dsimp only; omega), sout_A]
    exact (step_at m c ⟨n, h⟩ _ r d).trans (congrArg (· + _) (pay1_at r d))
  · exact absurd l (by omega)
  · rw [outsAt0_B m c ⟨n + 1, h⟩ (by dsimp only; omega) e, sout_B]
    exact step_at m c ⟨n + 1, h⟩ _ r d

/-- … and writes it out with its block of the residual. -/
theorem out_at (r : Fin 1024) (d : Fin 1024) (n : ℕ) (hn : n < grid0.N) (e : n % 2 = 1) :
    (outsAt0 m c n hn).1 (ix2 r d) = ∑ q : Fin 2816, terms m c r d n hn q + iblk m c 2 ⟨n, hn⟩ (ix2 r d) := by
  rw [← acc_at m c r d n hn e, outsAt0_B m c ⟨n, hn⟩ (by dsimp only; omega) e, out_B, sout_B]
  exact pay3_at ..

/-- The call's result: the whole product and the residual. -/
theorem result (n : Fin 4096) (d : Fin 1024) : G3 m c (ix2 n d) = ∑ q : Fin 2816, term m c n d q + res m c (ix2 n d) := by
  have hp : pt3Of (ix2 n d) = 2 * (n / 1024) + 1 := by
    show 2 * (1 * (n.val / 1024 - 0) + 1 * (d.val / 1024 - 0)) + 1 = _
    omega
  have hb : pt3Of (ix2 n d) < grid0.N := by rw [N_0, hp]; omega
  have hl : loc3Of (ix2 n d) = ix2 ⟨n % 1024, by omega⟩ ⟨d % 1024, by omega⟩ := by
    funext a
    fin_cases a <;> rfl
  have e : terms m c ⟨n % 1024, by omega⟩ ⟨d % 1024, by omega⟩ _ hb = term m c n d :=
    congrArg₂ (term m c) (Fin.ext (by dsimp only; omega)) (Fin.ext (by dsimp only; omega))
  have eb : iblk m c 2 ⟨_, hb⟩ (ix2 ⟨n % 1024, by omega⟩ ⟨d % 1024, by omega⟩) = res m c (ix2 n d) :=
    (blk2_at m c ..).trans (congrArg₂ (fun u v => res m c (ix2 u v)) (Fin.ext (by dsimp only; omega)) (Fin.ext (by dsimp only; omega)))
  unfold G3
  rw [dif_pos hb, ← outsAt0_sweep m c _ hb, hl, out_at m c _ _ _ hb (by omega), e, eb]

end Cert.Proof.FfnDown

/-! ## The reference, and the claim -/

namespace Cert.Proof.FfnDown

open Idealize.ShloMosaic Idealize.ShloMosaic.TcCoe Idealize.SL.Sem

section
open Cert.Reference18Ideal Cert.Reference18Ideal.Gen

theorem ref_at (x : S4096x2816.Idx → EReal) (w : S2816x1024.Idx → EReal) (res : S4096x1024.Idx → EReal) (n : Fin 4096) (d : Fin 1024) :
    (addf (F := Ideal) (φ := .f32) res (Host.dotGeneral (F := Ideal) (φ₁ := .f32) (φ₂ := .f32) dot_S4096x2816_S2816x1024_S4096x1024_1_0_0_1_n_n none (extf (F := Ideal) (φ := .bf16) .f32 x bitsLt_bf16_f32) (extf (F := Ideal) (φ := .bf16) .f32 w bitsLt_bf16_f32)) : S4096x1024.Idx → EReal) (ix2 n d)
      = res (ix2 n d) + ∑ q : Fin 2816, x (ix2 n q) * w (ix2 q d) := by
  pointwise

end

/-- The reference's frame. -/
theorem frame_reference : Cert.quiescent_Reference18Ideal := fun m ρ _ =>
  (θ_run Cert.Reference18Ideal.defs _ _).mono (fun r h => ⟨fun c => (h c).2, sem_eq_zero_of_no_sems (by decide) r.2⟩) (Cert.Reference18Ideal.Value.run m ρ)

/-- The call computes the residual and the product. -/
theorem algebraic : Cert.algebraic_Kernel18Ideal_Reference18Ideal := fun m ρ m' ρ' _ hargs =>
  ⟨fun c => Cert.Kernel18Ideal.Value.G3 m c, Cert.Kernel18Ideal.Value.run m ρ,
    (θ_run Cert.Reference18Ideal.defs _ _).mono
      (fun _ h c => ⟨(h c).1.trans (by
        rw [(hargs c).1, (hargs c).2.1, (hargs c).2.2]
        funext i
        obtain ⟨n, d, rfl⟩ : ∃ n d, i = ix2 n d := ⟨i 0, i 1, by idx_vars i⟩
        exact (ref_at _ _ _ n d).trans ((add_comm _ _).trans (result m c n d).symm)), (h c).2⟩)
      (Cert.Reference18Ideal.Value.run m' ρ')⟩

end Cert.Proof.FfnDown

end
-- ==== Proof.MmOOut.lean ====
/- The odd layer's output projection, added to the residual: one block of the inner axis, so that every grid point computes a block of the whole product and the residual. -/
module

public import proofs.«01_k».proof.Defs
public import proofs.«01_k».proof.Proof.Gen.Kernel19Ideal.Value
public import proofs.«01_k».proof.Proof.Gen.Reference19Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.OOut

open Cert.Kernel19Ideal Cert.Kernel19Ideal.Gen Cert.Kernel19Ideal.Value
open Idealize.ShloMosaic Idealize.ShloMosaic.TcCoe

/-- A grid point clears its accumulator, adds the product, and writes it out with the residual. -/
theorem out_A {F : FTy → Type} [FloatOps F] (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole)
    (x : Vec F S1024x1024 .bf16) (y : Vec F S1024x1024 .bf16) (res : Vec F S1024x1024 .f32) (hc0 : cond0_0 i) (hc1 : cond0_1 i) :
    out0_A_3 c i a3 h3 a4 h4 a5 h5 a6 h6 a7 h7 hc0 hc1 x y res = k0_pay3 (k0_pay2 (k0_pay1 (F := F)) x y) res := by
  frame_out

theorem pay1_at (r : Fin 1024) (d : Fin 1024) : (k0_pay1 (F := Ideal)) (ix2 r d) = (0 : EReal) := by
  unfold k0_pay1
  pointwise

theorem pay2_at (a x y : S1024x1024.Idx → EReal) (r : Fin 1024) (d : Fin 1024) :
    (k0_pay2 (F := Ideal) a x y) (ix2 r d) = a (ix2 r d) + ∑ q : Fin 1024, x (ix2 r q) * y (ix2 q d) := by
  unfold k0_pay2
  pointwise

theorem pay3_at (a res : S1024x1024.Idx → EReal) (r : Fin 1024) (d : Fin 1024) :
    (k0_pay3 (F := Ideal) a res) (ix2 r d) = a (ix2 r d) + res (ix2 r d) := by
  unfold k0_pay3
  pointwise

variable (m : (ℓ : Loc nD τ sig) → Buf (Elt Ideal) ℓ) (c : Dev nD)

theorem bnd (t : Fin grid0.N) : t.val < 4 := by have h := lt_of_lt_of_eq t.isLt N_0; omega
theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel

theorem blk0_at (t : Fin grid0.N) (r : Fin 1024) (q : Fin 1024) :
    iblk m c 0 t (ix2 r q) = m ((c : Thread nD τ).loc main_arg0) (ix2 ⟨t.val * 1024 + r, by have := bnd t; omega⟩ q) := by
  unfold iblk
  rw [← V_main_arg0 m c]
  blk_ext [index0 t]

theorem blk1_at (t : Fin grid0.N) (q : Fin 1024) (d : Fin 1024) :
    iblk m c 1 t (ix2 q d) = m ((c : Thread nD τ).loc main_arg1) (ix2 q d) := by
  unfold iblk
  rw [← V_main_arg1 m c]
  blk_ext [index1 t]

theorem blk2_at (t : Fin grid0.N) (r : Fin 1024) (d : Fin 1024) :
    iblk m c 2 t (ix2 r d) = m ((c : Thread nD τ).loc main_arg2) (ix2 ⟨t.val * 1024 + r, by have := bnd t; omega⟩ d) := by
  unfold iblk
  rw [← V_main_arg2 m c]
  blk_ext [index2 t]

/-- The two arrays that the call multiplies, and the residual. -/
abbrev lhs : S4096x1024.Idx → EReal := m ((c : Thread nD τ).loc main_arg0)
abbrev rhs : S1024x1024.Idx → EReal := m ((c : Thread nD τ).loc main_arg1)
abbrev res : S4096x1024.Idx → EReal := m ((c : Thread nD τ).loc main_arg2)

/-- The residual and the product. -/
def total : S4096x1024.Idx → EReal := fun i => res m c i + ∑ q : Fin 1024, lhs m c (ix2 (i 0) q) * rhs m c (ix2 q (i 1))

/-- The call's result: the whole product and the residual. -/
theorem result : (dats m 0 c).arrAt 3 cfg0.N = total m c := by
  refine (dats m 0 c).arrAt_eq_of_covers 3 (total m c) (by decide +kernel) fun t _ y => ?_
  obtain ⟨r, d, rfl⟩ : ∃ (r : Fin 1024) (d : Fin 1024), y = ix2 r d := ⟨y 0, y 1, by idx_vars y⟩
  blk_simp
  rw [after0_3]
  unfold outsAt0
  rw [out_A]
  have e : (win0_3.blk t).view.emb (ix2 r d) = ix2 ⟨t.val * 1024 + r, by have := bnd t; omega⟩ d := by
    blk_ext [index3 t]
  refine (pay3_at ..).trans ?_
  rw [pay2_at, pay1_at, zero_add, e, add_comm]
  refine congrArg₂ (fun u v : EReal => u + v) (blk2_at m c t r d) ?_
  exact Finset.sum_congr (M := EReal) rfl fun q _ => congrArg₂ (fun u v : EReal => u * v) (blk0_at m c t r q) (blk1_at m c t q d)

end Cert.Proof.OOut

/-! ## The reference, and the claim -/

namespace Cert.Proof.OOut

open Idealize.ShloMosaic Idealize.ShloMosaic.TcCoe Idealize.SL.Sem

section
open Cert.Reference19Ideal Cert.Reference19Ideal.Gen

theorem ref_at (x : S4096x1024.Idx → EReal) (w : S1024x1024.Idx → EReal) (res : S4096x1024.Idx → EReal) (n : Fin 4096) (d : Fin 1024) :
    (addf (F := Ideal) (φ := .f32) res (Host.dotGeneral (F := Ideal) (φ₁ := .f32) (φ₂ := .f32) dot_S4096x1024_S1024x1024_S4096x1024_1_0_0_1_n_n none (extf (F := Ideal) (φ := .bf16) .f32 x bitsLt_bf16_f32) (extf (F := Ideal) (φ := .bf16) .f32 w bitsLt_bf16_f32)) : S4096x1024.Idx → EReal) (ix2 n d)
      = res (ix2 n d) + ∑ q : Fin 1024, x (ix2 n q) * w (ix2 q d) := by
  pointwise

end

/-- The reference's frame. -/
theorem frame_reference : Cert.quiescent_Reference19Ideal := fun m ρ _ =>
  (θ_run Cert.Reference19Ideal.defs _ _).mono (fun r h => ⟨fun c => (h c).2, sem_eq_zero_of_no_sems (by decide) r.2⟩) (Cert.Reference19Ideal.Value.run m ρ)

/-- The call computes the residual and the product. -/
theorem algebraic : Cert.algebraic_Kernel19Ideal_Reference19Ideal := fun m ρ m' ρ' _ hargs =>
  ⟨fun c => total m c,
    (θ_run Cert.Kernel19Ideal.defs _ _).mono (fun _ h c => ⟨(h c).1.trans (result m c), (h c).2⟩) (Cert.Kernel19Ideal.Value.run_blocks m ρ),
    (θ_run Cert.Reference19Ideal.defs _ _).mono
      (fun _ h c => ⟨(h c).1.trans (by
        rw [(hargs c).1, (hargs c).2.1, (hargs c).2.2]
        funext i
        obtain ⟨n, d, rfl⟩ : ∃ n d, i = ix2 n d := ⟨i 0, i 1, by idx_vars i⟩
        exact ref_at _ _ _ n d), (h c).2⟩)
      (Cert.Reference19Ideal.Value.run m' ρ')⟩

end Cert.Proof.OOut

end
-- ==== Proof.Taps.lean ====
/- A causal convolution down a column of 4096 rows: the rows before and after a row, and the activation's gradient. -/
module

public import proofs.«01_k».proof.Proof.Gen.Kernel21Ideal.Value
public import Idealize.ShloMosaic.Lib.Pointwise
public import Idealize.ShloMosaic.Lib.WordCmp
public import Idealize.ShloMosaic.Lib.IdealHost
public import Idealize.ShloMosaic.PureOps.Ideal

@[expose] public section

set_option maxRecDepth 65536

noncomputable section

namespace Cert.Proof.Taps

open Idealize.ShloMosaic

/-- The value `k` rows before row `n`; zero before the first row. -/
def back (X : Fin 4096 → EReal) (k : ℕ) (n : Fin 4096) : EReal :=
  if k ≤ n.val then X ⟨n.val - k, by omega⟩ else 0

/-- The value `k` rows after row `n`; zero after the last row. -/
def ahead (X : Fin 4096 → EReal) (k : ℕ) (n : Fin 4096) : EReal :=
  if h : n.val + k < 4096 then X ⟨n.val + k, h⟩ else 0

/-- The gradient of `y · σ(y)`, times the gradient `dy` of the product. -/
def actGrad (y dy : EReal) : EReal :=
  dy * Ideal.logistic y + y * dy * (Ideal.logistic y * (Ideal.ofBits .f32 0x3F800000#32 - Ideal.logistic y))

theorem back_zero (X : Fin 4096 → EReal) (n : Fin 4096) : back X 0 n = X n := if_pos (Nat.zero_le _)

theorem ahead_zero (X : Fin 4096 → EReal) (n : Fin 4096) : ahead X 0 n = X n := dif_pos n.isLt

/-- A factor shared by the column comes out. -/
theorem ahead_mul (w : EReal) (X : Fin 4096 → EReal) (k : ℕ) (n : Fin 4096) : ahead (fun n => w * X n) k n = w * ahead X k n := by
  unfold ahead
  split
  · rfl
  · exact (mul_zero (M₀ := EReal) w).symm

/-- A column turned down by `k` rows and cleared above row `k`. -/
theorem select_back (X : Fin 4096 → EReal) (k : ℕ) (hk : k < 4096) (n : Fin 4096) (j : Fin 4096) (hj : j.val = (n.val + 4096 - k) % 4096) :
    Scalar.select (IntOp.cmpi .sge (BitVec.ofNat 32 n.val) (BitVec.ofNat 32 k)) (X j) (0 : EReal) = back X k n := by
  rw [WordCmp.cmpi_sge_ofNat (by omega) (by omega)]
  unfold back
  by_cases h : k ≤ n.val
  · rw [if_pos h, decide_eq_true h]
    exact congrArg X (Fin.ext (hj.trans (by dsimp only; omega)))
  · rw [if_neg h, decide_eq_false h]
    rfl

/-- A column turned up by `k` rows and cleared in the last `k`. -/
theorem select_ahead (X : Fin 4096 → EReal) (k l : ℕ) (hk : 0 < k) (e : l + k = 4096) (n : Fin 4096) (j : Fin 4096)
    (hj : j.val = (n.val + 4096 - l) % 4096) :
    Scalar.select (IntOp.cmpi .slt (BitVec.ofNat 32 n.val) (BitVec.ofNat 32 l)) (X j) (0 : EReal) = ahead X k n := by
  rw [WordCmp.cmpi_slt_ofNat (by omega) (by omega)]
  unfold ahead
  by_cases h : n.val < l
  · rw [dif_pos (by omega), decide_eq_true h]
    exact congrArg X (Fin.ext (hj.trans (by dsimp only; omega)))
  · rw [dif_neg (by omega), decide_eq_false h]
    rfl

open TcCoe Cert.Kernel21Ideal Cert.Kernel21Ideal.Gen

/-- A block's rows turned down by `k`, and cleared above row `k`. -/
def down (k : BitVec 32) (x : FVec Ideal S4096x128 .f32) : FVec Ideal S4096x128 .f32 :=
  select (cmpi .sge (iota .tc S4096x128 32 [0] iota_S4096x128_d0_w32) (broadcast S4096x128 k)) (dynamicRotate 0 k none x rotates_S4096x128_d0)
    (broadcast S4096x128 (Scalar.ofBits .f32 0x00000000#32))

/-- A block's rows turned down by `k`, which is up by `4096 - k`, and cleared from row `k` on. -/
def up (k : BitVec 32) (x : FVec Ideal S4096x128 .f32) : FVec Ideal S4096x128 .f32 :=
  select (cmpi .slt (iota .tc S4096x128 32 [0] iota_S4096x128_d0_w32) (broadcast S4096x128 k)) (dynamicRotate 0 k none x rotates_S4096x128_d0)
    (broadcast S4096x128 (Scalar.ofBits .f32 0x00000000#32))

theorem down_at (k : ℕ) (hk : k < 4096) (x : FVec Ideal S4096x128 .f32) (n : Fin 4096) (d : Fin 128) :
    down (BitVec.ofNat 32 k) x (ix2 n d) = back (fun n => x (ix2 n d)) k n := by
  unfold down
  pointwise
  exact select_back (fun n => x (ix2 n d)) k hk n _ (by simp <;> omega)

theorem up_at (k l : ℕ) (hk : 0 < k) (e : l + k = 4096) (x : FVec Ideal S4096x128 .f32) (n : Fin 4096) (d : Fin 128) :
    up (BitVec.ofNat 32 l) x (ix2 n d) = ahead (fun n => x (ix2 n d)) k n := by
  unfold up
  pointwise
  exact select_ahead (fun n => x (ix2 n d)) k l hk e n _ (by simp <;> omega)

theorem down3 (x : FVec Ideal S4096x128 .f32) (n : Fin 4096) (d : Fin 128) : down 3#32 x (ix2 n d) = back (fun n => x (ix2 n d)) 3 n := down_at 3 (by decide) x n d
theorem down2 (x : FVec Ideal S4096x128 .f32) (n : Fin 4096) (d : Fin 128) : down 2#32 x (ix2 n d) = back (fun n => x (ix2 n d)) 2 n := down_at 2 (by decide) x n d
theorem down1 (x : FVec Ideal S4096x128 .f32) (n : Fin 4096) (d : Fin 128) : down 1#32 x (ix2 n d) = back (fun n => x (ix2 n d)) 1 n := down_at 1 (by decide) x n d
theorem up3 (x : FVec Ideal S4096x128 .f32) (n : Fin 4096) (d : Fin 128) : up 4093#32 x (ix2 n d) = ahead (fun n => x (ix2 n d)) 3 n := up_at 3 4093 (by decide) rfl x n d
theorem up2 (x : FVec Ideal S4096x128 .f32) (n : Fin 4096) (d : Fin 128) : up 4094#32 x (ix2 n d) = ahead (fun n => x (ix2 n d)) 2 n := up_at 2 4094 (by decide) rfl x n d
theorem up1 (x : FVec Ideal S4096x128 .f32) (n : Fin 4096) (d : Fin 128) : up 4095#32 x (ix2 n d) = ahead (fun n => x (ix2 n d)) 1 n := up_at 1 4095 (by decide) rfl x n d

end Cert.Proof.Taps

end
-- ==== Proof.ConvBwd.lean ====
/- The gradient of the causal convolution's activation: column blocks, each taking the whole of its columns. -/
module

public import proofs.«01_k».proof.Defs
public import proofs.«01_k».proof.Proof.Gen.Kernel21Ideal.Value
public import proofs.«01_k».proof.Proof.Gen.Reference21Ideal.Run
public import proofs.«01_k».proof.Proof.Taps
public import Idealize.ShloMosaic.Lib.Pipeline.ValueKit.Geometry
public import Idealize.ShloMosaic.Lib.Pipeline.ValueKit.Acc

@[expose] public section

set_option maxRecDepth 65536

noncomputable section

/-! ## One column -/

namespace Cert.Proof.ConvBwd

open Idealize.ShloMosaic Idealize.ShloMosaic.TcCoe Cert.Proof.Taps

/-- The convolution's value in row `n` of a column. -/
def conv (X : Fin 4096 → EReal) (W : Fin 4 → EReal) (B : EReal) (n : Fin 4096) : EReal :=
  B + W 3 * X n + W 0 * back X 3 n + W 1 * back X 2 n + W 2 * back X 1 n

/-- Its gradient there. -/
def dConv (X : Fin 4096 → EReal) (W : Fin 4 → EReal) (B : EReal) (D : Fin 4096 → EReal) (n : Fin 4096) : EReal :=
  actGrad (conv X W B n) (D n)

/-- The gradient of the column, from the convolution's gradient `G`. -/
def dCol (W : Fin 4 → EReal) (G : Fin 4096 → EReal) (n : Fin 4096) : EReal :=
  W 3 * G n + W 0 * ahead G 3 n + W 1 * ahead G 2 n + W 2 * ahead G 1 n

/-- The gradient of the tap `k`. -/
def dTap (X G : Fin 4096 → EReal) (k : Fin 4) : EReal := ∑ n, G n * back X (3 - k.val) n

/-! ## The kernel -/

open Cert.Kernel21Ideal Cert.Kernel21Ideal.Gen Cert.Kernel21Ideal.Value

/-- The tap `k`, over a block's rows. -/
def tap0 (w : FVec Ideal S4x1x128 .f32) : FVec Ideal S4096x128 .f32 :=
  broadcastTo S4096x128 (shapeCast S1x128 (extractStridedSlice S1x1x128 ![0, 0, 0] w slices_S4x1x128_o0_0_0_S1x1x128) shapeCasts_S1x1x128_S1x128) broadcasts_S1x128_S4096x128
def tap1 (w : FVec Ideal S4x1x128 .f32) : FVec Ideal S4096x128 .f32 :=
  broadcastTo S4096x128 (shapeCast S1x128 (extractStridedSlice S1x1x128 ![1, 0, 0] w slices_S4x1x128_o1_0_0_S1x1x128) shapeCasts_S1x1x128_S1x128) broadcasts_S1x128_S4096x128
def tap2 (w : FVec Ideal S4x1x128 .f32) : FVec Ideal S4096x128 .f32 :=
  broadcastTo S4096x128 (shapeCast S1x128 (extractStridedSlice S1x1x128 ![2, 0, 0] w slices_S4x1x128_o2_0_0_S1x1x128) shapeCasts_S1x1x128_S1x128) broadcasts_S1x128_S4096x128
def tap3 (w : FVec Ideal S4x1x128 .f32) : FVec Ideal S4096x128 .f32 :=
  broadcastTo S4096x128 (shapeCast S1x128 (extractStridedSlice S1x1x128 ![3, 0, 0] w slices_S4x1x128_o3_0_0_S1x1x128) shapeCasts_S1x1x128_S1x128) broadcasts_S1x128_S4096x128

theorem tap0_at (w : FVec Ideal S4x1x128 .f32) (n : Fin 4096) (d : Fin 128) : tap0 w (ix2 n d) = w (ix3 0 0 d) := by unfold tap0; pointwise
theorem tap1_at (w : FVec Ideal S4x1x128 .f32) (n : Fin 4096) (d : Fin 128) : tap1 w (ix2 n d) = w (ix3 1 0 d) := by unfold tap1; pointwise
theorem tap2_at (w : FVec Ideal S4x1x128 .f32) (n : Fin 4096) (d : Fin 128) : tap2 w (ix2 n d) = w (ix3 2 0 d) := by unfold tap2; pointwise
theorem tap3_at (w : FVec Ideal S4x1x128 .f32) (n : Fin 4096) (d : Fin 128) : tap3 w (ix2 n d) = w (ix3 3 0 d) := by unfold tap3; pointwise

section
variable (x dy : S4096x128.Idx → EReal) (w : S4x1x128.Idx → EReal) (b : S1x128.Idx → EReal)

/-- A block's gradient of the convolution. -/
def gBlk : FVec Ideal S4096x128 .f32 := k0_pay4 dy (k0_pay1 x w b) (k0_pay2 x) (k0_pay3 w)

theorem gBlk_eq : gBlk x dy w b =
    (let y := addf (addf (addf (addf (broadcastTo S4096x128 b broadcasts_S1x128_S4096x128 : FVec Ideal S4096x128 .f32) (mulf (tap3 w) x)) (mulf (tap0 w) (down 3#32 x))) (mulf (tap1 w) (down 2#32 x))) (mulf (tap2 w) (down 1#32 x))
    addf (mulf dy (logistic y)) (mulf (mulf y dy) (mulf (logistic y) (subf (broadcast S4096x128 (Scalar.ofBits .f32 0x3F800000#32)) (logistic y))))) := rfl

theorem gBlk_at (n : Fin 4096) (d : Fin 128) :
    gBlk x dy w b (ix2 n d) = dConv (fun n => x (ix2 n d)) (fun k => w (ix3 k 0 d)) (b (ix2 0 d)) (fun n => dy (ix2 n d)) n := by
  rw [gBlk_eq]
  unfold dConv actGrad conv
  pointwise
  simp only [down1, down2, down3, tap0_at, tap1_at, tap2_at, tap3_at]

theorem pay10_at (n : Fin 4096) (d : Fin 128) :
    (k0_pay10 w (gBlk x dy w b) (k0_pay6 w dy (k0_pay1 x w b) (k0_pay2 x) (k0_pay3 w))) (ix2 n d)
      = dCol (fun k => w (ix3 k 0 d)) (fun n => gBlk x dy w b (ix2 n d)) n := by
  have e : (k0_pay10 w (gBlk x dy w b) (k0_pay6 w dy (k0_pay1 x w b) (k0_pay2 x) (k0_pay3 w))) =
      truncf .bf16 (addf (addf (addf (mulf (tap3 w) (gBlk x dy w b)) (mulf (tap0 w) (up 4093#32 (gBlk x dy w b)))) (mulf (tap1 w) (up 4094#32 (gBlk x dy w b))))
        (mulf (tap2 w) (up 4095#32 (gBlk x dy w b)))) bitsLt_bf16_f32 := rfl
  rw [e]
  generalize gBlk x dy w b = G
  unfold dCol
  pointwise
  simp only [up1, up2, up3, tap0_at, tap1_at, tap2_at, tap3_at]

/-- The sum of a block's columns, as one tap's gradient. -/
def colSum (v : FVec Ideal S4096x128 .f32) : FVec Ideal S1x1x128 .f32 :=
  shapeCast S1x1x128 (shapeCast S1x128 (multiReduction .add [0] S128 v 0x00000000#32 reduces_S4096x128_S128 (.inl rfl) rfl) shapeCasts_S128_S1x128) shapeCasts_S1x128_S1x1x128

theorem colSum_at (v : FVec Ideal S4096x128 .f32) (o o' : Fin 1) (d : Fin 128) : colSum v (ix3 o o' d) = (∑ n : Fin 4096, v (ix2 n d) : EReal) := by
  unfold colSum
  pointwise

theorem pay8_at (k : Fin 4) (o : Fin 1) (d : Fin 128) :
    (k0_pay8 x (gBlk x dy w b) (k0_pay5 x dy (k0_pay1 x w b) (k0_pay2 x) (k0_pay3 w)) (iota .tc S4096x128 32 [0] iota_S4096x128_d0_w32) k0_pay7) (ix3 k o d)
      = dTap (fun n => x (ix2 n d)) (fun n => gBlk x dy w b (ix2 n d)) k := by
  have e : (k0_pay8 x (gBlk x dy w b) (k0_pay5 x dy (k0_pay1 x w b) (k0_pay2 x) (k0_pay3 w)) (iota .tc S4096x128 32 [0] iota_S4096x128_d0_w32) k0_pay7) =
      concatenate S4x1x128 0 [⟨S1x1x128, colSum (mulf (gBlk x dy w b) (down 3#32 x))⟩, ⟨S1x1x128, colSum (mulf (gBlk x dy w b) (down 2#32 x))⟩, ⟨S1x1x128, colSum (mulf (gBlk x dy w b) (down 1#32 x))⟩, ⟨S1x1x128, colSum (mulf (gBlk x dy w b) x)⟩] concatenates_S1x1x128_S1x1x128_S1x1x128_S1x1x128_S4x1x128_d0 := rfl
  rw [e]
  generalize gBlk x dy w b = G
  unfold dTap
  pointwise
  simp only [colSum_at]
  fin_cases k
  all_goals simp
  all_goals pointwise
  all_goals simp only [down1, down2, down3, back_zero]

theorem pay9_at (G : FVec Ideal S4096x128 .f32) (o : Fin 1) (d : Fin 128) : (k0_pay9 G) (ix2 o d) = (∑ n : Fin 4096, G (ix2 n d) : EReal) := by
  unfold k0_pay9
  pointwise

theorem out4_eq : out0_4 (F := Ideal) x w b dy = k0_pay10 w (gBlk x dy w b) (k0_pay6 w dy (k0_pay1 x w b) (k0_pay2 x) (k0_pay3 w)) := by
  unfold_out out0_4
  unfold gBlk
  frame_out

theorem out5_eq : out0_5 (F := Ideal) x w b dy =
    k0_pay8 x (gBlk x dy w b) (k0_pay5 x dy (k0_pay1 x w b) (k0_pay2 x) (k0_pay3 w)) (iota .tc S4096x128 32 [0] iota_S4096x128_d0_w32) k0_pay7 := by
  unfold_out out0_5
  unfold gBlk
  frame_out

theorem out6_eq : out0_6 (F := Ideal) x w b dy = k0_pay9 (gBlk x dy w b) := by
  unfold_out out0_6
  unfold gBlk
  frame_out

end

variable (m : (ℓ : Loc nD τ sig) → Buf (Elt Ideal) ℓ) (c : Dev nD)

theorem bnd (t : Fin grid0.N) : t.val < 12 := by have h := lt_of_lt_of_eq t.isLt N_0; omega
theorem index0 : ∀ t : Fin grid0.N, win0_0.index t = ![0, 32 + t.val] := by decide +kernel
theorem index1 : ∀ t : Fin grid0.N, win0_1.index t = ![0, 0, t.val] := by decide +kernel
theorem index2 : ∀ t : Fin grid0.N, win0_2.index t = ![0, t.val] := by decide +kernel
theorem index3 : ∀ t : Fin grid0.N, win0_3.index t = ![0, t.val] := by decide +kernel
theorem index4 : ∀ t : Fin grid0.N, win0_4.index t = ![0, t.val] := by decide +kernel
theorem index5 : ∀ t : Fin grid0.N, win0_5.index t = ![0, 0, t.val] := by decide +kernel
theorem index6 : ∀ t : Fin grid0.N, win0_6.index t = ![0, t.val] := by decide +kernel

/-- Column `d` of grid point `t`'s block, among all the columns. -/
def ch (t : Fin grid0.N) (d : Fin 128) : Fin 1536 := ⟨t.val * 128 + d, by have := bnd t; omega⟩

/-- The same column of the projection, whose first 4096 columns are other values. -/
def pc (d : Fin 1536) : Fin 5760 := ⟨4096 + d, by omega⟩

/-- The projection, the taps, the bias, and the gradient of the activation. -/
abbrev proj : S4096x5760.Idx → EReal := m ((c : Thread nD τ).loc main_arg0)
abbrev taps : S4x1x1536.Idx → EReal := m ((c : Thread nD τ).loc main_arg1)
abbrev bias : S1x1536.Idx → EReal := m ((c : Thread nD τ).loc main_arg2)
abbrev dact : S4096x1536.Idx → EReal := m ((c : Thread nD τ).loc main_arg3)

theorem blk0_at (t : Fin grid0.N) (n : Fin 4096) (d : Fin 128) : iblk m c 0 t (ix2 n d) = proj m c (ix2 n (pc (ch t d))) := by
  unfold iblk proj pc ch
  rw [← V_main_arg0 m c]
  blk_ext [index0 t]

theorem blk1_at (t : Fin grid0.N) (k : Fin 4) (o : Fin 1) (d : Fin 128) : iblk m c 1 t (ix3 k o d) = taps m c (ix3 k o (ch t d)) := by
  unfold iblk taps ch
  rw [← V_main_arg1 m c]
  blk_ext [index1 t]

theorem blk2_at (t : Fin grid0.N) (o : Fin 1) (d : Fin 128) : iblk m c 2 t (ix2 o d) = bias m c (ix2 o (ch t d)) := by
  unfold iblk bias ch
  rw [← V_main_arg2 m c]
  blk_ext [index2 t]

theorem blk3_at (t : Fin grid0.N) (n : Fin 4096) (d : Fin 128) : iblk m c 3 t (ix2 n d) = dact m c (ix2 n (ch t d)) := by
  unfold iblk dact ch
  rw [← V_main_arg3 m c]
  blk_ext [index3 t]

/-- A column of the projection, and the taps on it. -/
def colX (d : Fin 1536) (n : Fin 4096) : EReal := proj m c (ix2 n (pc d))
def colW (d : Fin 1536) (k : Fin 4) : EReal := taps m c (ix3 k 0 d)

/-- The convolution's gradient down a column. -/
def colG (d : Fin 1536) (n : Fin 4096) : EReal :=
  dConv (colX m c d) (colW m c d) (bias m c (ix2 0 d)) (fun n => dact m c (ix2 n d)) n

/-- The gradients of the projection's part, the taps and the bias. -/
def dProj : S4096x1536.Idx → EReal := fun i => dCol (colW m c (i 1)) (colG m c (i 1)) (i 0)
def dTaps : S4x1x1536.Idx → EReal := fun i => dTap (colX m c (i 2)) (colG m c (i 2)) (i 0)
def dBias : S1x1536.Idx → EReal := fun i => ∑ n, colG m c (i 1) n

theorem blkX (t : Fin grid0.N) (d : Fin 128) : (fun n : Fin 4096 => (iblk m c 0 t (ix2 n d) : EReal)) = colX m c (ch t d) :=
  funext fun n => blk0_at m c t n d

theorem blkW (t : Fin grid0.N) (d : Fin 128) : (fun k : Fin 4 => (iblk m c 1 t (ix3 k 0 d) : EReal)) = colW m c (ch t d) :=
  funext fun k => blk1_at m c t k 0 d

theorem blkG (t : Fin grid0.N) (d : Fin 128) :
    (fun n : Fin 4096 => (gBlk (iblk m c 0 t) (iblk m c 3 t) (iblk m c 1 t) (iblk m c 2 t) (ix2 n d) : EReal)) = colG m c (ch t d) := by
  funext n
  refine (gBlk_at ..).trans ?_
  have e : (fun n : Fin 4096 => (iblk m c 3 t (ix2 n d) : EReal)) = fun n => dact m c (ix2 n (ch t d)) := funext fun n => blk3_at m c t n d
  rw [blkX, blkW, e, blk2_at]
  rfl

theorem result4 : (dats m 0 c).arrAt 4 cfg0.N = dProj m c := by
  refine (dats m 0 c).arrAt_eq_of_covers 4 (dProj m c) (by decide +kernel) fun t _ y => ?_
  obtain ⟨n, d, rfl⟩ : ∃ (n : Fin 4096) (d : Fin 128), y = ix2 n d := ⟨y 0, y 1, by idx_vars y⟩
  blk_simp
  rw [after0_4, out4_eq]
  have e : (win0_4.blk t).view.emb (ix2 n d) = ix2 n (ch t d) := by
    unfold ch
    blk_ext [index4 t]
  rw [e]
  refine (pay10_at ..).trans ?_
  rw [blkW, blkG]
  rfl

theorem result5 : (dats m 0 c).arrAt 5 cfg0.N = dTaps m c := by
  refine (dats m 0 c).arrAt_eq_of_covers 5 (dTaps m c) (by decide +kernel) fun t _ y => ?_
  obtain ⟨k, o, d, rfl⟩ : ∃ (k : Fin 4) (o : Fin 1) (d : Fin 128), y = ix3 k o d := ⟨y 0, y 1, y 2, by idx_vars y⟩
  blk_simp
  rw [after0_5, out5_eq]
  have e : (win0_5.blk t).view.emb (ix3 k o d) = ix3 k o (ch t d) := by
    unfold ch
    blk_ext [index5 t]
  rw [e]
  refine (pay8_at ..).trans ?_
  rw [blkX, blkG]
  rfl

theorem result6 : (dats m 0 c).arrAt 6 cfg0.N = dBias m c := by
  refine (dats m 0 c).arrAt_eq_of_covers 6 (dBias m c) (by decide +kernel) fun t _ y => ?_
  obtain ⟨o, d, rfl⟩ : ∃ (o : Fin 1) (d : Fin 128), y = ix2 o d := ⟨y 0, y 1, by idx_vars y⟩
  blk_simp
  rw [after0_6, out6_eq]
  have e : (win0_6.blk t).view.emb (ix2 o d) = ix2 o (ch t d) := by
    unfold ch
    blk_ext [index6 t]
  rw [e]
  refine (pay9_at ..).trans (Finset.sum_congr (M := EReal) rfl fun n _ => ?_)
  exact congrFun (blkG m c t d) n

end Cert.Proof.ConvBwd

/-! ## The reference, and the claim -/

namespace Cert.Proof.ConvBwd

open Idealize.ShloMosaic Idealize.ShloMosaic.TcCoe Idealize.SL.Sem Cert.Proof.Taps

section
open Cert.Reference21Ideal Cert.Reference21Ideal.Gen

variable (p : FVec Ideal S4096x5760 .f32) (w : FVec Ideal S4x1x1536 .f32) (b : FVec Ideal S1x1536 .f32) (dy v : FVec Ideal S4096x1536 .f32)

/-- The projection's part under three rows of zeros. -/
def refXp : FVec Ideal S4099x1536 .f32 :=
  concatenate S4099x1536 0 [⟨S3x1536, (broadcastInDim S3x1536 ![] bcast_S_S3x1536 (constant S_ .f32 0x00000000#32))⟩, ⟨S4096x1536, (extractStridedSlice S4096x1536 ![0, 4096] p slices_S4096x5760_S4096x1536_0_4096)⟩] concatenates_S3x1536_S4096x1536_S4099x1536_d0

/-- What each tap multiplies. -/
def refX0 : FVec Ideal S4096x1536 .f32 := extractStridedSlice S4096x1536 ![0, 0] (refXp p) slices_S4099x1536_S4096x1536_0_0
def refX1 : FVec Ideal S4096x1536 .f32 := extractStridedSlice S4096x1536 ![1, 0] (refXp p) slices_S4099x1536_S4096x1536_1_0
def refX2 : FVec Ideal S4096x1536 .f32 := extractStridedSlice S4096x1536 ![2, 0] (refXp p) slices_S4099x1536_S4096x1536_2_0
def refX3 : FVec Ideal S4096x1536 .f32 := extractStridedSlice S4096x1536 ![3, 0] (refXp p) slices_S4099x1536_S4096x1536_3_0

/-- Each tap, over the rows. -/
def refTap0 : FVec Ideal S4096x1536 .f32 :=
  broadcastInDim S4096x1536 ![0, 1] bcast_S1x1536_S4096x1536_0_1 (broadcastInDim S1x1536 ![1] bcast_S1536_S1x1536_1 (shapeCast _ (extractStridedSlice S1x1536 ![0, 0] (shapeCast _ w shapeCasts_S4x1x1536_S4x1536) slices_S4x1536_S1x1536_0_0) shapeCasts_S1x1536_S1536))
def refTap1 : FVec Ideal S4096x1536 .f32 :=
  broadcastInDim S4096x1536 ![0, 1] bcast_S1x1536_S4096x1536_0_1 (broadcastInDim S1x1536 ![1] bcast_S1536_S1x1536_1 (shapeCast _ (extractStridedSlice S1x1536 ![1, 0] (shapeCast _ w shapeCasts_S4x1x1536_S4x1536) slices_S4x1536_S1x1536_1_0) shapeCasts_S1x1536_S1536))
def refTap2 : FVec Ideal S4096x1536 .f32 :=
  broadcastInDim S4096x1536 ![0, 1] bcast_S1x1536_S4096x1536_0_1 (broadcastInDim S1x1536 ![1] bcast_S1536_S1x1536_1 (shapeCast _ (extractStridedSlice S1x1536 ![2, 0] (shapeCast _ w shapeCasts_S4x1x1536_S4x1536) slices_S4x1536_S1x1536_2_0) shapeCasts_S1x1536_S1536))
def refTap3 : FVec Ideal S4096x1536 .f32 :=
  broadcastInDim S4096x1536 ![0, 1] bcast_S1x1536_S4096x1536_0_1 (broadcastInDim S1x1536 ![1] bcast_S1536_S1x1536_1 (shapeCast _ (extractStridedSlice S1x1536 ![3, 0] (shapeCast _ w shapeCasts_S4x1x1536_S4x1536) slices_S4x1536_S1x1536_3_0) shapeCasts_S1x1536_S1536))

/-- The convolution. -/
def refY : FVec Ideal S4096x1536 .f32 :=
  addf (addf (addf (addf (addf (broadcastInDim S4096x1536 ![] bcast_S_S4096x1536 (constant S_ .f32 0x00000000#32)) (mulf (refTap0 w) (refX0 p))) (mulf (refTap1 w) (refX1 p))) (mulf (refTap2 w) (refX2 p))) (mulf (refTap3 w) (refX3 p)))
    (broadcastInDim S4096x1536 ![0, 1] bcast_S1x1536_S4096x1536_0_1 (broadcastInDim S1x1536 ![1] bcast_S1536_S1x1536_1 (shapeCast _ b shapeCasts_S1x1536_S1536)))

def refOne : FVec Ideal S4096x1536 .f32 := broadcastInDim S4096x1536 ![] bcast_S_S4096x1536 (constant S_ .f32 0x3F800000#32)

def refGate : FVec Ideal S4096x1536 .f32 := Host.divf refOne (addf refOne (Host.exp (Host.negf v)))

/-- The convolution's gradient. -/
def refG : FVec Ideal S4096x1536 .f32 :=
  addf (mulf dy (refGate (refY p w b))) (mulf (mulf (refY p w b) dy) (mulf (refGate (refY p w b)) (subf refOne (refGate (refY p w b)))))

/-- Rows moved within a longer column. -/
def refUp0 : FVec Ideal S4099x1536 .f32 := pad S4099x1536 ![0, 0] ![3, 0] ![0, 0] v (constant S_ .f32 0x00000000#32) pads_S4096x1536_S4099x1536_030_000 h_S_
def refUp1 : FVec Ideal S4099x1536 .f32 := pad S4099x1536 ![1, 0] ![2, 0] ![0, 0] v (constant S_ .f32 0x00000000#32) pads_S4096x1536_S4099x1536_120_000 h_S_
def refUp2 : FVec Ideal S4099x1536 .f32 := pad S4099x1536 ![2, 0] ![1, 0] ![0, 0] v (constant S_ .f32 0x00000000#32) pads_S4096x1536_S4099x1536_210_000 h_S_
def refUp3 : FVec Ideal S4099x1536 .f32 := pad S4099x1536 ![3, 0] ![0, 0] ![0, 0] v (constant S_ .f32 0x00000000#32) pads_S4096x1536_S4099x1536_300_000 h_S_

/-- The gradient of the projection's part. -/
def refDx : FVec Ideal S4096x1536 .bf16 :=
  truncf .bf16 (extractStridedSlice S4096x1536 ![3, 0] (addf (addf (addf (refUp3 (mulf (refTap3 w) v)) (refUp2 (mulf (refTap2 w) v))) (refUp1 (mulf (refTap1 w) v))) (refUp0 (mulf (refTap0 w) v))) slices_S4099x1536_S4096x1536_3_0) bitsLt_bf16_f32

/-- A sum down the columns. -/
def refSum : FVec Ideal S1x1536 .f32 :=
  broadcastInDim S1x1536 ![1] bcast_S1536_S1x1536_1 (Host.reduceAdd (shapeCast _ (Host.reduceAdd v (constant S_ .f32 0x00000000#32) reducesTo_S4096x1536_S1536_d0 h_S_) shapeCasts_S1536_S1x1536) (constant S_ .f32 0x00000000#32) reducesTo_S1x1536_S1536_d0 h_S_)

/-- Such a sum as one tap's row. -/
def refRow0 : FVec Ideal S4x1536 .f32 := pad S4x1536 ![0, 0] ![3, 0] ![0, 0] (refSum v) (constant S_ .f32 0x00000000#32) pads_S1x1536_S4x1536_030_000 h_S_
def refRow1 : FVec Ideal S4x1536 .f32 := pad S4x1536 ![1, 0] ![2, 0] ![0, 0] (refSum v) (constant S_ .f32 0x00000000#32) pads_S1x1536_S4x1536_120_000 h_S_
def refRow2 : FVec Ideal S4x1536 .f32 := pad S4x1536 ![2, 0] ![1, 0] ![0, 0] (refSum v) (constant S_ .f32 0x00000000#32) pads_S1x1536_S4x1536_210_000 h_S_
def refRow3 : FVec Ideal S4x1536 .f32 := pad S4x1536 ![3, 0] ![0, 0] ![0, 0] (refSum v) (constant S_ .f32 0x00000000#32) pads_S1x1536_S4x1536_300_000 h_S_

/-- The gradient of the taps. -/
def refDw : FVec Ideal S4x1x1536 .f32 :=
  broadcastInDim S4x1x1536 ![0, 2] bcast_S4x1536_S4x1x1536_0_2 (addf (addf (addf (refRow3 (mulf v (refX3 p))) (refRow2 (mulf v (refX2 p)))) (refRow1 (mulf v (refX1 p)))) (refRow0 (mulf v (refX0 p))))

theorem refXp_at (n : Fin 4096) (d : Fin 1536) (k : ℕ) (r : Fin 4099) (hr : r.val + k = n.val + 3) :
    refXp p (ix2 r d) = back (fun n => p (ix2 n (pc d))) k n := by
  unfold refXp back pc
  pointwise
  by_cases h : k ≤ n.val
  · rw [if_pos h, dif_neg (by omega)]
    exact congrArg (fun r => p (ix2 r _)) (Fin.ext (by dsimp only; omega))
  · rw [if_neg h, dif_pos (by omega)]

theorem refX0_at (n : Fin 4096) (d : Fin 1536) : refX0 p (ix2 n d) = back (fun n => p (ix2 n (pc d))) 3 n := by
  unfold refX0
  pointwise
  exact refXp_at p n d 3 _ rfl

theorem refX1_at (n : Fin 4096) (d : Fin 1536) : refX1 p (ix2 n d) = back (fun n => p (ix2 n (pc d))) 2 n := by
  unfold refX1
  pointwise
  exact refXp_at p n d 2 _ (by dsimp only; omega)

theorem refX2_at (n : Fin 4096) (d : Fin 1536) : refX2 p (ix2 n d) = back (fun n => p (ix2 n (pc d))) 1 n := by
  unfold refX2
  pointwise
  exact refXp_at p n d 1 _ (by dsimp only; omega)

theorem refX3_at (n : Fin 4096) (d : Fin 1536) : refX3 p (ix2 n d) = back (fun n => p (ix2 n (pc d))) 0 n := by
  unfold refX3
  pointwise
  exact refXp_at p n d 0 _ (by dsimp only; omega)

theorem refTap0_at (n : Fin 4096) (d : Fin 1536) : refTap0 w (ix2 n d) = w (ix3 0 0 d) := by
  unfold refTap0
  pointwise

theorem refTap1_at (n : Fin 4096) (d : Fin 1536) : refTap1 w (ix2 n d) = w (ix3 1 0 d) := by
  unfold refTap1
  pointwise

theorem refTap2_at (n : Fin 4096) (d : Fin 1536) : refTap2 w (ix2 n d) = w (ix3 2 0 d) := by
  unfold refTap2
  pointwise

theorem refTap3_at (n : Fin 4096) (d : Fin 1536) : refTap3 w (ix2 n d) = w (ix3 3 0 d) := by
  unfold refTap3
  pointwise

theorem refUp0_at (n : Fin 4096) (d : Fin 1536) : refUp0 v (ix2 ⟨3 + n, by omega⟩ d) = ahead (fun n => v (ix2 n d)) 3 n := by
  unfold refUp0 ahead
  pointwise
  by_cases h : n.val + 3 < 4096
  · rw [dif_pos (by omega), dif_pos h]
    exact congrArg (fun r => v (ix2 r d)) (Fin.ext (by dsimp only; omega))
  · rw [dif_neg (by omega), dif_neg h]

theorem refUp1_at (n : Fin 4096) (d : Fin 1536) : refUp1 v (ix2 ⟨3 + n, by omega⟩ d) = ahead (fun n => v (ix2 n d)) 2 n := by
  unfold refUp1 ahead
  pointwise
  by_cases h : n.val + 2 < 4096
  · rw [dif_pos (by omega), dif_pos h]
    exact congrArg (fun r => v (ix2 r d)) (Fin.ext (by dsimp only; omega))
  · rw [dif_neg (by omega), dif_neg h]

theorem refUp2_at (n : Fin 4096) (d : Fin 1536) : refUp2 v (ix2 ⟨3 + n, by omega⟩ d) = ahead (fun n => v (ix2 n d)) 1 n := by
  unfold refUp2 ahead
  pointwise
  by_cases h : n.val + 1 < 4096
  · rw [dif_pos (by omega), dif_pos h]
    exact congrArg (fun r => v (ix2 r d)) (Fin.ext (by dsimp only; omega))
  · rw [dif_neg (by omega), dif_neg h]

theorem refUp3_at (n : Fin 4096) (d : Fin 1536) : refUp3 v (ix2 ⟨3 + n, by omega⟩ d) = ahead (fun n => v (ix2 n d)) 0 n := by
  unfold refUp3 ahead
  pointwise

theorem taps_comm (x₀ x₁ x₂ x₃ y : EReal) : x₀ + x₁ + x₂ + x₃ + y = y + x₃ + x₀ + x₁ + x₂ := by abel

theorem ups_comm (x₁ x₂ x₃ y : EReal) : y + x₁ + x₂ + x₃ = y + x₃ + x₂ + x₁ := by abel

theorem refY_at (n : Fin 4096) (d : Fin 1536) :
    refY p w b (ix2 n d) = conv (fun n => p (ix2 n (pc d))) (fun k => w (ix3 k 0 d)) (b (ix2 0 d)) n := by
  unfold refY conv
  pointwise
  rw [refX0_at, refX1_at, refX2_at, refX3_at, refTap0_at, refTap1_at, refTap2_at, refTap3_at, back_zero]
  exact taps_comm ..

theorem refG_at (n : Fin 4096) (d : Fin 1536) :
    refG p w b dy (ix2 n d) = dConv (fun n => p (ix2 n (pc d))) (fun k => w (ix3 k 0 d)) (b (ix2 0 d)) (fun n => dy (ix2 n d)) n := by
  unfold refG refGate refOne dConv actGrad Ideal.logistic
  pointwise
  rw [refY_at]

theorem refDx_at (n : Fin 4096) (d : Fin 1536) : refDx w v (ix2 n d) = dCol (fun k => w (ix3 k 0 d)) (fun n => v (ix2 n d)) n := by
  unfold refDx dCol
  pointwise
  refine (congrArg₂ (· + ·) (congrArg₂ (· + ·) (congrArg₂ (· + ·) (refUp3_at ..) (refUp2_at ..)) (refUp1_at ..)) (refUp0_at ..)).trans ?_
  pointwise
  simp only [refTap0_at, refTap1_at, refTap2_at, refTap3_at, ahead_mul, ahead_zero]
  exact ups_comm ..

theorem refSum_at (o : Fin 1) (d : Fin 1536) :
    refSum v (ix2 o d) = (∑ n : Fin 4096, v (ix2 n d) : EReal) := by
  unfold refSum
  pointwise
  exact Fin.sum_univ_one (M := EReal) _

theorem refDw_at (k : Fin 4) (o : Fin 1) (d : Fin 1536) :
    refDw p v (ix3 k o d) = dTap (fun n => p (ix2 n (pc d))) (fun n => v (ix2 n d)) k := by
  unfold refDw refRow0 refRow1 refRow2 refRow3 dTap
  pointwise
  simp only [refSum_at]
  fin_cases k
  all_goals simp
  all_goals pointwise
  all_goals simp only [refX0_at, refX1_at, refX2_at, refX3_at]

end

/-- The reference's frame. -/
theorem frame_reference : Cert.quiescent_Reference21Ideal := fun m ρ _ =>
  (θ_run Cert.Reference21Ideal.defs _ _).mono (fun r h => ⟨fun c => (h c).2.2.2, sem_eq_zero_of_no_sems (by decide) r.2⟩) (Cert.Reference21Ideal.Value.run m ρ)

/-- The call computes the convolution's gradients. -/
theorem algebraic : Cert.algebraic_Kernel21Ideal_Reference21Ideal := fun m ρ m' ρ' _ hargs =>
  ⟨fun c => dProj m c, fun c => dTaps m c, fun c => dBias m c,
    (θ_run Cert.Kernel21Ideal.defs _ _).mono
      (fun _ h c => ⟨(h c).1.trans (result4 m c), (h c).2.1.trans (result5 m c), (h c).2.2.1.trans (result6 m c), (h c).2.2.2⟩)
      (Cert.Kernel21Ideal.Value.run_blocks m ρ),
    (θ_run Cert.Reference21Ideal.defs _ _).mono
      (fun _ h c => by
        obtain ⟨a0, a1, a2, a3⟩ := hargs c
        have g : ∀ d, (fun n => refG (m' ((c.tc : Thread _ _).loc Cert.Reference21Ideal.main_arg0)) (m' ((c.tc : Thread _ _).loc Cert.Reference21Ideal.main_arg1))
            (m' ((c.tc : Thread _ _).loc Cert.Reference21Ideal.main_arg2)) (m' ((c.tc : Thread _ _).loc Cert.Reference21Ideal.main_arg3)) (ix2 n d)) = colG m c d := by
          rw [a0, a1, a2, a3]
          exact fun d => funext fun n => refG_at _ _ _ _ n d
        have e4 : Cert.Reference21Ideal.Value.res_main_v87 m' c = dProj m c := by
          refine Eq.trans (b := refDx (m' ((c.tc : Thread _ _).loc Cert.Reference21Ideal.main_arg1)) (refG (m' ((c.tc : Thread _ _).loc Cert.Reference21Ideal.main_arg0))
            (m' ((c.tc : Thread _ _).loc Cert.Reference21Ideal.main_arg1)) (m' ((c.tc : Thread _ _).loc Cert.Reference21Ideal.main_arg2)) (m' ((c.tc : Thread _ _).loc Cert.Reference21Ideal.main_arg3)))) rfl ?_
          funext i
          obtain ⟨n, d, rfl⟩ : ∃ n d, i = ix2 n d := ⟨i 0, i 1, by idx_vars i⟩
          refine (refDx_at _ _ n d).trans ?_
          rw [g, a1]
          rfl
        have e5 : Cert.Reference21Ideal.Value.res_main_v88 m' c = dTaps m c := by
          refine Eq.trans (b := refDw (m' ((c.tc : Thread _ _).loc Cert.Reference21Ideal.main_arg0)) (refG (m' ((c.tc : Thread _ _).loc Cert.Reference21Ideal.main_arg0))
            (m' ((c.tc : Thread _ _).loc Cert.Reference21Ideal.main_arg1)) (m' ((c.tc : Thread _ _).loc Cert.Reference21Ideal.main_arg2)) (m' ((c.tc : Thread _ _).loc Cert.Reference21Ideal.main_arg3)))) rfl ?_
          funext i
          obtain ⟨k, o, d, rfl⟩ : ∃ k o d, i = ix3 k o d := ⟨i 0, i 1, i 2, by idx_vars i⟩
          refine (refDw_at _ _ k o d).trans ?_
          rw [g, a0]
          rfl
        have e6 : Cert.Reference21Ideal.Value.res_main_v89 m' c = dBias m c := by
          refine Eq.trans (b := refSum (refG (m' ((c.tc : Thread _ _).loc Cert.Reference21Ideal.main_arg0))
            (m' ((c.tc : Thread _ _).loc Cert.Reference21Ideal.main_arg1)) (m' ((c.tc : Thread _ _).loc Cert.Reference21Ideal.main_arg2)) (m' ((c.tc : Thread _ _).loc Cert.Reference21Ideal.main_arg3)))) rfl ?_
          funext i
          obtain ⟨o, d, rfl⟩ : ∃ o d, i = ix2 o d := ⟨i 0, i 1, by idx_vars i⟩
          exact (refSum_at _ o d).trans (Finset.sum_congr (M := EReal) rfl fun n _ => congrFun (g d) n)
        exact ⟨(h c).1.trans e4, (h c).2.1.trans e5, (h c).2.2.1.trans e6, (h c).2.2.2⟩)
      (Cert.Reference21Ideal.Value.run m' ρ')⟩

end Cert.Proof.ConvBwd

end
-- ==== Proof.GateBwd.lean ====
/- The gradient of a gated pair of causal convolutions: column blocks, each taking the whole of a gate's column and of its partner's. -/
module

public import proofs.«01_k».proof.Defs
public import proofs.«01_k».proof.Proof.Gen.Kernel22Ideal.Value
public import proofs.«01_k».proof.Proof.Gen.Reference22Ideal.Run
public import proofs.«01_k».proof.Proof.Taps
public import Idealize.ShloMosaic.Lib.Pipeline.ValueKit.Geometry
public import Idealize.ShloMosaic.Lib.Pipeline.ValueKit.Acc

@[expose] public section

set_option maxRecDepth 65536

noncomputable section

/-! ## One column -/

namespace Cert.Proof.GateBwd

open Idealize.ShloMosaic Idealize.ShloMosaic.TcCoe Cert.Proof.Taps

/-- The convolution's value in row `n` of a column. -/
def conv (X : Fin 4096 → EReal) (W : Fin 3 → EReal) (B : EReal) (n : Fin 4096) : EReal :=
  B + W 2 * X n + W 0 * back X 2 n + W 1 * back X 1 n

/-- The gradient of the column, from the convolution's gradient `G`. -/
def dCol (W : Fin 3 → EReal) (G : Fin 4096 → EReal) (n : Fin 4096) : EReal :=
  W 2 * G n + W 0 * ahead G 2 n + W 1 * ahead G 1 n

/-- The gradient of the tap `k`. -/
def dTap (X G : Fin 4096 → EReal) (k : Fin 3) : EReal := ∑ n, G n * back X (2 - k.val) n

/-- The gradient of the other factor, where the gate's convolution is `y`. -/
def partnerGrad (y dy : EReal) : EReal := y * Ideal.logistic y * dy

/-! ## The kernel -/

open Cert.Kernel22Ideal Cert.Kernel22Ideal.Gen Cert.Kernel22Ideal.Value

/-- Each tap, over a block's rows. -/
def tap0 (w : FVec Ideal S3x1x128 .f32) : FVec Ideal S4096x128 .f32 :=
  broadcastTo S4096x128 (shapeCast S1x128 (extractStridedSlice S1x1x128 ![0, 0, 0] w slices_S3x1x128_o0_0_0_S1x1x128) shapeCasts_S1x1x128_S1x128) broadcasts_S1x128_S4096x128
def tap1 (w : FVec Ideal S3x1x128 .f32) : FVec Ideal S4096x128 .f32 :=
  broadcastTo S4096x128 (shapeCast S1x128 (extractStridedSlice S1x1x128 ![1, 0, 0] w slices_S3x1x128_o1_0_0_S1x1x128) shapeCasts_S1x1x128_S1x128) broadcasts_S1x128_S4096x128
def tap2 (w : FVec Ideal S3x1x128 .f32) : FVec Ideal S4096x128 .f32 :=
  broadcastTo S4096x128 (shapeCast S1x128 (extractStridedSlice S1x1x128 ![2, 0, 0] w slices_S3x1x128_o2_0_0_S1x1x128) shapeCasts_S1x1x128_S1x128) broadcasts_S1x128_S4096x128

theorem tap0_at (w : FVec Ideal S3x1x128 .f32) (n : Fin 4096) (d : Fin 128) : tap0 w (ix2 n d) = w (ix3 0 0 d) := by unfold tap0; pointwise
theorem tap1_at (w : FVec Ideal S3x1x128 .f32) (n : Fin 4096) (d : Fin 128) : tap1 w (ix2 n d) = w (ix3 1 0 d) := by unfold tap1; pointwise
theorem tap2_at (w : FVec Ideal S3x1x128 .f32) (n : Fin 4096) (d : Fin 128) : tap2 w (ix2 n d) = w (ix3 2 0 d) := by unfold tap2; pointwise

/-- A block's convolution. -/
def convBlk (x : FVec Ideal S4096x128 .f32) (w : FVec Ideal S3x1x128 .f32) (b : FVec Ideal S1x128 .f32) : FVec Ideal S4096x128 .f32 :=
  addf (addf (addf (broadcastTo S4096x128 b broadcasts_S1x128_S4096x128) (mulf (tap2 w) x)) (mulf (tap0 w) (down 2#32 x))) (mulf (tap1 w) (down 1#32 x))

theorem convBlk_at (x : FVec Ideal S4096x128 .f32) (w : FVec Ideal S3x1x128 .f32) (b : FVec Ideal S1x128 .f32) (n : Fin 4096) (d : Fin 128) :
    convBlk x w b (ix2 n d) = conv (fun n => x (ix2 n d)) (fun k => w (ix3 k 0 d)) (b (ix2 0 d)) n := by
  unfold convBlk conv
  pointwise
  simp only [down1, down2, tap0_at, tap1_at, tap2_at]

/-- A block of the column's gradient. -/
def colGrad (w : FVec Ideal S3x1x128 .f32) (G : FVec Ideal S4096x128 .f32) : FVec Ideal S4096x128 .bf16 :=
  truncf .bf16 (addf (addf (mulf (tap2 w) G) (mulf (tap0 w) (up 4094#32 G))) (mulf (tap1 w) (up 4095#32 G))) bitsLt_bf16_f32

theorem colGrad_at (w : FVec Ideal S3x1x128 .f32) (G : FVec Ideal S4096x128 .f32) (n : Fin 4096) (d : Fin 128) :
    colGrad w G (ix2 n d) = dCol (fun k => w (ix3 k 0 d)) (fun n => G (ix2 n d)) n := by
  unfold colGrad dCol
  pointwise
  simp only [up1, up2, tap0_at, tap1_at, tap2_at]

/-- The sum of a block's columns, as one tap's gradient. -/
def colSum (v : FVec Ideal S4096x128 .f32) : FVec Ideal S1x1x128 .f32 :=
  shapeCast S1x1x128 (shapeCast S1x128 (multiReduction .add [0] S128 v 0x00000000#32 reduces_S4096x128_S128 (.inl rfl) rfl) shapeCasts_S128_S1x128) shapeCasts_S1x128_S1x1x128

theorem colSum_at (v : FVec Ideal S4096x128 .f32) (o o' : Fin 1) (d : Fin 128) : colSum v (ix3 o o' d) = (∑ n : Fin 4096, v (ix2 n d) : EReal) := by
  unfold colSum
  pointwise

/-- A block of the taps' gradient. -/
def tapGrad (x G : FVec Ideal S4096x128 .f32) : FVec Ideal S3x1x128 .f32 :=
  concatenate S3x1x128 0 [⟨S1x1x128, colSum (mulf G (down 2#32 x))⟩, ⟨S1x1x128, colSum (mulf G (down 1#32 x))⟩, ⟨S1x1x128, colSum (mulf G x)⟩] concatenates_S1x1x128_S1x1x128_S1x1x128_S3x1x128_d0

theorem tapGrad_at (x G : FVec Ideal S4096x128 .f32) (k : Fin 3) (o : Fin 1) (d : Fin 128) :
    tapGrad x G (ix3 k o d) = dTap (fun n => x (ix2 n d)) (fun n => G (ix2 n d)) k := by
  unfold tapGrad dTap
  pointwise
  simp only [colSum_at]
  fin_cases k
  all_goals simp
  all_goals pointwise
  all_goals simp only [down1, down2, back_zero]

theorem pay12_at (G : FVec Ideal S4096x128 .f32) (o : Fin 1) (d : Fin 128) : (k0_pay12 G) (ix2 o d) = (∑ n : Fin 4096, G (ix2 n d) : EReal) := by
  unfold k0_pay12
  pointwise

section
variable (x u dy : S4096x128.Idx → EReal) (w w' : S3x1x128.Idx → EReal) (b b' : S1x128.Idx → EReal)

/-- A block's gradient of the gate's convolution, and of its partner's. -/
def gBlk : FVec Ideal S4096x128 .f32 :=
  k0_pay13 (k0_pay4 x w b) (k0_pay5 x w b) (k0_pay6 (k0_pay5 x w b) (Scalar.ofBits .f32 0x3F800000#32)) (k0_pay8 u w' b' dy)
def pBlk : FVec Ideal S4096x128 .f32 := k0_pay7 dy (k0_pay4 x w b) (k0_pay5 x w b)

theorem gBlk_eq : gBlk x u dy w w' b b' =
    (let y := convBlk x w b
    let g := mulf dy (convBlk u w' b')
    addf (mulf g (logistic y)) (mulf (mulf y g) (mulf (logistic y) (subf (broadcast S4096x128 (Scalar.ofBits .f32 0x3F800000#32)) (logistic y))))) := rfl

theorem pBlk_eq : pBlk x dy w b = mulf (mulf (convBlk x w b) (logistic (convBlk x w b))) dy := rfl

theorem gBlk_at (n : Fin 4096) (d : Fin 128) :
    gBlk x u dy w w' b b' (ix2 n d) = actGrad (conv (fun n => x (ix2 n d)) (fun k => w (ix3 k 0 d)) (b (ix2 0 d)) n)
      (dy (ix2 n d) * conv (fun n => u (ix2 n d)) (fun k => w' (ix3 k 0 d)) (b' (ix2 0 d)) n) := by
  rw [gBlk_eq]
  unfold actGrad
  pointwise
  simp only [convBlk_at]

theorem pBlk_at (n : Fin 4096) (d : Fin 128) :
    pBlk x dy w b (ix2 n d) = partnerGrad (conv (fun n => x (ix2 n d)) (fun k => w (ix3 k 0 d)) (b (ix2 0 d)) n) (dy (ix2 n d)) := by
  rw [pBlk_eq]
  unfold partnerGrad
  pointwise
  simp only [convBlk_at]

theorem out7_eq : out0_7 (F := Ideal) x u w w' b b' dy = colGrad w (gBlk x u dy w w' b b') := by
  unfold_out out0_7
  frame_out
  rfl

theorem out8_eq : out0_8 (F := Ideal) x u w w' b b' dy = colGrad w' (pBlk x dy w b) := by
  unfold_out out0_8
  frame_out
  rfl

theorem out9_eq : out0_9 (F := Ideal) x u w w' b b' dy = tapGrad x (gBlk x u dy w w' b b') := by
  unfold_out out0_9
  frame_out
  rfl

theorem out10_eq : out0_10 (F := Ideal) x u w w' b b' dy = tapGrad u (pBlk x dy w b) := by
  unfold_out out0_10
  frame_out
  rfl

theorem out11_eq : out0_11 (F := Ideal) x u w w' b b' dy = k0_pay12 (gBlk x u dy w w' b b') := by
  unfold_out out0_11
  frame_out
  rfl

theorem out12_eq : out0_12 (F := Ideal) x u w w' b b' dy = k0_pay12 (pBlk x dy w b) := by
  unfold_out out0_12
  frame_out
  rfl

end

variable (m : (ℓ : Loc nD τ sig) → Buf (Elt Ideal) ℓ) (c : Dev nD)

theorem bnd (t : Fin grid0.N) : t.val < 22 := by have h := lt_of_lt_of_eq t.isLt N_0; omega
theorem index0 : ∀ t : Fin grid0.N, win0_0.index t = ![0, t.val] := by decide +kernel
theorem index1 : ∀ t : Fin grid0.N, win0_1.index t = ![0, 22 + t.val] := by decide +kernel
theorem index2 : ∀ t : Fin grid0.N, win0_2.index t = ![0, 0, t.val] := by decide +kernel
theorem index3 : ∀ t : Fin grid0.N, win0_3.index t = ![0, 0, 22 + t.val] := by decide +kernel
theorem index4 : ∀ t : Fin grid0.N, win0_4.index t = ![0, t.val] := by decide +kernel
theorem index5 : ∀ t : Fin grid0.N, win0_5.index t = ![0, 22 + t.val] := by decide +kernel
theorem index6 : ∀ t : Fin grid0.N, win0_6.index t = ![0, t.val] := by decide +kernel
theorem index7 : ∀ t : Fin grid0.N, win0_7.index t = ![0, t.val] := by decide +kernel
theorem index8 : ∀ t : Fin grid0.N, win0_8.index t = ![0, t.val] := by decide +kernel
theorem index9 : ∀ t : Fin grid0.N, win0_9.index t = ![0, 0, t.val] := by decide +kernel
theorem index10 : ∀ t : Fin grid0.N, win0_10.index t = ![0, 0, t.val] := by decide +kernel
theorem index11 : ∀ t : Fin grid0.N, win0_11.index t = ![0, t.val] := by decide +kernel
theorem index12 : ∀ t : Fin grid0.N, win0_12.index t = ![0, t.val] := by decide +kernel

/-- Column `d` of grid point `t`'s block, among a half's columns. -/
def ch (t : Fin grid0.N) (d : Fin 128) : Fin 2816 := ⟨t.val * 128 + d, by have := bnd t; omega⟩

/-- A gate's column among all of them, and its partner's. -/
def lo (d : Fin 2816) : Fin 5632 := ⟨d, by omega⟩
def hi (d : Fin 2816) : Fin 5632 := ⟨2816 + d, by omega⟩

/-- The convolutions' argument, the taps, the biases, and the gradient of the product. -/
abbrev arg : S4096x5632.Idx → EReal := m ((c : Thread nD τ).loc main_arg0)
abbrev taps : S3x1x5632.Idx → EReal := m ((c : Thread nD τ).loc main_arg1)
abbrev bias : S1x5632.Idx → EReal := m ((c : Thread nD τ).loc main_arg2)
abbrev dout : S4096x2816.Idx → EReal := m ((c : Thread nD τ).loc main_arg3)

theorem blk0_at (t : Fin grid0.N) (n : Fin 4096) (d : Fin 128) : iblk m c 0 t (ix2 n d) = arg m c (ix2 n (lo (ch t d))) := by
  unfold iblk arg lo ch
  rw [← V_main_arg0 m c]
  blk_ext [index0 t]

theorem blk1_at (t : Fin grid0.N) (n : Fin 4096) (d : Fin 128) : iblk m c 1 t (ix2 n d) = arg m c (ix2 n (hi (ch t d))) := by
  unfold iblk arg hi ch
  rw [← V_main_arg0 m c]
  blk_ext [index1 t]

theorem blk2_at (t : Fin grid0.N) (k : Fin 3) (o : Fin 1) (d : Fin 128) : iblk m c 2 t (ix3 k o d) = taps m c (ix3 k o (lo (ch t d))) := by
  unfold iblk taps lo ch
  rw [← V_main_arg1 m c]
  blk_ext [index2 t]

theorem blk3_at (t : Fin grid0.N) (k : Fin 3) (o : Fin 1) (d : Fin 128) : iblk m c 3 t (ix3 k o d) = taps m c (ix3 k o (hi (ch t d))) := by
  unfold iblk taps hi ch
  rw [← V_main_arg1 m c]
  blk_ext [index3 t]

theorem blk4_at (t : Fin grid0.N) (o : Fin 1) (d : Fin 128) : iblk m c 4 t (ix2 o d) = bias m c (ix2 o (lo (ch t d))) := by
  unfold iblk bias lo ch
  rw [← V_main_arg2 m c]
  blk_ext [index4 t]

theorem blk5_at (t : Fin grid0.N) (o : Fin 1) (d : Fin 128) : iblk m c 5 t (ix2 o d) = bias m c (ix2 o (hi (ch t d))) := by
  unfold iblk bias hi ch
  rw [← V_main_arg2 m c]
  blk_ext [index5 t]

theorem blk6_at (t : Fin grid0.N) (n : Fin 4096) (d : Fin 128) : iblk m c 6 t (ix2 n d) = dout m c (ix2 n (ch t d)) := by
  unfold iblk dout ch
  rw [← V_main_arg3 m c]
  blk_ext [index6 t]

/-- A column of the argument, and the taps on it. -/
def colX (d : Fin 5632) (n : Fin 4096) : EReal := arg m c (ix2 n d)
def colW (d : Fin 5632) (k : Fin 3) : EReal := taps m c (ix3 k 0 d)

/-- The convolution down a column. -/
def colY (d : Fin 5632) (n : Fin 4096) : EReal := conv (colX m c d) (colW m c d) (bias m c (ix2 0 d)) n

/-- The gradients of a gate's convolution and of its partner's. -/
def colG (d : Fin 2816) (n : Fin 4096) : EReal := actGrad (colY m c (lo d) n) (dout m c (ix2 n d) * colY m c (hi d) n)
def colP (d : Fin 2816) (n : Fin 4096) : EReal := partnerGrad (colY m c (lo d) n) (dout m c (ix2 n d))

/-- The six results: for the gates and for their partners, the gradients of the argument, of the taps and of the biases. -/
def dGate : S4096x2816.Idx → EReal := fun i => dCol (colW m c (lo (i 1))) (colG m c (i 1)) (i 0)
def dPartner : S4096x2816.Idx → EReal := fun i => dCol (colW m c (hi (i 1))) (colP m c (i 1)) (i 0)
def dGateTaps : S3x1x2816.Idx → EReal := fun i => dTap (colX m c (lo (i 2))) (colG m c (i 2)) (i 0)
def dPartnerTaps : S3x1x2816.Idx → EReal := fun i => dTap (colX m c (hi (i 2))) (colP m c (i 2)) (i 0)
def dGateBias : S1x2816.Idx → EReal := fun i => ∑ n, colG m c (i 1) n
def dPartnerBias : S1x2816.Idx → EReal := fun i => ∑ n, colP m c (i 1) n

theorem blkX (t : Fin grid0.N) (d : Fin 128) : (fun n : Fin 4096 => (iblk m c 0 t (ix2 n d) : EReal)) = colX m c (lo (ch t d)) :=
  funext fun n => blk0_at m c t n d

theorem blkU (t : Fin grid0.N) (d : Fin 128) : (fun n : Fin 4096 => (iblk m c 1 t (ix2 n d) : EReal)) = colX m c (hi (ch t d)) :=
  funext fun n => blk1_at m c t n d

theorem blkW (t : Fin grid0.N) (d : Fin 128) : (fun k : Fin 3 => (iblk m c 2 t (ix3 k 0 d) : EReal)) = colW m c (lo (ch t d)) :=
  funext fun k => blk2_at m c t k 0 d

theorem blkW' (t : Fin grid0.N) (d : Fin 128) : (fun k : Fin 3 => (iblk m c 3 t (ix3 k 0 d) : EReal)) = colW m c (hi (ch t d)) :=
  funext fun k => blk3_at m c t k 0 d

theorem blkG (t : Fin grid0.N) (d : Fin 128) :
    (fun n : Fin 4096 => (gBlk (iblk m c 0 t) (iblk m c 1 t) (iblk m c 6 t) (iblk m c 2 t) (iblk m c 3 t) (iblk m c 4 t) (iblk m c 5 t) (ix2 n d) : EReal)) = colG m c (ch t d) := by
  funext n
  refine (gBlk_at ..).trans ?_
  rw [blkX, blkU, blkW, blkW', blk4_at, blk5_at, blk6_at]
  rfl

theorem blkP (t : Fin grid0.N) (d : Fin 128) :
    (fun n : Fin 4096 => (pBlk (iblk m c 0 t) (iblk m c 6 t) (iblk m c 2 t) (iblk m c 4 t) (ix2 n d) : EReal)) = colP m c (ch t d) := by
  funext n
  refine (pBlk_at ..).trans ?_
  rw [blkX, blkW, blk4_at, blk6_at]
  rfl

theorem result7_8 : (dats m 0 c).arrAt 7 cfg0.N = dGate m c ∧ (dats m 0 c).arrAt 8 cfg0.N = dPartner m c := by
  refine ⟨(dats m 0 c).arrAt_eq_of_covers 7 (dGate m c) (by decide +kernel) fun t _ y => ?_,
    (dats m 0 c).arrAt_eq_of_covers 8 (dPartner m c) (by decide +kernel) fun t _ y => ?_⟩
  all_goals
    obtain ⟨n, d, rfl⟩ : ∃ (n : Fin 4096) (d : Fin 128), y = ix2 n d := ⟨y 0, y 1, by idx_vars y⟩
    blk_simp
    have e : (win0_7.blk t).view.emb (ix2 n d) = ix2 n (ch t d) := by
      unfold ch
      blk_ext [index7 t]
    have e' : (win0_8.blk t).view.emb (ix2 n d) = ix2 n (ch t d) := by
      unfold ch
      blk_ext [index8 t]
    first | rw [after0_7, out7_eq, e] | rw [after0_8, out8_eq, e']
    refine (colGrad_at ..).trans ?_
    first | rw [blkW, blkG] | rw [blkW', blkP]
    rfl

theorem result9_10 : (dats m 0 c).arrAt 9 cfg0.N = dGateTaps m c ∧ (dats m 0 c).arrAt 10 cfg0.N = dPartnerTaps m c := by
  refine ⟨(dats m 0 c).arrAt_eq_of_covers 9 (dGateTaps m c) (by decide +kernel) fun t _ y => ?_,
    (dats m 0 c).arrAt_eq_of_covers 10 (dPartnerTaps m c) (by decide +kernel) fun t _ y => ?_⟩
  all_goals
    obtain ⟨k, o, d, rfl⟩ : ∃ (k : Fin 3) (o : Fin 1) (d : Fin 128), y = ix3 k o d := ⟨y 0, y 1, y 2, by idx_vars y⟩
    blk_simp
    have e : (win0_9.blk t).view.emb (ix3 k o d) = ix3 k o (ch t d) := by
      unfold ch
      blk_ext [index9 t]
    have e' : (win0_10.blk t).view.emb (ix3 k o d) = ix3 k o (ch t d) := by
      unfold ch
      blk_ext [index10 t]
    first | rw [after0_9, out9_eq, e] | rw [after0_10, out10_eq, e']
    refine (tapGrad_at ..).trans ?_
    first | rw [blkX, blkG] | rw [blkU, blkP]
    rfl

theorem result11_12 : (dats m 0 c).arrAt 11 cfg0.N = dGateBias m c ∧ (dats m 0 c).arrAt 12 cfg0.N = dPartnerBias m c := by
  refine ⟨(dats m 0 c).arrAt_eq_of_covers 11 (dGateBias m c) (by decide +kernel) fun t _ y => ?_,
    (dats m 0 c).arrAt_eq_of_covers 12 (dPartnerBias m c) (by decide +kernel) fun t _ y => ?_⟩
  all_goals
    obtain ⟨o, d, rfl⟩ : ∃ (o : Fin 1) (d : Fin 128), y = ix2 o d := ⟨y 0, y 1, by idx_vars y⟩
    blk_simp
    have e : (win0_11.blk t).view.emb (ix2 o d) = ix2 o (ch t d) := by
      unfold ch
      blk_ext [index11 t]
    have e' : (win0_12.blk t).view.emb (ix2 o d) = ix2 o (ch t d) := by
      unfold ch
      blk_ext [index12 t]
    first | rw [after0_11, out11_eq, e] | rw [after0_12, out12_eq, e']
    refine (pay12_at ..).trans (Finset.sum_congr (M := EReal) rfl fun n _ => ?_)
    first | exact congrFun (blkG m c t d) n | exact congrFun (blkP m c t d) n

end Cert.Proof.GateBwd

/-! ## The reference, and the claim -/

namespace Cert.Proof.GateBwd

open Idealize.ShloMosaic Idealize.ShloMosaic.TcCoe Idealize.SL.Sem Cert.Proof.Taps

section
open Cert.Reference22Ideal Cert.Reference22Ideal.Gen

variable (x : FVec Ideal S4096x5632 .f32) (w : FVec Ideal S3x1x5632 .f32) (b : FVec Ideal S1x5632 .f32) (dy : FVec Ideal S4096x2816 .f32)
  (v : FVec Ideal S4096x5632 .f32) (u : FVec Ideal S4096x2816 .f32)

/-- The argument under two rows of zeros. -/
def refXp : FVec Ideal S4098x5632 .f32 :=
  concatenate S4098x5632 0 [⟨S2x5632, (broadcastInDim S2x5632 ![] bcast_S_S2x5632 (constant S_ .f32 0x00000000#32))⟩, ⟨S4096x5632, x⟩] concatenates_S2x5632_S4096x5632_S4098x5632_d0

/-- What each tap multiplies. -/
def refX0 : FVec Ideal S4096x5632 .f32 := extractStridedSlice S4096x5632 ![0, 0] (refXp x) slices_S4098x5632_S4096x5632_0_0
def refX1 : FVec Ideal S4096x5632 .f32 := extractStridedSlice S4096x5632 ![1, 0] (refXp x) slices_S4098x5632_S4096x5632_1_0
def refX2 : FVec Ideal S4096x5632 .f32 := extractStridedSlice S4096x5632 ![2, 0] (refXp x) slices_S4098x5632_S4096x5632_2_0

/-- Each tap, over the rows. -/
def refTap0 : FVec Ideal S4096x5632 .f32 :=
  broadcastInDim S4096x5632 ![0, 1] bcast_S1x5632_S4096x5632_0_1 (broadcastInDim S1x5632 ![1] bcast_S5632_S1x5632_1 (shapeCast _ (extractStridedSlice S1x5632 ![0, 0] (shapeCast _ w shapeCasts_S3x1x5632_S3x5632) slices_S3x5632_S1x5632_0_0) shapeCasts_S1x5632_S5632))
def refTap1 : FVec Ideal S4096x5632 .f32 :=
  broadcastInDim S4096x5632 ![0, 1] bcast_S1x5632_S4096x5632_0_1 (broadcastInDim S1x5632 ![1] bcast_S5632_S1x5632_1 (shapeCast _ (extractStridedSlice S1x5632 ![1, 0] (shapeCast _ w shapeCasts_S3x1x5632_S3x5632) slices_S3x5632_S1x5632_1_0) shapeCasts_S1x5632_S5632))
def refTap2 : FVec Ideal S4096x5632 .f32 :=
  broadcastInDim S4096x5632 ![0, 1] bcast_S1x5632_S4096x5632_0_1 (broadcastInDim S1x5632 ![1] bcast_S5632_S1x5632_1 (shapeCast _ (extractStridedSlice S1x5632 ![2, 0] (shapeCast _ w shapeCasts_S3x1x5632_S3x5632) slices_S3x5632_S1x5632_2_0) shapeCasts_S1x5632_S5632))

/-- The convolution. -/
def refY : FVec Ideal S4096x5632 .f32 :=
  addf (addf (addf (addf (broadcastInDim S4096x5632 ![] bcast_S_S4096x5632 (constant S_ .f32 0x00000000#32)) (mulf (refTap0 w) (refX0 x))) (mulf (refTap1 w) (refX1 x))) (mulf (refTap2 w) (refX2 x)))
    (broadcastInDim S4096x5632 ![0, 1] bcast_S1x5632_S4096x5632_0_1 (broadcastInDim S1x5632 ![1] bcast_S5632_S1x5632_1 (shapeCast _ b shapeCasts_S1x5632_S5632)))

/-- The gates' convolutions, and their partners'. -/
def refLo : FVec Ideal S4096x2816 .f32 := extractStridedSlice S4096x2816 ![0, 0] v slices_S4096x5632_S4096x2816_0_0
def refHi : FVec Ideal S4096x2816 .f32 := extractStridedSlice S4096x2816 ![0, 2816] v slices_S4096x5632_S4096x2816_0_2816

def refOne : FVec Ideal S4096x2816 .f32 := broadcastInDim S4096x2816 ![] bcast_S_S4096x2816 (constant S_ .f32 0x3F800000#32)

def refGate : FVec Ideal S4096x2816 .f32 := Host.divf refOne (addf refOne (Host.exp (Host.negf u)))

/-- The gradient of the product in the gates' activation's argument, and in the partners' convolutions. -/
def refGLo : FVec Ideal S4096x2816 .f32 :=
  addf (mulf (mulf dy (refHi v)) (refGate (refLo v))) (mulf (mulf (refLo v) (mulf dy (refHi v))) (mulf (refGate (refLo v)) (subf refOne (refGate (refLo v)))))
def refGHi : FVec Ideal S4096x2816 .f32 := mulf (mulf (refLo v) (refGate (refLo v))) dy

/-- The two, side by side. -/
def refG : FVec Ideal S4096x5632 .f32 :=
  concatenate S4096x5632 1 [⟨S4096x2816, refGLo dy (refY x w b)⟩, ⟨S4096x2816, refGHi dy (refY x w b)⟩] concatenates_S4096x2816_S4096x2816_S4096x5632_d1

/-- Rows moved within a longer column. -/
def refUp0 : FVec Ideal S4098x5632 .f32 := pad S4098x5632 ![0, 0] ![2, 0] ![0, 0] v (constant S_ .f32 0x00000000#32) pads_S4096x5632_S4098x5632_020_000 h_S_
def refUp1 : FVec Ideal S4098x5632 .f32 := pad S4098x5632 ![1, 0] ![1, 0] ![0, 0] v (constant S_ .f32 0x00000000#32) pads_S4096x5632_S4098x5632_110_000 h_S_
def refUp2 : FVec Ideal S4098x5632 .f32 := pad S4098x5632 ![2, 0] ![0, 0] ![0, 0] v (constant S_ .f32 0x00000000#32) pads_S4096x5632_S4098x5632_200_000 h_S_

/-- The gradient of the argument. -/
def refDx : FVec Ideal S4096x5632 .f32 :=
  extractStridedSlice S4096x5632 ![2, 0] (addf (addf (refUp2 (mulf (refTap2 w) v)) (refUp1 (mulf (refTap1 w) v))) (refUp0 (mulf (refTap0 w) v))) slices_S4098x5632_S4096x5632_2_0

/-- A sum down the columns. -/
def refSum : FVec Ideal S5632 .f32 :=
  Host.reduceAdd (shapeCast _ (Host.reduceAdd v (constant S_ .f32 0x00000000#32) reducesTo_S4096x5632_S5632_d0 h_S_) shapeCasts_S5632_S1x5632) (constant S_ .f32 0x00000000#32) reducesTo_S1x5632_S5632_d0 h_S_

/-- Such a sum as one tap's row. -/
def refRow0 : FVec Ideal S3x5632 .f32 := pad S3x5632 ![0, 0] ![2, 0] ![0, 0] (broadcastInDim S1x5632 ![1] bcast_S5632_S1x5632_1 (refSum v)) (constant S_ .f32 0x00000000#32) pads_S1x5632_S3x5632_020_000 h_S_
def refRow1 : FVec Ideal S3x5632 .f32 := pad S3x5632 ![1, 0] ![1, 0] ![0, 0] (broadcastInDim S1x5632 ![1] bcast_S5632_S1x5632_1 (refSum v)) (constant S_ .f32 0x00000000#32) pads_S1x5632_S3x5632_110_000 h_S_
def refRow2 : FVec Ideal S3x5632 .f32 := pad S3x5632 ![2, 0] ![0, 0] ![0, 0] (broadcastInDim S1x5632 ![1] bcast_S5632_S1x5632_1 (refSum v)) (constant S_ .f32 0x00000000#32) pads_S1x5632_S3x5632_200_000 h_S_

/-- The gradient of the taps. -/
def refDw : FVec Ideal S3x5632 .f32 :=
  addf (addf (refRow2 (mulf v (refX2 x))) (refRow1 (mulf v (refX1 x)))) (refRow0 (mulf v (refX0 x)))

/-- The results: each gradient, in the gates' half and in the partners'. -/
def refDxLo : FVec Ideal S4096x2816 .bf16 := truncf .bf16 (extractStridedSlice S4096x2816 ![0, 0] (refDx w v) slices_S4096x5632_S4096x2816_0_0) bitsLt_bf16_f32
def refDxHi : FVec Ideal S4096x2816 .bf16 := truncf .bf16 (extractStridedSlice S4096x2816 ![0, 2816] (refDx w v) slices_S4096x5632_S4096x2816_0_2816) bitsLt_bf16_f32
def refDwLo : FVec Ideal S3x1x2816 .f32 := broadcastInDim S3x1x2816 ![0, 2] bcast_S3x2816_S3x1x2816_0_2 (extractStridedSlice S3x2816 ![0, 0] (refDw x v) slices_S3x5632_S3x2816_0_0)
def refDwHi : FVec Ideal S3x1x2816 .f32 := broadcastInDim S3x1x2816 ![0, 2] bcast_S3x2816_S3x1x2816_0_2 (extractStridedSlice S3x2816 ![0, 2816] (refDw x v) slices_S3x5632_S3x2816_0_2816)
def refDbLo : FVec Ideal S1x2816 .f32 := broadcastInDim S1x2816 ![1] bcast_S2816_S1x2816_1 (extractStridedSlice S2816 ![0] (refSum v) slices_S5632_S2816_0)
def refDbHi : FVec Ideal S1x2816 .f32 := broadcastInDim S1x2816 ![1] bcast_S2816_S1x2816_1 (extractStridedSlice S2816 ![2816] (refSum v) slices_S5632_S2816_2816)

theorem refXp_at (n : Fin 4096) (d : Fin 5632) (k : ℕ) (r : Fin 4098) (hr : r.val + k = n.val + 2) :
    refXp x (ix2 r d) = back (fun n => x (ix2 n d)) k n := by
  unfold refXp back
  pointwise
  by_cases h : k ≤ n.val
  · rw [if_pos h, dif_neg (by omega)]
    exact congrArg (fun r => x (ix2 r d)) (Fin.ext (by dsimp only; omega))
  · rw [if_neg h, dif_pos (by omega)]

theorem refX_at (n : Fin 4096) (d : Fin 5632) :
    refX0 x (ix2 n d) = back (fun n => x (ix2 n d)) 2 n ∧ refX1 x (ix2 n d) = back (fun n => x (ix2 n d)) 1 n
      ∧ refX2 x (ix2 n d) = back (fun n => x (ix2 n d)) 0 n := by
  unfold refX0 refX1 refX2
  pointwise
  exact ⟨refXp_at x n d 2 _ rfl, refXp_at x n d 1 _ (by dsimp only; omega), refXp_at x n d 0 _ (by dsimp only; omega)⟩

theorem refTap0_at (n : Fin 4096) (d : Fin 5632) : refTap0 w (ix2 n d) = w (ix3 0 0 d) := by unfold refTap0; pointwise
theorem refTap1_at (n : Fin 4096) (d : Fin 5632) : refTap1 w (ix2 n d) = w (ix3 1 0 d) := by unfold refTap1; pointwise
theorem refTap2_at (n : Fin 4096) (d : Fin 5632) : refTap2 w (ix2 n d) = w (ix3 2 0 d) := by unfold refTap2; pointwise

theorem refUp0_at (n : Fin 4096) (d : Fin 5632) : refUp0 v (ix2 ⟨2 + n, by omega⟩ d) = ahead (fun n => v (ix2 n d)) 2 n := by
  unfold refUp0 ahead
  pointwise
  by_cases h : n.val + 2 < 4096
  · rw [dif_pos (by omega), dif_pos h]
    exact congrArg (fun r => v (ix2 r d)) (Fin.ext (by dsimp only; omega))
  · rw [dif_neg (by omega), dif_neg h]

theorem refUp1_at (n : Fin 4096) (d : Fin 5632) : refUp1 v (ix2 ⟨2 + n, by omega⟩ d) = ahead (fun n => v (ix2 n d)) 1 n := by
  unfold refUp1 ahead
  pointwise
  by_cases h : n.val + 1 < 4096
  · rw [dif_pos (by omega), dif_pos h]
    exact congrArg (fun r => v (ix2 r d)) (Fin.ext (by dsimp only; omega))
  · rw [dif_neg (by omega), dif_neg h]

theorem refUp2_at (n : Fin 4096) (d : Fin 5632) : refUp2 v (ix2 ⟨2 + n, by omega⟩ d) = ahead (fun n => v (ix2 n d)) 0 n := by
  unfold refUp2 ahead
  pointwise

theorem taps_comm (x₀ x₁ x₂ y : EReal) : x₀ + x₁ + x₂ + y = y + x₂ + x₀ + x₁ := by abel

theorem ups_comm (x₁ x₂ y : EReal) : y + x₁ + x₂ = y + x₂ + x₁ := by abel

theorem refY_at (n : Fin 4096) (d : Fin 5632) :
    refY x w b (ix2 n d) = conv (fun n => x (ix2 n d)) (fun k => w (ix3 k 0 d)) (b (ix2 0 d)) n := by
  unfold refY conv
  pointwise
  obtain ⟨h0, h1, h2⟩ := refX_at x n d
  rw [h0, h1, h2, refTap0_at, refTap1_at, refTap2_at, back_zero]
  exact taps_comm ..

theorem refG_lo (n : Fin 4096) (d : Fin 2816) :
    refG x w b dy (ix2 n (lo d)) = actGrad (conv (fun n => x (ix2 n (lo d))) (fun k => w (ix3 k 0 (lo d))) (b (ix2 0 (lo d))) n)
      (dy (ix2 n d) * conv (fun n => x (ix2 n (hi d))) (fun k => w (ix3 k 0 (hi d))) (b (ix2 0 (hi d))) n) := by
  rw [← refY_at, ← refY_at]
  unfold refG refGLo lo
  generalize refY x w b = Y
  unfold refLo refHi refGate refOne actGrad Ideal.logistic hi
  pointwise

theorem refG_hi (n : Fin 4096) (d : Fin 2816) :
    refG x w b dy (ix2 n (hi d)) = partnerGrad (conv (fun n => x (ix2 n (lo d))) (fun k => w (ix3 k 0 (lo d))) (b (ix2 0 (lo d))) n) (dy (ix2 n d)) := by
  rw [← refY_at]
  unfold refG refGHi hi
  generalize refY x w b = Y
  unfold refLo refGate refOne partnerGrad Ideal.logistic lo
  pointwise

theorem refDx_at (n : Fin 4096) (d : Fin 5632) : refDx w v (ix2 n d) = dCol (fun k => w (ix3 k 0 d)) (fun n => v (ix2 n d)) n := by
  unfold refDx dCol
  pointwise
  refine (congrArg₂ (· + ·) (congrArg₂ (· + ·) (refUp2_at ..) (refUp1_at ..)) (refUp0_at ..)).trans ?_
  pointwise
  simp only [refTap0_at, refTap1_at, refTap2_at, ahead_mul, ahead_zero]
  exact ups_comm ..

theorem refSum_at (d : Fin 5632) : refSum v (ix1 d) = (∑ n : Fin 4096, v (ix2 n d) : EReal) := by
  unfold refSum
  pointwise
  exact Fin.sum_univ_one (M := EReal) _

theorem refDw_at (k : Fin 3) (d : Fin 5632) :
    refDw x v (ix2 k d) = dTap (fun n => x (ix2 n d)) (fun n => v (ix2 n d)) k := by
  have h0 := fun n d => (refX_at x n d).1
  have h1 := fun n d => (refX_at x n d).2.1
  have h2 := fun n d => (refX_at x n d).2.2
  unfold refDw refRow0 refRow1 refRow2 dTap
  pointwise
  simp only [refSum_at]
  fin_cases k
  all_goals simp
  all_goals pointwise
  all_goals simp only [h0, h1, h2]

theorem refDxLo_at (n : Fin 4096) (d : Fin 2816) : refDxLo w v (ix2 n d) = dCol (fun k => w (ix3 k 0 (lo d))) (fun n => v (ix2 n (lo d))) n := by
  rw [← refDx_at]
  unfold refDxLo lo
  pointwise

theorem refDxHi_at (n : Fin 4096) (d : Fin 2816) : refDxHi w v (ix2 n d) = dCol (fun k => w (ix3 k 0 (hi d))) (fun n => v (ix2 n (hi d))) n := by
  rw [← refDx_at]
  unfold refDxHi hi
  pointwise

theorem refDwLo_at (k : Fin 3) (o : Fin 1) (d : Fin 2816) : refDwLo x v (ix3 k o d) = dTap (fun n => x (ix2 n (lo d))) (fun n => v (ix2 n (lo d))) k := by
  rw [← refDw_at]
  unfold refDwLo lo
  pointwise

theorem refDwHi_at (k : Fin 3) (o : Fin 1) (d : Fin 2816) : refDwHi x v (ix3 k o d) = dTap (fun n => x (ix2 n (hi d))) (fun n => v (ix2 n (hi d))) k := by
  rw [← refDw_at]
  unfold refDwHi hi
  pointwise

theorem refDbLo_at (o : Fin 1) (d : Fin 2816) : refDbLo v (ix2 o d) = (∑ n : Fin 4096, v (ix2 n (lo d)) : EReal) := by
  rw [← refSum_at]
  unfold refDbLo lo
  pointwise

theorem refDbHi_at (o : Fin 1) (d : Fin 2816) : refDbHi v (ix2 o d) = (∑ n : Fin 4096, v (ix2 n (hi d)) : EReal) := by
  rw [← refSum_at]
  unfold refDbHi hi
  pointwise

end

/-- The reference's frame. -/
theorem frame_reference : Cert.quiescent_Reference22Ideal := fun m ρ _ =>
  (θ_run Cert.Reference22Ideal.defs _ _).mono (fun r h => ⟨fun c => (h c).2.2.2.2.2.2, sem_eq_zero_of_no_sems (by decide) r.2⟩) (Cert.Reference22Ideal.Value.run m ρ)

section
variable (m' : (ℓ : Loc Cert.Reference22Ideal.nD Cert.Reference22Ideal.τ Cert.Reference22Ideal.sig) → Buf (Elt Ideal) ℓ) (c : Dev Cert.Reference22Ideal.nD)

/-- The reference's arguments. -/
abbrev rArg : FVec Ideal Cert.Reference22Ideal.S4096x5632 .f32 := m' ((c.tc : Thread _ _).loc Cert.Reference22Ideal.main_arg0)
abbrev rTaps : FVec Ideal Cert.Reference22Ideal.S3x1x5632 .f32 := m' ((c.tc : Thread _ _).loc Cert.Reference22Ideal.main_arg1)
abbrev rBias : FVec Ideal Cert.Reference22Ideal.S1x5632 .f32 := m' ((c.tc : Thread _ _).loc Cert.Reference22Ideal.main_arg2)
abbrev rDout : FVec Ideal Cert.Reference22Ideal.S4096x2816 .f32 := m' ((c.tc : Thread _ _).loc Cert.Reference22Ideal.main_arg3)
abbrev rG : FVec Ideal Cert.Reference22Ideal.S4096x5632 .f32 := refG (rArg m' c) (rTaps m' c) (rBias m' c) (rDout m' c)

theorem res0 : Cert.Reference22Ideal.Value.res_main_v75 m' c = refDxLo (rTaps m' c) (rG m' c) := rfl
theorem res1 : Cert.Reference22Ideal.Value.res_main_v77 m' c = refDxHi (rTaps m' c) (rG m' c) := rfl
theorem res2 : Cert.Reference22Ideal.Value.res_main_v79 m' c = refDwLo (rArg m' c) (rG m' c) := rfl
theorem res3 : Cert.Reference22Ideal.Value.res_main_v81 m' c = refDwHi (rArg m' c) (rG m' c) := rfl
theorem res4 : Cert.Reference22Ideal.Value.res_main_v83 m' c = refDbLo (rG m' c) := rfl
theorem res5 : Cert.Reference22Ideal.Value.res_main_v85 m' c = refDbHi (rG m' c) := rfl

end

/-- The call computes the gradients of the gated pair of convolutions. -/
theorem algebraic : Cert.algebraic_Kernel22Ideal_Reference22Ideal := fun m ρ m' ρ' _ hargs =>
  ⟨fun c => dGate m c, fun c => dPartner m c, fun c => dGateTaps m c, fun c => dPartnerTaps m c, fun c => dGateBias m c, fun c => dPartnerBias m c,
    (θ_run Cert.Kernel22Ideal.defs _ _).mono
      (fun _ h c => ⟨(h c).1.trans (result7_8 m c).1, (h c).2.1.trans (result7_8 m c).2, (h c).2.2.1.trans (result9_10 m c).1, (h c).2.2.2.1.trans (result9_10 m c).2,
        (h c).2.2.2.2.1.trans (result11_12 m c).1, (h c).2.2.2.2.2.1.trans (result11_12 m c).2, (h c).2.2.2.2.2.2⟩)
      (Cert.Kernel22Ideal.Value.run_blocks m ρ),
    (θ_run Cert.Reference22Ideal.defs _ _).mono
      (fun _ h c => by
        obtain ⟨a0, a1, a2, a3⟩ := hargs c
        have gl : ∀ d, (fun n => rG m' c (ix2 n (lo d))) = colG m c d := by
          unfold rG rArg rTaps rBias rDout
          rw [a0, a1, a2, a3]
          exact fun d => funext fun n => refG_lo _ _ _ _ n d
        have gh : ∀ d, (fun n => rG m' c (ix2 n (hi d))) = colP m c d := by
          unfold rG rArg rTaps rBias rDout
          rw [a0, a1, a2, a3]
          exact fun d => funext fun n => refG_hi _ _ _ _ n d
        have e0 : Cert.Reference22Ideal.Value.res_main_v75 m' c = dGate m c := by
          rw [res0]
          funext i
          obtain ⟨n, d, rfl⟩ : ∃ n d, i = ix2 n d := ⟨i 0, i 1, by idx_vars i⟩
          refine (refDxLo_at _ _ n d).trans ?_
          rw [gl]
          unfold rTaps
          rw [a1]
          rfl
        have e1 : Cert.Reference22Ideal.Value.res_main_v77 m' c = dPartner m c := by
          rw [res1]
          funext i
          obtain ⟨n, d, rfl⟩ : ∃ n d, i = ix2 n d := ⟨i 0, i 1, by idx_vars i⟩
          refine (refDxHi_at _ _ n d).trans ?_
          rw [gh]
          unfold rTaps
          rw [a1]
          rfl
        have e2 : Cert.Reference22Ideal.Value.res_main_v79 m' c = dGateTaps m c := by
          rw [res2]
          funext i
          obtain ⟨k, o, d, rfl⟩ : ∃ k o d, i = ix3 k o d := ⟨i 0, i 1, i 2, by idx_vars i⟩
          refine (refDwLo_at _ _ k o d).trans ?_
          rw [gl]
          unfold rArg
          rw [a0]
          rfl
        have e3 : Cert.Reference22Ideal.Value.res_main_v81 m' c = dPartnerTaps m c := by
          rw [res3]
          funext i
          obtain ⟨k, o, d, rfl⟩ : ∃ k o d, i = ix3 k o d := ⟨i 0, i 1, i 2, by idx_vars i⟩
          refine (refDwHi_at _ _ k o d).trans ?_
          rw [gh]
          unfold rArg
          rw [a0]
          rfl
        have e4 : Cert.Reference22Ideal.Value.res_main_v83 m' c = dGateBias m c := by
          rw [res4]
          funext i
          obtain ⟨o, d, rfl⟩ : ∃ o d, i = ix2 o d := ⟨i 0, i 1, by idx_vars i⟩
          exact (refDbLo_at _ o d).trans (Finset.sum_congr (M := EReal) rfl fun n _ => congrFun (gl d) n)
        have e5 : Cert.Reference22Ideal.Value.res_main_v85 m' c = dPartnerBias m c := by
          rw [res5]
          funext i
          obtain ⟨o, d, rfl⟩ : ∃ o d, i = ix2 o d := ⟨i 0, i 1, by idx_vars i⟩
          exact (refDbHi_at _ o d).trans (Finset.sum_congr (M := EReal) rfl fun n _ => congrFun (gh d) n)
        exact ⟨(h c).1.trans e0, (h c).2.1.trans e1, (h c).2.2.1.trans e2, (h c).2.2.2.1.trans e3, (h c).2.2.2.2.1.trans e4, (h c).2.2.2.2.2.1.trans e5, (h c).2.2.2.2.2.2⟩)
      (Cert.Reference22Ideal.Value.run m' ρ')⟩

end Cert.Proof.GateBwd

end
-- ==== Proof.NormBwd.lean ====
/- The gradient of a root-mean-square norm, joined with the residual's: row blocks, and the gain's gradient summed over all of them. -/
module

public import proofs.«01_k».proof.Defs
public import proofs.«01_k».proof.Proof.Gen.Kernel23Ideal.Value
public import proofs.«01_k».proof.Proof.Gen.Reference23Ideal.Run
public import proofs.«01_k».proof.Proof.MmSum
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

/-! ## One row -/

namespace Cert.Proof.NormBwd

open Idealize.ShloMosaic Idealize.ShloMosaic.TcCoe

/-- A row's mean square, and the small constant that keeps its root away from zero. -/
def meanSq (x : Fin 1024 → EReal) : EReal :=
  Ideal.div (∑ q, x q * x q) (Ideal.ofBits .f32 0x44800000#32) + Ideal.ofBits .f32 0x358637BD#32

/-- What a row's mean square hands back to each of its elements: half of the factor, since an element enters the square twice. -/
def slope (x y g : Fin 1024 → EReal) : EReal :=
  Ideal.div ((∑ q, x q * (y q * g q)) * (Ideal.ofBits .f32 0xBF000000#32 * Ideal.div (Ideal.rsqrt (meanSq x)) (meanSq x)))
    (Ideal.ofBits .f32 0x44800000#32)

/-- The gradient of the row's element `d`, with the residual's gradient there. -/
def grad (x y g : Fin 1024 → EReal) (res : EReal) (d : Fin 1024) : EReal :=
  y d * g d * Ideal.rsqrt (meanSq x) + x d * slope x y g + slope x y g * x d + res

/-- The row's part of the gradient of the gain's element `d`. -/
def gainTerm (x y : Fin 1024 → EReal) (d : Fin 1024) : EReal := x d * Ideal.rsqrt (meanSq x) * y d

/-! ## The kernel -/

open Cert.Kernel23Ideal Cert.Kernel23Ideal.Gen Cert.Kernel23Ideal.Value

theorem pay2_at (o : Fin 1) (d : Fin 1024) : (k0_pay2 (F := Ideal)) (ix2 o d) = (0 : EReal) := by
  unfold k0_pay2
  pointwise

theorem pay3_at (v a : S1x1024.Idx → EReal) (o : Fin 1) (d : Fin 1024) :
    (k0_pay3 (F := Ideal) v a) (ix2 o d) = a (ix2 o d) + v (ix2 o d) := by
  unfold k0_pay3
  pointwise

theorem pay4_at (x : S512x1024.Idx → EReal) (r : Fin 512) (o : Fin 1) :
    (k0_pay4 (F := Ideal) x) (ix2 r o) = meanSq fun q => x (ix2 r q) := by
  unfold k0_pay4 meanSq
  pointwise

theorem pay5_at (x : S512x1024.Idx → EReal) (r : Fin 512) (o : Fin 1) :
    (k0_pay5 (F := Ideal) x) (ix2 r o) = Ideal.rsqrt (meanSq fun q => x (ix2 r q)) := by
  unfold k0_pay5
  pointwise
  rw [pay4_at]

theorem pay6_at (x y : S512x1024.Idx → EReal) (o : Fin 1) (d : Fin 1024) :
    (k0_pay6 (F := Ideal) x y) (ix2 o d) = ∑ r : Fin 512, gainTerm (fun q => x (ix2 r q)) (fun q => y (ix2 r q)) d := by
  unfold k0_pay6 gainTerm
  pointwise
  simp only [pay5_at]

theorem pay7_at (x y : S512x1024.Idx → EReal) (g : S1x1024.Idx → EReal) (r : Fin 512) (d : Fin 1024) :
    (k0_pay7 (F := Ideal) x y g) (ix2 r d) + (0 : EReal) =
      grad (fun q => x (ix2 r q)) (fun q => y (ix2 r q)) (fun q => g (ix2 0 q)) 0 d := by
  unfold k0_pay7 grad slope
  pointwise
  simp only [pay5_at, pay4_at, Fin.sum_univ_one]

theorem pay8_at (x y res : S512x1024.Idx → EReal) (g : S1x1024.Idx → EReal) (r : Fin 512) (d : Fin 1024) :
    (k0_pay8 (F := Ideal) x y res g) (ix2 r d) =
      grad (fun q => x (ix2 r q)) (fun q => y (ix2 r q)) (fun q => g (ix2 0 q)) (res (ix2 r d)) d := by
  unfold k0_pay8
  pointwise
  exact congrArg (· + res (ix2 r d)) (((add_zero (M := EReal) _).symm.trans (pay7_at ..)).trans (add_zero (M := EReal) _))

theorem pay9_at (x y res : S512x1024.Idx → EReal) (g : S1x1024.Idx → EReal) (r : Fin 512) (d : Fin 1024) :
    (k0_pay1 (k0_pay9 (F := Ideal) x y res g)) (ix2 r d) =
      grad (fun q => x (ix2 r q)) (fun q => y (ix2 r q)) (fun q => g (ix2 0 q)) (res (ix2 r d)) d :=
  pay8_at x y res g r d

section
variable {F : FTy → Type} [FloatOps F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S1x1024 .f32) (h7 : a7.IsWhole)
  (x y res : Vec F S512x1024 .f32) (g acc : Vec F S1x1024 .f32)

theorem out4_A (hc : cond0_0 i) : out0_A_4 c i a1 h1 a2 h2 a3 h3 a4 h4 a5 h5 a6 h6 a7 h7 hc x y res g = k0_pay8 x y res g := by
  frame_out

theorem out4_B (hc : ¬cond0_0 i) : out0_B_4 c i a1 h1 a2 h2 a3 h3 a4 h4 a5 h5 a6 h6 a7 h7 hc x y res g acc = k0_pay8 x y res g := by
  frame_out

theorem out5_A (hc : cond0_0 i) : out0_A_5 c i a1 h1 a2 h2 a3 h3 a4 h4 a5 h5 a6 h6 a7 h7 hc x y res g = k0_pay1 (k0_pay9 x y res g) := by
  frame_out

theorem out5_B (hc : ¬cond0_0 i) : out0_B_5 c i a1 h1 a2 h2 a3 h3 a4 h4 a5 h5 a6 h6 a7 h7 hc x y res g acc = k0_pay1 (k0_pay9 x y res g) := by
  frame_out

/-- The first row block clears the gain's gradient and adds its part. -/
theorem out6_A (hc : cond0_0 i) : out0_A_6 c i a1 h1 a2 h2 a3 h3 a4 h4 a5 h5 a6 h6 a7 h7 hc x y res g = k0_pay3 (k0_pay6 x y) (k0_pay2 (F := F)) := by
  frame_out

/-- Every later one adds its part to what the one before left. -/
theorem out6_B (hc : ¬cond0_0 i) : out0_B_6 c i a1 h1 a2 h2 a3 h3 a4 h4 a5 h5 a6 h6 a7 h7 hc x y res g acc = k0_pay3 (k0_pay6 x y) acc := by
  frame_out

end

variable (m : (ℓ : Loc nD τ sig) → Buf (Elt Ideal) ℓ) (c : Dev nD)

theorem bnd (t : Fin grid0.N) : t.val < 8 := by have h := lt_of_lt_of_eq t.isLt N_0; omega
theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel
theorem index6 : ∀ t : Fin grid0.N, win0_6.index t = ![0, 0] := by decide +kernel

/-- Row `r` of grid point `t`'s block, among all the rows. -/
def row (t : Fin grid0.N) (r : Fin 512) : Fin 4096 := ⟨t.val * 512 + r, by have := bnd t; omega⟩

/-- The norm's argument, its gain, the gradient of its result, and the residual's gradient. -/
abbrev arg : S4096x1024.Idx → EReal := m ((c : Thread nD τ).loc main_arg0)
abbrev gain : S1x1024.Idx → EReal := m ((c : Thread nD τ).loc main_arg1)
abbrev dout : S4096x1024.Idx → EReal := m ((c : Thread nD τ).loc main_arg2)
abbrev dres : S4096x1024.Idx → EReal := m ((c : Thread nD τ).loc main_arg3)

theorem blk0_at (t : Fin grid0.N) (r : Fin 512) (q : Fin 1024) : iblk m c 0 t (ix2 r q) = arg m c (ix2 (row t r) q) := by
  unfold iblk arg row
  rw [← V_main_arg0 m c]
  blk_ext [index0 t]

theorem blk1_at (t : Fin grid0.N) (r : Fin 512) (q : Fin 1024) : iblk m c 1 t (ix2 r q) = dout m c (ix2 (row t r) q) := by
  unfold iblk dout row
  rw [← V_main_arg2 m c]
  blk_ext [index1 t]

theorem blk2_at (t : Fin grid0.N) (r : Fin 512) (q : Fin 1024) : iblk m c 2 t (ix2 r q) = dres m c (ix2 (row t r) q) := by
  unfold iblk dres row
  rw [← V_main_arg3 m c]
  blk_ext [index2 t]

theorem blk3_at (t : Fin grid0.N) (o : Fin 1) (q : Fin 1024) : iblk m c 3 t (ix2 o q) = gain m c (ix2 o q) := by
  unfold iblk gain
  rw [← V_main_arg1 m c]
  blk_ext [index3 t]

/-- The argument's gradient. -/
def dArg : S4096x1024.Idx → EReal := fun i =>
  grad (fun q => arg m c (ix2 (i 0) q)) (fun q => dout m c (ix2 (i 0) q)) (fun q => gain m c (ix2 0 q)) (dres m c i) (i 1)

/-- The parts of the gradient of the gain's element `d`, row by row. -/
def part (d : Fin 1024) (n : Fin 4096) : EReal := gainTerm (fun q => arg m c (ix2 n q)) (fun q => dout m c (ix2 n q)) d

/-- The gain's gradient. -/
def dGain : S1x1024.Idx → EReal := fun i => ∑ n, part m c (i 1) n

theorem grad_blk (t : Fin grid0.N) (r : Fin 512) (d : Fin 1024) :
    grad (fun q => iblk m c 0 t (ix2 r q)) (fun q => iblk m c 1 t (ix2 r q)) (fun q => iblk m c 3 t (ix2 0 q)) (iblk m c 2 t (ix2 r d)) d
      = dArg m c (ix2 (row t r) d) := by
  have e0 : (fun q => iblk m c 0 t (ix2 r q)) = fun q => arg m c (ix2 (row t r) q) := funext fun q => blk0_at m c t r q
  have e1 : (fun q => iblk m c 1 t (ix2 r q)) = fun q => dout m c (ix2 (row t r) q) := funext fun q => blk1_at m c t r q
  have e3 : (fun q => iblk m c 3 t (ix2 0 q)) = fun q => gain m c (ix2 0 q) := funext fun q => blk3_at m c t 0 q
  rw [e0, e1, e3, blk2_at]
  rfl

theorem part_blk (t : Fin grid0.N) (r : Fin 512) (d : Fin 1024) :
    gainTerm (fun q => iblk m c 0 t (ix2 r q)) (fun q => iblk m c 1 t (ix2 r q)) d = part m c d (row t r) := by
  have e0 : (fun q => iblk m c 0 t (ix2 r q)) = fun q => arg m c (ix2 (row t r) q) := funext fun q => blk0_at m c t r q
  have e1 : (fun q => iblk m c 1 t (ix2 r q)) = fun q => dout m c (ix2 (row t r) q) := funext fun q => blk1_at m c t r q
  rw [e0, e1]
  rfl

/-- What a grid point leaves in the block of the argument's gradient. -/
theorem out4 (t : Fin cfg0.N) : (outsAt0 m c t.val t.isLt).1 = k0_pay8 (iblk m c 0 t) (iblk m c 1 t) (iblk m c 2 t) (iblk m c 3 t) := by
  by_cases h0 : t.val % 8 = 0
  · rw [outsAt0_A m c t h0, out4_A]
  · rw [outsAt0_B m c t h0, out4_B]

theorem out5 (t : Fin cfg0.N) : (outsAt0 m c t.val t.isLt).2.1 = k0_pay1 (k0_pay9 (iblk m c 0 t) (iblk m c 1 t) (iblk m c 2 t) (iblk m c 3 t)) := by
  by_cases h0 : t.val % 8 = 0
  · rw [outsAt0_A m c t h0, out5_A]
  · rw [outsAt0_B m c t h0, out5_B]

theorem result4 : (dats m 0 c).arrAt 4 cfg0.N = dArg m c := by
  refine (dats m 0 c).arrAt_eq_of_covers 4 (dArg m c) (by decide +kernel) fun t _ y => ?_
  obtain ⟨r, d, rfl⟩ : ∃ (r : Fin 512) (d : Fin 1024), y = ix2 r d := ⟨y 0, y 1, by idx_vars y⟩
  blk_simp
  rw [after0_4, out4]
  have e : (win0_4.blk t).view.emb (ix2 r d) = ix2 (row t r) d := by
    unfold row
    blk_ext [index4 t]
  rw [e, ← grad_blk m c t r d]
  exact pay8_at ..

theorem result5 : (dats m 0 c).arrAt 5 cfg0.N = dArg m c := by
  refine (dats m 0 c).arrAt_eq_of_covers 5 (dArg m c) (by decide +kernel) fun t _ y => ?_
  obtain ⟨r, d, rfl⟩ : ∃ (r : Fin 512) (d : Fin 1024), y = ix2 r d := ⟨y 0, y 1, by idx_vars y⟩
  blk_simp
  rw [after0_5, out5]
  have e : (win0_5.blk t).view.emb (ix2 r d) = ix2 (row t r) d := by
    unfold row
    blk_ext [index5 t]
  rw [e, ← grad_blk m c t r d]
  exact pay9_at ..

/-- A row block's step: the gain's gradient takes the block's parts. -/
theorem step_at (t : Fin grid0.N) (a : S1x1024.Idx → EReal) (o : Fin 1) (d : Fin 1024) :
    (k0_pay3 (F := Ideal) (k0_pay6 (iblk m c 0 t) (iblk m c 1 t)) a) (ix2 o d) = a (ix2 o d) + ∑ r : Fin 512, part m c d (row t r) :=
  (pay3_at ..).trans (congrArg _ ((pay6_at ..).trans (Finset.sum_congr (M := EReal) rfl fun r _ => part_blk m c t r d)))

/-- The last row block leaves the whole sum. -/
theorem out6 (o : Fin 1) (d : Fin 1024) : ∀ (n : ℕ) (hn : n < grid0.N), n % 8 = 7 → (outsAt0 m c n hn).2.2 (ix2 o d) = ∑ q, part m c d q := by
  have w : ∀ (n : ℕ) (h : n < grid0.N) (r : Fin 512), row ⟨n, h⟩ r = ⟨n % 8 * 512 + r.val, by omega⟩ := fun n h r =>
    Fin.ext (by have := bnd ⟨n, h⟩; unfold row; dsimp only at this ⊢; omega)
  refine Mm.fold_blocks (K := 4096) (nk := 8) (w := 512) rfl (by decide) (fun _ _ => part m c d) (fun n hn => (outsAt0 m c n hn).2.2 (ix2 o d)) _
    (fun k q _ => by omega) (fun _ _ _ => rfl) (fun n h e => ?_) (fun n h e _ => ?_) (fun n h e => ?_)
  · rw [outsAt0_A m c ⟨n, h⟩ e, out6_A]
    simp only [← w n h]
    exact (step_at m c ⟨n, h⟩ _ o d).trans (congrArg (· + _) (pay2_at o d))
  · rw [outsAt0_B m c ⟨n + 1, h⟩ e, out6_B]
    simp only [← w (n + 1) h]
    exact step_at m c ⟨n + 1, h⟩ _ o d
  · rw [outsAt0_B m c ⟨n + 1, h⟩ (by dsimp only; omega), out6_B]
    simp only [← w (n + 1) h]
    exact step_at m c ⟨n + 1, h⟩ _ o d

theorem flush6 : ∀ t : Fin grid0.N, win0_6.flush t = true → t.val % 8 = 7 := by decide +kernel

theorem result6 : (dats m 0 c).arrAt 6 cfg0.N = dGain m c := by
  refine (dats m 0 c).arrAt_eq_of_covers 6 (dGain m c) (by decide +kernel) fun t hf y => ?_
  obtain ⟨o, d, rfl⟩ : ∃ (o : Fin 1) (d : Fin 1024), y = ix2 o d := ⟨y 0, y 1, by idx_vars y⟩
  blk_simp
  rw [after0_6]
  have e : (win0_6.blk t).view.emb (ix2 o d) = ix2 o d := by blk_ext [index6 t]
  rw [e]
  exact out6 m c o d t.val t.isLt (flush6 t hf)

end Cert.Proof.NormBwd

/-! ## The reference, and the claim -/

namespace Cert.Proof.NormBwd

open Idealize.ShloMosaic Idealize.ShloMosaic.TcCoe Idealize.SL.Sem

section
open Cert.Reference23Ideal Cert.Reference23Ideal.Gen

variable (x y res : FVec Ideal S4096x1024 .f32) (g : FVec Ideal S1x1024 .f32)

/-- The reference's mean squares. -/
def refMean : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- What they hand back to the elements. -/
def refSlope : FVec Ideal S4096 .f32 :=
  Host.reduceAdd (Host.divf (mulf (shapeCast _ (Host.reduceAdd (mulf x (mulf y (broadcastInDim S4096x1024 ![0, 1] bcast_S1x1024_S4096x1024_0_1 g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (refMean x)) (refMean x)))) (broadcastInDim S4096x1 ![] bcast_S_S4096x1 (constant S_ .f32 0x44800000#32))) (constant S_ .f32 0x00000000#32) reducesTo_S4096x1_S4096_d1 h_S_

/-- The reference's gradient of the argument. -/
def refGrad : FVec Ideal S4096x1024 .f32 :=
  addf (addf (addf res (mulf (mulf y (broadcastInDim S4096x1024 ![0, 1] bcast_S1x1024_S4096x1024_0_1 g)) (broadcastInDim S4096x1024 ![0, 1] bcast_S4096x1_S4096x1024_0_1 (Host.rsqrt (refMean x)))))
    (mulf x (broadcastInDim S4096x1024 ![0] bcast_S4096_S4096x1024_0 (refSlope x y g)))) (mulf (broadcastInDim S4096x1024 ![0] bcast_S4096_S4096x1024_0 (refSlope x y g)) x)

/-- Its gradient of the gain. -/
def refGain : FVec Ideal S1x1024 .f32 :=
  shapeCast _ (Host.reduceAdd (mulf (mulf x (broadcastInDim S4096x1024 ![0, 1] bcast_S4096x1_S4096x1024_0_1 (Host.rsqrt (refMean x)))) y) (constant S_ .f32 0x00000000#32) reducesTo_S4096x1024_S1024_d0 h_S_) shapeCasts_S1024_S1x1024

theorem refMean_at (n : Fin 4096) (o : Fin 1) : refMean x (ix2 n o) = meanSq fun q => x (ix2 n q) := by
  unfold refMean meanSq
  pointwise

theorem refSlope_at (n : Fin 4096) : refSlope x y g (ix1 n) = slope (fun q => x (ix2 n q)) (fun q => y (ix2 n q)) (fun q => g (ix2 0 q)) := by
  unfold refSlope slope
  pointwise
  simp only [refMean_at, Fin.sum_univ_one]

theorem refGrad_at (n : Fin 4096) (d : Fin 1024) :
    refGrad x y res g (ix2 n d) = grad (fun q => x (ix2 n q)) (fun q => y (ix2 n q)) (fun q => g (ix2 0 q)) (res (ix2 n d)) d := by
  unfold refGrad grad
  pointwise
  rw [refMean_at, refSlope_at, add_assoc (G := EReal), add_assoc (G := EReal), add_comm (G := EReal), ← add_assoc (G := EReal)]

theorem refGain_at (o : Fin 1) (d : Fin 1024) :
    refGain x y (ix2 o d) = ∑ n : Fin 4096, gainTerm (fun q => x (ix2 n q)) (fun q => y (ix2 n q)) d := by
  unfold refGain gainTerm
  pointwise
  simp only [refMean_at]

end

/-- The reference's frame. -/
theorem frame_reference : Cert.quiescent_Reference23Ideal := fun m ρ _ =>
  (θ_run Cert.Reference23Ideal.defs _ _).mono (fun r h => ⟨fun c => (h c).2.2.2, sem_eq_zero_of_no_sems (by decide) r.2⟩) (Cert.Reference23Ideal.Value.run m ρ)

/-- The call computes the norm's gradients. -/
theorem algebraic : Cert.algebraic_Kernel23Ideal_Reference23Ideal := fun m ρ m' ρ' _ hargs =>
  ⟨fun c => dArg m c, fun c => dArg m c, fun c => dGain m c,
    (θ_run Cert.Kernel23Ideal.defs _ _).mono
      (fun _ h c => ⟨(h c).1.trans (result4 m c), (h c).2.1.trans (result5 m c), (h c).2.2.1.trans (result6 m c), (h c).2.2.2⟩)
      (Cert.Kernel23Ideal.Value.run_blocks m ρ),
    (θ_run Cert.Reference23Ideal.defs _ _).mono
      (fun _ h c => by
        obtain ⟨a0, a1, a2, a3⟩ := hargs c
        have e : refGrad (m' ((c.tc : Thread _ _).loc Cert.Reference23Ideal.main_arg0)) (m' ((c.tc : Thread _ _).loc Cert.Reference23Ideal.main_arg2))
            (m' ((c.tc : Thread _ _).loc Cert.Reference23Ideal.main_arg3)) (m' ((c.tc : Thread _ _).loc Cert.Reference23Ideal.main_arg1)) = dArg m c := by
          rw [a0, a1, a2, a3]
          funext i
          obtain ⟨n, d, rfl⟩ : ∃ n d, i = ix2 n d := ⟨i 0, i 1, by idx_vars i⟩
          exact refGrad_at _ _ _ _ n d
        have e' : refGain (m' ((c.tc : Thread _ _).loc Cert.Reference23Ideal.main_arg0)) (m' ((c.tc : Thread _ _).loc Cert.Reference23Ideal.main_arg2)) = dGain m c := by
          rw [a0, a2]
          funext i
          obtain ⟨o, d, rfl⟩ : ∃ o d, i = ix2 o d := ⟨i 0, i 1, by idx_vars i⟩
          exact refGain_at _ _ o d
        exact ⟨(h c).1.trans e, (h c).2.1.trans e, (h c).2.2.1.trans e', (h c).2.2.2⟩)
      (Cert.Reference23Ideal.Value.run m' ρ')⟩

end Cert.Proof.NormBwd

end
-- ==== Proof.CumBwd.lean ====
/- The gradient of the SSD scan's running sum: for every row, the sum of that row and all later ones. The row blocks come last to first, and each
   carries its first row's sum to the next. -/
module

public import proofs.«01_k».proof.Defs
public import proofs.«01_k».proof.Proof.Gen.Kernel24Ideal.Value
public import proofs.«01_k».proof.Proof.Gen.Reference24Ideal.Run
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.Lib.Pipeline.ReadBack
public import Idealize.ShloMosaic.Lib.WordCmp
public import Idealize.ShloMosaic.Lib.Routing.OpsOne
public import Idealize.ShloMosaic.PureOps.Ideal

@[expose] public section

set_option maxRecDepth 16384

noncomputable section

namespace Cert.Proof.CumBwd

open Cert.Kernel24Ideal Cert.Kernel24Ideal.Gen Cert.Kernel24Ideal.Value
open Idealize.ShloMosaic Idealize.ShloMosaic.TcCoe

theorem pay1_at (o : Fin 1) (d : Fin 128) : (k0_pay1 (F := Ideal)) (ix2 o d) = (0 : EReal) := by
  unfold k0_pay1
  pointwise

/-- The triangle that the products are summed over: one where the term's row is not above the result's, and zero elsewhere. -/
theorem tri_at (r q : Fin 512) :
    (FloatOps.sitofp (F := Ideal) .f32 (BitVec.setWidth 32 (IntOp.cmpi .sle (BitVec.ofNat 32 r.val) (BitVec.ofNat 32 q.val))) : EReal) = if r ≤ q then 1 else 0 := by
  rw [WordCmp.cmpi_sle_ofNat (by omega) (by omega)]
  by_cases h : r.val ≤ q.val
  · rw [if_pos (show r ≤ q from h), decide_eq_true h]
    simp [FloatOps.sitofp]
  · rw [if_neg (show ¬r ≤ q from h), decide_eq_false h]
    simp [FloatOps.sitofp]

theorem pay2_at (x : S512x128.Idx → EReal) (a : S1x128.Idx → EReal) (r : Fin 512) (d : Fin 128) :
    (k0_pay2 (F := Ideal) x a) (ix2 r d) = (∑ q : Fin 512, if r ≤ q then x (ix2 q d) else 0) + a (ix2 0 d) := by
  unfold k0_pay2
  pointwise
  refine congrArg (· + a (ix2 0 d)) (Finset.sum_congr (M := EReal) rfl fun q _ => ?_)
  rw [tri_at]
  split
  · exact one_mul _
  · exact zero_mul _

theorem pay3_at (x : S1x128.Idx → EReal) (o : Fin 1) (d : Fin 128) : (k0_pay3 (F := Ideal) x) (ix2 o d) = x (ix2 o d) := by
  unfold k0_pay3
  pointwise

section
variable {F : FTy → Type} [FloatOps F]
variable (c : Dev nD) (i : grid0.Coords) (a1 : Memref sig .tc .vmem S512x128 .f32) (h1 : a1.IsWhole) (a2 : Memref sig .tc .vmem S512x128 .f32) (h2 : a2.IsWhole)
  (a3 : Memref sig .tc .vmem S1x128 .f32) (h3 : a3.IsWhole) (x : Vec F S512x128 .f32) (acc : Vec F S1x128 .f32)

/-- The first row of what was just stored. -/
theorem first_row (z : Vec F S512x128 .f32) (o : Fin 1) (d : Fin 128) :
    k0_pay3 (View.ld (Val := Elt F) (e' := .f32) z (Rect.unit (s := S512x128) ![0, 0] ![1, 128] inb_S512x128_S1x128_0_0)) (ix2 o d) = z (ix2 0 d) := by
  unfold k0_pay3
  pointwise

theorem out_A (hc : cond0_0 i) : out0_A_1 c i a1 h1 a2 h2 a3 h3 hc x = k0_pay2 x (k0_pay1 (F := F)) := by
  frame_out

theorem out_B (hc : ¬cond0_0 i) : out0_B_1 c i a1 h1 a2 h2 a3 h3 hc x acc = k0_pay2 x acc := by
  frame_out

theorem sout_A (hc : cond0_0 i) (o : Fin 1) (d : Fin 128) : sout0_A_0 c i a1 h1 a2 h2 a3 h3 hc x (ix2 o d) = k0_pay2 x (k0_pay1 (F := F)) (ix2 0 d) := by
  frame_out
  rw [View.readCov_fill (h := by decide)]
  exact first_row (F := F) _ o d

theorem sout_B (hc : ¬cond0_0 i) (o : Fin 1) (d : Fin 128) : sout0_B_0 c i a1 h1 a2 h2 a3 h3 hc x acc (ix2 o d) = k0_pay2 x acc (ix2 0 d) := by
  frame_out
  rw [View.readCov_fill (h := by decide)]
  exact first_row (F := F) _ o d

end
/-! ## The sums -/

/-- A column, going on with zeros. -/
def ext (f : Fin 4096 → EReal) (k : ℕ) : EReal := if h : k < 4096 then f ⟨k, h⟩ else 0

/-- The sum of a column from row `n` on. -/
def tail (f : Fin 4096 → EReal) (n : ℕ) : EReal := ∑ k ∈ Finset.Ico n 4096, ext f k

theorem tail_end (f : Fin 4096 → EReal) : tail f 4096 = 0 := by
  unfold tail
  rw [Finset.Ico_self, Finset.sum_empty]

/-- The rows of a block from its row `r` on, and the rows of the blocks after it. -/
theorem tail_block (f : Fin 4096 → EReal) (b : ℕ) (hb : b < 8) (r : Fin 512) :
    (∑ q : Fin 512, if r ≤ q then f ⟨b * 512 + q.val, by omega⟩ else 0) + tail f (b * 512 + 512) = tail f (b * 512 + r.val) := by
  unfold tail
  rw [← Finset.sum_Ico_consecutive (ext f) (show b * 512 + r.val ≤ b * 512 + 512 by omega) (by omega)]
  refine congrArg (· + _) ?_
  rw [Nat.add_comm (b * 512) r.val, Nat.add_comm (b * 512) 512, ← Finset.sum_Ico_add' (ext f) r.val 512 (b * 512)]
  have e : ∀ q : Fin 512, (if r ≤ q then f ⟨b * 512 + q.val, by omega⟩ else 0) = (fun k : ℕ => if r.val ≤ k then ext f (k + b * 512) else 0) q.val := fun q => by
    dsimp only
    by_cases h : r.val ≤ q.val
    · rw [if_pos (show r ≤ q from h), if_pos h, ext, dif_pos (by omega)]
      exact congrArg f (Fin.ext (Nat.add_comm _ _))
    · rw [if_neg (show ¬r ≤ q from h), if_neg h]
  rw [Finset.sum_congr rfl fun q _ => e q, Fin.sum_univ_eq_sum_range (fun k : ℕ => if r.val ≤ k then ext f (k + b * 512) else 0) 512, ← Finset.sum_filter]
  refine Finset.sum_congr (Finset.ext fun k => ?_) fun _ _ => rfl
  rw [Finset.mem_filter, Finset.mem_range, Finset.mem_Ico]
  omega

/-- A window of the column's whole height, from row `n` on. -/
theorem tail_window (f : Fin 4096 → EReal) (n : ℕ) (hn : n < 4096) : ∑ k ∈ Finset.range 4096, ext f (n + k) = tail f n := by
  unfold tail
  rw [Finset.sum_Ico_eq_sum_range, ← Finset.sum_range_add_sum_Ico _ (show 4096 - n ≤ 4096 by omega)]
  rw [Finset.sum_eq_zero (s := Finset.Ico _ _) fun k hk => ?_, add_zero]
  rw [Finset.mem_Ico] at hk
  rw [ext, dif_neg (by omega)]

/-! ## The kernel's result -/

variable (m : (ℓ : Loc nD τ sig) → Buf (Elt Ideal) ℓ) (c : Dev nD)

theorem bnd (t : Fin grid0.N) : t.val < 8 := by have h := lt_of_lt_of_eq t.isLt N_0; omega
theorem index0 : ∀ t : Fin grid0.N, win0_0.index t = ![7 - t.val, 0] := by decide +kernel
theorem index1 : ∀ t : Fin grid0.N, win0_1.index t = ![7 - t.val, 0] := by decide +kernel

/-- The array that the call sums, a column of it, and the result. -/
abbrev arg : S4096x128.Idx → EReal := m ((c : Thread nD τ).loc main_arg0)
def col (x : S4096x128.Idx → EReal) (d : Fin 128) : Fin 4096 → EReal := fun n => x (ix2 n d)
def total : S4096x128.Idx → EReal := fun i => tail (col (arg m c) (i 1)) (i 0).val

theorem blk0_at (t : Fin grid0.N) (r : Fin 512) (d : Fin 128) :
    iblk m c 0 t (ix2 r d) = col (arg m c) d ⟨(7 - t.val) * 512 + r.val, by have := bnd t; omega⟩ := by
  unfold iblk col arg
  rw [← V_main_arg0 m c]
  blk_ext [index0 t]

/-- A row block's step, over a carry that holds the sum of all later blocks. -/
theorem step_at (t : Fin grid0.N) (a : S1x128.Idx → EReal) (r : Fin 512) (d : Fin 128)
    (ha : a (ix2 0 d) = tail (col (arg m c) d) ((7 - t.val) * 512 + 512)) :
    (k0_pay2 (F := Ideal) (iblk m c 0 t) a) (ix2 r d) = tail (col (arg m c) d) ((7 - t.val) * 512 + r.val) := by
  have hb := bnd t
  refine (pay2_at ..).trans ?_
  rw [ha, ← tail_block (col (arg m c) d) (7 - t.val) (by omega) r]
  refine congrArg (· + _) (Finset.sum_congr (M := EReal) rfl fun q _ => ?_)
  rw [blk0_at]

theorem start_at (t : Fin grid0.N) (h : t.val % 8 = 0) (d : Fin 128) :
    (k0_pay1 (F := Ideal)) (ix2 0 d) = tail (col (arg m c) d) ((7 - t.val) * 512 + 512) := by
  have hb := bnd t
  have e : (7 - t.val) * 512 + 512 = 4096 := by omega
  rw [e, tail_end]
  exact pay1_at 0 d

/-- After a grid point the carry holds the sum from the block's first row on. -/
theorem carry_at (d : Fin 128) : ∀ (n : ℕ) (hn : n < grid0.N),
    (outsAt0 m c n hn).2 (ix2 0 d) = tail (col (arg m c) d) ((7 - n) * 512)
  | 0, hn => by
    rw [outsAt0_A m c ⟨0, hn⟩ rfl]
    dsimp only
    rw [sout_A]
    exact step_at m c ⟨0, hn⟩ _ 0 d (start_at m c ⟨0, hn⟩ rfl d)
  | n + 1, hn => by
    have hb := bnd ⟨n + 1, hn⟩
    dsimp only at hb
    have e : (7 - n) * 512 = (7 - (n + 1)) * 512 + 512 := by omega
    rw [outsAt0_B m c ⟨n + 1, hn⟩ (by dsimp only; omega)]
    dsimp only
    rw [sout_B]
    exact step_at m c ⟨n + 1, hn⟩ _ 0 d ((carry_at d n (Nat.lt_of_succ_lt hn)).trans (congrArg _ e))

theorem out_at (t : Fin cfg0.N) (r : Fin 512) (d : Fin 128) :
    (outsAt0 m c t.val t.isLt).1 (ix2 r d) = tail (col (arg m c) d) ((7 - t.val) * 512 + r.val) := by
  have hb := bnd t
  by_cases h : t.val % 8 = 0
  · rw [outsAt0_A m c t h, out_A]
    exact step_at m c t _ r d (start_at m c t h d)
  · rw [outsAt0_B m c t h, out_B]
    refine step_at m c t _ r d ((carry_at m c d (t.val - 1) _).trans (congrArg _ ?_))
    omega

/-- The call's result. -/
theorem result : (dats m 0 c).arrAt 1 cfg0.N = total m c := by
  refine (dats m 0 c).arrAt_eq_of_covers 1 (total m c) (by decide +kernel) fun t _ y => ?_
  obtain ⟨r, d, rfl⟩ : ∃ (r : Fin 512) (d : Fin 128), y = ix2 r d := ⟨y 0, y 1, by idx_vars y⟩
  blk_simp
  rw [after0_1]
  have e : (win0_1.blk t).view.emb (ix2 r d) = ix2 ⟨(7 - t.val) * 512 + r.val, by have := bnd t; omega⟩ d := by
    blk_ext [index1 t]
  rw [e]
  exact out_at m c t r d

end Cert.Proof.CumBwd

/-! ## The reference, and the claim -/

namespace Cert.Proof.CumBwd

open Idealize.ShloMosaic Idealize.ShloMosaic.TcCoe Idealize.SL.Sem

section
open Cert.Reference24Ideal Cert.Reference24Ideal.Gen

/-- A left fold of additions is a sum. -/
theorem foldl_add {α : Type} (g : α → EReal) (l : List α) : ∀ a : EReal, l.foldl (fun r n => r + g n) a = a + (l.map g).sum := by
  induction l with
  | nil => exact fun a => (add_zero a).symm
  | cons x l ih => exact fun a => (ih (a + g x)).trans (by rw [List.map_cons, List.sum_cons, add_assoc])

theorem ref_at (x : FVec Ideal S4096x128 .f32) (init : FVec Ideal S_ .f32) (hi : init ix0 = (0 : EReal)) (n : Fin 4096) (d : Fin 128) :
    (Host.reduceWindowAdd ![4096, 1] ![1, 1] ![0, 0] ![4095, 0] x init reduceWindows_S4096x128_S4096x128_w4096s1p0_4095_w1s1p0_0 h_S_ : S4096x128.Idx → EReal) (ix2 n d)
      = tail (col x d) n.val := by
  have hv : init (Shape.Idx.first h_S_) = (0 : EReal) := (congrArg init (funext fun a => a.elim0)).trans hi
  rw [← tail_window (col x d) n.val n.isLt, Finset.sum_range]
  unfold Host.reduceWindowAdd
  rw [hv, Ideal.hostReduceWindowAdd_def]
  unfold Ideal.hostReduceWindowAdd Host.reduceWindow
  refine (foldl_add _ _ _).trans ((zero_add _).trans ?_)
  rw [← Fin.sum_univ_def]
  refine Fintype.sum_equiv (finCongr (Routing.numel_col 4096)) _ _ fun k => ?_
  have hk : k.val < 4096 := (k.cast (Routing.numel_col 4096)).isLt
  have w0 : ((⟨2, ![4096, 1]⟩ : Shape).rowMajor.symm k 0).val = k.val := by rw [Routing.symm_col]; rfl
  have w1 : ((⟨2, ![4096, 1]⟩ : Shape).rowMajor.symm k 1).val = 0 := by rw [Routing.symm_col]; rfl
  show _ = ext (col x d) (n.val + k.val)
  dsimp only
  split
  · next hin =>
    have h0 := hin 0
    change 0 ≤ n.val * 1 + ((⟨2, ![4096, 1]⟩ : Shape).rowMajor.symm k 0).val ∧ n.val * 1 + ((⟨2, ![4096, 1]⟩ : Shape).rowMajor.symm k 0).val - 0 < 4096 at h0
    rw [w0] at h0
    rw [ext, dif_pos (by omega)]
    refine congrArg x (funext fun a => Fin.ext ?_)
    match a with
    | ⟨0, _⟩ =>
      show n.val * 1 + ((⟨2, ![4096, 1]⟩ : Shape).rowMajor.symm k 0).val - 0 = n.val + k.val
      rw [w0]
      omega
    | ⟨1, _⟩ =>
      show d.val * 1 + ((⟨2, ![4096, 1]⟩ : Shape).rowMajor.symm k 1).val - 0 = d.val
      rw [w1]
      omega
  · next hin =>
    rw [ext, dif_neg fun hlt => hin fun a => ?_]
    match a with
    | ⟨0, _⟩ =>
      show 0 ≤ n.val * 1 + ((⟨2, ![4096, 1]⟩ : Shape).rowMajor.symm k 0).val ∧ n.val * 1 + ((⟨2, ![4096, 1]⟩ : Shape).rowMajor.symm k 0).val - 0 < 4096
      rw [w0]
      omega
    | ⟨1, _⟩ =>
      show 0 ≤ d.val * 1 + ((⟨2, ![4096, 1]⟩ : Shape).rowMajor.symm k 1).val ∧ d.val * 1 + ((⟨2, ![4096, 1]⟩ : Shape).rowMajor.symm k 1).val - 0 < 128
      rw [w1]
      omega

end

/-- The reference's frame. -/
theorem frame_reference : Cert.quiescent_Reference24Ideal := fun m ρ _ =>
  (θ_run Cert.Reference24Ideal.defs _ _).mono (fun r h => ⟨fun c => (h c).2, sem_eq_zero_of_no_sems (by decide) r.2⟩) (Cert.Reference24Ideal.Value.run m ρ)

/-- The call computes the gradient of the running sum. -/
theorem algebraic : Cert.algebraic_Kernel24Ideal_Reference24Ideal := fun m ρ m' ρ' _ hargs =>
  ⟨fun c => total m c,
    (θ_run Cert.Kernel24Ideal.defs _ _).mono (fun _ h c => ⟨(h c).1.trans (result m c), (h c).2⟩) (Cert.Kernel24Ideal.Value.run_blocks m ρ),
    (θ_run Cert.Reference24Ideal.defs _ _).mono
      (fun _ h c => ⟨(h c).1.trans (by
        rw [hargs c]
        funext i
        obtain ⟨n, d, rfl⟩ : ∃ n d, i = ix2 n d := ⟨i 0, i 1, by idx_vars i⟩
        exact ref_at _ _ (by pointwise) n d), (h c).2⟩)
      (Cert.Reference24Ideal.Value.run m' ρ')⟩

end Cert.Proof.CumBwd

end
-- ==== Proof.Whole.lean ====
/- Whole buffers: what a load or a store of every element does, ownership of one, and the bits that the kernels branch on. -/
module

public import Idealize.ShloMosaic.Lib.Pipeline.Regions
public import Idealize.ShloMosaic.Lib.Pipeline.Frame
public import Idealize.ShloMosaic.Lib.WholeRead
public import Idealize.ShloMosaic.Lib.LaneScatter.Tiles
public import Idealize.ShloMosaic.Lib.Tactic
public import Idealize.ShloMosaic.Lib.Tactic.Stretches

@[expose] public section

noncomputable section

namespace Cert.Proof

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} {sig : RefSig} {nD : ℕ} {τ : Topo}

/-- A load of a whole buffer's every element, at offset zero, is what the buffer holds; -/
theorem readAt_unread_zero {sp : Space} {d : Fin 2 → ℕ} {e : EltTy} {M : Memref sig .tc sp ⟨2, d⟩ e} (h : M.IsWhole) (X : Shape.Idx ⟨2, d⟩ → Elt F e)
    (inb : ∀ a, (![0, 0] : Fin 2 → ℕ) a + d a ≤ d a) :
    View.readAt (Elt F) M.view (Rect.unit (s := ⟨2, d⟩) ![0, 0] d inb).toLoadRect (h.unread X) = X := by
  funext y
  refine (Memref.IsWhole.readAt_unread h X _ y).trans (congrArg X ?_)
  funext a
  refine Fin.ext ?_
  exact (ValueKit.rect_emb_unit_val ..).trans (by fin_cases a <;> exact Nat.zero_add _)

/-- and a store of every element leaves the stored block. -/
theorem writes_zero {sp : Space} {d : Fin 2 → ℕ} {e : EltTy} {M : Memref sig .tc sp ⟨2, d⟩ e} (h : M.IsWhole) (f : M.view.ty.Contents (Elt F))
    (inb : ∀ a, (![0, 0] : Fin 2 → ℕ) a + d a ≤ d a) (w : Shape.Idx ⟨2, d⟩ → Elt F e) :
    M.view.writes (Elt F) f [⟨Rect.unit (s := ⟨2, d⟩) ![0, 0] d inb, w⟩] = h.unread w :=
  h.eq_unread (LaneScatter.read_whole_store M.view f (by intro a; fin_cases a <;> rfl) inb w)

/-- A bit widened and compared with zero is the bit. -/
theorem widened_bit (b : BitVec 1) : (Scalar.cmpi .ne (Scalar.extui b : BitVec 32) 0#32 = 1#1) = (b = 1#1) := by
  revert b; decide

/-- The comparison's bit is set where the words are equal. -/
theorem cmpi_eq_bit (x y : BitVec 32) : (Scalar.cmpi .eq x y = 1#1) = (x = y) := by
  by_cases h : x = y
  · simp [Scalar.cmpi, IntOp.cmpi, h]
  · have hb : (x == y) = false := beq_eq_false_iff_ne.mpr h
    simp [Scalar.cmpi, IntOp.cmpi, h, hb]

/-- A whole buffer owned at contents is its points-to at them. -/
theorem owns_unread {Name U Lvl : Type} [DecidableEq Name] [URA U] {c : Dev nD} {sp : Space} {S : Shape} {e : EltTy} {M : Memref sig .tc sp S e} (h : M.IsWhole)
    (X : S.Idx → Elt F e) :
    (owns (c : Thread nD τ) M fullShare X : sProp (MT nD τ sig Unit (Elt F) Name U Lvl)) ⊣⊢ (M.view.loc (c : Thread nD τ) ↦{fullShare} h.unread X) := by
  obtain ⟨b, hsp, hsh, he, h⟩ := h
  subst hsp hsh he
  cases h
  have e : (owns (c : Thread nD τ) (Memref.whole b) fullShare X : sProp (MT nD τ sig Unit (Elt F) Name U Lvl))
      = ((Memref.whole b).view.loc (c : Thread nD τ) ↦{fullShare} (Memref.isWhole_whole b).unread X) := by
    have eX : X = (Memref.isWhole_whole b).unread X := (Memref.isWhole_whole b).eq_unread (f := X) rfl
    exact (owns_whole ..).trans (congrArg (fun f => ((Memref.whole b).view.loc (c : Thread nD τ) ↦{fullShare} f)) eX)
  exact ⟨Entails.of_eq e, Entails.of_eq e.symm⟩

/-- What is left of an output's buffer: the stored block where the window is live, what was there where it is idle. -/
theorem leaves_of {M : Type} [URA M] {O A B : sProp M} {i f b : Bool} (hi : i = !b) (hf : f = !(!b)) (h1 : b = true → O ⊢ A) (h0 : b = false → O ⊢ B) :
    O ⊢ match (generalizing := false) i with
      | true => match (generalizing := false) f with
        | false => B
        | true => A
      | false => A := by
  subst hi hf
  cases b
  · exact h0 rfl
  · exact h1 rfl

end Cert.Proof

end
-- ==== Proof.DkvBody.lean ====
/-
  One grid point of the kernel of the keys' and values' gradients: what its body does to the buffers it is given.

  The body reads a row block's and a column block's number off two tables of ten words and the head's decay logarithm off a table of
  four. A pair on the diagonal resets both accumulators and adds the diagonal block; a pair below it adds its block; the pair of the
  last row block stores both accumulators. `run_body` states that for any float values and any contents.
-/
module

public import proofs.«01_k».proof.Proof.Gen.Kernel25Ideal.Launch
public import proofs.«01_k».proof.Proof.Gen.Kernel25Ideal.Skeleton
public import proofs.«01_k».proof.Proof.Whole

@[expose] public section

set_option maxRecDepth 16384

noncomputable section

namespace Cert.Proof.Dkv

open Cert.Kernel25Ideal Cert.Kernel25Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`, -/
abbrev Bf (c : Dev nD) {sp : Space} {S : Shape} {e : EltTy} (M : Memref sig .tc sp S e) : Type := Buf (Elt F) (M.view.loc (c : Thread nD τ))
/-- and the buffer held at given contents. -/
abbrev pt (c : Dev nD) {sp : Space} {S : Shape} {e : EltTy} (M : Memref sig .tc sp S e) (q : PosShare TreeShare) (f : Bf (F := F) c M) : sProp 𝕄 :=
  M.view.loc (c : Thread nD τ) ↦{q} f

/-- The word the body reads off a table of ten words at grid point `i`: the one its pair's number names. -/
def word (g : S10.Idx → BitVec 32) (i : grid0.Coords) : BitVec 32 :=
  g ((Rect.unit (s := S10) (k0_off1 i) S1.size (k0_off1_inb i)).emb (Shape.Idx.first (numel1_S1.symm ▸ Nat.one_pos)))

/-- The head's decay logarithm the body reads off its table at grid point `i`. -/
def lgAt (x : S4.Idx → Elt F .f32) (i : grid0.Coords) : Elt F .f32 :=
  x ((Rect.unit (s := S4) (k0_off2 i) S1.size (k0_off2_inb i)).emb (Shape.Idx.first (numel1_S1.symm ▸ Nat.one_pos)))

/-- What the keys' accumulator holds after one grid point: the diagonal block alone on the diagonal, a block more below it. -/
def stepK (v1 v3 : BitVec 32) (l : Elt F .f32) (q : S1024x128.Idx → Elt F .f32) (v : S1024x256.Idx → Elt F .f32) (dO : S1024x256.Idx → Elt F .bf16)
    (a : S1024x128.Idx → Elt F .f32) : S1024x128.Idx → Elt F .f32 :=
  if v1 = v3 then k0_pay4 (k0_pay10 q) (k0_pay11 v1 v3 l) (k0_pay13 dO v) k0_pay1 else k0_pay3 (k0_pay9 v1 v3 l q dO v a)

/-- What the values' accumulator holds after one grid point. -/
def stepV (v1 v3 : BitVec 32) (l : Elt F .f32) (q k : S1024x128.Idx → Elt F .f32) (dO : S1024x256.Idx → Elt F .bf16)
    (a : S1024x256.Idx → Elt F .f32) : S1024x256.Idx → Elt F .f32 :=
  if v1 = v3 then k0_pay12 v1 v3 q dO l k k0_pay2 else k0_pay8 v1 v3 l q k dO a

/-! ## Loads and stores of whole blocks, at the shapes of the body's buffers -/

omit [FloatOps F] in
theorem store128 {M : Memref sig .tc .vmem S1024x128 .f32} (h : M.IsWhole) (f : M.view.ty.Contents (Elt F)) (w : S1024x128.Idx → Elt F .f32) :
    M.view.writes (Elt F) f [⟨Rect.unit ![0, 0] S1024x128.size inb_S1024x128_S1024x128_0_0, w⟩] = h.unread w :=
  writes_zero (d := ![1024, 128]) h f _ w
omit [FloatOps F] in
theorem store256 {e : EltTy} {M : Memref sig .tc .vmem S1024x256 e} (h : M.IsWhole) (f : M.view.ty.Contents (Elt F)) (w : S1024x256.Idx → Elt F e) :
    M.view.writes (Elt F) f [⟨Rect.unit ![0, 0] S1024x256.size inb_S1024x256_S1024x256_0_0, w⟩] = h.unread w :=
  writes_zero (d := ![1024, 256]) h f _ w
omit [FloatOps F] in
theorem load128 {M : Memref sig .tc .vmem S1024x128 .f32} (h : M.IsWhole) (X : S1024x128.Idx → Elt F .f32) :
    View.readAt (Elt F) M.view (Rect.unit ![0, 0] S1024x128.size inb_S1024x128_S1024x128_0_0).toLoadRect (h.unread X) = X :=
  readAt_unread_zero (d := ![1024, 128]) h X _
omit [FloatOps F] in
theorem load256 {e : EltTy} {M : Memref sig .tc .vmem S1024x256 e} (h : M.IsWhole) (X : S1024x256.Idx → Elt F e) :
    View.readAt (Elt F) M.view (Rect.unit ![0, 0] S1024x256.size inb_S1024x256_S1024x256_0_0).toLoadRect (h.unread X) = X :=
  readAt_unread_zero (d := ![1024, 256]) h X _

omit [FloatOps F] in
theorem reload128 {M : Memref sig .tc .vmem S1024x128 .f32} (h : M.IsWhole) (f : M.view.ty.Contents (Elt F)) (w : S1024x128.Idx → Elt F .f32) :
    View.readAt (Elt F) M.view (Rect.unit ![0, 0] S1024x128.size inb_S1024x128_S1024x128_0_0).toLoadRect
      (M.view.writes (Elt F) f [⟨Rect.unit ![0, 0] S1024x128.size inb_S1024x128_S1024x128_0_0, w⟩]) = w := by
  rw [store128 h, load128 h]
omit [FloatOps F] in
theorem reload256 {e : EltTy} {M : Memref sig .tc .vmem S1024x256 e} (h : M.IsWhole) (f : M.view.ty.Contents (Elt F)) (w : S1024x256.Idx → Elt F e) :
    View.readAt (Elt F) M.view (Rect.unit ![0, 0] S1024x256.size inb_S1024x256_S1024x256_0_0).toLoadRect
      (M.view.writes (Elt F) f [⟨Rect.unit ![0, 0] S1024x256.size inb_S1024x256_S1024x256_0_0, w⟩]) = w := by
  rw [store256 h, load256 h]

set_option maxHeartbeats 1000000 in
/-- THE BODY: from its operands' buffers held at any contents, the row block being the column block or a later one, it ends with the
    inputs as they were, the accumulators advanced by `stepK` and `stepV`, and both stored where the row block is the last. -/
theorem run_body (c : Dev nD) (i : grid0.Coords)
    (M4 : Memref sig .tc .smem S4 .f32) (h4 : M4.IsWhole)
    (M5 M6 : Memref sig .tc .vmem S1024x128 .f32) (h5 : M5.IsWhole) (h6 : M6.IsWhole)
    (M7 : Memref sig .tc .vmem S1024x256 .f32) (h7 : M7.IsWhole)
    (M8 : Memref sig .tc .vmem S1024x256 .bf16) (h8 : M8.IsWhole)
    (M9 : Memref sig .tc .vmem S1024x128 .f32) (h9 : M9.IsWhole)
    (M10 : Memref sig .tc .vmem S1024x256 .bf16) (h10 : M10.IsWhole)
    (q2 q3 : PosShare TreeShare) (g2 g3 : S10.Idx → BitVec 32)
    (hg : word g2 i = word g3 i ↔ ¬ Scalar.cmpi .sgt (word g2 i) (word g3 i) = 1#1)
    (x4 : S4.Idx → Elt F .f32) (x5 x6 : S1024x128.Idx → Elt F .f32) (x7 : S1024x256.Idx → Elt F .f32) (x8 : S1024x256.Idx → Elt F .bf16)
    (x9 aK : S1024x128.Idx → Elt F .f32) (x10 : S1024x256.Idx → Elt F .bf16) (aV : S1024x256.Idx → Elt F .f32)
    (Q : PUnit → sProp 𝕄) :
    iprop(pt (F := F) c (Memref.whole main_c) q2 g2 ∗ pt (F := F) c (Memref.whole main_c_0) q3 g3 ∗ pt c M4 fullShare (h4.unread x4)
      ∗ pt c M5 fullShare (h5.unread x5)
      ∗ pt c M6 fullShare (h6.unread x6) ∗ pt c M7 fullShare (h7.unread x7) ∗ pt c M8 fullShare (h8.unread x8) ∗ pt c M9 fullShare (h9.unread x9)
      ∗ pt c M10 fullShare (h10.unread x10)
      ∗ pt c (Memref.whole cc0_scratch0) fullShare ((Memref.isWhole_whole cc0_scratch0).unread aK)
      ∗ pt c (Memref.whole cc0_scratch1) fullShare ((Memref.isWhole_whole cc0_scratch1).unread aV) ∗
      (iprop(pt (F := F) c (Memref.whole main_c) q2 g2 ∗ pt (F := F) c (Memref.whole main_c_0) q3 g3 ∗ pt c M4 fullShare (h4.unread x4)
      ∗ pt c M5 fullShare (h5.unread x5)
      ∗ pt c M6 fullShare (h6.unread x6) ∗ pt c M7 fullShare (h7.unread x7) ∗ pt c M8 fullShare (h8.unread x8)
      ∗ pt c M9 fullShare (h9.unread (if k0_cond4 (word g2 i) = 1#1 then stepK (word g2 i) (word g3 i) (lgAt x4 i) x5 x7 x8 aK else x9))
      ∗ pt c M10 fullShare (h10.unread (if k0_cond4 (word g2 i) = 1#1 then k0_pay5 (stepV (word g2 i) (word g3 i) (lgAt x4 i) x5 x6 x8 aV) else x10))
      ∗ pt c (Memref.whole cc0_scratch0) fullShare ((Memref.isWhole_whole cc0_scratch0).unread (stepK (word g2 i) (word g3 i) (lgAt x4 i) x5 x7 x8 aK))
      ∗ pt c (Memref.whole cc0_scratch1) fullShare ((Memref.isWhole_whole cc0_scratch1).unread (stepV (word g2 i) (word g3 i) (lgAt x4 i) x5 x6 x8 aV))) -∗ Q ⟨⟩))
    ⊢ wp frame (wpE (defs₀ (F := F)) Variants.none c none) Set.univ
        (cc0_ret_bwd_dkv i (Memref.whole main_c) (Memref.isWhole_whole _) (Memref.whole main_c_0) (Memref.isWhole_whole _) M4 h4 M5 h5 M6 h6 M7 h7 M8 h8 M9 h9 M10 h10
          (Memref.whole cc0_scratch0) (Memref.isWhole_whole _) (Memref.whole cc0_scratch1) (Memref.isWhole_whole _)) Q := by
  rw [cc0_ret_bwd_dkv_eq_skeleton]
  iintro ⟨H2, H3, H4, H5, H6, H7, H8, H9, H10, H11, H12, Hk⟩
  sl_exec!
  have e1 : run_body.sl.r (F := F) i g2 = word g2 i := rfl
  have e3 : run_body.sl.r_1 (F := F) i g3 = word g3 i := rfl
  have el : run_body.sl.r_2 i M4 h4 x4 = lgAt x4 i := Memref.IsWhole.readAt_unread h4 x4 _ _
  have el' : run_body.sl.r_4 i M4 h4 x4 = lgAt x4 i := Memref.IsWhole.readAt_unread h4 x4 _ _
  have c6 : (run_body.sl.v6 (F := F) i g2 g3 = 1#1) ↔ (word g2 i = word g3 i) := by
    sl_open_run
    exact Iff.of_eq ((widened_bit _).trans (cmpi_eq_bit _ _))
  have c9 : (run_body.sl.v9 (F := F) i g2 g3 = 1#1) ↔ (Scalar.cmpi .sgt (word g2 i) (word g3 i) = 1#1) := by
    sl_open_run
    exact Iff.of_eq (widened_bit _)
  have e5 : run_body.sl.r_5 M5 h5 x5 = k0_pay10 x5 := congrArg k0_pay10 (load128 h5 x5)
  have e7 : run_body.sl.r_7 M7 h7 M8 h8 x7 x8 = k0_pay13 x8 x7 := congrArg₂ k0_pay13 (load256 h8 x8) (load256 h7 x7)
  have e6 : run_body.sl.r_6 i M4 h4 g2 g3 x4 = k0_pay11 (word g2 i) (word g3 i) (lgAt x4 i) := congrArg (k0_pay11 (word g2 i) (word g3 i)) el'
  rw [e1]
  have l5 := load128 h5 x5
  have l6 := load128 h6 x6
  have l7 := load256 h7 x7
  have l8 := load256 h8 x8
  have s11 := fun f w => store128 (F := F) (M := Memref.whole cc0_scratch0) (Memref.isWhole_whole _) f w
  have s12 := fun f w => store256 (F := F) (M := Memref.whole cc0_scratch1) (Memref.isWhole_whole _) f w
  have s9 := fun f w => store128 (F := F) h9 f w
  have s10 := fun f w => store256 (F := F) h10 f w
  try dsimp only at s11
  try dsimp only at s12
  try dsimp only at s9
  try dsimp only at s10
  by_cases h : word g2 i = word g3 i
  on_goal 1 =>
    have d6 := c6.mpr h
    have d9 := fun h' => hg.mp h (c9.mp h')
    have e53 : run_body.sl.v53 i M4 h4 M5 h5 M7 h7 M8 h8 g2 g3 x4 x5 x7 x8 aK = k0_pay1 := by
      unfold run_body.sl.v53
      simp only [dif_pos d6, dif_neg d9]
      exact reload128 (M := Memref.whole cc0_scratch0) (Memref.isWhole_whole _) _ _
    have e41 : run_body.sl.v41 i M4 h4 M5 M6 h5 h6 M8 h8 g2 g3 x4 x5 x6 x8 aV = k0_pay2 := by
      unfold run_body.sl.v41
      simp only [dif_pos d6, dif_neg d9]
      exact reload256 (M := Memref.whole cc0_scratch1) (Memref.isWhole_whole _) _ _
    have e16 : run_body.sl.v16 i M4 h4 M5 h5 M7 h7 M8 h8 g2 g3 x4 x5 x7 x8 aK = stepK (word g2 i) (word g3 i) (lgAt x4 i) x5 x7 x8 aK := by
      unfold run_body.sl.v16 stepK
      simp only [dif_pos d6, dif_neg d9, if_pos h, e5, e6, e7, e53]
      exact reload128 (M := Memref.whole cc0_scratch0) (Memref.isWhole_whole _) _ _
    have e18 : run_body.sl.v18 i M4 h4 M5 M6 h5 h6 M8 h8 g2 g3 x4 x5 x6 x8 aV = stepV (word g2 i) (word g3 i) (lgAt x4 i) x5 x6 x8 aV := by
      unfold run_body.sl.v18 stepV
      simp only [dif_pos d6, dif_neg d9, if_pos h, e1, e3, el', e41]
      refine (reload256 (M := Memref.whole cc0_scratch1) (Memref.isWhole_whole _) _ _).trans ?_
      rw [l5, l6, l8]
    rw [e16, e18]
    have kK : k0_pay4 (run_body.sl.r_5 M5 h5 x5) (run_body.sl.r_6 i M4 h4 g2 g3 x4) (run_body.sl.r_7 M7 h7 M8 h8 x7 x8)
        (run_body.sl.v53 i M4 h4 M5 h5 M7 h7 M8 h8 g2 g3 x4 x5 x7 x8 aK) = stepK (word g2 i) (word g3 i) (lgAt x4 i) x5 x7 x8 aK := by
      rw [stepK, if_pos h, e5, e6, e7, e53]
    have kV : k0_pay12 (word g2 i) (word g3 i) x5 x8 (lgAt x4 i) x6 k0_pay2 = stepV (word g2 i) (word g3 i) (lgAt x4 i) x5 x6 x8 aV := by
      rw [stepV, if_pos h]
    rw [e3, el', kK, l5, l6, l8, e41, kV]
    simp only [dif_pos d6, dif_neg d9, s11, s12, s9, s10, dite_eq_ite, ← apply_ite h9.unread, ← apply_ite h10.unread]
  on_goal 2 =>
    have d6 := fun h' => h (c6.mp h')
    have d9 := c9.mpr (not_not.mp fun h' => h (hg.mpr h'))
    have e51 : run_body.sl.v51 i g2 g3 aK = aK := by
      unfold run_body.sl.v51
      simp only [dif_neg d6]
      exact load128 (M := Memref.whole cc0_scratch0) (Memref.isWhole_whole _) _
    have e40 : run_body.sl.v40 i g2 g3 aV = aV := by
      unfold run_body.sl.v40
      simp only [dif_neg d6]
      exact load256 (M := Memref.whole cc0_scratch1) (Memref.isWhole_whole _) _
    have kK : k0_pay3 (run_body.sl.r_3 i M4 h4 M5 h5 M7 h7 M8 h8 g2 g3 x4 x5 x7 x8 aK) = stepK (word g2 i) (word g3 i) (lgAt x4 i) x5 x7 x8 aK := by
      rw [stepK, if_neg h]
      unfold run_body.sl.r_3
      rw [e1, e3, el, l5, l7, l8, e51]
    have kV : k0_pay8 (word g2 i) (word g3 i) (lgAt x4 i) x5 x6 x8 aV = stepV (word g2 i) (word g3 i) (lgAt x4 i) x5 x6 x8 aV := by
      rw [stepV, if_neg h]
    have e16 : run_body.sl.v16 i M4 h4 M5 h5 M7 h7 M8 h8 g2 g3 x4 x5 x7 x8 aK = stepK (word g2 i) (word g3 i) (lgAt x4 i) x5 x7 x8 aK := by
      unfold run_body.sl.v16
      rw [kK]
      simp only [dif_neg d6, dif_pos d9]
      exact reload128 (M := Memref.whole cc0_scratch0) (Memref.isWhole_whole _) _ _
    have e18 : run_body.sl.v18 i M4 h4 M5 M6 h5 h6 M8 h8 g2 g3 x4 x5 x6 x8 aV = stepV (word g2 i) (word g3 i) (lgAt x4 i) x5 x6 x8 aV := by
      unfold run_body.sl.v18
      rw [e1, e3, el, l5, l6, l8, e40, kV]
      simp only [dif_neg d6, dif_pos d9]
      exact reload256 (M := Memref.whole cc0_scratch1) (Memref.isWhole_whole _) _ _
    rw [e16, e18, e3, el, kK, l5, l6, l8, e40, kV]
    simp only [dif_neg d6, dif_pos d9, s11, s12, s9, s10, dite_eq_ite, ← apply_ite h9.unread, ← apply_ite h10.unread]
  all_goals
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Proof.Dkv

end
-- ==== Proof.DkvGrid.lean ====
/- The grid of the keys' and values' gradients: the block pairs in order, the blocks the windows take, and where the outputs are stored. -/
module

public import proofs.«01_k».proof.Proof.DkvBody
public import Idealize.ShloMosaic.PureOps.Ideal

@[expose] public section

set_option maxRecDepth 16384

noncomputable section

namespace Cert.Proof.Dkv

open Cert.Kernel25Ideal Cert.Kernel25Ideal.Gen

open Idealize.ShloMosaic
open Idealize.ShloMosaic.TcCoe

variable {F : FTy → Type} [FloatOps F]

/-- The row blocks' numbers, in the order the grid takes the pairs, -/
abbrev tabI : S10.Idx → BitVec 32 := fun i => lit0 (S10.rowMajor i)
/-- and the column blocks'. -/
abbrev tabJ : S10.Idx → BitVec 32 := fun i => lit1 (S10.rowMajor i)

omit [FloatOps F] in
/-- The tables' contents. -/
abbrev pf0 : pre0.Contents (Elt F) := fun
  | 0 => tabI
  | 1 => tabJ
  | ⟨_ + 2, h⟩ => absurd h (Nat.not_lt.2 (Nat.le_add_left _ _))

/-- Every block of a window is inside its array, and a block of half-words begins and ends at a word. -/
theorem inb128 : ∀ (i : grid0.Coords) (a : Fin 2),
    ((![(word tabI i).toNat, (BitVec.ofNat 32 (i 0).val).toNat] : Fin 2 → ℕ) a + 1) * S1024x128.size a ≤ S4096x512.size a
      ∧ ((![(word tabJ i).toNat, (BitVec.ofNat 32 (i 0).val).toNat] : Fin 2 → ℕ) a + 1) * S1024x128.size a ≤ S4096x512.size a := by
  decide +kernel
theorem inb256 : ∀ (i : grid0.Coords) (a : Fin 2),
    ((![(word tabJ i).toNat, (Scalar.addi 4#32 (BitVec.ofNat 32 (i 0).val)).toNat] : Fin 2 → ℕ) a + 1) * S1024x256.size a ≤ S4096x2048.size a
      ∧ ((![(word tabI i).toNat, (BitVec.ofNat 32 (i 0).val).toNat] : Fin 2 → ℕ) a + 1) * S1024x256.size a ≤ S4096x1024.size a
      ∧ ((![(word tabJ i).toNat, (BitVec.ofNat 32 (i 0).val).toNat] : Fin 2 → ℕ) a + 1) * S1024x256.size a ≤ S4096x1024.size a := by
  decide +kernel
theorem words256 : ∀ (i : grid0.Coords),
    (Rect.block (s := S4096x1024) S1024x256.size ![(word tabI i).toNat, (BitVec.ofNat 32 (i 0).val).toNat] (fun a => (inb256 i a).2.1)).WholeWords (EltTy.packing .bf16)
      ∧ (Rect.block (s := S4096x1024) S1024x256.size ![(word tabJ i).toNat, (BitVec.ofNat 32 (i 0).val).toNat] (fun a => (inb256 i a).2.2)).WholeWords (EltTy.packing .bf16) := by
  decide +kernel

/-- The tables' contents are within bounds. -/
theorem ok_pf0 : ok0 (F := F) pf0 := by
  unfold ok0
  exact ⟨fun i => ⟨fun a => (inb128 i a).1, Or.inl rfl⟩, fun i => ⟨fun a => (inb128 i a).2, Or.inl rfl⟩, fun i => ⟨fun a => (inb256 i a).1, Or.inl rfl⟩,
    fun i => ⟨fun a => (inb256 i a).2.1, Or.inr (words256 i).1⟩, fun i => ⟨fun a => (inb128 i a).2, Or.inl rfl⟩,
    fun i => ⟨fun a => (inb256 i a).2.2, Or.inr (words256 i).2⟩⟩

/-- The admissible contents. -/
def adm : (pcfg0 (F := F)).Adm := ⟨pf0, ok_pf0⟩

theorem win_eq (w : Fin 7) : win0 (F := F) adm w = win0 (F := Ideal) adm w := by
  fin_cases w <;> rfl

/-- A pair is on the diagonal or below it, -/
theorem pairs : ∀ i : grid0.Coords, word tabI i = word tabJ i ↔ ¬ Scalar.cmpi .sgt (word tabI i) (word tabJ i) = 1#1 := by decide +kernel
/-- the first pair is on it, -/
theorem first_pair : ∀ t : Fin grid0.N, t.val = 0 → word tabI (grid0.coords t) = word tabJ (grid0.coords t) := by decide +kernel
/-- and both outputs' blocks are written back exactly at the pairs of the last row block. -/
theorem flush56 : ∀ t : Fin grid0.N, (win0 (F := Ideal) adm 5).flush t = (k0_cond4 (word tabI (grid0.coords t)) == 1#1)
    ∧ (win0 (F := Ideal) adm 6).flush t = (k0_cond4 (word tabI (grid0.coords t)) == 1#1) := by decide +kernel

end Cert.Proof.Dkv

end
-- ==== Proof.DkvRun.lean ====
/-
  The kernel of the keys' and values' gradients run from launch to return, for any float values.

  Twelve host operations fill the two tables of block numbers, the heads' decay logarithms and the columns of the projection that hold
  the values; then one kernel region runs over the grid of heads and block pairs. `dats` names what each staging buffer and the
  accumulators hold between grid points, `body_obligation` says that the body keeps to it, and `run_main` is the run's end: every
  window's array at the contents computed from those, the arguments as they were, every counter at zero.
-/
module

public import proofs.«01_k».proof.Proof.DkvGrid

@[expose] public section

set_option maxRecDepth 16384

noncomputable section

namespace Cert.Proof.Dkv

open Cert.Kernel25Ideal Cert.Kernel25Ideal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The library's resource algebra, the only one here. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## Before the region -/

/-- The launch memory on core `c`, -/
abbrev V₀ (c : Dev nD) : Valuation τ sig (Elt F) := fun b => m ((c : Dev nD), b)
/-- and what the buffers hold when the region is entered. -/
def V (c : Dev nD) (b : Ref sig .tc) : Buf (Elt F) ((c : Thread nD τ).loc b) := StableHlo.after hostOps0 (V₀ m c) b

/-- The buffers the twelve operations write. -/
abbrev hostOut : List (Ref sig .tc) := [main_c, main_c_0, main_v0, main_cst, main_v1, main_v2, main_cst_1, main_v3, main_v4, main_v5, main_v6, main_v7]

/-- A buffer none of them writes enters the region as launched. -/
theorem V_of_not_written (c : Dev nD) (b : Ref sig .tc) (hb : ∀ b' ∈ hostOut, b ≠ b') : V m c b = m ((c : Thread nD τ).loc b) := by
  refine StableHlo.after_of_forall_not_mem (b := Proc.devRef .tc b) hostOps0 (V₀ m c) fun op hop => ?_
  simp only [List.mem_cons, List.mem_nil_iff, or_false] at hop
  simp only [hostOut, List.forall_mem_cons] at hb
  obtain ⟨h0, h1, h2, h3, h4, h5, h6, h7, h8, h9, h10, h11, -⟩ := hb
  rcases hop with rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The tables hold the block numbers. -/
theorem V_tabI (c : Dev nD) : V m c main_c = tabI := by
  unfold V; simp only [hostOps0]; after_results; rfl
theorem V_tabJ (c : Dev nD) : V m c main_c_0 = tabJ := by
  unfold V; simp only [hostOps0]; after_results; rfl

/-- The unscoped buffers, among which the host operations run. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The proof data -/

/-- A window's block of its array at a grid point, as the region finds the array. -/
def blkOf (c : Dev nD) (w : Fin 7) (t : Fin grid0.N) : (win0 (F := F) adm w).block.Idx → Elt F (win0 (F := F) adm w).elt :=
  ((win0 (F := F) adm w).blk t).view.read (Elt F) (V m c (Pipeline.arrRef spec0 w))

/-- The decay logarithm, the queries', keys', values' and output gradients' blocks at grid point `t`. -/
def lgB (c : Dev nD) (t : Fin grid0.N) : Elt F .f32 := lgAt (blkOf m c 0 t) (grid0.coords t)
def qB (c : Dev nD) (t : Fin grid0.N) : S1024x128.Idx → Elt F .f32 := blkOf m c 1 t
def kB (c : Dev nD) (t : Fin grid0.N) : S1024x128.Idx → Elt F .f32 := blkOf m c 2 t
def vB (c : Dev nD) (t : Fin grid0.N) : S1024x256.Idx → Elt F .f32 := blkOf m c 3 t
def doB (c : Dev nD) (t : Fin grid0.N) : S1024x256.Idx → Elt F .bf16 := blkOf m c 4 t

/-- The row and the column block's number at grid point `t`. -/
abbrev wI (t : Fin grid0.N) : BitVec 32 := word tabI (grid0.coords t)
abbrev wJ (t : Fin grid0.N) : BitVec 32 := word tabJ (grid0.coords t)

/-- The accumulators after grid point `t`, from what they held before, -/
def nextK (c : Dev nD) (t : Fin grid0.N) (a : S1024x128.Idx → Elt F .f32) : S1024x128.Idx → Elt F .f32 :=
  stepK (wI t) (wJ t) (lgB m c t) (qB m c t) (vB m c t) (doB m c t) a
def nextV (c : Dev nD) (t : Fin grid0.N) (a : S1024x256.Idx → Elt F .f32) : S1024x256.Idx → Elt F .f32 :=
  stepV (wI t) (wJ t) (lgB m c t) (qB m c t) (kB m c t) (doB m c t) a
/-- and before the `k`-th point. -/
def accK (c : Dev nD) : ℕ → S1024x128.Idx → Elt F .f32
  | 0 => k0_pay1
  | k + 1 => if h : k < grid0.N then nextK m c ⟨k, h⟩ (accK c k) else accK c k
def accV (c : Dev nD) : ℕ → S1024x256.Idx → Elt F .f32
  | 0 => k0_pay2
  | k + 1 => if h : k < grid0.N then nextV m c ⟨k, h⟩ (accV c k) else accV c k

/-- Between grid points: the tables, and the accumulators at their contents (at any before the first point). -/
def Φc (c : Dev nD) (k : ℕ) : sProp 𝕄 :=
  iprop(pt (F := F) c (Memref.whole main_c) fullShare tabI ∗ pt (F := F) c (Memref.whole main_c_0) fullShare tabJ
    ∗ (∃ a : S1024x128.Idx → Elt F .f32, ⌜k ≠ 0 → a = accK m c k⌝ ∗ pt c (Memref.whole cc0_scratch0) fullShare ((Memref.isWhole_whole cc0_scratch0).unread a))
    ∗ ∃ a : S1024x256.Idx → Elt F .f32, ⌜k ≠ 0 → a = accV m c k⌝ ∗ pt c (Memref.whole cc0_scratch1) fullShare ((Memref.isWhole_whole cc0_scratch1).unread a))

/-- The proof data: the arrays as the region finds them; the inputs' blocks as fetched and the outputs' as computed; nothing owed. -/
def dats (_ : Fin 1) (c : Dev nD) : Dat τ (Elt F) Unit ℕ (UR sig nD τ) ℕ (cfg0 (F := F) adm) c where
  A w := V m c (Pipeline.arrRef spec0 w)
  after w t := match w with
    | ⟨0, _⟩ => blkOf m c 0 t
    | ⟨1, _⟩ => blkOf m c 1 t
    | ⟨2, _⟩ => blkOf m c 2 t
    | ⟨3, _⟩ => blkOf m c 3 t
    | ⟨4, _⟩ => blkOf m c 4 t
    | ⟨5, _⟩ => accK m c (t.val + 1)
    | ⟨6, _⟩ => k0_pay5 (accV m c (t.val + 1))
  Φ k := Φc m c k.val
  q _ := fullShare
  owed _ := 0

theorem A_eq (c : Dev nD) (w : Fin 7) : (dats m 0 c).A w = V m c (Pipeline.arrRef spec0 w) := by
  dsimp only [dats]

/-- What the body finds in the inputs' buffers: their blocks. -/
theorem before_in (c : Dev nD) (t : Fin grid0.N) (w : Fin 7) (hw : w.val < 5) (d) : (dats m 0 c).before w t d = blkOf m c w t := by
  revert d
  fin_cases w <;> first | exact absurd hw (by decide) | exact fun d => (dats m 0 c).before_in_eq_fetched _ rfl (fun _ => rfl) (fun _ _ _ => rfl) (fun _ => rfl) t d

/-! ## The body's obligation -/

theorem accK_succ (c : Dev nD) (k : ℕ) (h : k < grid0.N) : accK m c (k + 1) = nextK m c ⟨k, h⟩ (accK m c k) := by
  rw [accK, dif_pos h]
theorem accV_succ (c : Dev nD) (k : ℕ) (h : k < grid0.N) : accV m c (k + 1) = nextV m c ⟨k, h⟩ (accV m c k) := by
  rw [accV, dif_pos h]

/-- The first point resets the accumulators: what they held does not matter. -/
theorem nextK_first (c : Dev nD) (t : Fin grid0.N) (ht : t.val = 0) (a a' : S1024x128.Idx → Elt F .f32) : nextK m c t a = nextK m c t a' := by
  unfold nextK stepK
  rw [if_pos (first_pair t ht), if_pos (first_pair t ht)]
theorem nextV_first (c : Dev nD) (t : Fin grid0.N) (ht : t.val = 0) (a a' : S1024x256.Idx → Elt F .f32) : nextV m c t a = nextV m c t a' := by
  unfold nextV stepV
  rw [if_pos (first_pair t ht), if_pos (first_pair t ht)]

/-- The word of the row blocks' table at a grid point, as the outputs' windows read it. -/
theorem atD_I (i : grid0.Coords) : (pf0 (F := F)).atD 0 (k0_off1 i) = word tabI i := by
  unfold Pipeline.Prefetch.Contents.atD
  split
  · exact congrArg tabI (by funext a; fin_cases a; exact Fin.ext (Nat.add_zero _).symm)
  · next h => exact (h (show ∀ a : Fin 1, k0_off1 i a + 1 ≤ S10.size a from fun a => by fin_cases a; exact k0_off1_inb i 0)).elim

/-- The outputs' windows are idle exactly off the last row block. -/
theorem idle5_eq (i : grid0.Coords) : idle0 (F := F) pf0 5 i = !(k0_cond4 (word tabI i) == 1#1) := by
  rw [← atD_I (F := F)]
theorem idle6_eq (i : grid0.Coords) : idle0 (F := F) pf0 6 i = !(k0_cond4 (word tabI i) == 1#1) := by
  rw [← atD_I (F := F)]
theorem flush5_eq (t : Fin grid0.N) : (win0 (F := F) adm 5).flush t = !(!(k0_cond4 (wI t) == 1#1)) := by
  rw [win_eq, Bool.not_not]; exact (flush56 t).1
theorem flush6_eq (t : Fin grid0.N) : (win0 (F := F) adm 6).flush t = !(!(k0_cond4 (wI t) == 1#1)) := by
  rw [win_eq, Bool.not_not]; exact (flush56 t).2

/-- The body's label, run at a grid point. -/
theorem defs₀_row (t : Fin grid0.N) (s : (w : Fin 7) → Fin (spec0 w).nbuf) :
    defs₀ (F := F) .tc 0 (t, s) = cc0_ret_bwd_dkv (grid0.coords t) (Memref.whole main_c) (Memref.isWhole_whole _) (Memref.whole main_c_0) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (Memref.whole cc0_scratch0) (Memref.isWhole_whole _) (Memref.whole cc0_scratch1) (Memref.isWhole_whole _) := by
  unfold defs₀; rw [Defs.onTc_tc]

/-- The body at a grid point, on the windows' current buffers. -/
theorem point_run (c : Dev nD) (t : Fin grid0.N) (s : (w : Fin 7) → Fin (spec0 w).nbuf) (x9 : S1024x128.Idx → Elt F .f32) (x10 : S1024x256.Idx → Elt F .bf16)
    (Q : PUnit → sProp 𝕄) :
    iprop(Φc m c t.val
        ∗ owns (c : Thread nD τ) (spec0_0.stage (s 0)) fullShare (blkOf m c 0 t) ∗ owns (c : Thread nD τ) (spec0_1.stage (s 1)) fullShare (blkOf m c 1 t)
        ∗ owns (c : Thread nD τ) (spec0_2.stage (s 2)) fullShare (blkOf m c 2 t) ∗ owns (c : Thread nD τ) (spec0_3.stage (s 3)) fullShare (blkOf m c 3 t)
        ∗ owns (c : Thread nD τ) (spec0_4.stage (s 4)) fullShare (blkOf m c 4 t) ∗ owns (c : Thread nD τ) (spec0_5.stage (s 5)) fullShare x9
        ∗ owns (c : Thread nD τ) (spec0_6.stage (s 6)) fullShare x10
        ∗ (iprop(Φc m c (t.val + 1)
        ∗ owns (c : Thread nD τ) (spec0_0.stage (s 0)) fullShare (blkOf m c 0 t) ∗ owns (c : Thread nD τ) (spec0_1.stage (s 1)) fullShare (blkOf m c 1 t)
        ∗ owns (c : Thread nD τ) (spec0_2.stage (s 2)) fullShare (blkOf m c 2 t) ∗ owns (c : Thread nD τ) (spec0_3.stage (s 3)) fullShare (blkOf m c 3 t)
        ∗ owns (c : Thread nD τ) (spec0_4.stage (s 4)) fullShare (blkOf m c 4 t)
        ∗ owns (c : Thread nD τ) (spec0_5.stage (s 5)) fullShare (if k0_cond4 (wI t) = 1#1 then accK m c (t.val + 1) else x9)
        ∗ owns (c : Thread nD τ) (spec0_6.stage (s 6)) fullShare (if k0_cond4 (wI t) = 1#1 then k0_pay5 (accV m c (t.val + 1)) else x10)) -∗ Q ⟨⟩))
    ⊢ wp frame (wpE (defs₀ (F := F)) Variants.none c none) Set.univ (defs₀ (F := F) .tc 0 (t, s)) Q := by
  rw [defs₀_row]
  have o0 := owns_unread (F := F) (τ := τ) (Name := ℕ) (U := UR sig nD τ) (Lvl := ℕ) (c := c) (M := spec0_0.stage (s 0)) (hstage0_0 ((s 0).cast nbuf0_0)) (blkOf m c 0 t)
  have o1 := owns_unread (F := F) (τ := τ) (Name := ℕ) (U := UR sig nD τ) (Lvl := ℕ) (c := c) (M := spec0_1.stage (s 1)) (hstage0_1 ((s 1).cast nbuf0_1)) (blkOf m c 1 t)
  have o2 := owns_unread (F := F) (τ := τ) (Name := ℕ) (U := UR sig nD τ) (Lvl := ℕ) (c := c) (M := spec0_2.stage (s 2)) (hstage0_2 ((s 2).cast nbuf0_2)) (blkOf m c 2 t)
  have o3 := owns_unread (F := F) (τ := τ) (Name := ℕ) (U := UR sig nD τ) (Lvl := ℕ) (c := c) (M := spec0_3.stage (s 3)) (hstage0_3 ((s 3).cast nbuf0_3)) (blkOf m c 3 t)
  have o4 := owns_unread (F := F) (τ := τ) (Name := ℕ) (U := UR sig nD τ) (Lvl := ℕ) (c := c) (M := spec0_4.stage (s 4)) (hstage0_4 ((s 4).cast nbuf0_4)) (blkOf m c 4 t)
  have o5 := fun X => owns_unread (F := F) (τ := τ) (Name := ℕ) (U := UR sig nD τ) (Lvl := ℕ) (c := c) (M := spec0_5.stage (s 5)) (hstage0_5 ((s 5).cast nbuf0_5)) X
  have o6 := fun X => owns_unread (F := F) (τ := τ) (Name := ℕ) (U := UR sig nD τ) (Lvl := ℕ) (c := c) (M := spec0_6.stage (s 6)) (hstage0_6 ((s 6).cast nbuf0_6)) X
  unfold Φc
  iintro ⟨⟨HI, HJ, ⟨%a, %ha, Hs⟩, ⟨%b, %hb, Hu⟩⟩, H0, H1, H2, H3, H4, H5, H6, Hk⟩
  ihave H0 := o0.1 $$ H0
  ihave H1 := o1.1 $$ H1
  ihave H2 := o2.1 $$ H2
  ihave H3 := o3.1 $$ H3
  ihave H4 := o4.1 $$ H4
  ihave H5 := (o5 x9).1 $$ H5
  ihave H6 := (o6 x10).1 $$ H6
  have hK : nextK m c t a = accK m c (t.val + 1) := by
    rw [accK_succ m c t.val t.isLt]
    by_cases h0 : t.val = 0
    · exact nextK_first m c t h0 _ _
    · rw [ha h0]
  have hV : nextV m c t b = accV m c (t.val + 1) := by
    rw [accV_succ m c t.val t.isLt]
    by_cases h0 : t.val = 0
    · exact nextV_first m c t h0 _ _
    · rw [hb h0]
  iapply (run_body c (grid0.coords t) _ (hstage0_0 ((s 0).cast nbuf0_0)) _ _ (hstage0_1 ((s 1).cast nbuf0_1)) (hstage0_2 ((s 2).cast nbuf0_2)) _ (hstage0_3 ((s 3).cast nbuf0_3)) _ (hstage0_4 ((s 4).cast nbuf0_4)) _ (hstage0_5 ((s 5).cast nbuf0_5)) _ (hstage0_6 ((s 6).cast nbuf0_6))
    fullShare fullShare tabI tabJ (pairs _) (blkOf m c 0 t) (blkOf m c 1 t) (blkOf m c 2 t) (blkOf m c 3 t) (blkOf m c 4 t) x9 a x10 b)
  isplitl [HI]; · iexact HI
  isplitl [HJ]; · iexact HJ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  isplitl [Hu]; · iexact Hu
  iintro ⟨HI, HJ, H0, H1, H2, H3, H4, H5, H6, Hs, Hu⟩
  rw [show stepK (word tabI (grid0.coords t)) (word tabJ (grid0.coords t)) (lgAt (blkOf m c 0 t) (grid0.coords t)) (blkOf m c 1 t) (blkOf m c 3 t) (blkOf m c 4 t) a = accK m c (t.val + 1) from hK,
    show stepV (word tabI (grid0.coords t)) (word tabJ (grid0.coords t)) (lgAt (blkOf m c 0 t) (grid0.coords t)) (blkOf m c 1 t) (blkOf m c 2 t) (blkOf m c 4 t) b = accV m c (t.val + 1) from hV]
  iapply Hk
  isplitl [HI HJ Hs Hu]
  · isplitl [HI]; · iexact HI
    isplitl [HJ]; · iexact HJ
    isplitl [Hs]
    · iexists (accK m c (t.val + 1))
      isplitr; · ipureintro; exact fun _ => rfl
      iexact Hs
    iexists (accV m c (t.val + 1))
    isplitr; · ipureintro; exact fun _ => rfl
    iexact Hu
  isplitl [H0]; · iapply o0.2; iexact H0
  isplitl [H1]; · iapply o1.2; iexact H1
  isplitl [H2]; · iapply o2.2; iexact H2
  isplitl [H3]; · iapply o3.2; iexact H3
  isplitl [H4]; · iapply o4.2; iexact H4
  isplitl [H5]; · iapply (o5 _).2; iexact H5
  iapply (o6 _).2; iexact H6

/-- The body keeps to the proof data at every grid point. -/
theorem body_obligation (c : Dev nD) : BodyObligation (dats m 0 c) (defs₀ (F := F)) Variants.none () Set.univ := fun t => by
  have hrun := fun x9 x10 Q => triple_restated (W' := wp frame (wpE (defs₀ (F := F)) Variants.none c none) Set.univ (defs₀ .tc (cfg0 (F := F) adm).body ((cfg0 (F := F) adm).bodyArgs t ((cfg0 (F := F) adm).slots t))))
    (point_run m c t (fun w => (cfg0 (F := F) adm).slots t w) x9 x10 Q) rfl .rfl (fun _ => .rfl)
  rw [bigSep_W0, bigSep_W0]
  simp only [before_in m c t 0 (by decide), before_in m c t 1 (by decide), before_in m c t 2 (by decide), before_in m c t 3 (by decide), before_in m c t 4 (by decide)]
  rw [show (dats m 0 c).Φ t.castSucc = Φc m c t.val from rfl, show (dats m 0 c).Φ t.succ = Φc m c (t.val + 1) from rfl]
  unfold Dat.owesAt Pipeline.owesWithin
  rw [show (dats m 0 c).owed t.castSucc = 0 from rfl, show (dats m 0 c).owed t.succ = 0 from rfl]
  iintro ⟨HΦ, HO, ⟨%d0, H0⟩, ⟨%d1, H1⟩, ⟨%d2, H2⟩, ⟨%d3, H3⟩, ⟨%d4, H4⟩, ⟨%d5, H5⟩, ⟨%d6, H6⟩⟩
  iapply (hrun ((dats m 0 c).before 5 t d5) ((dats m 0 c).before 6 t d6) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨HΦ, H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  have hA5 : k0_cond4 (wI t) == 1#1 → (owns (c : Thread nD τ) (spec0_5.stage ((cfg0 (F := F) adm).slots t 5)) fullShare (if k0_cond4 (wI t) = 1#1 then accK m c (t.val + 1) else (dats m 0 c).before 5 t d5) : sProp 𝕄)
      ⊢ owns (c : Thread nD τ) (spec0_5.stage ((cfg0 (F := F) adm).slots t 5)) fullShare ((dats m 0 c).after 5 t) :=
    fun hc => Entails.of_eq (congrArg _ (if_pos (beq_iff_eq.mp hc)))
  have hB5 : (k0_cond4 (wI t) == 1#1) = false → (owns (c : Thread nD τ) (spec0_5.stage ((cfg0 (F := F) adm).slots t 5)) fullShare (if k0_cond4 (wI t) = 1#1 then accK m c (t.val + 1) else (dats m 0 c).before 5 t d5) : sProp 𝕄)
      ⊢ iprop(∃ d, owns (c : Thread nD τ) (spec0_5.stage ((cfg0 (F := F) adm).slots t 5)) fullShare ((dats m 0 c).before 5 t d)) := fun hc => by
    refine (Entails.of_eq (congrArg _ (if_neg (fun h => Bool.false_ne_true (hc.symm.trans (beq_iff_eq.mpr h)))))).trans ?_
    iintro H
    iexists d5
    iexact H
  have hA6 : k0_cond4 (wI t) == 1#1 → (owns (c : Thread nD τ) (spec0_6.stage ((cfg0 (F := F) adm).slots t 6)) fullShare (if k0_cond4 (wI t) = 1#1 then k0_pay5 (accV m c (t.val + 1)) else (dats m 0 c).before 6 t d6) : sProp 𝕄)
      ⊢ owns (c : Thread nD τ) (spec0_6.stage ((cfg0 (F := F) adm).slots t 6)) fullShare ((dats m 0 c).after 6 t) :=
    fun hc => Entails.of_eq (congrArg _ (if_pos (beq_iff_eq.mp hc)))
  have hB6 : (k0_cond4 (wI t) == 1#1) = false → (owns (c : Thread nD τ) (spec0_6.stage ((cfg0 (F := F) adm).slots t 6)) fullShare (if k0_cond4 (wI t) = 1#1 then k0_pay5 (accV m c (t.val + 1)) else (dats m 0 c).before 6 t d6) : sProp 𝕄)
      ⊢ iprop(∃ d, owns (c : Thread nD τ) (spec0_6.stage ((cfg0 (F := F) adm).slots t 6)) fullShare ((dats m 0 c).before 6 t d)) := fun hc => by
    refine (Entails.of_eq (congrArg _ (if_neg (fun h => Bool.false_ne_true (hc.symm.trans (beq_iff_eq.mpr h)))))).trans ?_
    iintro H
    iexists d6
    iexact H
  have h5 := leaves_of (idle5_eq (F := F) (grid0.coords t)) (flush5_eq (F := F) t) hA5 hB5
  have h6 := leaves_of (idle6_eq (F := F) (grid0.coords t)) (flush6_eq (F := F) t) hA6 hB6
  isplitl [H5]
  · exact h5
  · exact h6

/-! ## The launch -/

/-- The launch element: the pipeline's. -/
def u₀ : UR sig nD τ := initOf (Pipeline.cells (Pipeline.pin (pcfgs (F := F)) fun _ => adm) (cellOf_inj fun _ => adm)) (Pipeline.launchToks (Pipeline.pin (pcfgs (F := F)) fun _ => adm) (cellOf_inj fun _ => adm))

/-- An array's contents after the run. -/
def finalA (c : Dev nD) (w : Fin 7) : Buf (Elt F) (((cfg0 (F := F) adm).win w).arr.view.loc (c : Thread nD τ)) := (dats m 0 c).arrAt w (cfg0 (F := F) adm).N

/-- The run's end. -/
def QC : PUnit × MemSt nD τ sig (Elt F) → Prop := fun r =>
  ∀ c : Dev nD, (∀ w : Fin 7, r.2.mem (((cfg0 (F := F) adm).win w).arr.view.loc (c : Thread nD τ)) = finalA m c w)
    ∧ r.2.mem ((c : Thread nD τ).loc main_arg2) = m ((c : Thread nD τ).loc main_arg2)

abbrev L : GSem nD τ sig → Finset Unit := fun _ => ∅
abbrev lv : GSem nD τ sig → Unit → ℕ := fun _ _ => 0
abbrev adms : (p : Fin 1) → (pcfgs (F := F) p).Adm := fun _ => adm

/-- The core's obligations, carried beside the buffers. -/
abbrev R (c : Dev nD) : sProp 𝕄 := iprop(∃ W, owes (c : Thread nD τ) (0 : CellTallies nD τ sig Unit) W)

/-- The host operations. -/
def seg0 : Pipeline.HostSeg (Name := ℕ) (U := UR sig nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the region leaves. -/
abbrev Tₙ (c : Dev nD) : sProp 𝕄 :=
  iprop((dats m 0 c).arrays ((dats m 0 c).arrAt · (cfg0 (F := F) adm).N) ∗ (((c : Thread nD τ).loc main_arg2) ↦{fullShare} V m c main_arg2))

/-- The two tables, held one by one. -/
theorem prefHeld_eq (c : Dev nD) :
    (Pipeline.prefHeld (Ix := Unit) (Name := ℕ) (U := UR sig nD τ) (Lvl := ℕ) (nD := nD) (τ := τ) pre0 c (fun _ => fullShare) (pf0 (F := F)) : sProp 𝕄)
      = iprop(pt (F := F) c (Memref.whole main_c) fullShare tabI ∗ pt (F := F) c (Memref.whole main_c_0) fullShare tabJ) := by
  unfold Pipeline.prefHeld
  rw [show (Finset.univ : Finset (Fin 2)) = insert 0 {1} from by decide, bigSep_insert (by decide), bigSep_singleton]
  rfl

/-- The tables' contents when the region is entered. -/
theorem V_pre (c : Dev nD) : (fun k => V m c (pre0.ref k)) = pf0 (F := F) := by
  funext k
  fin_cases k
  · exact V_tabI m c
  · exact V_tabJ m c

/-- The unscoped buffers sorted at the region's entry. -/
theorem entry_split (c : Dev nD) :
    (unscopedBufs c (V m c) : sProp 𝕄) ⊢ iprop((dats m 0 c).arrays ((dats m 0 c).arrAt · 0)
      ∗ Pipeline.prefHeld pre0 c (fun _ => fullShare) (pf0 (F := F)) ∗ (((c : Thread nD τ).loc main_arg2) ↦{fullShare} V m c main_arg2)) := by
  refine (Pipeline.arrays_of_unscopedBufs (pcfgs (F := F)) adms (dats m) (launch0 (F := F)).win (launch0 (F := F)).arr_whole c
      ((dats m 0 c).share_full fun _ => rfl) (V m c) (A_eq m c)).trans (sep_mono .rfl ?_)
  refine (Entails.of_eq (Pipeline.unscopedRest_split preFacts0 c (V m c))).trans ?_
  rw [V_pre, unscopedRestP0_eq]
  iintro ⟨Hp, H2, -⟩
  isplitl [Hp] <;> iassumption

theorem entry_arrays (c : Dev nD) : (iprop(StableHlo.held (c : Thread nD τ) ucRefs (StableHlo.after hostOps0 (V₀ m c))) : sProp 𝕄) ⊢ unscopedBufs c (V m c) :=
  Entails.of_eq (unscopedBufs_held c _).symm

set_option backward.isDefEq.respectTransparency.types false in
/-- The region. -/
def reg0 : Pipeline.RegionSeg (pcfgs (F := F)) adms (dats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(emp)
  Y c := iprop(emp)
  Z c := ((c : Thread nD τ).loc main_arg2) ↦{fullShare} V m c main_arg2
  hentry c := by
    have hs := (entry_arrays m c).trans (entry_split m c)
    iintro ⟨⟨Hub, HO⟩, Hos, -⟩
    ihave H := hs $$ Hub
    icases H with ⟨Ha, Hp, H2⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact H2
  hin c := by
    rw [show (dats m 0 c).Φ 0 = Φc m c 0 from rfl]; unfold Φc
    rw [scopedRest0_eq]
    iintro ⟨-, Hp, ⟨%f, Hs⟩, ⟨%g, Hu⟩⟩
    ihave Hp := (show (Pipeline.prefHeld (pcfgs (F := F) 0).pre c (fun _ => fullShare) (adms (F := F) 0).1 : sProp 𝕄) ⊢ _ from Entails.of_eq (prefHeld_eq c)) $$ Hp
    icases Hp with ⟨HI, HJ⟩
    isplitl [HI]; · iexact HI
    isplitl [HJ]; · iexact HJ
    isplitl [Hs]
    · iexists (View.read (Elt F) (Memref.whole cc0_scratch0).view f)
      isplitr; · ipureintro; exact fun h => absurd rfl h
      rw [Memref.IsWhole.unread_read]
      iexact Hs
    iexists (View.read (Elt F) (Memref.whole cc0_scratch1).view g)
    isplitr; · ipureintro; exact fun h => absurd rfl h
    rw [Memref.IsWhole.unread_read]
    iexact Hu
  hout c := by
    rw [show (dats m 0 c).Φ (Fin.last _) = Φc m c (cfg0 (F := F) adm).N from rfl]; unfold Φc
    rw [scopedRest0_eq, Pipeline.ownSems0_none]
    iintro ⟨-, -, ⟨%a, -, Hs⟩, ⟨%b, -, Hu⟩⟩
    isplitr; · iempintro
    isplitr; · iempintro
    isplitl [Hs]
    · iexists _; iexact Hs
    iexists _; iexact Hu
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

/-- The program as its two segments. -/
abbrev segs : List (Pipeline.Seg (pcfgs (F := F)) adms (dats m) () defs₀ Variants.none L lv) := [.host (seg0 m), .region (reg0 m)]

set_option backward.isDefEq.respectTransparency.types false in
/-- The run: from any memory with zero counters every fair execution ends, with every window's array at the computed contents. -/
theorem run_main : θ_run defs (onTc (τ := τ) (main (F := F))) ⟨m, fun _ => 0, ρ⟩ (fun r => QC m r ∧ r.2.sem = fun _ => 0) :=
  Pipeline.θ_run_regions_kit_sems (pcfgs (F := F)) adms (dats m) () (cellOf_inj fun _ => adm) EP defs₀ Variants.none L lv m ρ main (segs m)
    (fun c Q => by rw [main_segs adms (dats m) () Variants.none L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ (F := F))
    (hu₀ := by
      refine (show (ownU (u₀ (F := F)) : sProp 𝕄) ⊢ BI.own (EP (F := F) (u₀ (F := F))) from BI.Entails.refl _).trans ?_
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => (∀ w : Fin 7, s.mem (((cfg0 (F := F) adm).win w).arr.view.loc (c : Thread nD τ)) = finalA m c w)
      ∧ s.mem ((c : Thread nD τ).loc main_arg2) = m ((c : Thread nD τ).loc main_arg2))
    (hfin := fun c s' => by
      dsimp only [Tₙ]; rw [V_of_not_written m c main_arg2 (by decide)]
      iintro ⟨⟨Ha, H1⟩, HSI⟩
      icombine HSI H1 gives %h
      ihave Hr := (Pipeline.arrays_read (pcfgs (F := F)) adms (dats m) (launch0 (F := F)).arr_whole c ((dats m 0 c).share_full fun _ => rfl) _ s') $$ [Ha HSI]
      · isplitl [Ha] <;> iassumption
      icases Hr with ⟨%ha, HSI⟩
      imodintro
      isplitr; · ipureintro; exact ⟨ha, Buf.eq_of_forall_mem_univ h⟩
      iexact HSI)
    (hQ := fun _ h hz => ⟨h, funext fun g => hz g (.inr (by revert g; decide))⟩)

/-- The arguments the windows read end as launched. -/
theorem finalA_arg (c : Dev nD) (w : Fin 7) (hw : (win0 (F := F) adm w).isOut = false) : finalA m c w = V m c (Pipeline.arrRef spec0 w) :=
  ((dats m 0 c).arrAt_in w hw _).trans (A_eq m c w)

end Cert.Proof.Dkv

end
-- ==== Proof.DkvPay.lean ====
/- The payloads of the keys' and values' gradients, entry by entry. -/
module

public import proofs.«01_k».proof.Proof.DkvRun
public import proofs.«01_k».proof.Proof.RetValue

@[expose] public section

set_option maxRecDepth 16384

noncomputable section

namespace Cert.Proof.Dkv

open Cert.Kernel25Ideal Cert.Kernel25Ideal.Gen Cert.Proof.Ret
open Idealize.ShloMosaic Idealize.ShloMosaic.TcCoe

/-- The decay factors of a block pair's rows: of the row `x` of the row block, and of the row `y` of the column block. -/
abbrev fA (l : EReal) (x : Fin 1024) : EReal := Ideal.exp (l * FloatOps.sitofp (F := Ideal) FTy.f32 (BitVec.ofNat 32 x))
abbrev fB (i j : BitVec 32) (l : EReal) (y : Fin 1024) : EReal :=
  Ideal.exp (l * FloatOps.sitofp (F := Ideal) FTy.f32 (IntOp.subi (Scalar.muli (Scalar.subi i j) 1024#32) (BitVec.ofNat 32 y)))

theorem pay1_at (y : Fin 1024) (d : Fin 128) : (k0_pay1 (F := Ideal)) (ix2 y d) = (0 : EReal) := by
  unfold k0_pay1
  pointwise
theorem pay2_at (y : Fin 1024) (e : Fin 256) : (k0_pay2 (F := Ideal)) (ix2 y e) = (0 : EReal) := by
  unfold k0_pay2
  pointwise

theorem pay6_at (i j : BitVec 32) (l : EReal) (y : Fin 1024) (d : Fin 128) : (k0_pay6 (F := Ideal) i j l) (ix2 y d) = fB i j l y := by
  unfold k0_pay6
  pointwise
theorem pay7_at (l : EReal) (q : S1024x128.Idx → EReal) (x : Fin 1024) (d : Fin 128) : (k0_pay7 (F := Ideal) l q) (ix2 x d) = q (ix2 x d) * fA l x := by
  unfold k0_pay7
  pointwise

theorem pay8_at (i j : BitVec 32) (l : EReal) (q k : S1024x128.Idx → EReal) (dO a : S1024x256.Idx → EReal) (y : Fin 1024) (e : Fin 256) :
    (k0_pay8 (F := Ideal) i j l q k dO a) (ix2 y e)
      = a (ix2 y e) + ∑ x : Fin 1024, (∑ d : Fin 128, (q (ix2 x d) * fA l x) * (k (ix2 y d) * fB i j l y)) * dO (ix2 x e) := by
  unfold k0_pay8
  pointwise
  simp only [pay6_at, pay7_at]

theorem pay9_at (i j : BitVec 32) (l : EReal) (q : S1024x128.Idx → EReal) (dO v : S1024x256.Idx → EReal) (a : S1024x128.Idx → EReal) (y : Fin 1024) (d : Fin 128) :
    (k0_pay3 (F := Ideal) (k0_pay9 (F := Ideal) i j l q dO v a)) (ix2 y d)
      = a (ix2 y d) + fB i j l y * ∑ x : Fin 1024, (∑ e : Fin 256, dO (ix2 x e) * v (ix2 y e)) * (q (ix2 x d) * fA l x) := by
  unfold k0_pay3 k0_pay9
  pointwise
  simp only [pay6_at, pay7_at]

theorem pay11_at (i j : BitVec 32) (l : EReal) (x y : Fin 1024) :
    (k0_pay11 (F := Ideal) i j l) (ix2 x y)
      = Scalar.select (IntOp.cmpi CmpIPredicate.sge (IntOp.subi (IntOp.addi (Scalar.muli (Scalar.subi i j) 1024#32) (BitVec.ofNat 32 x)) (BitVec.ofNat 32 y)) 0#32)
          (Ideal.exp (l * FloatOps.sitofp (F := Ideal) FTy.f32 (IntOp.maxsi (IntOp.subi (IntOp.addi (Scalar.muli (Scalar.subi i j) 1024#32) (BitVec.ofNat 32 x)) (BitVec.ofNat 32 y)) 0#32)))
          (0 : EReal) := by
  unfold k0_pay11
  pointwise

theorem pay12_at (i j : BitVec 32) (l : EReal) (q k : S1024x128.Idx → EReal) (dO a : S1024x256.Idx → EReal) (y : Fin 1024) (e : Fin 256) :
    (k0_pay12 (F := Ideal) i j q dO l k a) (ix2 y e)
      = a (ix2 y e) + ∑ x : Fin 1024, (∑ d : Fin 128, q (ix2 x d) * k (ix2 y d)) * (k0_pay11 (F := Ideal) i j l) (ix2 x y) * dO (ix2 x e) := by
  unfold k0_pay12 k0_pay10
  pointwise

theorem pay4_at (D : S1024x1024.Idx → EReal) (q : S1024x128.Idx → EReal) (dO v : S1024x256.Idx → EReal) (a : S1024x128.Idx → EReal) (y : Fin 1024) (d : Fin 128) :
    (k0_pay4 (F := Ideal) (k0_pay10 (F := Ideal) q) D (k0_pay13 (F := Ideal) dO v) a) (ix2 y d)
      = a (ix2 y d) + ∑ x : Fin 1024, (∑ e : Fin 256, dO (ix2 x e) * v (ix2 y e)) * D (ix2 x y) * q (ix2 x d) := by
  unfold k0_pay4 k0_pay10 k0_pay13
  pointwise

end Cert.Proof.Dkv

end
-- ==== Proof.DkvSum.lean ====
/- The gradients of the retention's keys and values as sums over rows, over the extended reals, and the sums cut into blocks of rows. -/
module

public import proofs.«01_k».proof.Proof.RetReal
public import Idealize.ShloMosaic.Lib.Pointwise
public import Mathlib.Analysis.SpecialFunctions.Exp
public import Mathlib.Algebra.BigOperators.Intervals

@[expose] public section

noncomputable section

namespace Cert.Proof.Dkv

open Idealize.ShloMosaic Finset

/-- The decay from row `m` to row `n`: none before `m`. -/
def decay (l : ℝ) (n m : ℕ) : ℝ := if m ≤ n then Real.exp (((n : ℝ) - m) * l) else 0

theorem decay_nonneg (l : ℝ) (n m : ℕ) : 0 ≤ decay l n m := by
  unfold decay
  split
  · exact (Real.exp_pos _).le
  · exact le_rfl

/-- An array's entry at a row and a column given as numbers. -/
def at2 {a b : ℕ} (A : Fin a → Fin b → EReal) (n q : ℕ) : EReal := if h : n < a ∧ q < b then A ⟨n, h.1⟩ ⟨q, h.2⟩ else 0

theorem at2_eq {a b : ℕ} (A : Fin a → Fin b → EReal) (n q : ℕ) (hn : n < a) (hq : q < b) : at2 A n q = A ⟨n, hn⟩ ⟨q, hq⟩ := dif_pos ⟨hn, hq⟩

section
variable (Q K U O : ℕ → ℕ → EReal) (l : ℝ) (h : ℕ)

/-- What row `n` of the queries and of the incoming gradient gives the values' gradient in row `m`, head `h`, column `e`, -/
def termV (e m n : ℕ) : EReal := (∑ d : Fin 128, Q n (h * 128 + d) * K m (h * 128 + d)) * (decay l n m : EReal) * O n (h * 256 + e)
/-- and the keys' in row `m`, head `h`, column `d`. -/
def termK (d m n : ℕ) : EReal := (∑ e : Fin 256, O n (h * 256 + e) * U m (1024 + (h * 256 + e))) * (decay l n m : EReal) * Q n (h * 128 + d)

theorem termV_before (e m n : ℕ) (hn : n < m) : termV Q K O l h e m n = 0 := by
  rw [termV, decay, if_neg (by omega), EReal.coe_zero, mul_zero, zero_mul]
theorem termK_before (d m n : ℕ) (hn : n < m) : termK Q U O l h d m n = 0 := by
  rw [termK, decay, if_neg (by omega), EReal.coe_zero, mul_zero, zero_mul]
end

/-- A nonnegative real goes into a sum. -/
theorem mul_sum_real (c : ℝ) (hc : 0 ≤ c) {ι : Type} (s : Finset ι) (f : ι → EReal) : (c : EReal) * ∑ i ∈ s, f i = ∑ i ∈ s, (c : EReal) * f i := by
  classical
  induction s using Finset.induction_on with
  | empty => simp
  | insert i s hi ih =>
    rw [Finset.sum_insert hi, Finset.sum_insert hi, EReal.left_distrib_of_nonneg_of_ne_top (EReal.coe_nonneg.mpr hc) (EReal.coe_ne_top c), ih]

/-- Rows weighed by nonnegative reals have the weighed product. -/
theorem sum_weighed (a b : ℝ) (ha : 0 ≤ a) (hb : 0 ≤ b) {ι : Type} (s : Finset ι) (f g : ι → EReal) :
    ∑ i ∈ s, (f i * (a : EReal)) * (g i * (b : EReal)) = (∑ i ∈ s, f i * g i) * ((a * b : ℝ) : EReal) := by
  rw [mul_comm _ (((a * b : ℝ)) : EReal), mul_sum_real _ (mul_nonneg ha hb)]
  refine sum_congr rfl fun i _ => ?_
  rw [EReal.coe_mul, mul_mul_mul_comm, mul_comm]

/-- A sum over blocks of rows. -/
theorem sum_blocks (B : ℕ) (T : ℕ → EReal) (b : ℕ) : ∑ n ∈ range (b * B), T n = ∑ i ∈ range b, ∑ x : Fin B, T (i * B + x) := by
  induction b with
  | zero => simp
  | succ b ih => rw [Nat.succ_mul, sum_range_add, ih, sum_range_succ, sum_range (n := B)]

/-- Blocks before the `J`-th give nothing: the sum is that of the blocks from the `J`-th on. -/
theorem sum_from (B J b y : ℕ) (T : ℕ → EReal) (hJ : J ≤ b) (hT : ∀ n, n < J * B + y → T n = 0) :
    ∑ n ∈ range (b * B), T n = ∑ i ∈ Ico J b, ∑ x : Fin B, T (i * B + x) := by
  rw [sum_blocks, ← sum_range_add_sum_Ico _ hJ, sum_eq_zero (s := range J), zero_add]
  intro i hi
  refine sum_eq_zero fun x _ => hT _ ?_
  have h1 : (i + 1) * B ≤ J * B := Nat.mul_le_mul_right B (mem_range.mp hi)
  rw [Nat.succ_mul] at h1
  omega

end Cert.Proof.Dkv

end
-- ==== Proof.DkvValue.lean ====
/- What the kernel leaves in its two results: the sums over rows of the keys' and values' gradients. -/
module

public import proofs.«01_k».proof.Proof.DkvPay
public import proofs.«01_k».proof.Proof.DkvSum

@[expose] public section

set_option maxRecDepth 16384

noncomputable section

namespace Cert.Proof.Dkv

open Cert.Kernel25Ideal Cert.Kernel25Ideal.Gen Cert.Proof.Ret
open Idealize.ShloMosaic Idealize.ShloMosaic.TcCoe Finset

variable (m : (ℓ : Loc nD τ sig) → Buf (Elt Ideal) ℓ) (c : Dev nD)

theorem V6_at (h : Fin 4) : V m c main_v6 (ix1 h) = (lg h : EReal) := by
  unfold V
  after_reads_at
  exact lgE_eq h h.isLt
theorem V7_at (n : Fin 4096) (q : Fin 2048) : V m c main_v7 (ix2 n q) = m ((c : Thread nD τ).loc main_arg2) (ix2 n ⟨q.val, by omega⟩) := by
  unfold V
  after_reads_at

/-- The head, and the row and column block's number, at grid point t. -/
def hd (t : ℕ) : ℕ := t / 10
def bI (t : ℕ) : ℕ := ([0, 1, 2, 3, 1, 2, 3, 2, 3, 3] : List ℕ).getD (t % 10) 0
def bJ (t : ℕ) : ℕ := ([0, 0, 0, 0, 1, 1, 1, 2, 2, 3] : List ℕ).getD (t % 10) 0

theorem wI_eq : ∀ t : Fin grid0.N, wI t = BitVec.ofNat 32 (bI t) := by decide +kernel
theorem wJ_eq : ∀ t : Fin grid0.N, wJ t = BitVec.ofNat 32 (bJ t) := by decide +kernel
theorem same_iff : ∀ t : Fin grid0.N, wI t = wJ t ↔ bI t = bJ t := by decide +kernel
theorem bnd : ∀ t : Fin grid0.N, hd t < 4 ∧ bI t < 4 ∧ bJ t ≤ bI t := by decide +kernel
theorem off2_eq : ∀ t : Fin grid0.N, k0_off2 (grid0.coords t) 0 = hd t := by decide +kernel
theorem index0 : ∀ t : Fin grid0.N, (win0 (F := Ideal) adm 0).index t = ![0] := by decide +kernel
theorem index1 : ∀ t : Fin grid0.N, (win0 (F := Ideal) adm 1).index t = ![bI t, hd t] := by decide +kernel
theorem index2 : ∀ t : Fin grid0.N, (win0 (F := Ideal) adm 2).index t = ![bJ t, hd t] := by decide +kernel
theorem index3 : ∀ t : Fin grid0.N, (win0 (F := Ideal) adm 3).index t = ![bJ t, 4 + hd t] := by decide +kernel
theorem index4 : ∀ t : Fin grid0.N, (win0 (F := Ideal) adm 4).index t = ![bI t, hd t] := by decide +kernel
theorem index5 : ∀ t : Fin grid0.N, (win0 (F := Ideal) adm 5).index t = ![bJ t, hd t] := by decide +kernel
theorem index6 : ∀ t : Fin grid0.N, (win0 (F := Ideal) adm 6).index t = ![bJ t, hd t] := by decide +kernel

/-- The four arguments, by row and column. -/
abbrev qA : ℕ → ℕ → EReal := at2 fun (n : Fin 4096) (q : Fin 512) => m ((c : Thread nD τ).loc main_arg0) (ix2 n q)
abbrev kA : ℕ → ℕ → EReal := at2 fun (n : Fin 4096) (q : Fin 512) => m ((c : Thread nD τ).loc main_arg1) (ix2 n q)
abbrev uA : ℕ → ℕ → EReal := at2 fun (n : Fin 4096) (q : Fin 5760) => m ((c : Thread nD τ).loc main_arg2) (ix2 n q)
abbrev oA : ℕ → ℕ → EReal := at2 fun (n : Fin 4096) (q : Fin 1024) => m ((c : Thread nD τ).loc main_arg3) (ix2 n q)

theorem lgB_at (t : Fin grid0.N) : lgB m c t = (lg (hd t) : EReal) := by
  refine Eq.trans ?_ (V6_at m c ⟨hd t, (bnd t).1⟩)
  unfold lgB lgAt blkOf
  blk_simp
  refine congrArg _ ?_
  funext a
  apply Fin.ext
  fin_cases a
  blk_simp
  rw [index0 t, off2_eq t]
  simp [ix1]
theorem qB_at (t : Fin grid0.N) (r : Fin 1024) (d : Fin 128) : qB m c t (ix2 r d) = qA m c (bI t * 1024 + r) (hd t * 128 + d) := by
  have hb := bnd t
  rw [qA, at2_eq _ _ _ (by omega) (by omega), ← V_of_not_written m c main_arg0 (by decide)]
  unfold qB blkOf
  blk_ext [index1 t]
theorem kB_at (t : Fin grid0.N) (r : Fin 1024) (d : Fin 128) : kB m c t (ix2 r d) = kA m c (bJ t * 1024 + r) (hd t * 128 + d) := by
  have hb := bnd t
  rw [kA, at2_eq _ _ _ (by omega) (by omega), ← V_of_not_written m c main_arg1 (by decide)]
  unfold kB blkOf
  blk_ext [index2 t]
theorem vB_at (t : Fin grid0.N) (r : Fin 1024) (e : Fin 256) : vB m c t (ix2 r e) = uA m c (bJ t * 1024 + r) (1024 + (hd t * 256 + e)) := by
  have hb := bnd t
  rw [uA, at2_eq _ _ _ (by omega) (by omega)]
  refine Eq.trans ?_ (V7_at m c ⟨bJ t * 1024 + r, by omega⟩ ⟨1024 + (hd t * 256 + e), by omega⟩)
  unfold vB blkOf
  blk_ext [index3 t]
theorem doB_at (t : Fin grid0.N) (r : Fin 1024) (e : Fin 256) : doB m c t (ix2 r e) = oA m c (bI t * 1024 + r) (hd t * 256 + e) := by
  have hb := bnd t
  rw [oA, at2_eq _ _ _ (by omega) (by omega), ← V_of_not_written m c main_arg3 (by decide)]
  unfold doB blkOf
  blk_ext [index4 t]

/-- What row `n` gives to an entry of the values' and of the keys' block at grid point `t`. -/
abbrev tV (t : ℕ) (y : Fin 1024) (e : Fin 256) : ℕ → EReal := termV (qA m c) (kA m c) (oA m c) (lg (hd t)) (hd t) e (bJ t * 1024 + y)
abbrev tK (t : ℕ) (y : Fin 1024) (d : Fin 128) : ℕ → EReal := termK (qA m c) (uA m c) (oA m c) (lg (hd t)) (hd t) d (bJ t * 1024 + y)

theorem fA_real (l : ℝ) (x : Fin 1024) : fA (l : EReal) x = ((Real.exp (l * (x : ℕ)) : ℝ) : EReal) := by
  rw [fA, sitofp_nat _ (by omega), ← EReal.coe_mul, Ideal.exp_coe]
theorem fB_real (t : Fin grid0.N) (l : ℝ) (y : Fin 1024) : fB (wI t) (wJ t) (l : EReal) y = ((Real.exp (l * (((bI t : ℝ) - bJ t) * 1024 - (y : ℕ))) : ℝ) : EReal) := by
  rw [fB, wI_eq, wJ_eq, Dq.word_sub _ _ _ (bnd t).2.1 (bnd t).2.2 y.isLt, ← EReal.coe_mul, Ideal.exp_coe]

/-- Off the diagonal the two factors are the decay. -/
theorem decay_off (t : Fin grid0.N) (hne : bI t ≠ bJ t) (l : ℝ) (x y : Fin 1024) :
    Real.exp (l * (x : ℕ)) * Real.exp (l * (((bI t : ℝ) - bJ t) * 1024 - (y : ℕ))) = decay l (bI t * 1024 + x) (bJ t * 1024 + y) := by
  have hb := bnd t
  rw [decay, if_pos (by omega), ← Real.exp_add]
  congr 1
  push_cast
  ring

/-- On it the masked block is. -/
theorem decay_on (t : Fin grid0.N) (he : bI t = bJ t) (l : ℝ) (x y : Fin 1024) :
    (k0_pay11 (F := Ideal) (wI t) (wJ t) (l : EReal)) (ix2 x y) = ((decay l (bI t * 1024 + x) (bJ t * 1024 + y) : ℝ) : EReal) := by
  rw [← (same_iff t).2 he]
  refine (pay11_at ..).trans ((Dq.select_dist _ _ (Dq.word_dist _ _ _ x.isLt y.isLt) (fun z => Ideal.exp ((l : EReal) * z))).trans ?_)
  rw [decay, he]
  by_cases h : (y : ℕ) ≤ x
  · rw [if_pos (by omega), if_pos (by omega), ← EReal.coe_mul, Ideal.exp_coe]
    push_cast
    ring_nf
  · rw [if_neg (by omega), if_neg (by omega), EReal.coe_zero]

/-- One point's step of the accumulators: the row block's terms, added to what was there off the diagonal. -/
theorem nextV_at (t : Fin grid0.N) (a : S1024x256.Idx → EReal) (y : Fin 1024) (e : Fin 256) :
    nextV m c t a (ix2 y e) = (if bI t = bJ t then 0 else a (ix2 y e)) + ∑ x : Fin 1024, tV m c t y e (bI t * 1024 + x) := by
  unfold nextV stepV
  by_cases h : bI t = bJ t
  · rw [if_pos ((same_iff t).2 h), if_pos h]
    refine (pay12_at ..).trans ?_
    rw [pay2_at]
    refine congrArg (fun z : EReal => 0 + z) (sum_congr (M := EReal) rfl fun x _ => ?_)
    rw [lgB_at, decay_on t h, tV, termV]
    simp only [qB_at, kB_at, doB_at]
  · rw [if_neg (fun h' => h ((same_iff t).1 h')), if_neg h]
    refine (pay8_at ..).trans ?_
    refine congrArg (fun z : EReal => _ + z) (sum_congr (M := EReal) rfl fun x _ => ?_)
    rw [lgB_at, fA_real, fB_real, sum_weighed _ _ (Real.exp_pos _).le (Real.exp_pos _).le, decay_off t h, tV, termV]
    simp only [qB_at, kB_at, doB_at]

theorem nextK_at (t : Fin grid0.N) (a : S1024x128.Idx → EReal) (y : Fin 1024) (d : Fin 128) :
    nextK m c t a (ix2 y d) = (if bI t = bJ t then 0 else a (ix2 y d)) + ∑ x : Fin 1024, tK m c t y d (bI t * 1024 + x) := by
  unfold nextK stepK
  by_cases h : bI t = bJ t
  · rw [if_pos ((same_iff t).2 h), if_pos h]
    refine (pay4_at ..).trans ?_
    rw [pay1_at]
    refine congrArg (fun z : EReal => 0 + z) (sum_congr (M := EReal) rfl fun x _ => ?_)
    rw [lgB_at, decay_on t h, tK, termK]
    simp only [qB_at, vB_at, doB_at]
  · rw [if_neg (fun h' => h ((same_iff t).1 h')), if_neg h]
    refine (pay9_at ..).trans ?_
    rw [lgB_at, fB_real, mul_sum_real _ (Real.exp_pos _).le]
    refine congrArg (fun z : EReal => _ + z) (sum_congr (M := EReal) rfl fun x _ => ?_)
    rw [fA_real, tK, termK, ← decay_off t h, EReal.coe_mul]
    simp only [qB_at, vB_at, doB_at]
    ac_rfl

/-- A sum that starts anew on the diagonal and takes a row block at each point holds, after a point, the row blocks of
    its column block so far. -/
theorem taken (B : ℕ → ℕ → ℕ → EReal) (acc : ℕ → EReal)
    (h : ∀ k, k < grid0.N → acc (k + 1) = (if bI k = bJ k then 0 else acc k) + B (hd k) (bJ k) (bI k)) :
    ∀ k, k < grid0.N → acc (k + 1) = ∑ i ∈ Ico (bJ k) (bI k + 1), B (hd k) (bJ k) i := by
  have n0 : ∀ t : Fin grid0.N, bI t ≠ bJ t → t.val ≠ 0 ∧ bI (t - 1) + 1 = bI t ∧ bJ (t - 1) = bJ t ∧ hd (t - 1) = hd t := by decide +kernel
  intro k
  induction k with
  | zero =>
    intro hk
    rw [h 0 hk, show bI 0 = 0 from rfl, show bJ 0 = 0 from rfl]
    simp
  | succ k ih =>
    intro hk
    rw [h (k + 1) hk]
    by_cases he : bI (k + 1) = bJ (k + 1)
    · rw [if_pos he, he]
      simp
    · obtain ⟨-, e1, e2, e3⟩ := n0 ⟨k + 1, hk⟩ he
      have hb := (bnd ⟨k + 1, hk⟩).2.2
      simp only [Nat.add_sub_cancel] at e1 e2 e3 hb
      rw [if_neg he, ih (by omega), e1, e2, e3, sum_Ico_succ_top hb]

theorem accV_at (y : Fin 1024) (e : Fin 256) (k : ℕ) (hk : k < grid0.N) :
    accV m c (k + 1) (ix2 y e) = ∑ i ∈ Ico (bJ k) (bI k + 1), ∑ x : Fin 1024, tV m c k y e (i * 1024 + x) :=
  taken (fun h j i => ∑ x : Fin 1024, termV (qA m c) (kA m c) (oA m c) (lg h) h e (j * 1024 + y) (i * 1024 + x)) (fun k => accV m c k (ix2 y e))
    (fun k hk => (congrFun (accV_succ m c k hk) _).trans (nextV_at m c ⟨k, hk⟩ _ y e)) k hk
theorem accK_at (y : Fin 1024) (d : Fin 128) (k : ℕ) (hk : k < grid0.N) :
    accK m c (k + 1) (ix2 y d) = ∑ i ∈ Ico (bJ k) (bI k + 1), ∑ x : Fin 1024, tK m c k y d (i * 1024 + x) :=
  taken (fun h j i => ∑ x : Fin 1024, termK (qA m c) (uA m c) (oA m c) (lg h) h d (j * 1024 + y) (i * 1024 + x)) (fun k => accK m c k (ix2 y d))
    (fun k hk => (congrFun (accK_succ m c k hk) _).trans (nextK_at m c ⟨k, hk⟩ _ y d)) k hk

/-- The last row block is the last of the array: what is stored is the sum over all rows. -/
theorem storeV_at (t : Fin grid0.N) (ht : bI t = 3) (y : Fin 1024) (e : Fin 256) : accV m c (t.val + 1) (ix2 y e) = ∑ n ∈ range 4096, tV m c t y e n := by
  have hb := bnd t
  rw [accV_at m c y e t.val t.isLt, ht]
  exact (sum_from 1024 (bJ t) 4 y _ (by omega) fun n hn => termV_before _ _ _ _ _ _ _ _ hn).symm
theorem storeK_at (t : Fin grid0.N) (ht : bI t = 3) (y : Fin 1024) (d : Fin 128) : accK m c (t.val + 1) (ix2 y d) = ∑ n ∈ range 4096, tK m c t y d n := by
  have hb := bnd t
  rw [accK_at m c y d t.val t.isLt, ht]
  exact (sum_from 1024 (bJ t) 4 y _ (by omega) fun n hn => termK_before _ _ _ _ _ _ _ _ hn).symm

/-- The keys' gradient, as the kernel leaves it, -/
theorem finalK_eq : finalA m c 5 = fun i : S4096x512.Idx =>
    ∑ n ∈ range 4096, termK (qA m c) (uA m c) (oA m c) (lg (i 1 / 128)) (i 1 / 128) (i 1 % 128) (i 0) n := by
  have hfl : ∀ t : Fin grid0.N, (win0 (F := Ideal) adm 5).flush t = true → bI t = 3 := by decide +kernel
  have hcov : (win0 (F := Ideal) adm 5).Covers := by decide +kernel
  refine (dats m 0 c).arrAt_eq_of_covers 5 _ hcov fun t hf y => ?_
  blk_simp
  idx_vars y
  refine (storeK_at m c t (hfl t hf) _ _).trans ?_
  have i0 : (pcfg0.win (adm (F := Ideal)) 5).index t 0 = bJ t := congrFun (index5 t) 0
  have i1 : (pcfg0.win (adm (F := Ideal)) 5).index t 1 = hd t := congrFun (index5 t) 1
  rw [i0, i1, show (hd t * 128 + (y1 : ℕ)) / 128 = hd t by omega, show (hd t * 128 + (y1 : ℕ)) % 128 = y1 by omega]

/-- and the values'. -/
theorem finalV_eq : finalA m c 6 = fun i : S4096x1024.Idx =>
    ∑ n ∈ range 4096, termV (qA m c) (kA m c) (oA m c) (lg (i 1 / 256)) (i 1 / 256) (i 1 % 256) (i 0) n := by
  have hfl : ∀ t : Fin grid0.N, (win0 (F := Ideal) adm 6).flush t = true → bI t = 3 := by decide +kernel
  have hcov : (win0 (F := Ideal) adm 6).Covers := by decide +kernel
  refine (dats m 0 c).arrAt_eq_of_covers 6 _ hcov fun t hf y => ?_
  blk_simp
  idx_vars y
  refine (storeV_at m c t (hfl t hf) _ _).trans ?_
  have i0 : (pcfg0.win (adm (F := Ideal)) 6).index t 0 = bJ t := congrFun (index6 t) 0
  have i1 : (pcfg0.win (adm (F := Ideal)) 6).index t 1 = hd t := congrFun (index6 t) 1
  rw [i0, i1, show (hd t * 256 + (y1 : ℕ)) / 256 = hd t by omega, show (hd t * 256 + (y1 : ℕ)) % 256 = y1 by omega]

end Cert.Proof.Dkv

end
-- ==== Proof.DkvRef.lean ====
/- What the reference leaves in its two results: the sums over rows of the keys' and values' gradients. -/
module

public import proofs.«01_k».proof.Proof.Gen.Reference25Ideal.Run
public import proofs.«01_k».proof.Proof.DkvSum
public import Idealize.ShloMosaic.Lib.IdealHost

@[expose] public section

set_option maxRecDepth 16384

noncomputable section

namespace Cert.Proof.DkvRef

open Cert.Reference25Ideal Cert.Reference25Ideal.Gen Cert.Proof.Ret Cert.Proof.Dkv
open Idealize.ShloMosaic Idealize.ShloMosaic.TcCoe Finset

/-- The distance of two rows. -/
def diff : FVec Ideal S4096x4096 .f32 :=
  subf (broadcastInDim S4096x4096 ![0, 1] bcast_S4096x1_S4096x4096_0_1 (broadcastInDim S4096x1 ![0] bcast_S4096_S4096x1_0 (sitofp .f32 (iotaInDim S4096 32 0))))
    (broadcastInDim S4096x4096 ![0, 1] bcast_S1x4096_S4096x4096_0_1 (broadcastInDim S1x4096 ![1] bcast_S4096_S1x4096_1 (sitofp .f32 (iotaInDim S4096 32 0))))

/-- The decay, by head and the two rows. -/
def dec : FVec Ideal S4x4096x4096 .f32 :=
  select (broadcastInDim S4x4096x4096 ![0, 1, 2] bcast_S1x4096x4096_S4x4096x4096_0_1_2 (cmpf .oge (broadcastInDim S1x4096x4096 ![1, 2] bcast_S4096x4096_S1x4096x4096_1_2 diff : FVec Ideal S1x4096x4096 .f32) (broadcastInDim S1x4096x4096 ![] bcast_S_S1x4096x4096 (constant S_ .f32 0x00000000#32))))
    (Host.exp (mulf (broadcastInDim S4x4096x4096 ![0, 1, 2] bcast_S1x4096x4096_S4x4096x4096_0_1_2 (broadcastInDim S1x4096x4096 ![1, 2] bcast_S4096x4096_S1x4096x4096_1_2 (maximumf diff (broadcastInDim S4096x4096 ![] bcast_S_S4096x4096 (constant S_ .f32 0x00000000#32)))))
      (broadcastInDim S4x4096x4096 ![0, 1, 2] bcast_S4x1x1_S4x4096x4096_0_1_2 (broadcastInDim S4x1x1 ![0] bcast_S4_S4x1x1_0 (Host.log1p (Host.negf (Host.powf (broadcastInDim S4 ![] bcast_S_S4 (constant S_ .f32 0x40000000#32)) (subf (broadcastInDim S4 ![] bcast_S_S4 (constant S_ .f32 0xC0A00000#32)) (sitofp .f32 (iotaInDim S4 32 0))))))))))
    (broadcastInDim S4x4096x4096 ![] bcast_S_S4x4096x4096 (id (constant S_ .f32 0x00000000#32)))

theorem diff_at (n r : Fin 4096) : diff (ix2 n r) = ((((n : ℕ) : ℝ) - ((r : ℕ) : ℝ) : ℝ) : EReal) := by
  unfold diff
  pointwise
  rw [sitofp_nat _ (by omega), sitofp_nat _ (by omega), EReal.coe_sub]

theorem dec_at (h : Fin 4) (n r : Fin 4096) : dec (ix3 h n r) = ((decay (lg h) n r : ℝ) : EReal) := by
  unfold dec
  pointwise
  have hl : Ideal.log1p (-Ideal.pow (Ideal.ofBits FTy.f32 1073741824#32) (Ideal.ofBits FTy.f32 3231711232#32 - FloatOps.sitofp (F := Ideal) FTy.f32 (BitVec.ofNat 32 h)))
      = (lg h : EReal) := lgE_eq h h.isLt
  rw [diff_at, hl, decay]
  by_cases hr : (r : ℕ) ≤ n
  · have h0 : (0 : ℝ) ≤ ((n : ℕ) : ℝ) - ((r : ℕ) : ℝ) := sub_nonneg.mpr (Nat.cast_le.mpr hr)
    rw [if_pos (EReal.coe_nonneg.mpr h0), if_pos hr, max_eq_left (EReal.coe_nonneg.mpr h0), ← EReal.coe_mul, Ideal.exp_coe]
  · have h0 : ((n : ℕ) : ℝ) - ((r : ℕ) : ℝ) < 0 := sub_neg.mpr (Nat.cast_lt.mpr (by omega))
    rw [if_neg (fun h => absurd (EReal.coe_nonneg.mp h) (not_le.mpr h0)), if_neg hr, EReal.coe_zero]
    exact Ideal.ofBits_zero_f32

section
variable (q k : FVec Ideal S4096x512 .f32) (p : FVec Ideal S4096x5760 .f32) (o : FVec Ideal S4096x1024 .bf16)

/-- The arguments by head: the queries and the keys, the values, and the incoming gradient. -/
def byHead : FVec Ideal S4096x4x128 .f32 := shapeCast S4096x4x128 q shapeCasts_S4096x512_S4096x4x128
def valHead : FVec Ideal S4096x4x256 .f32 := shapeCast S4096x4x256 (extractStridedSlice S4096x1024 ![0, 1024] p slices_S4096x5760_S4096x1024_0_1024) shapeCasts_S4096x1024_S4096x4x256
def gradHead : FVec Ideal S4x256x4096 .f32 :=
  transpose S4x256x4096 [1, 2, 0] (shapeCast S4096x4x256 (extf .f32 o bitsLt_bf16_f32 : FVec Ideal S4096x1024 .f32) shapeCasts_S4096x1024_S4096x4x256) transposes_S4096x4x256_S4x256x4096_1_2_0

/-- The two results, of the four arguments. -/
def resK : FVec Ideal S4096x512 .f32 :=
  shapeCast S4096x512 (transpose S4096x4x128 [1, 0, 2] (Host.dotGeneral dot_S4x4096x4096_S4096x4x128_S4x4096x128_1_0_2_2_0_1 none
    (mulf (Host.dotGeneral dot_S4x256x4096_S4096x4x256_S4x4096x4096_1_2_2_0_0_1 none (gradHead o) (valHead p)) dec) (byHead q) : FVec Ideal S4x4096x128 .f32)
    transposes_S4x4096x128_S4096x4x128_1_0_2) shapeCasts_S4096x4x128_S4096x512
def resV : FVec Ideal S4096x1024 .bf16 :=
  truncf .bf16 (shapeCast S4096x1024 (transpose S4096x4x256 [2, 0, 1] (Host.dotGeneral dot_S4x256x4096_S4x4096x4096_S4x256x4096_2_1_1_2_0_0 none (gradHead o)
    (mulf (Host.dotGeneral dot_S4096x4x128_S4096x4x128_S4x4096x4096_2_2_0_0_1_1 none (byHead q) (byHead k)) dec) : FVec Ideal S4x256x4096 .f32)
    transposes_S4x256x4096_S4096x4x256_2_0_1) shapeCasts_S4096x4x256_S4096x1024 : FVec Ideal S4096x1024 .f32) bitsLt_bf16_f32

theorem byHead_at (n : Fin 4096) (h : Fin 4) (d : Fin 128) : byHead q (ix3 n h d) = q (ix2 n ⟨h * 128 + d, by omega⟩) := by
  unfold byHead
  pointwise
theorem valHead_at (n : Fin 4096) (h : Fin 4) (e : Fin 256) : valHead p (ix3 n h e) = p (ix2 n ⟨1024 + (h * 256 + e), by omega⟩) := by
  unfold valHead
  pointwise
theorem gradHead_at (h : Fin 4) (e : Fin 256) (n : Fin 4096) : gradHead o (ix3 h e n) = o (ix2 n ⟨h * 256 + e, by omega⟩) := by
  unfold gradHead
  pointwise

abbrev qA : ℕ → ℕ → EReal := at2 fun (n : Fin 4096) (c : Fin 512) => q (ix2 n c)
abbrev uA : ℕ → ℕ → EReal := at2 fun (n : Fin 4096) (c : Fin 5760) => p (ix2 n c)
abbrev oA : ℕ → ℕ → EReal := at2 fun (n : Fin 4096) (c : Fin 1024) => o (ix2 n c)

theorem resK_at (r : Fin 4096) (cl : Fin 512) :
    resK q p o (ix2 r cl) = ∑ n ∈ range 4096, termK (qA q) (uA p) (oA o) (lg (cl / 128)) (cl / 128) (cl % 128) r n := by
  rw [sum_range]
  unfold resK
  pointwise
  refine sum_congr (M := EReal) rfl fun n _ => ?_
  simp only [gradHead_at, valHead_at, byHead_at, dec_at]
  rw [termK, qA, at2_eq _ _ _ n.isLt (by omega)]
  refine congrArg (fun z : EReal => z * _ * _) (sum_congr (M := EReal) rfl fun e _ => ?_)
  rw [oA, uA, at2_eq _ _ _ n.isLt (by omega), at2_eq _ _ _ r.isLt (by omega)]
theorem resV_at (r : Fin 4096) (cl : Fin 1024) :
    resV q k o (ix2 r cl) = ∑ n ∈ range 4096, termV (qA q) (qA k) (oA o) (lg (cl / 256)) (cl / 256) (cl % 256) r n := by
  rw [sum_range]
  unfold resV
  pointwise
  refine sum_congr (M := EReal) rfl fun n _ => ?_
  simp only [gradHead_at, byHead_at, dec_at]
  rw [termV, oA, at2_eq _ _ _ n.isLt (by omega), mul_comm]
  refine congrArg (fun z : EReal => z * _ * _) (sum_congr (M := EReal) rfl fun d _ => ?_)
  rw [qA, qA, at2_eq _ _ _ n.isLt (by omega), at2_eq _ _ _ r.isLt (by omega)]
end

open Idealize.SL.Sem

/-- The reference's run: its two results, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = resK (m ((c.tc : Thread nD τ).loc main_arg0)) (m ((c.tc : Thread nD τ).loc main_arg2)) (m ((c.tc : Thread nD τ).loc main_arg3))
      ∧ r.2.mem ((c.tc : Thread nD τ).loc main_v44)
          = resV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.Reference25Ideal.Value.run (F := Ideal) m ρ

end Cert.Proof.DkvRef

end
-- ==== Proof.DkvBwd.lean ====
/- The gradients of the retention's keys and values: the kernel's and the reference's runs end with their arguments as they
   were, and the two programs compute the same two arrays. -/
module

public import proofs.«01_k».proof.Defs
public import proofs.«01_k».proof.Proof.Gen.Kernel25
public import proofs.«01_k».proof.Proof.DkvValue
public import proofs.«01_k».proof.Proof.DkvRef
public import Idealize.ShloMosaic.Adequacy
public import Idealize.ShloMosaic.Init

@[expose] public section

set_option maxRecDepth 16384

noncomputable section

namespace Cert.Proof.DkvBwd

open Idealize Idealize.ShloMosaic Idealize.SL Idealize.SL.Sem Idealize.ShloMosaic.TcCoe

/-- The kernel's arguments are as they were. -/
theorem args {F : FTy → Type} [FloatOps F] (m : (ℓ : Loc Cert.Kernel25Ideal.nD Cert.Kernel25Ideal.τ Cert.Kernel25Ideal.sig) → Buf (Elt F) ℓ)
    {r : PUnit × MemSt Cert.Kernel25Ideal.nD Cert.Kernel25Ideal.τ Cert.Kernel25Ideal.sig (Elt F)} (h : Dkv.QC m r) (c : Dev Cert.Kernel25Ideal.nD) :
    r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3) :=
  ⟨((h c).1 1).trans ((Dkv.finalA_arg m c 1 rfl).trans (Dkv.V_of_not_written m c _ (by decide))),
    ((h c).1 2).trans ((Dkv.finalA_arg m c 2 rfl).trans (Dkv.V_of_not_written m c _ (by decide))), (h c).2,
    ((h c).1 4).trans ((Dkv.finalA_arg m c 4 rfl).trans (Dkv.V_of_not_written m c _ (by decide)))⟩

/-- The kernel's body table and program are the idealized one's, read over words. -/
theorem defs₀_eq : Cert.Kernel25.defs₀ (F := Bits) = (Cert.Kernel25Ideal.defs₀ (F := Bits)) := by
  unfold Cert.Kernel25.defs₀ Cert.Kernel25Ideal.defs₀
  refine congrArg Defs.onTc ?_
  funext l a
  match l, a with
  | 0, (t, s) => rfl

theorem defs_eq : Cert.Kernel25.defs (F := Bits) = (Cert.Kernel25Ideal.defs (F := Bits)) := congrArg (Pipeline.defs Cert.Kernel25Ideal.pcfgs) defs₀_eq

set_option maxHeartbeats 2000000 in
theorem main_eq : Cert.Kernel25.main (F := Bits) = (Cert.Kernel25Ideal.main (F := Bits)) := by
  unfold Cert.Kernel25.main Cert.Kernel25Ideal.main
  rfl

theorem frame_kernel : Cert.quiescent_Kernel25 := fun m ρ _ => by
  rw [defs_eq, main_eq]
  exact (θ_run Cert.Kernel25Ideal.defs _ _).mono (fun _ h => ⟨args m h.1, h.2⟩) (Dkv.run_main (F := Bits) m ρ)

theorem frame_kernelIdeal : Cert.quiescent_Kernel25Ideal := fun m ρ _ =>
  (θ_run Cert.Kernel25Ideal.defs _ _).mono (fun _ h => ⟨args m h.1, h.2⟩) (Dkv.run_main (F := Ideal) m ρ)

theorem frame_reference : Cert.quiescent_Reference25Ideal := fun m ρ _ =>
  (θ_run Cert.Reference25Ideal.defs _ _).mono (fun r h => ⟨fun c => (h c).2.2, sem_eq_zero_of_no_sems (by decide) r.2⟩) (DkvRef.run m ρ)

section
variable (m : (ℓ : Loc Cert.Kernel25Ideal.nD Cert.Kernel25Ideal.τ Cert.Kernel25Ideal.sig) → Buf (Elt Ideal) ℓ) (c : Dev Cert.Kernel25Ideal.nD)

/-- What the kernel's result arrays hold is what the reference's do: the same sums. -/
theorem keys_value : DkvRef.resK (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg2)) (m ((c.tc : Thread Cert.Kernel25Ideal.nD Cert.Kernel25Ideal.τ).loc Cert.Kernel25Ideal.main_arg3)) = Dkv.finalA m c 5 := by
  refine Eq.trans ?_ (Dkv.finalK_eq m c).symm
  funext i
  obtain ⟨n, cl, rfl⟩ : ∃ n cl, i = ix2 n cl := ⟨i 0, i 1, by idx_vars i⟩
  exact DkvRef.resK_at _ _ _ n cl
theorem values_value : DkvRef.resV (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1)) (m ((c.tc : Thread Cert.Kernel25Ideal.nD Cert.Kernel25Ideal.τ).loc Cert.Kernel25Ideal.main_arg3)) = Dkv.finalA m c 6 := by
  refine Eq.trans ?_ (Dkv.finalV_eq m c).symm
  funext i
  obtain ⟨n, cl, rfl⟩ : ∃ n cl, i = ix2 n cl := ⟨i 0, i 1, by idx_vars i⟩
  exact DkvRef.resV_at _ _ _ n cl
end

/-- The two programs compute the same two arrays. -/
theorem algebraic : Cert.algebraic_Kernel25Ideal_Reference25Ideal := fun m ρ m' ρ' _ hargs =>
  ⟨fun c => Dkv.finalA m c 5, fun c => Dkv.finalA m c 6,
    (θ_run Cert.Kernel25Ideal.defs _ _).mono (fun _ h c => ⟨(h.1 c).1 5, (h.1 c).1 6, args m h.1 c⟩) (Dkv.run_main (F := Ideal) m ρ),
    (θ_run Cert.Reference25Ideal.defs _ _).mono
      (fun _ h c => by
        obtain ⟨h0, h1, h2, h3⟩ := hargs c
        refine ⟨(h c).1.trans ?_, (h c).2.1.trans ?_, (h c).2.2⟩
        · rw [h0, h2, h3]; exact keys_value m c
        · rw [h0, h1, h3]; exact values_value m c)
      (DkvRef.run m' ρ')⟩

end Cert.Proof.DkvBwd

end
-- ==== Proof.ConfBwd.lean ====
/- The gradient of a layer norm with its SiLU: row blocks, and the gradients of the gain and of the shift summed over all of them. -/
module

public import proofs.«01_k».proof.Defs
public import proofs.«01_k».proof.Proof.Gen.Kernel27.Frame
public import proofs.«01_k».proof.Proof.Gen.Kernel27Ideal.Value
public import proofs.«01_k».proof.Proof.Gen.Reference27Ideal.Run
public import proofs.«01_k».proof.Proof.MmSum
public import proofs.«01_k».proof.Proof.Taps
public import Idealize.ShloMosaic.Lib.Pointwise
public import Idealize.ShloMosaic.Lib.IdealHost
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

/-! ## One row -/

namespace Cert.Proof.ConfBwd

open Idealize.ShloMosaic Idealize.ShloMosaic.TcCoe
open Taps

/-- The mean of a row's elements. -/
def mean (x : Fin 512 → EReal) : EReal := Ideal.div (∑ q, x q) (Ideal.ofBits .f32 0x44000000#32)

/-- A row with its mean taken off. -/
def centred (x : Fin 512 → EReal) (d : Fin 512) : EReal := x d - mean x

/-- The mean square of a centred row, and the small constant that keeps its root away from zero. -/
def variance (z : Fin 512 → EReal) : EReal := mean (fun q => z q * z q) + Ideal.ofBits .f32 0x358637BD#32

/-- The norm of a centred row, before the gain and the shift. -/
def hat (z : Fin 512 → EReal) (d : Fin 512) : EReal := z d * Ideal.rsqrt (variance z)

/-- The gradient of the norm's result from the gradient `y` of its SiLU. -/
def outGrad (z y g b : Fin 512 → EReal) (d : Fin 512) : EReal := actGrad (hat z d * g d + b d) (y d)

/-- What a row's mean square hands back to each element of the centred row `z`, where the normed row's gradient is `u`. -/
def slope (z u : Fin 512 → EReal) : EReal :=
  Ideal.div ((∑ q, z q * u q) * (Ideal.ofBits .f32 0xBF000000#32 * Ideal.div (Ideal.rsqrt (variance z)) (variance z))) (Ideal.ofBits .f32 0x44000000#32)

/-- The gradient of the centred row. -/
def centredGrad (z u : Fin 512 → EReal) (d : Fin 512) : EReal := u d * Ideal.rsqrt (variance z) + z d * slope z u + slope z u * z d

/-- The gradient of the row, from that of the centred row: the mean's part is added. -/
def spread (w : Fin 512 → EReal) (d : Fin 512) : EReal := w d + mean fun q => -w q

/-- The gradient of the row's element `d`. -/
def grad (x y g b : Fin 512 → EReal) (d : Fin 512) : EReal :=
  spread (centredGrad (centred x) fun q => outGrad (centred x) y g b q * g q) d

/-- The row's part of the gradient of the gain's element `d`. -/
def gainTerm (x y g b : Fin 512 → EReal) (d : Fin 512) : EReal := hat (centred x) d * outGrad (centred x) y g b d

/-- Its part of the gradient of the shift's. -/
def shiftTerm (x y g b : Fin 512 → EReal) (d : Fin 512) : EReal := outGrad (centred x) y g b d

/-! ## The kernel -/

open Cert.Kernel27Ideal Cert.Kernel27Ideal.Gen Cert.Kernel27Ideal.Value

section
variable (x y : S512x512.Idx → EReal) (g b : S1x512.Idx → EReal)

/-- A row of a block, and the one row of a gain or shift. -/
abbrev rowOf (x : S512x512.Idx → EReal) (r : Fin 512) : Fin 512 → EReal := fun q => x (ix2 r q)
abbrev only (g : S1x512.Idx → EReal) : Fin 512 → EReal := fun q => g (ix2 0 q)

theorem pay1_at (r d : Fin 512) : (k0_pay1 (F := Ideal) x) (ix2 r d) = centred (rowOf x r) d := by
  unfold k0_pay1 centred mean
  pointwise

theorem pay2_at (r : Fin 512) (o : Fin 1) : (k0_pay2 (F := Ideal) x) (ix2 r o) = variance (centred (rowOf x r)) := by
  unfold k0_pay2 variance mean
  pointwise
  simp only [pay1_at]

theorem pay3_at (r : Fin 512) (o : Fin 1) : (k0_pay3 (F := Ideal) x) (ix2 r o) = Ideal.rsqrt (variance (centred (rowOf x r))) := by
  unfold k0_pay3
  pointwise
  rw [pay2_at]

theorem pay4_at (r : Fin 512) (o : Fin 1) : (k0_pay4 (F := Ideal) x) (ix2 r o) =
    Ideal.ofBits .f32 0xBF000000#32 * Ideal.div (Ideal.rsqrt (variance (centred (rowOf x r)))) (variance (centred (rowOf x r))) := by
  unfold k0_pay4
  pointwise
  rw [pay2_at, pay3_at]

theorem pay5_at (r d : Fin 512) : (k0_pay5 (F := Ideal) x) (ix2 r d) = hat (centred (rowOf x r)) d := by
  unfold k0_pay5 hat
  pointwise
  rw [pay1_at, pay3_at]

theorem pay6_at (r d : Fin 512) : (k0_pay6 (F := Ideal) x y g b) (ix2 r d) = outGrad (centred (rowOf x r)) (rowOf y r) (only g) (only b) d := by
  unfold k0_pay6 outGrad actGrad
  pointwise
  rw [pay5_at]

theorem pay7_at (o : Fin 1) (d : Fin 512) :
    (k0_pay7 (F := Ideal) x y g b) (ix2 o d) = ∑ r, shiftTerm (rowOf x r) (rowOf y r) (only g) (only b) d := by
  unfold k0_pay7 shiftTerm
  pointwise
  simp only [pay6_at]

theorem pay8_at (o : Fin 1) (d : Fin 512) :
    (k0_pay8 (F := Ideal) x y g b) (ix2 o d) = ∑ r, gainTerm (rowOf x r) (rowOf y r) (only g) (only b) d := by
  unfold k0_pay8 gainTerm
  pointwise
  simp only [pay5_at, pay6_at]

theorem pay9_at (r d : Fin 512) :
    (k0_pay9 (F := Ideal) x y g b) (ix2 r d) = outGrad (centred (rowOf x r)) (rowOf y r) (only g) (only b) d * g (ix2 0 d) := by
  unfold k0_pay9
  pointwise
  rw [pay6_at]

/-- What is stored for the row's gradient, from the centred row, its root, the root's slope and the normed row's gradient. -/
theorem pay10_at (r d : Fin 512) : (k0_pay10 (F := Ideal) (k0_pay1 x) (k0_pay3 x) (k0_pay4 x) (k0_pay9 x y g b)) (ix2 r d) =
    grad (rowOf x r) (rowOf y r) (only g) (only b) d := by
  unfold k0_pay10 grad spread mean centredGrad slope
  pointwise
  simp only [pay1_at, pay3_at, pay4_at, pay9_at, Fin.sum_univ_one, zero_sub]

theorem pay11_at (o : Fin 1) (d : Fin 512) : (k0_pay11 (F := Ideal)) (ix2 o d) = (0 : EReal) := by
  unfold k0_pay11
  pointwise

theorem pay12_at (v a : S1x512.Idx → EReal) (o : Fin 1) (d : Fin 512) : (k0_pay12 (F := Ideal) v a) (ix2 o d) = a (ix2 o d) + v (ix2 o d) := by
  unfold k0_pay12
  pointwise

end

section
variable {F : FTy → Type} [FloatOps F]
variable (c : Dev nD) (i : grid0.Coords) (a1 : Memref sig .tc .vmem S512x512 .f32) (h1 : a1.IsWhole) (a2 : Memref sig .tc .vmem S512x512 .f32) (h2 : a2.IsWhole)
  (a3 : Memref sig .tc .vmem S1x512 .f32) (h3 : a3.IsWhole) (a4 : Memref sig .tc .vmem S1x512 .f32) (h4 : a4.IsWhole)
  (a5 : Memref sig .tc .vmem S512x512 .f32) (h5 : a5.IsWhole) (a6 : Memref sig .tc .vmem S1x512 .f32) (h6 : a6.IsWhole)
  (a7 : Memref sig .tc .vmem S1x512 .f32) (h7 : a7.IsWhole)
  (x y : Vec F S512x512 .f32) (g b acc acc' : Vec F S1x512 .f32)

/-- The stored gradient of a row block. -/
def stored : Vec F S512x512 .f32 := k0_pay10 (k0_pay1 x) (k0_pay3 x) (k0_pay4 x) (k0_pay9 x y g b)

theorem out4_A (hc : cond0_0 i) (hc' : cond0_1 i) : out0_A_4 c i a1 h1 a2 h2 a3 h3 a4 h4 a5 h5 a6 h6 a7 h7 hc hc' x y g b = stored x y g b := by
  unfold stored
  frame_out

theorem out4_B (hc : ¬cond0_0 i) (hc' : ¬cond0_1 i) : out0_B_4 c i a1 h1 a2 h2 a3 h3 a4 h4 a5 h5 a6 h6 a7 h7 hc hc' x y g b acc acc' = stored x y g b := by
  unfold stored
  frame_out

/-- The first row block clears the gradients of the gain and of the shift and adds its parts; every later one adds its parts to what the one before left. -/
theorem out5_A (hc : cond0_0 i) (hc' : cond0_1 i) : out0_A_5 c i a1 h1 a2 h2 a3 h3 a4 h4 a5 h5 a6 h6 a7 h7 hc hc' x y g b = k0_pay12 (k0_pay8 x y g b) (k0_pay11 (F := F)) := by
  frame_out

theorem out5_B (hc : ¬cond0_0 i) (hc' : ¬cond0_1 i) : out0_B_5 c i a1 h1 a2 h2 a3 h3 a4 h4 a5 h5 a6 h6 a7 h7 hc hc' x y g b acc acc' = k0_pay12 (k0_pay8 x y g b) acc := by
  frame_out

theorem out6_A (hc : cond0_0 i) (hc' : cond0_1 i) : out0_A_6 c i a1 h1 a2 h2 a3 h3 a4 h4 a5 h5 a6 h6 a7 h7 hc hc' x y g b = k0_pay12 (k0_pay7 x y g b) (k0_pay11 (F := F)) := by
  frame_out
  rfl

theorem out6_B (hc : ¬cond0_0 i) (hc' : ¬cond0_1 i) : out0_B_6 c i a1 h1 a2 h2 a3 h3 a4 h4 a5 h5 a6 h6 a7 h7 hc hc' x y g b acc acc' = k0_pay12 (k0_pay7 x y g b) acc' := by
  frame_out
  rfl

end

variable (m : (ℓ : Loc nD τ sig) → Buf (Elt Ideal) ℓ) (c : Dev nD)

theorem bnd (t : Fin grid0.N) : t.val < 8 := by have h := lt_of_lt_of_eq t.isLt N_0; omega
theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![0, 0] := by decide +kernel
theorem index6 : ∀ t : Fin grid0.N, win0_6.index t = ![0, 0] := by decide +kernel

/-- Row `r` of grid point `t`'s block, among all the rows. -/
def row (t : Fin grid0.N) (r : Fin 512) : Fin 4096 := ⟨t.val * 512 + r, by have := bnd t; omega⟩

/-- A column of the conformer's half, among the columns of both halves. -/
def half (q : Fin 512) : Fin 1024 := ⟨q, by omega⟩

/-- A row of the norm's argument; its gain and its shift; and a row of the gradient of the result, the first half of the mixer's. -/
abbrev arg (n : Fin 4096) : Fin 512 → EReal := fun q => (m ((c : Thread nD τ).loc main_arg0) : S4096x512.Idx → EReal) (ix2 n q)
abbrev gain : Fin 512 → EReal := only (m ((c : Thread nD τ).loc main_arg1))
abbrev shift : Fin 512 → EReal := only (m ((c : Thread nD τ).loc main_arg2))
abbrev dout (n : Fin 4096) : Fin 512 → EReal := fun q => (m ((c : Thread nD τ).loc main_arg3) : S4096x1024.Idx → EReal) (ix2 n (half q))

theorem blk0_at (t : Fin grid0.N) (r : Fin 512) : rowOf (iblk m c 0 t) r = arg m c (row t r) := by
  funext q
  unfold rowOf iblk arg row
  rw [← V_main_arg0 m c]
  blk_ext [index0 t]

theorem blk1_at (t : Fin grid0.N) (r : Fin 512) : rowOf (iblk m c 1 t) r = dout m c (row t r) := by
  funext q
  unfold rowOf iblk dout row half
  rw [← V_main_arg3 m c]
  blk_ext [index1 t]

theorem blk2_at (t : Fin grid0.N) : only (iblk m c 2 t) = gain m c := by
  funext q
  unfold gain only iblk
  rw [← V_main_arg1 m c]
  blk_ext [index2 t]

theorem blk3_at (t : Fin grid0.N) : only (iblk m c 3 t) = shift m c := by
  funext q
  unfold shift only iblk
  rw [← V_main_arg2 m c]
  blk_ext [index3 t]

/-- The argument's gradient. -/
def dArg : S4096x512.Idx → EReal := fun i => grad (arg m c (i 0)) (dout m c (i 0)) (gain m c) (shift m c) (i 1)

/-- The gain's gradient, and the shift's. -/
def dGain : S1x512.Idx → EReal := fun i => ∑ n, gainTerm (arg m c n) (dout m c n) (gain m c) (shift m c) (i 1)
def dShift : S1x512.Idx → EReal := fun i => ∑ n, shiftTerm (arg m c n) (dout m c n) (gain m c) (shift m c) (i 1)

/-- What a grid point leaves in the block of the argument's gradient. -/
theorem out4 (t : Fin cfg0.N) : (outsAt0 m c t.val t.isLt).1 = stored (iblk m c 0 t) (iblk m c 1 t) (iblk m c 2 t) (iblk m c 3 t) := by
  by_cases h0 : t.val % 8 = 0
  · rw [outsAt0_A m c t h0 h0, out4_A]
  · rw [outsAt0_B m c t h0 h0, out4_B]

theorem result4 : (dats m 0 c).arrAt 4 cfg0.N = dArg m c := by
  refine (dats m 0 c).arrAt_eq_of_covers 4 (dArg m c) (by decide +kernel) fun t _ y => ?_
  obtain ⟨r, d, rfl⟩ : ∃ (r : Fin 512) (d : Fin 512), y = ix2 r d := ⟨y 0, y 1, by idx_vars y⟩
  blk_simp
  rw [after0_4, out4]
  have e : (win0_4.blk t).view.emb (ix2 r d) = ix2 (row t r) d := by
    unfold row
    blk_ext [index4 t]
  rw [e]
  refine (pay10_at ..).trans ?_
  rw [blk0_at, blk1_at, blk2_at, blk3_at]
  rfl

/-- A sum that the grid takes up row block by row block: the first one clears it, and the last one leaves the whole. -/
theorem summed (term : (x y g b : Fin 512 → EReal) → Fin 512 → EReal) (pay : (x y : S512x512.Idx → EReal) → (g b : S1x512.Idx → EReal) → S1x512.Idx → EReal)
    (hpay : ∀ x y g b o d, pay x y g b (ix2 o d) = ∑ r, term (rowOf x r) (rowOf y r) (only g) (only b) d)
    (out : (n : ℕ) → n < grid0.N → S1x512.Idx → EReal)
    (hA : ∀ (t : Fin grid0.N), t.val % 8 = 0 →
      out t.val t.isLt = k0_pay12 (F := Ideal) (pay (iblk m c 0 t) (iblk m c 1 t) (iblk m c 2 t) (iblk m c 3 t)) (k0_pay11 (F := Ideal)))
    (hB : ∀ (n : ℕ) (h : n + 1 < grid0.N), ¬(n + 1) % 8 = 0 →
      out (n + 1) h = k0_pay12 (F := Ideal) (pay (iblk m c 0 ⟨n + 1, h⟩) (iblk m c 1 ⟨n + 1, h⟩) (iblk m c 2 ⟨n + 1, h⟩) (iblk m c 3 ⟨n + 1, h⟩)) (out n (Nat.lt_of_succ_lt h)))
    (o : Fin 1) (d : Fin 512) : ∀ (n : ℕ) (hn : n < grid0.N), n % 8 = 7 →
      out n hn (ix2 o d) = ∑ q, term (arg m c q) (dout m c q) (gain m c) (shift m c) d := by
  have w : ∀ (n : ℕ) (h : n < grid0.N) (r : Fin 512), row ⟨n, h⟩ r = ⟨n % 8 * 512 + r.val, by omega⟩ := fun n h r =>
    Fin.ext (by have := bnd ⟨n, h⟩; unfold row; dsimp only at this ⊢; omega)
  have step : ∀ (t : Fin grid0.N) (a : S1x512.Idx → EReal),
      (k0_pay12 (F := Ideal) (pay (iblk m c 0 t) (iblk m c 1 t) (iblk m c 2 t) (iblk m c 3 t)) a) (ix2 o d)
        = a (ix2 o d) + ∑ r : Fin 512, term (arg m c (row t r)) (dout m c (row t r)) (gain m c) (shift m c) d := fun t a => by
    refine (pay12_at ..).trans (congrArg _ ((hpay ..).trans ?_))
    simp only [blk0_at, blk1_at, blk2_at, blk3_at]
  refine Mm.fold_blocks (K := 4096) (nk := 8) (w := 512) rfl (by decide) (fun _ _ q => term (arg m c q) (dout m c q) (gain m c) (shift m c) d)
    (fun n hn => out n hn (ix2 o d)) _ (fun k q _ => by omega) (fun _ _ _ => rfl) (fun n h e => ?_) (fun n h e _ => ?_) (fun n h e => ?_)
  · simp only [← w n h]
    exact (congrFun (hA ⟨n, h⟩ e) _).trans ((step ⟨n, h⟩ _).trans (congrArg (· + _) (pay11_at o d)))
  · simp only [← w (n + 1) h]
    exact (congrFun (hB n h e) _).trans (step ⟨n + 1, h⟩ _)
  · simp only [← w (n + 1) h]
    exact (congrFun (hB n h (by omega)) _).trans (step ⟨n + 1, h⟩ _)

theorem out5 : ∀ (o : Fin 1) (d : Fin 512) (n : ℕ) (hn : n < grid0.N), n % 8 = 7 → (outsAt0 m c n hn).2.1 (ix2 o d) = dGain m c (ix2 o d) :=
  summed m c gainTerm (k0_pay8 (F := Ideal)) pay8_at (fun n hn => (outsAt0 m c n hn).2.1)
    (fun t h => by rw [outsAt0_A m c t h h, out5_A])
    (fun n h e => by
      have := outsAt0_B m c ⟨n + 1, h⟩ e e
      dsimp only at this ⊢
      rw [this, out5_B]
      rfl)

theorem out6 : ∀ (o : Fin 1) (d : Fin 512) (n : ℕ) (hn : n < grid0.N), n % 8 = 7 → (outsAt0 m c n hn).2.2 (ix2 o d) = dShift m c (ix2 o d) :=
  summed m c shiftTerm (k0_pay7 (F := Ideal)) pay7_at (fun n hn => (outsAt0 m c n hn).2.2)
    (fun t h => by rw [outsAt0_A m c t h h, out6_A])
    (fun n h e => by
      have := outsAt0_B m c ⟨n + 1, h⟩ e e
      dsimp only at this ⊢
      rw [this, out6_B]
      rfl)

theorem flush5 : ∀ t : Fin grid0.N, win0_5.flush t = true → t.val % 8 = 7 := by decide +kernel
theorem flush6 : ∀ t : Fin grid0.N, win0_6.flush t = true → t.val % 8 = 7 := by decide +kernel

theorem result5 : (dats m 0 c).arrAt 5 cfg0.N = dGain m c := by
  refine (dats m 0 c).arrAt_eq_of_covers 5 (dGain m c) (by decide +kernel) fun t hf y => ?_
  obtain ⟨o, d, rfl⟩ : ∃ (o : Fin 1) (d : Fin 512), y = ix2 o d := ⟨y 0, y 1, by idx_vars y⟩
  blk_simp
  rw [after0_5]
  have e : (win0_5.blk t).view.emb (ix2 o d) = ix2 o d := by blk_ext [index5 t]
  rw [e]
  exact out5 m c o d t.val t.isLt (flush5 t hf)

theorem result6 : (dats m 0 c).arrAt 6 cfg0.N = dShift m c := by
  refine (dats m 0 c).arrAt_eq_of_covers 6 (dShift m c) (by decide +kernel) fun t hf y => ?_
  obtain ⟨o, d, rfl⟩ : ∃ (o : Fin 1) (d : Fin 512), y = ix2 o d := ⟨y 0, y 1, by idx_vars y⟩
  blk_simp
  rw [after0_6]
  have e : (win0_6.blk t).view.emb (ix2 o d) = ix2 o d := by blk_ext [index6 t]
  rw [e]
  exact out6 m c o d t.val t.isLt (flush6 t hf)

end Cert.Proof.ConfBwd

/-! ## The reference, and the claim -/

namespace Cert.Proof.ConfBwd

open Idealize.ShloMosaic Idealize.ShloMosaic.TcCoe Idealize.SL.Sem
open Taps

section
open Cert.Reference27Ideal Cert.Reference27Ideal.Gen

/-- The means of the rows. -/
def refMean (x : FVec Ideal S4096x512 .f32) : FVec Ideal S4096x1 .f32 :=
  Host.divf (broadcastInDim S4096x1 ![0] bcast_S4096_S4096x1_0 (Host.reduceAdd x (constant S_ .f32 0x00000000#32) reducesTo_S4096x512_S4096_d1 h_S_)) (broadcastInDim S4096x1 ![] bcast_S_S4096x1 (constant S_ .f32 0x44000000#32))

/-- The centred rows. -/
def refCentred (x : FVec Ideal S4096x512 .f32) : FVec Ideal S4096x512 .f32 :=
  subf x (broadcastInDim S4096x512 ![0, 1] bcast_S4096x1_S4096x512_0_1 (refMean x))

/-- Their mean squares. -/
def refVar (z : FVec Ideal S4096x512 .f32) : FVec Ideal S4096x1 .f32 :=
  addf (refMean (mulf z z)) (broadcastInDim S4096x1 ![] bcast_S_S4096x1 (constant S_ .f32 0x358637BD#32))

/-- The norm before the gain and the shift. -/
def refHat (z : FVec Ideal S4096x512 .f32) : FVec Ideal S4096x512 .f32 :=
  mulf z (broadcastInDim S4096x512 ![0, 1] bcast_S4096x1_S4096x512_0_1 (Host.rsqrt (refVar z)))

/-- The norm's result. -/
def refOut (z : FVec Ideal S4096x512 .f32) (g b : FVec Ideal S1x512 .f32) : FVec Ideal S4096x512 .f32 :=
  addf (mulf (refHat z) (broadcastInDim S4096x512 ![0, 1] bcast_S1x512_S4096x512_0_1 g)) (broadcastInDim S4096x512 ![0, 1] bcast_S1x512_S4096x512_0_1 b)

def refOne : FVec Ideal S4096x512 .f32 := broadcastInDim S4096x512 ![] bcast_S_S4096x512 (constant S_ .f32 0x3F800000#32)

def refGate (p : FVec Ideal S4096x512 .f32) : FVec Ideal S4096x512 .f32 := Host.divf refOne (addf refOne (Host.exp (Host.negf p)))

/-- Its gradient, from the gradient of its SiLU. -/
def refAct (p : FVec Ideal S4096x512 .f32) (y : FVec Ideal S4096x1024 .f32) : FVec Ideal S4096x512 .f32 :=
  addf (mulf (extractStridedSlice S4096x512 ![0, 0] y slices_S4096x1024_S4096x512_0_0) (refGate p))
    (mulf (mulf p (extractStridedSlice S4096x512 ![0, 0] y slices_S4096x1024_S4096x512_0_0)) (mulf (refGate p) (subf refOne (refGate p))))

/-- What the mean squares hand back. -/
def refSlope (z u : FVec Ideal S4096x512 .f32) : FVec Ideal S4096 .f32 :=
  Host.reduceAdd (Host.divf (mulf (shapeCast _ (Host.reduceAdd (mulf z u) (constant S_ .f32 0x00000000#32) reducesTo_S4096x512_S4096_d1 h_S_) shapeCasts_S4096_S4096x1) (mulf (broadcastInDim S4096x1 ![] bcast_S_S4096x1 (constant S_ .f32 0xBF000000#32)) (Host.divf (Host.rsqrt (refVar z)) (refVar z)))) (broadcastInDim S4096x1 ![] bcast_S_S4096x1 (constant S_ .f32 0x44000000#32))) (constant S_ .f32 0x00000000#32) reducesTo_S4096x1_S4096_d1 h_S_

/-- The gradient of the centred rows. -/
def refCentredGrad (z u : FVec Ideal S4096x512 .f32) : FVec Ideal S4096x512 .f32 :=
  addf (addf (mulf u (broadcastInDim S4096x512 ![0, 1] bcast_S4096x1_S4096x512_0_1 (Host.rsqrt (refVar z))))
    (mulf z (broadcastInDim S4096x512 ![0] bcast_S4096_S4096x512_0 (refSlope z u)))) (mulf (broadcastInDim S4096x512 ![0] bcast_S4096_S4096x512_0 (refSlope z u)) z)

/-- The gradient of the rows. -/
def refSpread (w : FVec Ideal S4096x512 .f32) : FVec Ideal S4096x512 .f32 :=
  addf w (broadcastInDim S4096x512 ![0] bcast_S4096_S4096x512_0 (Host.reduceAdd (Host.divf (shapeCast _ (Host.reduceAdd (Host.negf w) (constant S_ .f32 0x00000000#32) reducesTo_S4096x512_S4096_d1 h_S_) shapeCasts_S4096_S4096x1) (broadcastInDim S4096x1 ![] bcast_S_S4096x1 (constant S_ .f32 0x44000000#32))) (constant S_ .f32 0x00000000#32) reducesTo_S4096x1_S4096_d1 h_S_))

/-- The sum of all the rows. -/
def refSum (w : FVec Ideal S4096x512 .f32) : FVec Ideal S1x512 .f32 :=
  shapeCast _ (Host.reduceAdd w (constant S_ .f32 0x00000000#32) reducesTo_S4096x512_S512_d0 h_S_) shapeCasts_S512_S1x512

/-- A row, and the half of a row that the conformer's gradient is. -/
abbrev line (x : S4096x512.Idx → EReal) (n : Fin 4096) : Fin 512 → EReal := fun q => x (ix2 n q)
abbrev halfLine (y : S4096x1024.Idx → EReal) (n : Fin 4096) : Fin 512 → EReal := fun q => y (ix2 n (half q))

variable (x z u w : FVec Ideal S4096x512 .f32) (y : FVec Ideal S4096x1024 .f32) (g b : FVec Ideal S1x512 .f32) (n : Fin 4096) (o : Fin 1) (d : Fin 512)

theorem refMean_at : refMean x (ix2 n o) = mean (line x n) := by
  unfold refMean mean
  pointwise

theorem refCentred_at : refCentred x (ix2 n d) = centred (line x n) d := by
  unfold refCentred centred
  pointwise
  rw [refMean_at]

theorem refVar_at : refVar z (ix2 n o) = variance (line z n) := by
  unfold refVar variance
  pointwise
  rw [refMean_at]
  unfold line
  pointwise

theorem refHat_at : refHat z (ix2 n d) = hat (line z n) d := by
  unfold refHat hat
  pointwise
  rw [refVar_at]

theorem refAct_at : refAct (refOut z g b) y (ix2 n d) = outGrad (line z n) (halfLine y n) (only g) (only b) d := by
  have e : refOut z g b (ix2 n d) = hat (line z n) d * g (ix2 0 d) + b (ix2 0 d) := by
    unfold refOut
    pointwise
    rw [refHat_at]
  unfold outGrad only
  rw [← e]
  generalize refOut z g b = p
  unfold refAct refGate refOne actGrad Ideal.logistic halfLine half
  pointwise

theorem refSlope_at : refSlope z u (ix1 n) = slope (line z n) (line u n) := by
  unfold refSlope slope
  pointwise
  simp only [refVar_at, Fin.sum_univ_one]

theorem refCentredGrad_at : refCentredGrad z u (ix2 n d) = centredGrad (line z n) (line u n) d := by
  unfold refCentredGrad centredGrad
  pointwise
  rw [refVar_at, refSlope_at]

theorem refSpread_at : refSpread w (ix2 n d) = spread (line w n) d := by
  unfold refSpread spread mean
  pointwise
  simp only [Fin.sum_univ_one]

theorem refSum_at : refSum w (ix2 o d) = ∑ n : Fin 4096, w (ix2 n d) := by
  unfold refSum
  pointwise

/-- The reference's gradient of the norm's result, and the three gradients from it. -/
def refGrad : FVec Ideal S4096x512 .f32 := refAct (refOut (refCentred x) g b) y

def refArg : FVec Ideal S4096x512 .f32 :=
  refSpread (refCentredGrad (refCentred x) (mulf (refGrad x y g b) (broadcastInDim S4096x512 ![0, 1] bcast_S1x512_S4096x512_0_1 g)))

def refGain : FVec Ideal S1x512 .f32 := refSum (mulf (refHat (refCentred x)) (refGrad x y g b))

theorem refGrad_at : refGrad x y g b (ix2 n d) = outGrad (centred (line x n)) (halfLine y n) (only g) (only b) d := by
  unfold refGrad
  rw [refAct_at]
  exact congrArg (fun z => outGrad z _ _ _ d) (funext fun q => refCentred_at x n q)

theorem refArg_at : refArg x y g b (ix2 n d) = grad (line x n) (halfLine y n) (only g) (only b) d := by
  have e : line (refCentred x) n = centred (line x n) := funext fun q => refCentred_at x n q
  have e' : line (mulf (refGrad x y g b) (broadcastInDim S4096x512 ![0, 1] bcast_S1x512_S4096x512_0_1 g)) n
      = fun q => outGrad (centred (line x n)) (halfLine y n) (only g) (only b) q * only g q := funext fun q => by
    unfold line only
    pointwise
    exact congrArg (· * _) (refGrad_at ..)
  unfold refArg grad
  rw [refSpread_at]
  refine congrArg (fun w => spread w d) (funext fun q => ?_)
  exact (refCentredGrad_at ..).trans (by rw [e, e'])

theorem refGain_at : refGain x y g b (ix2 o d) = ∑ n : Fin 4096, gainTerm (line x n) (halfLine y n) (only g) (only b) d := by
  unfold refGain
  rw [refSum_at]
  refine Finset.sum_congr (M := EReal) rfl fun n _ => ?_
  have e : line (refCentred x) n = centred (line x n) := funext fun q => refCentred_at x n q
  unfold gainTerm
  rw [← e, ← refHat_at, e, ← refGrad_at]
  pointwise

theorem refShift_at : refSum (refGrad x y g b) (ix2 o d) = ∑ n : Fin 4096, shiftTerm (line x n) (halfLine y n) (only g) (only b) d := by
  rw [refSum_at]
  exact Finset.sum_congr (M := EReal) rfl fun n _ => refGrad_at ..

end

/-- The reference's frame. -/
theorem frame_reference : Cert.quiescent_Reference27Ideal := fun m ρ _ =>
  (θ_run Cert.Reference27Ideal.defs _ _).mono (fun r h => ⟨fun c => (h c).2.2.2, sem_eq_zero_of_no_sems (by decide) r.2⟩) (Cert.Reference27Ideal.Value.run m ρ)

/-- The call computes the norm's gradients. -/
theorem algebraic : Cert.algebraic_Kernel27Ideal_Reference27Ideal := fun m ρ m' ρ' _ hargs =>
  ⟨fun c => dArg m c, fun c => dGain m c, fun c => dShift m c,
    (θ_run Cert.Kernel27Ideal.defs _ _).mono
      (fun _ h c => ⟨(h c).1.trans (result4 m c), (h c).2.1.trans (result5 m c), (h c).2.2.1.trans (result6 m c), (h c).2.2.2⟩)
      (Cert.Kernel27Ideal.Value.run_blocks m ρ),
    (θ_run Cert.Reference27Ideal.defs _ _).mono
      (fun _ h c => by
        obtain ⟨a0, a1, a2, a3⟩ := hargs c
        have e : refArg (m' ((c.tc : Thread _ _).loc Cert.Reference27Ideal.main_arg0)) (m' ((c.tc : Thread _ _).loc Cert.Reference27Ideal.main_arg3))
            (m' ((c.tc : Thread _ _).loc Cert.Reference27Ideal.main_arg1)) (m' ((c.tc : Thread _ _).loc Cert.Reference27Ideal.main_arg2)) = dArg m c := by
          rw [a0, a1, a2, a3]
          funext i
          obtain ⟨n, d, rfl⟩ : ∃ n d, i = ix2 n d := ⟨i 0, i 1, by idx_vars i⟩
          exact refArg_at _ _ _ _ n d
        have e' : refGain (m' ((c.tc : Thread _ _).loc Cert.Reference27Ideal.main_arg0)) (m' ((c.tc : Thread _ _).loc Cert.Reference27Ideal.main_arg3))
            (m' ((c.tc : Thread _ _).loc Cert.Reference27Ideal.main_arg1)) (m' ((c.tc : Thread _ _).loc Cert.Reference27Ideal.main_arg2)) = dGain m c := by
          rw [a0, a1, a2, a3]
          funext i
          obtain ⟨o, d, rfl⟩ : ∃ o d, i = ix2 o d := ⟨i 0, i 1, by idx_vars i⟩
          exact refGain_at _ _ _ _ o d
        have e'' : refSum (refGrad (m' ((c.tc : Thread _ _).loc Cert.Reference27Ideal.main_arg0)) (m' ((c.tc : Thread _ _).loc Cert.Reference27Ideal.main_arg3))
            (m' ((c.tc : Thread _ _).loc Cert.Reference27Ideal.main_arg1)) (m' ((c.tc : Thread _ _).loc Cert.Reference27Ideal.main_arg2))) = dShift m c := by
          rw [a0, a1, a2, a3]
          funext i
          obtain ⟨o, d, rfl⟩ : ∃ o d, i = ix2 o d := ⟨i 0, i 1, by idx_vars i⟩
          exact refShift_at _ _ _ _ o d
        exact ⟨(h c).1.trans e, (h c).2.1.trans e', (h c).2.2.1.trans e'', (h c).2.2.2⟩)
      (Cert.Reference27Ideal.Value.run m' ρ')⟩

end Cert.Proof.ConfBwd

end
-- ==== Proof.S5OutDw.lean ====
/- The gradient of the S5 mixer's output matrices: of the products of the states with the incoming gradient, taken four groups of columns at a
   time, the host's lines after the call keep those of a head's own states and outputs. -/
module

public import proofs.«01_k».proof.Defs
public import proofs.«01_k».proof.Proof.MmSum
public import proofs.«01_k».proof.Proof.Gen.Kernel28Ideal.Frame
public import proofs.«01_k».proof.Proof.Gen.Reference28Ideal.Run
public import Idealize.ShloMosaic.Lib.Pointwise
public import Idealize.ShloMosaic.Lib.IdealHost
public import Idealize.ShloMosaic.Lib.Claim
public import Idealize.ShloMosaic.Lib.StableHlo.RunRead
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.S5OutDw

open Cert.Kernel28Ideal Cert.Kernel28Ideal.Gen Cert.Proof.Mm
open Idealize.ShloMosaic Idealize.ShloMosaic.TcCoe

section
variable {F : FTy → Type} [FloatOps F]
variable (c : Dev nD) (i : grid0.Coords) (a2 : Memref sig .tc .vmem S1024x128 .bf16) (h2 : a2.IsWhole) (a3 : Memref sig .tc .vmem S1024x512 .bf16) (h3 : a3.IsWhole)
  (a4 : Memref sig .tc .vmem S1024x512 .bf16) (h4 : a4.IsWhole) (a5 : Memref sig .tc .vmem S1x1024x128 .f32) (h5 : a5.IsWhole)
  (y : Vec F S1024x128 .bf16) (u v : Vec F S1024x512 .bf16) (acc : Vec F S1x1024x128 .f32)

/-- The first block of rows: the sum is cleared and takes the block's products. -/
theorem out_A (hc0 : cond0_0 i) : out0_A_3 c i a2 h2 a3 h3 a4 h4 a5 h5 hc0 y u v = k0_pay2 u v y (k0_pay1 (F := F)) := by
  frame_out

/-- A later block: its products are added. -/
theorem out_B (hc0 : ¬cond0_0 i) : out0_B_3 c i a2 h2 a3 h3 a4 h4 a5 h5 hc0 y u v acc = k0_pay2 u v y acc := by
  frame_out

end

/-- Two arrays of 512 columns side by side. -/
def beside {n : ℕ} (u v : Fin n → Fin 512 → EReal) (q : Fin n) (r : Fin 1024) : EReal :=
  if h : r.val < 512 then u q ⟨r, h⟩ else v q ⟨r - 512, by omega⟩

theorem pay1_at (o : Fin 1) (r : Fin 1024) (d : Fin 128) : (k0_pay1 (F := Ideal)) (ix3 o r d) = (0 : EReal) := by
  unfold k0_pay1
  pointwise

theorem pay2_at (u v : S1024x512.Idx → EReal) (y : S1024x128.Idx → EReal) (a : S1x1024x128.Idx → EReal) (o : Fin 1) (r : Fin 1024) (d : Fin 128) :
    (k0_pay2 (F := Ideal) u v y a) (ix3 o r d) = a (ix3 o r d) + ∑ q : Fin 1024, beside (fun q l => u (ix2 q l)) (fun q l => v (ix2 q l)) q r * y (ix2 q d) := by
  obtain rfl := Subsingleton.elim o 0
  unfold k0_pay2 beside
  pointwise

variable (m : (ℓ : Loc nD τ sig) → Buf (Elt Ideal) ℓ) (c : Dev nD)

theorem bnd (t : Fin grid0.N) : t.val / 4 < 4 ∧ t.val % 4 < 4 := by have h := lt_of_lt_of_eq t.isLt N_0; omega
theorem index0 : ∀ t : Fin grid0.N, win0_0.index t = ![t.val % 4, t.val / 4] := by decide +kernel
theorem index1 : ∀ t : Fin grid0.N, win0_1.index t = ![t.val % 4, t.val / 4] := by decide +kernel
theorem index2 : ∀ t : Fin grid0.N, win0_2.index t = ![t.val % 4, t.val / 4] := by decide +kernel
theorem index3 : ∀ t : Fin grid0.N, win0_3.index t = ![t.val / 4, 0, 0] := by decide +kernel

/-- The incoming gradient, and the states' real and imaginary parts. -/
abbrev dy : S4096x512.Idx → EReal := m ((c : Thread nD τ).loc main_arg0)
abbrev xr : S4096x2048.Idx → EReal := m ((c : Thread nD τ).loc main_arg1)
abbrev xi : S4096x2048.Idx → EReal := m ((c : Thread nD τ).loc main_arg2)

/-- The columns of the four groups. -/
def quarter (x : S4096x2048.Idx → EReal) (s : Fin 4) (q : Fin 4096) (l : Fin 512) : EReal := x (ix2 q ⟨s.val * 512 + l, by omega⟩)

theorem blk0_at (t : Fin grid0.N) (q : Fin 1024) (d : Fin 128) :
    iblk m c 0 t (ix2 q d) = dy m c (ix2 ⟨t.val % 4 * 1024 + q, by have := bnd t; omega⟩ ⟨t.val / 4 * 128 + d, by have := bnd t; omega⟩) := by
  unfold iblk dy
  rw [← V_main_arg0 m c]
  blk_ext [index0 t]

theorem blk1_at (t : Fin grid0.N) (q : Fin 1024) (l : Fin 512) :
    iblk m c 1 t (ix2 q l) = quarter (xr m c) ⟨t.val / 4, (bnd t).1⟩ ⟨t.val % 4 * 1024 + q, by have := bnd t; omega⟩ l := by
  unfold iblk quarter xr
  rw [← V_main_arg1 m c]
  blk_ext [index1 t]

theorem blk2_at (t : Fin grid0.N) (q : Fin 1024) (l : Fin 512) :
    iblk m c 2 t (ix2 q l) = quarter (xi m c) ⟨t.val / 4, (bnd t).1⟩ ⟨t.val % 4 * 1024 + q, by have := bnd t; omega⟩ l := by
  unfold iblk quarter xi
  rw [← V_main_arg2 m c]
  blk_ext [index2 t]

/-- The products whose sum over the rows is the call's element (s, r, d). -/
def term (s : Fin 4) (r : Fin 1024) (d : Fin 128) (q : Fin 4096) : EReal :=
  beside (quarter (xr m c) s) (quarter (xi m c) s) q r * dy m c (ix2 q ⟨s.val * 128 + d, by omega⟩)

theorem step_at (t : Fin grid0.N) (a : S1x1024x128.Idx → EReal) (o : Fin 1) (r : Fin 1024) (d : Fin 128) :
    (k0_pay2 (F := Ideal) (iblk m c 1 t) (iblk m c 2 t) (iblk m c 0 t) a) (ix3 o r d)
      = a (ix3 o r d) + ∑ q : Fin 1024, term m c ⟨t.val / 4, (bnd t).1⟩ r d ⟨t.val % 4 * 1024 + q, by have := bnd t; omega⟩ := by
  refine (pay2_at ..).trans (congrArg _ (Finset.sum_congr (M := EReal) rfl fun q _ => ?_))
  unfold term
  rw [blk0_at]
  refine congrArg (fun z : EReal => z * _) ?_
  unfold beside
  simp only [blk1_at, blk2_at]

/-- The terms that a place of a point's sum has. -/
def terms (r : Fin 1024) (d : Fin 128) (n : ℕ) (hn : n < grid0.N) : Fin 4096 → EReal := term m c ⟨n / 4, (bnd ⟨n, hn⟩).1⟩ r d

/-- The last block leaves the whole sum. -/
theorem out_at (o : Fin 1) (r : Fin 1024) (d : Fin 128) : ∀ (n : ℕ) (hn : n < grid0.N), n % 4 = 3 →
    outsAt0 m c n hn (ix3 o r d) = ∑ q : Fin 4096, terms m c r d n hn q := by
  refine fold_blocks (K := 4096) (nk := 4) (w := 1024) rfl (by decide) (terms m c r d) (fun n hn => outsAt0 m c n hn (ix3 o r d)) _
    (fun k q _ => by omega) (fun n h e => ?_) (fun n h e => ?_) (fun n h e l => ?_) (fun n h e => ?_)
  · exact congrArg (fun s => term m c s r d) (Fin.ext (by dsimp only; omega))
  · rw [outsAt0_A m c ⟨n, h⟩ e, out_A]
    exact (step_at m c ⟨n, h⟩ _ o r d).trans (congrArg (· + _) (pay1_at o r d))
  · rw [outsAt0_B m c ⟨n + 1, h⟩ e, out_B]
    exact step_at m c ⟨n + 1, h⟩ _ o r d
  · rw [outsAt0_B m c ⟨n + 1, h⟩ (by dsimp only; omega), out_B]
    exact step_at m c ⟨n + 1, h⟩ _ o r d

theorem flush3 : ∀ t : Fin grid0.N, win0_3.flush t = true → t.val % 4 = 3 := by decide +kernel

/-- What the call leaves. -/
def sums : S4x1024x128.Idx → EReal := fun i => ∑ q, term m c (i 0) (i 1) (i 2) q

theorem result : (dats m 0 c).arrAt 3 cfg0.N = sums m c := by
  refine (dats m 0 c).arrAt_eq_of_covers 3 (sums m c) (by decide +kernel) fun t hf y => ?_
  obtain ⟨o, r, d, rfl⟩ : ∃ (o : Fin 1) (r : Fin 1024) (d : Fin 128), y = ix3 o r d := ⟨y 0, y 1, y 2, by idx_vars y⟩
  blk_simp
  rw [after0_3]
  have e : (win0_3.blk t).view.emb (ix3 o r d) = ix3 ⟨t.val / 4, (bnd t).1⟩ r d := by blk_ext [index3 t]
  rw [e]
  exact out_at m c o r d t.val t.isLt (flush3 t hf)

/-- The host's lines after the call: of a half of the call's rows, those places where the head of the row is the head of the column. -/
def heads (w : S4x512x128.Idx → EReal) : S32x16x64.Idx → EReal :=
  transpose S32x16x64 [0, 2, 1] (shapeCast S32x64x16 (Host.reduceAdd (F := Ideal) (mulf (F := Ideal) (φ := .f32) (shapeCast S4x8x64x8x16 w shapeCasts_S4x512x128_S4x8x64x8x16)
    (broadcastInDim S4x8x64x8x16 ![0, 1, 2, 3, 4] bcast_S1x8x1x8x1_S4x8x64x8x16_0_1_2_3_4 (broadcastInDim S1x8x1x8x1 ![1, 3] bcast_S8x8_S1x8x1x8x1_1_3
      (uitofp .f32 (cmpi .eq (addi (iotaInDim S8x8 32 0) (broadcastInDim S8x8 ![] bcast_S_S8x8 (constantI S_ 32 0#32))) (iotaInDim S8x8 32 1))))))
    (constant S_ .f32 0x00000000#32) reducesTo_S4x8x64x8x16_S4x8x64x16_d3 h_S_) shapeCasts_S4x8x64x16_S32x64x16) transposes_S32x64x16_S32x16x64_0_2_1

/-- The identity matrix of the heads. -/
theorem eye_at (k j : Fin 8) :
    (FloatOps.uitofp (F := Ideal) FTy.f32 (IntOp.cmpi CmpIPredicate.eq (IntOp.addi (BitVec.ofNat 32 k.val) 0#32) (BitVec.ofNat 32 j.val)) : EReal) = if j = k then 1 else 0 := by
  have e : IntOp.cmpi CmpIPredicate.eq (IntOp.addi (BitVec.ofNat 32 k.val) 0#32) (BitVec.ofNat 32 j.val) = if j = k then 1#1 else 0#1 := by
    revert k j
    decide
  rw [e]
  split
  · show (((1#1 : BitVec 1).toNat : ℝ) : EReal) = 1
    simp
  · show (((0#1 : BitVec 1).toNat : ℝ) : EReal) = 0
    simp

theorem heads_at (w : S4x512x128.Idx → EReal) (g : Fin 32) (e : Fin 16) (n : Fin 64) :
    heads w (ix3 g e n) = w (ix3 ⟨g / 8, by omega⟩ ⟨g % 8 * 64 + n, by omega⟩ ⟨g % 8 * 16 + e, by omega⟩) := by
  unfold heads
  pointwise
  refine (Finset.sum_eq_single (M := EReal) (⟨g.val % 8, by omega⟩ : Fin 8) (fun j _ hj => ?_) (fun h => absurd (Finset.mem_univ _) h)).trans ?_
  · rw [eye_at ⟨g.val % 8, by omega⟩ j, if_neg hj, mul_zero]
  · rw [eye_at ⟨g.val % 8, by omega⟩ ⟨g.val % 8, by omega⟩, if_pos rfl, mul_one]

theorem held : Pipeline.withArrays spec0 c (V0 m c) (fun w => (dats m 0 c).arrAt w cfg0.N) (Proc.devRef .tc main_v0) = sums m c :=
  (Pipeline.withArrays_arr spec0 (by decide) c (V0 m c) _ 3).trans (result m c)

/-- The halves of the call's rows: the states' real parts, and the imaginary ones. -/
def upper (w : S4x1024x128.Idx → EReal) : S4x512x128.Idx → EReal := extractStridedSlice S4x512x128 ![0, 0, 0] w slices_S4x1024x128_S4x512x128_0_0_0
def lower (w : S4x1024x128.Idx → EReal) : S4x512x128.Idx → EReal := extractStridedSlice S4x512x128 ![0, 512, 0] w slices_S4x1024x128_S4x512x128_0_512_0

theorem tail14 : Pipeline.afterTail₀ cfgs (dats m) 0 (V0 m) [hostOps1] c main_v14 = heads (upper (sums m c)) := by
  show StableHlo.after hostOps1 (Pipeline.withArrays spec0 c (V0 m c) fun w => (dats m 0 c).arrAt w cfg0.N) (Proc.devRef .tc main_v14) = _
  after_reads_simp
  rw [held]
  rfl

theorem tail29 : Pipeline.afterTail₀ cfgs (dats m) 0 (V0 m) [hostOps1] c main_v29 = Host.negf (F := Ideal) (φ := .f32) (heads (lower (sums m c))) := by
  show StableHlo.after hostOps1 (Pipeline.withArrays spec0 c (V0 m c) fun w => (dats m 0 c).arrAt w cfg0.N) (Proc.devRef .tc main_v29) = _
  after_reads_simp
  rw [held]
  rfl

/-- The gradient of a part of the output matrices: head `g`'s products over the rows. -/
def dCat (y : S4096x512.Idx → EReal) (x : S4096x2048.Idx → EReal) (g : Fin 32) (e : Fin 16) (n : Fin 64) : EReal :=
  ∑ q : Fin 4096, x (ix2 q ⟨g.val * 64 + n.val, by omega⟩) * y (ix2 q ⟨g.val * 16 + e.val, by omega⟩)

/-- The gradient of a part, as an array. -/
def dC (y : S4096x512.Idx → EReal) (x : S4096x2048.Idx → EReal) : S32x16x64.Idx → EReal :=
  fun i => dCat y x (i 0) (i 1) (i 2)

theorem upper_at (g : Fin 32) (e : Fin 16) (n : Fin 64) : heads (upper (sums m c)) (ix3 g e n) = dCat (dy m c) (xr m c) g e n := by
  rw [heads_at]
  unfold upper
  pointwise
  unfold sums dCat
  refine Finset.sum_congr (M := EReal) rfl fun q _ => ?_
  unfold term beside quarter
  rw [dif_pos (by show g.val % 8 * 64 + n.val < 512; omega)]
  exact congrArg₂ (fun u v : EReal => u * v) (congrArg (xr m c) (congrArg (ix2 q) (Fin.ext (by show g.val / 8 * 512 + (g.val % 8 * 64 + n.val) = g.val * 64 + n.val; omega))))
    (congrArg (dy m c) (congrArg (ix2 q) (Fin.ext (by show g.val / 8 * 128 + (g.val % 8 * 16 + e.val) = g.val * 16 + e.val; omega))))

theorem lower_at (g : Fin 32) (e : Fin 16) (n : Fin 64) : heads (lower (sums m c)) (ix3 g e n) = dCat (dy m c) (xi m c) g e n := by
  rw [heads_at]
  unfold lower
  pointwise
  unfold sums dCat
  refine Finset.sum_congr (M := EReal) rfl fun q _ => ?_
  unfold term beside quarter
  rw [dif_neg (by show ¬ 512 + (g.val % 8 * 64 + n.val) < 512; omega)]
  exact congrArg₂ (fun u v : EReal => u * v) (congrArg (xi m c) (congrArg (ix2 q) (Fin.ext (by show g.val / 8 * 512 + (512 + (g.val % 8 * 64 + n.val) - 512) = g.val * 64 + n.val; omega))))
    (congrArg (dy m c) (congrArg (ix2 q) (Fin.ext (by show g.val / 8 * 128 + (g.val % 8 * 16 + e.val) = g.val * 16 + e.val; omega))))

end Cert.Proof.S5OutDw

/-! ## The reference, and the claim -/

namespace Cert.Proof.S5OutDw

open Idealize.ShloMosaic Idealize.ShloMosaic.TcCoe Idealize.SL.Sem

section
open Cert.Reference28Ideal Cert.Reference28Ideal.Gen

theorem ref_at (y : S4096x512.Idx → EReal) (x : S4096x2048.Idx → EReal) (g : Fin 32) (e : Fin 16) (n : Fin 64) :
    (Host.dotGeneral (F := Ideal) (φ₁ := .f32) (φ₂ := .f32) dot_S32x16x4096_S4096x32x64_S32x16x64_2_0_1_2_0_1 none (transpose S32x16x4096 [1, 2, 0] (shapeCast _ (extf (F := Ideal) (φ := .bf16) .f32 y bitsLt_bf16_f32) shapeCasts_S4096x512_S4096x32x16) transposes_S4096x32x16_S32x16x4096_1_2_0) (shapeCast _ (extf (F := Ideal) (φ := .bf16) .f32 x bitsLt_bf16_f32) shapeCasts_S4096x2048_S4096x32x64)) (ix3 g e n)
      = dCat y x g e n := by
  unfold dCat
  pointwise
  exact Finset.sum_congr (M := EReal) rfl fun q _ => mul_comm (G := EReal) _ _

end

/-- The reference's frame. -/
theorem frame_reference : Cert.quiescent_Reference28Ideal := fun m ρ _ =>
  (θ_run Cert.Reference28Ideal.defs _ _).mono (fun r h => ⟨fun c => (h c).2.2, sem_eq_zero_of_no_sems (by decide) r.2⟩) (Cert.Reference28Ideal.Value.run m ρ)

/-- The program computes the gradients. -/
theorem algebraic : Cert.algebraic_Kernel28Ideal_Reference28Ideal := fun m ρ m' ρ' _ hargs =>
  ⟨fun c => dC (dy m c) (xr m c), fun c => Host.negf (F := Ideal) (φ := .f32) (dC (dy m c) (xi m c)),
    (θ_run Cert.Kernel28Ideal.defs _ _).mono
      (fun _ h c => ⟨((h.1.1 c).2 _ (by decide)).trans ((tail14 m c).trans (by
          funext i
          obtain ⟨g, e, n, rfl⟩ : ∃ g e n, i = ix3 g e n := ⟨i 0, i 1, i 2, by idx_vars i⟩
          exact upper_at m c g e n)),
        ((h.1.1 c).2 _ (by decide)).trans ((tail29 m c).trans (congrArg _ (by
          funext i
          obtain ⟨g, e, n, rfl⟩ : ∃ g e n, i = ix3 g e n := ⟨i 0, i 1, i 2, by idx_vars i⟩
          exact lower_at m c g e n))), h.2 c⟩)
      (θ_run_and (Cert.Kernel28Ideal.Gen.run_main_quiescent m ρ) (Cert.Kernel28Ideal.Gen.unchanged m ρ)),
    (θ_run Cert.Reference28Ideal.defs _ _).mono
      (fun _ h c => by
        have e : ∀ y x, Host.dotGeneral (F := Ideal) (φ₁ := .f32) (φ₂ := .f32) Cert.Reference28Ideal.dot_S32x16x4096_S4096x32x64_S32x16x64_2_0_1_2_0_1 none (transpose Cert.Reference28Ideal.S32x16x4096 [1, 2, 0] (shapeCast _ (extf (F := Ideal) (φ := .bf16) .f32 y Cert.Reference28Ideal.Gen.bitsLt_bf16_f32) Cert.Reference28Ideal.Gen.shapeCasts_S4096x512_S4096x32x16) Cert.Reference28Ideal.Gen.transposes_S4096x32x16_S32x16x4096_1_2_0) (shapeCast _ (extf (F := Ideal) (φ := .bf16) .f32 x Cert.Reference28Ideal.Gen.bitsLt_bf16_f32) Cert.Reference28Ideal.Gen.shapeCasts_S4096x2048_S4096x32x64) = dC y x := fun y x => by
          funext i
          obtain ⟨g, e, n, rfl⟩ : ∃ g e n, i = ix3 g e n := ⟨i 0, i 1, i 2, by idx_vars i⟩
          exact ref_at y x g e n
        refine ⟨(h c).1.trans ?_, (h c).2.1.trans ?_, (h c).2.2⟩
        · rw [(hargs c).1, (hargs c).2.1]
          exact e _ _
        · rw [(hargs c).1, (hargs c).2.2]
          exact congrArg _ (e _ _))
      (Cert.Reference28Ideal.Value.run m' ρ')⟩

end Cert.Proof.S5OutDw

end
-- ==== Proof.S5InDw.lean ====
/- The gradient of the S5 mixer's input matrices: of the products of the input with the states' gradients, taken four groups of columns at a
   time, the host's lines after the call keep those of a head's own inputs and states. -/
module

public import proofs.«01_k».proof.Defs
public import proofs.«01_k».proof.Proof.MmSum
public import proofs.«01_k».proof.Proof.S5OutDw
public import proofs.«01_k».proof.Proof.Gen.Kernel29Ideal.Frame
public import proofs.«01_k».proof.Proof.Gen.Reference29Ideal.Run
public import Idealize.ShloMosaic.Lib.Pointwise
public import Idealize.ShloMosaic.Lib.IdealHost
public import Idealize.ShloMosaic.Lib.Claim
public import Idealize.ShloMosaic.Lib.StableHlo.RunRead
public import Idealize.ShloMosaic.Lib.Pipeline.ValueKit.Geometry
public import Idealize.ShloMosaic.Lib.Pipeline.ValueKit.Acc
public import Idealize.ShloMosaic.PureOps.Ideal

@[expose] public section

set_option maxRecDepth 16384

noncomputable section

namespace Cert.Proof.S5InDw

open Cert.Kernel29Ideal Cert.Kernel29Ideal.Gen Cert.Proof.Mm
open Cert.Proof.S5OutDw (beside eye_at)
open Idealize.ShloMosaic Idealize.ShloMosaic.TcCoe

section
variable {F : FTy → Type} [FloatOps F]
variable (c : Dev nD) (i : grid0.Coords) (a2 : Memref sig .tc .vmem S1024x128 .f32) (h2 : a2.IsWhole) (a3 : Memref sig .tc .vmem S1024x512 .bf16) (h3 : a3.IsWhole)
  (a4 : Memref sig .tc .vmem S1024x512 .bf16) (h4 : a4.IsWhole) (a5 : Memref sig .tc .vmem S1x128x1024 .f32) (h5 : a5.IsWhole)
  (y : Vec F S1024x128 .f32) (u v : Vec F S1024x512 .bf16) (acc : Vec F S1x128x1024 .f32)

/-- The first block of rows: the sum is cleared and takes the block's products. -/
theorem out_A (hc0 : cond0_0 i) : out0_A_3 c i a2 h2 a3 h3 a4 h4 a5 h5 hc0 y u v = k0_pay2 u v y (k0_pay1 (F := F)) := by
  frame_out

/-- A later block: its products are added. -/
theorem out_B (hc0 : ¬cond0_0 i) : out0_B_3 c i a2 h2 a3 h3 a4 h4 a5 h5 hc0 y u v acc = k0_pay2 u v y acc := by
  frame_out

end

theorem pay1_at (o : Fin 1) (d : Fin 128) (r : Fin 1024) : (k0_pay1 (F := Ideal)) (ix3 o d r) = (0 : EReal) := by
  unfold k0_pay1
  pointwise

theorem pay2_at (u v : S1024x512.Idx → EReal) (y : S1024x128.Idx → EReal) (a : S1x128x1024.Idx → EReal) (o : Fin 1) (d : Fin 128) (r : Fin 1024) :
    (k0_pay2 (F := Ideal) u v y a) (ix3 o d r) = a (ix3 o d r) + ∑ q : Fin 1024, y (ix2 q d) * beside (fun q l => u (ix2 q l)) (fun q l => v (ix2 q l)) q r := by
  obtain rfl := Subsingleton.elim o 0
  unfold k0_pay2 beside
  pointwise

variable (m : (ℓ : Loc nD τ sig) → Buf (Elt Ideal) ℓ) (c : Dev nD)

theorem bnd (t : Fin grid0.N) : t.val / 4 < 4 ∧ t.val % 4 < 4 := by have h := lt_of_lt_of_eq t.isLt N_0; omega
theorem index0 : ∀ t : Fin grid0.N, win0_0.index t = ![t.val % 4, t.val / 4 + 8] := by decide +kernel
theorem index1 : ∀ t : Fin grid0.N, win0_1.index t = ![t.val % 4, t.val / 4] := by decide +kernel
theorem index2 : ∀ t : Fin grid0.N, win0_2.index t = ![t.val % 4, t.val / 4] := by decide +kernel
theorem index3 : ∀ t : Fin grid0.N, win0_3.index t = ![t.val / 4, 0, 0] := by decide +kernel

/-- The projection, of which the last 512 columns are the input, and the gradients of the states' real and imaginary parts. -/
abbrev proj : S4096x1536.Idx → EReal := m ((c : Thread nD τ).loc main_arg0)
abbrev xr : S4096x2048.Idx → EReal := m ((c : Thread nD τ).loc main_arg1)
abbrev xi : S4096x2048.Idx → EReal := m ((c : Thread nD τ).loc main_arg2)

/-- The columns of the four groups. -/
def quarter (x : S4096x2048.Idx → EReal) (s : Fin 4) (q : Fin 4096) (l : Fin 512) : EReal := x (ix2 q ⟨s.val * 512 + l, by omega⟩)

theorem blk0_at (t : Fin grid0.N) (q : Fin 1024) (d : Fin 128) :
    iblk m c 0 t (ix2 q d) = proj m c (ix2 ⟨t.val % 4 * 1024 + q, by have := bnd t; omega⟩ ⟨1024 + t.val / 4 * 128 + d, by have := bnd t; omega⟩) := by
  unfold iblk proj
  rw [← V_main_arg0 m c]
  blk_ext [index0 t]

theorem blk1_at (t : Fin grid0.N) (q : Fin 1024) (l : Fin 512) :
    iblk m c 1 t (ix2 q l) = quarter (xr m c) ⟨t.val / 4, (bnd t).1⟩ ⟨t.val % 4 * 1024 + q, by have := bnd t; omega⟩ l := by
  unfold iblk quarter xr
  rw [← V_main_arg1 m c]
  blk_ext [index1 t]

theorem blk2_at (t : Fin grid0.N) (q : Fin 1024) (l : Fin 512) :
    iblk m c 2 t (ix2 q l) = quarter (xi m c) ⟨t.val / 4, (bnd t).1⟩ ⟨t.val % 4 * 1024 + q, by have := bnd t; omega⟩ l := by
  unfold iblk quarter xi
  rw [← V_main_arg2 m c]
  blk_ext [index2 t]

/-- The products whose sum over the rows is the call's element (s, d, r). -/
def term (s : Fin 4) (d : Fin 128) (r : Fin 1024) (q : Fin 4096) : EReal :=
  proj m c (ix2 q ⟨1024 + s.val * 128 + d, by omega⟩) * beside (quarter (xr m c) s) (quarter (xi m c) s) q r

theorem step_at (t : Fin grid0.N) (a : S1x128x1024.Idx → EReal) (o : Fin 1) (d : Fin 128) (r : Fin 1024) :
    (k0_pay2 (F := Ideal) (iblk m c 1 t) (iblk m c 2 t) (iblk m c 0 t) a) (ix3 o d r)
      = a (ix3 o d r) + ∑ q : Fin 1024, term m c ⟨t.val / 4, (bnd t).1⟩ d r ⟨t.val % 4 * 1024 + q, by have := bnd t; omega⟩ := by
  refine (pay2_at ..).trans (congrArg _ (Finset.sum_congr (M := EReal) rfl fun q _ => ?_))
  unfold term
  rw [blk0_at]
  refine congrArg (fun z : EReal => _ * z) ?_
  unfold beside
  simp only [blk1_at, blk2_at]

/-- The terms that a place of a point's sum has. -/
def terms (d : Fin 128) (r : Fin 1024) (n : ℕ) (hn : n < grid0.N) : Fin 4096 → EReal := term m c ⟨n / 4, (bnd ⟨n, hn⟩).1⟩ d r

/-- The last block leaves the whole sum. -/
theorem out_at (o : Fin 1) (d : Fin 128) (r : Fin 1024) : ∀ (n : ℕ) (hn : n < grid0.N), n % 4 = 3 →
    outsAt0 m c n hn (ix3 o d r) = ∑ q : Fin 4096, terms m c d r n hn q := by
  refine fold_blocks (K := 4096) (nk := 4) (w := 1024) rfl (by decide) (terms m c d r) (fun n hn => outsAt0 m c n hn (ix3 o d r)) _
    (fun k q _ => by omega) (fun n h e => ?_) (fun n h e => ?_) (fun n h e l => ?_) (fun n h e => ?_)
  · exact congrArg (fun s => term m c s d r) (Fin.ext (by dsimp only; omega))
  · rw [outsAt0_A m c ⟨n, h⟩ e, out_A]
    exact (step_at m c ⟨n, h⟩ _ o d r).trans (congrArg (· + _) (pay1_at o d r))
  · rw [outsAt0_B m c ⟨n + 1, h⟩ e, out_B]
    exact step_at m c ⟨n + 1, h⟩ _ o d r
  · rw [outsAt0_B m c ⟨n + 1, h⟩ (by dsimp only; omega), out_B]
    exact step_at m c ⟨n + 1, h⟩ _ o d r

theorem flush3 : ∀ t : Fin grid0.N, win0_3.flush t = true → t.val % 4 = 3 := by decide +kernel

/-- What the call leaves. -/
def sums : S4x128x1024.Idx → EReal := fun i => ∑ q, term m c (i 0) (i 1) (i 2) q

theorem result : (dats m 0 c).arrAt 3 cfg0.N = sums m c := by
  refine (dats m 0 c).arrAt_eq_of_covers 3 (sums m c) (by decide +kernel) fun t hf y => ?_
  obtain ⟨o, d, r, rfl⟩ : ∃ (o : Fin 1) (d : Fin 128) (r : Fin 1024), y = ix3 o d r := ⟨y 0, y 1, y 2, by idx_vars y⟩
  blk_simp
  rw [after0_3]
  have e : (win0_3.blk t).view.emb (ix3 o d r) = ix3 ⟨t.val / 4, (bnd t).1⟩ d r := by blk_ext [index3 t]
  rw [e]
  exact out_at m c o d r t.val t.isLt (flush3 t hf)

/-- The host's lines after the call: of a half of the call's columns, those places where the head of the row is the head of the column. -/
def heads (w : S4x128x512.Idx → EReal) : S16x32x64.Idx → EReal :=
  transpose S16x32x64 [1, 0, 2] (shapeCast S32x16x64 (Host.reduceAdd (F := Ideal) (mulf (F := Ideal) (φ := .f32) (shapeCast S4x8x16x8x64 w shapeCasts_S4x128x512_S4x8x16x8x64)
    (broadcastInDim S4x8x16x8x64 ![0, 1, 2, 3, 4] bcast_S1x8x1x8x1_S4x8x16x8x64_0_1_2_3_4 (broadcastInDim S1x8x1x8x1 ![1, 3] bcast_S8x8_S1x8x1x8x1_1_3
      (uitofp .f32 (cmpi .eq (addi (iotaInDim S8x8 32 0) (broadcastInDim S8x8 ![] bcast_S_S8x8 (constantI S_ 32 0#32))) (iotaInDim S8x8 32 1))))))
    (constant S_ .f32 0x00000000#32) reducesTo_S4x8x16x8x64_S4x8x16x64_d3 h_S_) shapeCasts_S4x8x16x64_S32x16x64) transposes_S32x16x64_S16x32x64_1_0_2

theorem heads_at (w : S4x128x512.Idx → EReal) (e : Fin 16) (g : Fin 32) (n : Fin 64) :
    heads w (ix3 e g n) = w (ix3 ⟨g / 8, by omega⟩ ⟨g % 8 * 16 + e, by omega⟩ ⟨g % 8 * 64 + n, by omega⟩) := by
  unfold heads
  pointwise
  refine (Finset.sum_eq_single (M := EReal) (⟨g.val % 8, by omega⟩ : Fin 8) (fun j _ hj => ?_) (fun h => absurd (Finset.mem_univ _) h)).trans ?_
  · rw [eye_at ⟨g.val % 8, by omega⟩ j, if_neg hj, mul_zero]
  · rw [eye_at ⟨g.val % 8, by omega⟩ ⟨g.val % 8, by omega⟩, if_pos rfl, mul_one]

theorem held : Pipeline.withArrays spec0 c (V0 m c) (fun w => (dats m 0 c).arrAt w cfg0.N) (Proc.devRef .tc main_v0) = sums m c :=
  (Pipeline.withArrays_arr spec0 (by decide) c (V0 m c) _ 3).trans (result m c)

/-- The halves of the call's columns: the states' real parts, and the imaginary ones. -/
def left (w : S4x128x1024.Idx → EReal) : S4x128x512.Idx → EReal := extractStridedSlice S4x128x512 ![0, 0, 0] w slices_S4x128x1024_S4x128x512_0_0_0
def right (w : S4x128x1024.Idx → EReal) : S4x128x512.Idx → EReal := extractStridedSlice S4x128x512 ![0, 0, 512] w slices_S4x128x1024_S4x128x512_0_0_512

theorem tail_re : Pipeline.afterTail₀ cfgs (dats m) 0 (V0 m) [hostOps1] c main_v14 = heads (left (sums m c)) := by
  show StableHlo.after hostOps1 (Pipeline.withArrays spec0 c (V0 m c) fun w => (dats m 0 c).arrAt w cfg0.N) (Proc.devRef .tc main_v14) = _
  after_reads_simp
  rw [held]
  rfl

theorem tail_im : Pipeline.afterTail₀ cfgs (dats m) 0 (V0 m) [hostOps1] c main_v28 = heads (right (sums m c)) := by
  show StableHlo.after hostOps1 (Pipeline.withArrays spec0 c (V0 m c) fun w => (dats m 0 c).arrAt w cfg0.N) (Proc.devRef .tc main_v28) = _
  after_reads_simp
  rw [held]
  rfl

/-- The gradient of a part of the input matrices: head `g`'s products over the rows. -/
def dBat (y : S4096x1536.Idx → EReal) (x : S4096x2048.Idx → EReal) (e : Fin 16) (g : Fin 32) (n : Fin 64) : EReal :=
  ∑ q : Fin 4096, y (ix2 q ⟨1024 + (g.val * 16 + e.val), by omega⟩) * x (ix2 q ⟨g.val * 64 + n.val, by omega⟩)

/-- The gradient of a part, as an array. -/
def dB (y : S4096x1536.Idx → EReal) (x : S4096x2048.Idx → EReal) : S16x32x64.Idx → EReal :=
  fun i => dBat y x (i 0) (i 1) (i 2)

/-- A head's own input column. -/
theorem input_at (q : Fin 4096) (e : Fin 16) (g : Fin 32) :
    proj m c (ix2 q ⟨1024 + g.val / 8 * 128 + (g.val % 8 * 16 + e.val), by omega⟩) = proj m c (ix2 q ⟨1024 + (g.val * 16 + e.val), by omega⟩) :=
  congrArg (proj m c) (congrArg (ix2 q) (Fin.ext (by dsimp only; omega)))

theorem left_at (e : Fin 16) (g : Fin 32) (n : Fin 64) : heads (left (sums m c)) (ix3 e g n) = dBat (proj m c) (xr m c) e g n := by
  rw [heads_at]
  unfold left
  pointwise
  unfold sums dBat
  refine Finset.sum_congr (M := EReal) rfl fun q _ => ?_
  unfold term beside quarter
  rw [dif_pos (by show g.val % 8 * 64 + n.val < 512; omega)]
  exact congrArg₂ (fun u v : EReal => u * v) (input_at m c q e g)
    (congrArg (xr m c) (congrArg (ix2 q) (Fin.ext (by show g.val / 8 * 512 + (g.val % 8 * 64 + n.val) = g.val * 64 + n.val; omega))))

theorem right_at (e : Fin 16) (g : Fin 32) (n : Fin 64) : heads (right (sums m c)) (ix3 e g n) = dBat (proj m c) (xi m c) e g n := by
  rw [heads_at]
  unfold right
  pointwise
  unfold sums dBat
  refine Finset.sum_congr (M := EReal) rfl fun q _ => ?_
  unfold term beside quarter
  rw [dif_neg (by show ¬ 512 + (g.val % 8 * 64 + n.val) < 512; omega)]
  exact congrArg₂ (fun u v : EReal => u * v) (input_at m c q e g)
    (congrArg (xi m c) (congrArg (ix2 q) (Fin.ext (by show g.val / 8 * 512 + (512 + (g.val % 8 * 64 + n.val) - 512) = g.val * 64 + n.val; omega))))

end Cert.Proof.S5InDw

/-! ## The reference, and the claim -/

namespace Cert.Proof.S5InDw

open Idealize.ShloMosaic Idealize.ShloMosaic.TcCoe Idealize.SL.Sem

section
open Cert.Reference29Ideal Cert.Reference29Ideal.Gen

/-- The reference's gradient of a part. -/
def refGrad (y : S4096x1536.Idx → EReal) (x : S4096x2048.Idx → EReal) : S16x32x64.Idx → EReal :=
  transpose S16x32x64 [2, 0, 1] (Host.dotGeneral (F := Ideal) (φ₁ := .f32) (φ₂ := .f32) dot_S32x64x4096_S4096x32x16_S32x64x16_2_0_1_2_0_1 none
    (transpose S32x64x4096 [1, 2, 0] (shapeCast _ (extf (F := Ideal) (φ := .bf16) .f32 x bitsLt_bf16_f32) shapeCasts_S4096x2048_S4096x32x64) transposes_S4096x32x64_S32x64x4096_1_2_0)
    (shapeCast _ (extractStridedSlice S4096x512 ![0, 1024] y slices_S4096x1536_S4096x512_0_1024) shapeCasts_S4096x512_S4096x32x16)) transposes_S32x64x16_S16x32x64_2_0_1

theorem ref_at (y : S4096x1536.Idx → EReal) (x : S4096x2048.Idx → EReal) (e : Fin 16) (g : Fin 32) (n : Fin 64) : refGrad y x (ix3 e g n) = dBat y x e g n := by
  unfold refGrad dBat
  pointwise
  exact Finset.sum_congr (M := EReal) rfl fun q _ => mul_comm (G := EReal) _ _

theorem ref_eq (y : S4096x1536.Idx → EReal) (x : S4096x2048.Idx → EReal) : refGrad y x = dB y x := by
  funext i
  obtain ⟨e, g, n, rfl⟩ : ∃ e g n, i = ix3 e g n := ⟨i 0, i 1, i 2, by idx_vars i⟩
  exact ref_at y x e g n

end

/-- The reference's frame. -/
theorem frame_reference : Cert.quiescent_Reference29Ideal := fun m ρ _ =>
  (θ_run Cert.Reference29Ideal.defs _ _).mono (fun r h => ⟨fun c => (h c).2.2, sem_eq_zero_of_no_sems (by decide) r.2⟩) (Cert.Reference29Ideal.Value.run m ρ)

/-- The program computes the gradients. -/
theorem algebraic : Cert.algebraic_Kernel29Ideal_Reference29Ideal := fun m ρ m' ρ' _ hargs =>
  ⟨fun c => dB (proj m c) (xr m c), fun c => dB (proj m c) (xi m c),
    (θ_run Cert.Kernel29Ideal.defs _ _).mono
      (fun _ h c => ⟨((h.1.1 c).2 _ (by decide)).trans ((tail_re m c).trans (by
          funext i
          obtain ⟨e, g, n, rfl⟩ : ∃ e g n, i = ix3 e g n := ⟨i 0, i 1, i 2, by idx_vars i⟩
          exact left_at m c e g n)),
        ((h.1.1 c).2 _ (by decide)).trans ((tail_im m c).trans (by
          funext i
          obtain ⟨e, g, n, rfl⟩ : ∃ e g n, i = ix3 e g n := ⟨i 0, i 1, i 2, by idx_vars i⟩
          exact right_at m c e g n)), h.2 c⟩)
      (θ_run_and (Cert.Kernel29Ideal.Gen.run_main_quiescent m ρ) (Cert.Kernel29Ideal.Gen.unchanged m ρ)),
    (θ_run Cert.Reference29Ideal.defs _ _).mono
      (fun _ h c => by
        refine ⟨(h c).1.trans ?_, (h c).2.1.trans ?_, (h c).2.2⟩
        · rw [(hargs c).1, (hargs c).2.1]
          exact ref_eq _ _
        · rw [(hargs c).1, (hargs c).2.2]
          exact ref_eq _ _)
      (Cert.Reference29Ideal.Value.run m' ρ')⟩

end Cert.Proof.S5InDw

end
-- ==== Proof.lean ====
/- The kernels' runs and what they compute: the claims of Defs.lean put together from the modules under Proof/. -/
module

public import proofs.«01_k».proof.Defs
public import proofs.«01_k».proof.Proof.Gen.Kernel
public import proofs.«01_k».proof.Proof.RetRun
public import proofs.«01_k».proof.Proof.Gen.ReferenceIdeal
public import proofs.«01_k».proof.Proof.Gen.ReferenceIdeal.Run
public import proofs.«01_k».proof.Proof.Gen.Pre_finite
public import proofs.«01_k».proof.Proof.RetRef
public import proofs.«01_k».proof.Proof.RetPre
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.Kernel9.Frame
public import proofs.«01_k».proof.Proof.Gen.Kernel9Ideal.Value
public import proofs.«01_k».proof.Proof.Gen.Kernel10.Frame
public import proofs.«01_k».proof.Proof.Gen.Kernel10Ideal.Value
public import proofs.«01_k».proof.Proof.Gen.Kernel11.Frame
public import proofs.«01_k».proof.Proof.Gen.Kernel11Ideal.Value
public import proofs.«01_k».proof.Proof.Gen.Kernel12.Frame
public import proofs.«01_k».proof.Proof.Gen.Kernel12Ideal.Value
public import proofs.«01_k».proof.Proof.Gen.Kernel13.Frame
public import proofs.«01_k».proof.Proof.Gen.Kernel13Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Kernel15.Frame
public import proofs.«01_k».proof.Proof.Gen.Kernel15Ideal.Value
public import proofs.«01_k».proof.Proof.Gen.Kernel16.Frame
public import proofs.«01_k».proof.Proof.Gen.Kernel16Ideal.Value
public import proofs.«01_k».proof.Proof.Gen.Kernel17.Frame
public import proofs.«01_k».proof.Proof.Gen.Kernel17Ideal.Value
public import proofs.«01_k».proof.Proof.Gen.Kernel18.Frame
public import proofs.«01_k».proof.Proof.Gen.Kernel18Ideal.Value
public import proofs.«01_k».proof.Proof.Gen.Kernel19.Frame
public import proofs.«01_k».proof.Proof.Gen.Kernel19Ideal.Value
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.MmEInDw
public import proofs.«01_k».proof.Proof.MmEInDx
public import proofs.«01_k».proof.Proof.MmFfnUpDw
public import proofs.«01_k».proof.Proof.MmFfnUpDx
public import proofs.«01_k».proof.Proof.MmFfnDownDw
public import proofs.«01_k».proof.Proof.MmFfnDownDx
public import proofs.«01_k».proof.Proof.MmEOutDw
public import proofs.«01_k».proof.Proof.MmEOutDx
public import proofs.«01_k».proof.Proof.MmOInDw
public import proofs.«01_k».proof.Proof.MmOInDx
public import proofs.«01_k».proof.Proof.MmOOutDw
public import proofs.«01_k».proof.Proof.MmOOutDx
public import proofs.«01_k».proof.Proof.MmEIn
public import proofs.«01_k».proof.Proof.MmFfnUp
public import proofs.«01_k».proof.Proof.MmOIn
public import proofs.«01_k».proof.Proof.MmEOut
public import proofs.«01_k».proof.Proof.MmFfnDown
public import proofs.«01_k».proof.Proof.MmOOut
public import proofs.«01_k».proof.Proof.Gen.Kernel21.Frame
public import proofs.«01_k».proof.Proof.ConvBwd
public import proofs.«01_k».proof.Proof.Gen.Kernel22.Frame
public import proofs.«01_k».proof.Proof.GateBwd
public import proofs.«01_k».proof.Proof.Gen.Kernel23.Frame
public import proofs.«01_k».proof.Proof.NormBwd
public import proofs.«01_k».proof.Proof.Gen.Kernel24.Frame
public import proofs.«01_k».proof.Proof.CumBwd
public import proofs.«01_k».proof.Proof.DkvBwd
public import proofs.«01_k».proof.Proof.Gen.Kernel27.Frame
public import proofs.«01_k».proof.Proof.ConfBwd
public import proofs.«01_k».proof.Proof.Gen.Kernel28.Frame
public import proofs.«01_k».proof.Proof.S5OutDw
public import proofs.«01_k».proof.Proof.Gen.Kernel29.Frame
public import proofs.«01_k».proof.Proof.S5InDw
public import Idealize.ShloMosaic.Adequacy
public import Idealize.ShloMosaic.Init

@[expose] public section

noncomputable section

namespace Cert.Proof

open Idealize.ShloMosaic Idealize.SL.Sem

/-- What the reference's run ends in: every buffer at the contents its operations compute. -/
abbrev RefPost (m : (ℓ : Loc Cert.ReferenceIdeal.nD Cert.ReferenceIdeal.τ Cert.ReferenceIdeal.sig) → Buf (Elt Ideal) ℓ)
    (r : PUnit × MemSt Cert.ReferenceIdeal.nD Cert.ReferenceIdeal.τ Cert.ReferenceIdeal.sig (Elt Ideal)) : Prop :=
  ∀ (c : Dev Cert.ReferenceIdeal.nD) (b : Ref Cert.ReferenceIdeal.sig .tc), (Proc.devRef .tc b : DevRef Cert.ReferenceIdeal.τ Cert.ReferenceIdeal.sig).isScoped = false →
    r.2.mem ((c.tc : Thread Cert.ReferenceIdeal.nD Cert.ReferenceIdeal.τ).loc b)
      = StableHlo.finalContents Cert.ReferenceIdeal.Value.condOps Cert.ReferenceIdeal.Value.preI Cert.ReferenceIdeal.Value.bodyI Cert.ReferenceIdeal.Value.postI 32 m c (Proc.devRef .tc b)

/-- The kernel's arguments are as they were. -/
theorem dq_args {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Dq.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨((h c).1 1).trans ((Dq.finalA_arg m c 1 rfl).trans (Dq.V_of_not_written m c _ (by decide))),
    ((h c).1 2).trans ((Dq.finalA_arg m c 2 rfl).trans (Dq.V_of_not_written m c _ (by decide))), (h c).2,
    ((h c).1 4).trans ((Dq.finalA_arg m c 4 rfl).trans (Dq.V_of_not_written m c _ (by decide)))⟩

/-- The two programs' body tables are one. -/
theorem defs₀_eq : Cert.Kernel.defs₀ (F := Bits) = (Cert.KernelIdeal.defs₀ (F := Bits)) := by
  unfold Cert.Kernel.defs₀ Cert.KernelIdeal.defs₀
  refine congrArg Defs.onTc ?_
  funext l a
  match l, a with
  | 0, (t, s) => rfl

theorem defs_eq : Cert.Kernel.defs (F := Bits) = (Cert.KernelIdeal.defs (F := Bits)) := congrArg (Pipeline.defs Cert.KernelIdeal.pcfgs) defs₀_eq

theorem main_eq : Cert.Kernel.main (F := Bits) = (Cert.KernelIdeal.main (F := Bits)) := by
  unfold Cert.Kernel.main Cert.KernelIdeal.main
  rfl

/-- The kernel's frame: its program is the idealized one's, read over words. -/
theorem frame_kernel : Cert.quiescent_Kernel := fun m ρ _ => by
  rw [defs_eq, main_eq]
  exact (θ_run Cert.KernelIdeal.defs _ _).mono (fun _ h => ⟨dq_args m h.1, h.2⟩) (Dq.run_main (F := Bits) m ρ)

theorem frame_kernelIdeal : Cert.quiescent_KernelIdeal_pre_none := fun m ρ _ =>
  (θ_run Cert.KernelIdeal.defs _ _).mono (fun _ h => ⟨dq_args m h.1, h.2⟩) (Dq.run_main (F := Ideal) m ρ)

/-- The reference's arguments are as they were: no operation writes one. -/
theorem ref_args (m : (ℓ : Loc Cert.ReferenceIdeal.nD Cert.ReferenceIdeal.τ Cert.ReferenceIdeal.sig) → Buf (Elt Ideal) ℓ)
    {r : PUnit × MemSt Cert.ReferenceIdeal.nD Cert.ReferenceIdeal.τ Cert.ReferenceIdeal.sig (Elt Ideal)} (h : RefPost m r) (c : Dev Cert.ReferenceIdeal.nD) :
    r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  ⟨(h c Cert.ReferenceIdeal.main_arg0 rfl).trans (DqRef.W_arg0 m c), (h c Cert.ReferenceIdeal.main_arg1 rfl).trans (DqRef.W_arg1 m c),
    (h c Cert.ReferenceIdeal.main_arg2 rfl).trans (DqRef.W_arg2 m c), (h c Cert.ReferenceIdeal.main_arg3 rfl).trans (DqRef.W_arg3 m c)⟩

theorem frame_referenceIdeal : Cert.quiescent_ReferenceIdeal := fun m ρ _ =>
  (θ_run Cert.ReferenceIdeal.defs _ _).mono (fun r h => ⟨fun c => ref_args m h c, sem_eq_zero_of_no_sems (by decide) r.2⟩)
    (Cert.ReferenceIdeal.Value.run_fold (F := Ideal) m ρ)

/-- What the kernel's result array holds is what the reference's does: the same sum of reals. -/
theorem dq_value {m : (ℓ : Loc Cert.KernelIdeal.nD Cert.KernelIdeal.τ Cert.KernelIdeal.sig) → Buf (Elt Ideal) ℓ} (hpre : Cert.Pre_KernelIdeal m)
    {m' : (ℓ : Loc Cert.ReferenceIdeal.nD Cert.ReferenceIdeal.τ Cert.ReferenceIdeal.sig) → Buf (Elt Ideal) ℓ} (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    DqRef.W m' c (Proc.devRef .tc Cert.ReferenceIdeal.main_v92) = Dq.finalA m c 5 := by
  obtain ⟨K, U, D, hR⟩ := Dq.reals_of_pre hpre c
  have hR' : DqRef.Reals (StableHlo.launchContents m' c) K U D :=
    ⟨fun n q => (congrFun h1 (ix2 n q)).trans (hR.k n q), fun n q l u => (congrFun h2 (ix2 n q)).trans (hR.u n q l u),
      fun n q => (congrFun h3 (ix2 n q)).trans (hR.d n q)⟩
  refine Eq.trans ?_ (Dq.finalA_eq hR).symm
  funext i
  obtain ⟨n, cl, rfl⟩ : ∃ n cl, i = ix2 n cl := ⟨i 0, i 1, by idx_vars i⟩
  exact DqRef.W_value hR' n cl

/-- The two programs compute one array. -/
theorem algebraic : Cert.algebraic_KernelIdeal_ReferenceIdeal := fun m ρ m' ρ' hpre hargs =>
  ⟨fun c => Dq.finalA m c 5,
    (θ_run Cert.KernelIdeal.defs _ _).mono (fun _ h c => ⟨(h.1 c).1 5, dq_args m h.1 c⟩) (Dq.run_main (F := Ideal) m ρ),
    (θ_run Cert.ReferenceIdeal.defs _ _).mono
      (fun _ h c => ⟨(h c Cert.ReferenceIdeal.main_v92 rfl).trans (dq_value hpre c (hargs c).2.1 (hargs c).2.2.1 (hargs c).2.2.2), ref_args m' h c⟩)
      (Cert.ReferenceIdeal.Value.run_fold (F := Ideal) m' ρ')⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Pre_finite.Gen.facts,
  frame_kernel, fun m ρ _ => frame_kernelIdeal m ρ trivial, frame_kernelIdeal, frame_referenceIdeal, fun m ρ _ => frame_referenceIdeal m ρ trivial,
  fun m ρ _ => Cert.Kernel2.Gen.frame m ρ, fun m ρ _ => Cert.Kernel2Ideal.Gen.frame m ρ, EInDw.frame_reference,
  fun m ρ _ => Cert.Kernel3.Gen.frame m ρ, fun m ρ _ => Cert.Kernel3Ideal.Gen.frame m ρ, EInDx.frame_reference,
  fun m ρ _ => Cert.Kernel4.Gen.frame m ρ, fun m ρ _ => Cert.Kernel4Ideal.Gen.frame m ρ, FfnUpDw.frame_reference,
  fun m ρ _ => Cert.Kernel5.Gen.frame m ρ, fun m ρ _ => Cert.Kernel5Ideal.Gen.frame m ρ, FfnUpDx.frame_reference,
  fun m ρ _ => Cert.Kernel6.Gen.frame m ρ, fun m ρ _ => Cert.Kernel6Ideal.Gen.frame m ρ, FfnDownDw.frame_reference,
  fun m ρ _ => Cert.Kernel7.Gen.frame m ρ, fun m ρ _ => Cert.Kernel7Ideal.Gen.frame m ρ, FfnDownDx.frame_reference,
  fun m ρ _ => Cert.Kernel8.Gen.frame m ρ, fun m ρ _ => Cert.Kernel8Ideal.Gen.frame m ρ, EOutDw.frame_reference,
  fun m ρ _ => Cert.Kernel9.Gen.frame m ρ, fun m ρ _ => Cert.Kernel9Ideal.Gen.frame m ρ, EOutDx.frame_reference,
  fun m ρ _ => Cert.Kernel10.Gen.frame m ρ, fun m ρ _ => Cert.Kernel10Ideal.Gen.frame m ρ, OInDw.frame_reference,
  fun m ρ _ => Cert.Kernel11.Gen.frame m ρ, fun m ρ _ => Cert.Kernel11Ideal.Gen.frame m ρ, OInDx.frame_reference,
  fun m ρ _ => Cert.Kernel12.Gen.frame m ρ, fun m ρ _ => Cert.Kernel12Ideal.Gen.frame m ρ, OOutDw.frame_reference,
  fun m ρ _ => Cert.Kernel13.Gen.frame m ρ, fun m ρ _ => Cert.Kernel13Ideal.Gen.frame m ρ, OOutDx.frame_reference,
  fun m ρ _ => Cert.Kernel14.Gen.frame m ρ, fun m ρ _ => Cert.Kernel14Ideal.Gen.frame m ρ, EIn.frame_reference,
  fun m ρ _ => Cert.Kernel15.Gen.frame m ρ, fun m ρ _ => Cert.Kernel15Ideal.Gen.frame m ρ, FfnUp.frame_reference,
  fun m ρ _ => Cert.Kernel16.Gen.frame m ρ, fun m ρ _ => Cert.Kernel16Ideal.Gen.frame m ρ, OIn.frame_reference,
  fun m ρ _ => Cert.Kernel17.Gen.frame m ρ, fun m ρ _ => Cert.Kernel17Ideal.Gen.frame m ρ, EOut.frame_reference,
  fun m ρ _ => Cert.Kernel18.Gen.frame m ρ, fun m ρ _ => Cert.Kernel18Ideal.Gen.frame m ρ, FfnDown.frame_reference,
  fun m ρ _ => Cert.Kernel19.Gen.frame m ρ, fun m ρ _ => Cert.Kernel19Ideal.Gen.frame m ρ, OOut.frame_reference,
  fun m ρ _ => Cert.Kernel21.Gen.frame m ρ, fun m ρ _ => Cert.Kernel21Ideal.Gen.frame m ρ, ConvBwd.frame_reference,
  fun m ρ _ => Cert.Kernel22.Gen.frame m ρ, fun m ρ _ => Cert.Kernel22Ideal.Gen.frame m ρ, GateBwd.frame_reference,
  fun m ρ _ => Cert.Kernel23.Gen.frame m ρ, fun m ρ _ => Cert.Kernel23Ideal.Gen.frame m ρ, NormBwd.frame_reference,
  fun m ρ _ => Cert.Kernel24.Gen.frame m ρ, fun m ρ _ => Cert.Kernel24Ideal.Gen.frame m ρ, CumBwd.frame_reference,
  DkvBwd.frame_kernel, DkvBwd.frame_kernelIdeal, DkvBwd.frame_reference,
  fun m ρ _ => Cert.Kernel27.Gen.frame m ρ, fun m ρ _ => Cert.Kernel27Ideal.Gen.frame m ρ, ConfBwd.frame_reference,
  fun m ρ _ => Cert.Kernel28.Gen.frame m ρ, fun m ρ _ => Cert.Kernel28Ideal.Gen.frame m ρ, S5OutDw.frame_reference,
  fun m ρ _ => Cert.Kernel29.Gen.frame m ρ, fun m ρ _ => Cert.Kernel29Ideal.Gen.frame m ρ, S5InDw.frame_reference,
  trivial, algebraic,
  trivial, EInDw.algebraic,
  trivial, EInDx.algebraic,
  trivial, FfnUpDw.algebraic,
  trivial, FfnUpDx.algebraic,
  trivial, FfnDownDw.algebraic,
  trivial, FfnDownDx.algebraic,
  trivial, EOutDw.algebraic,
  trivial, EOutDx.algebraic,
  trivial, OInDw.algebraic,
  trivial, OInDx.algebraic,
  trivial, OOutDw.algebraic,
  trivial, OOutDx.algebraic,
  trivial, EIn.algebraic,
  trivial, FfnUp.algebraic,
  trivial, OIn.algebraic,
  trivial, EOut.algebraic,
  trivial, FfnDown.algebraic,
  trivial, OOut.algebraic,
  trivial, ConvBwd.algebraic,
  trivial, GateBwd.algebraic,
  trivial, NormBwd.algebraic,
  trivial, CumBwd.algebraic,
  trivial, DkvBwd.algebraic,
  trivial, ConfBwd.algebraic,
  trivial, S5OutDw.algebraic,
  trivial, S5InDw.algebraic⟩

end Cert.Proof

end
